-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_RefIdeal (m : (ℓ : Loc Cert.RefIdeal.nD Cert.RefIdeal.τ Cert.RefIdeal.sig) → Buf (Elt Ideal) ℓ) : Prop :=
  True

def Pre_RefIdeal_tables_ok [hPre_tables_ok : Cert.Pre_tables_ok.Facts] (m : (ℓ : Loc Cert.RefIdeal.nD Cert.RefIdeal.τ Cert.RefIdeal.sig) → Buf (Elt Ideal) ℓ) : Prop :=
  ∀ c : Dev Cert.RefIdeal.nD,
    (Cert.Pre_tables_ok.fn (F := Ideal) (m ((c.tc : Thread Cert.RefIdeal.nD Cert.RefIdeal.τ).loc Cert.RefIdeal.main_arg0)) (m ((c.tc : Thread Cert.RefIdeal.nD Cert.RefIdeal.τ).loc Cert.RefIdeal.main_arg1)) (m ((c.tc : Thread Cert.RefIdeal.nD Cert.RefIdeal.τ).loc Cert.RefIdeal.main_arg2)) (m ((c.tc : Thread Cert.RefIdeal.nD Cert.RefIdeal.τ).loc Cert.RefIdeal.main_arg3)) (m ((c.tc : Thread Cert.RefIdeal.nD Cert.RefIdeal.τ).loc Cert.RefIdeal.main_arg4)) (m ((c.tc : Thread Cert.RefIdeal.nD Cert.RefIdeal.τ).loc Cert.RefIdeal.main_arg5)) (m ((c.tc : Thread Cert.RefIdeal.nD Cert.RefIdeal.τ).loc Cert.RefIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Ref2Ideal (m : (ℓ : Loc Cert.Ref2Ideal.nD Cert.Ref2Ideal.τ Cert.Ref2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Ref3Ideal (m : (ℓ : Loc Cert.Ref3Ideal.nD Cert.Ref3Ideal.τ Cert.Ref3Ideal.sig) → Buf (Elt Ideal) ℓ) : Prop :=
  True

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6))
      ∧ r.2.sem = fun _ => 0)

def quiescent_RefIdeal_pre_tables_ok [hRefIdeal : Cert.RefIdeal.Facts] [hPre_tables_ok : Cert.Pre_tables_ok.Facts] : Prop :=
  ∀ (m : (ℓ : Loc Cert.RefIdeal.nD Cert.RefIdeal.τ Cert.RefIdeal.sig) → Buf (Elt Ideal) ℓ) (g : Dev Cert.RefIdeal.nD → PrngReg), Pre_RefIdeal_tables_ok m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3)
      ∧ r.2.mem ((c.tc : Thread Cert.RefIdeal.nD Cert.RefIdeal.τ).loc Cert.RefIdeal.main_arg4) = m ((c.tc : Thread Cert.RefIdeal.nD Cert.RefIdeal.τ).loc Cert.RefIdeal.main_arg4)
      ∧ r.2.mem ((c.tc : Thread Cert.RefIdeal.nD Cert.RefIdeal.τ).loc Cert.RefIdeal.main_arg5) = m ((c.tc : Thread Cert.RefIdeal.nD Cert.RefIdeal.τ).loc Cert.RefIdeal.main_arg5)
      ∧ r.2.mem ((c.tc : Thread Cert.RefIdeal.nD Cert.RefIdeal.τ).loc Cert.RefIdeal.main_arg6) = m ((c.tc : Thread Cert.RefIdeal.nD Cert.RefIdeal.τ).loc Cert.RefIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Ref2Ideal [hRef2Ideal : Cert.Ref2Ideal.Facts] : Prop :=
  ∀ (m : (ℓ : Loc Cert.Ref2Ideal.nD Cert.Ref2Ideal.τ Cert.Ref2Ideal.sig) → Buf (Elt Ideal) ℓ) (g : Dev Cert.Ref2Ideal.nD → PrngReg), Pre_Ref2Ideal m →
    θ_run (Cert.Ref2Ideal.defs (F := Ideal)) (onTc (τ := Cert.Ref2Ideal.τ) (Cert.Ref2Ideal.main (F := Ideal))) ⟨m, fun _ => 0, g⟩ (fun r => (∀ c : Dev Cert.Ref2Ideal.nD,
      r.2.mem ((c.tc : Thread Cert.Ref2Ideal.nD Cert.Ref2Ideal.τ).loc Cert.Ref2Ideal.main_arg0) = m ((c.tc : Thread Cert.Ref2Ideal.nD Cert.Ref2Ideal.τ).loc Cert.Ref2Ideal.main_arg0)
      ∧ r.2.mem ((c.tc : Thread Cert.Ref2Ideal.nD Cert.Ref2Ideal.τ).loc Cert.Ref2Ideal.main_arg1) = m ((c.tc : Thread Cert.Ref2Ideal.nD Cert.Ref2Ideal.τ).loc Cert.Ref2Ideal.main_arg1)
      ∧ r.2.mem ((c.tc : Thread Cert.Ref2Ideal.nD Cert.Ref2Ideal.τ).loc Cert.Ref2Ideal.main_arg2) = m ((c.tc : Thread Cert.Ref2Ideal.nD Cert.Ref2Ideal.τ).loc Cert.Ref2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Ref3Ideal [hRef3Ideal : Cert.Ref3Ideal.Facts] : Prop :=
  ∀ (m : (ℓ : Loc Cert.Ref3Ideal.nD Cert.Ref3Ideal.τ Cert.Ref3Ideal.sig) → Buf (Elt Ideal) ℓ) (g : Dev Cert.Ref3Ideal.nD → PrngReg), Pre_Ref3Ideal m →
    θ_run (Cert.Ref3Ideal.defs (F := Ideal)) (onTc (τ := Cert.Ref3Ideal.τ) (Cert.Ref3Ideal.main (F := Ideal))) ⟨m, fun _ => 0, g⟩ (fun r => (∀ c : Dev Cert.Ref3Ideal.nD,
      r.2.mem ((c.tc : Thread Cert.Ref3Ideal.nD Cert.Ref3Ideal.τ).loc Cert.Ref3Ideal.main_arg0) = m ((c.tc : Thread Cert.Ref3Ideal.nD Cert.Ref3Ideal.τ).loc Cert.Ref3Ideal.main_arg0)
      ∧ r.2.mem ((c.tc : Thread Cert.Ref3Ideal.nD Cert.Ref3Ideal.τ).loc Cert.Ref3Ideal.main_arg1) = m ((c.tc : Thread Cert.Ref3Ideal.nD Cert.Ref3Ideal.τ).loc Cert.Ref3Ideal.main_arg1)
      ∧ r.2.mem ((c.tc : Thread Cert.Ref3Ideal.nD Cert.Ref3Ideal.τ).loc Cert.Ref3Ideal.main_arg2) = m ((c.tc : Thread Cert.Ref3Ideal.nD Cert.Ref3Ideal.τ).loc Cert.Ref3Ideal.main_arg2)
      ∧ r.2.mem ((c.tc : Thread Cert.Ref3Ideal.nD Cert.Ref3Ideal.τ).loc Cert.Ref3Ideal.main_arg3) = m ((c.tc : Thread Cert.Ref3Ideal.nD Cert.Ref3Ideal.τ).loc Cert.Ref3Ideal.main_arg3)
      ∧ r.2.mem ((c.tc : Thread Cert.Ref3Ideal.nD Cert.Ref3Ideal.τ).loc Cert.Ref3Ideal.main_arg4) = m ((c.tc : Thread Cert.Ref3Ideal.nD Cert.Ref3Ideal.τ).loc Cert.Ref3Ideal.main_arg4)
      ∧ r.2.mem ((c.tc : Thread Cert.Ref3Ideal.nD Cert.Ref3Ideal.τ).loc Cert.Ref3Ideal.main_arg5) = m ((c.tc : Thread Cert.Ref3Ideal.nD Cert.Ref3Ideal.τ).loc Cert.Ref3Ideal.main_arg5)
      ∧ r.2.mem ((c.tc : Thread Cert.Ref3Ideal.nD Cert.Ref3Ideal.τ).loc Cert.Ref3Ideal.main_arg6) = m ((c.tc : Thread Cert.Ref3Ideal.nD Cert.Ref3Ideal.τ).loc Cert.Ref3Ideal.main_arg6)
      ∧ r.2.mem ((c.tc : Thread Cert.Ref3Ideal.nD Cert.Ref3Ideal.τ).loc Cert.Ref3Ideal.main_arg7) = m ((c.tc : Thread Cert.Ref3Ideal.nD Cert.Ref3Ideal.τ).loc Cert.Ref3Ideal.main_arg7)
      ∧ r.2.mem ((c.tc : Thread Cert.Ref3Ideal.nD Cert.Ref3Ideal.τ).loc Cert.Ref3Ideal.main_arg8) = m ((c.tc : Thread Cert.Ref3Ideal.nD Cert.Ref3Ideal.τ).loc Cert.Ref3Ideal.main_arg8)
      ∧ r.2.mem ((c.tc : Thread Cert.Ref3Ideal.nD Cert.Ref3Ideal.τ).loc Cert.Ref3Ideal.main_arg9) = m ((c.tc : Thread Cert.Ref3Ideal.nD Cert.Ref3Ideal.τ).loc Cert.Ref3Ideal.main_arg9)
      ∧ r.2.mem ((c.tc : Thread Cert.Ref3Ideal.nD Cert.Ref3Ideal.τ).loc Cert.Ref3Ideal.main_arg10) = m ((c.tc : Thread Cert.Ref3Ideal.nD Cert.Ref3Ideal.τ).loc Cert.Ref3Ideal.main_arg10)
      ∧ r.2.mem ((c.tc : Thread Cert.Ref3Ideal.nD Cert.Ref3Ideal.τ).loc Cert.Ref3Ideal.main_arg11) = m ((c.tc : Thread Cert.Ref3Ideal.nD Cert.Ref3Ideal.τ).loc Cert.Ref3Ideal.main_arg11)
      ∧ r.2.mem ((c.tc : Thread Cert.Ref3Ideal.nD Cert.Ref3Ideal.τ).loc Cert.Ref3Ideal.main_arg12) = m ((c.tc : Thread Cert.Ref3Ideal.nD Cert.Ref3Ideal.τ).loc Cert.Ref3Ideal.main_arg12)
      ∧ r.2.mem ((c.tc : Thread Cert.Ref3Ideal.nD Cert.Ref3Ideal.τ).loc Cert.Ref3Ideal.main_arg13) = m ((c.tc : Thread Cert.Ref3Ideal.nD Cert.Ref3Ideal.τ).loc Cert.Ref3Ideal.main_arg13)
      ∧ r.2.mem ((c.tc : Thread Cert.Ref3Ideal.nD Cert.Ref3Ideal.τ).loc Cert.Ref3Ideal.main_arg14) = m ((c.tc : Thread Cert.Ref3Ideal.nD Cert.Ref3Ideal.τ).loc Cert.Ref3Ideal.main_arg14)
      ∧ r.2.mem ((c.tc : Thread Cert.Ref3Ideal.nD Cert.Ref3Ideal.τ).loc Cert.Ref3Ideal.main_arg15) = m ((c.tc : Thread Cert.Ref3Ideal.nD Cert.Ref3Ideal.τ).loc Cert.Ref3Ideal.main_arg15)
      ∧ r.2.mem ((c.tc : Thread Cert.Ref3Ideal.nD Cert.Ref3Ideal.τ).loc Cert.Ref3Ideal.main_arg16) = m ((c.tc : Thread Cert.Ref3Ideal.nD Cert.Ref3Ideal.τ).loc Cert.Ref3Ideal.main_arg16))
      ∧ r.2.sem = fun _ => 0)

def preserves_Kernel_KernelIdeal : Prop :=
  True

def algebraic_KernelIdeal_RefIdeal [hKernelIdeal : Cert.KernelIdeal.Facts] [hRefIdeal : Cert.RefIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)
      ∧ m' ((c.tc : Thread Cert.RefIdeal.nD Cert.RefIdeal.τ).loc Cert.RefIdeal.main_arg4) = m ((c.tc : Thread Cert.KernelIdeal.nD Cert.KernelIdeal.τ).loc Cert.KernelIdeal.main_arg4)
      ∧ m' ((c.tc : Thread Cert.RefIdeal.nD Cert.RefIdeal.τ).loc Cert.RefIdeal.main_arg5) = m ((c.tc : Thread Cert.KernelIdeal.nD Cert.KernelIdeal.τ).loc Cert.KernelIdeal.main_arg5)
      ∧ m' ((c.tc : Thread Cert.RefIdeal.nD Cert.RefIdeal.τ).loc Cert.RefIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v31) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3)
          ∧ r.2.mem ((c.tc : Thread Cert.RefIdeal.nD Cert.RefIdeal.τ).loc Cert.RefIdeal.main_arg4) = m' ((c.tc : Thread Cert.RefIdeal.nD Cert.RefIdeal.τ).loc Cert.RefIdeal.main_arg4)
          ∧ r.2.mem ((c.tc : Thread Cert.RefIdeal.nD Cert.RefIdeal.τ).loc Cert.RefIdeal.main_arg5) = m' ((c.tc : Thread Cert.RefIdeal.nD Cert.RefIdeal.τ).loc Cert.RefIdeal.main_arg5)
          ∧ r.2.mem ((c.tc : Thread Cert.RefIdeal.nD Cert.RefIdeal.τ).loc Cert.RefIdeal.main_arg6) = m' ((c.tc : Thread Cert.RefIdeal.nD Cert.RefIdeal.τ).loc Cert.RefIdeal.main_arg6))

def preserves_Kernel2_Kernel2Ideal : Prop :=
  True

def algebraic_Kernel2Ideal_Ref2Ideal [hKernel2Ideal : Cert.Kernel2Ideal.Facts] [hRef2Ideal : Cert.Ref2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Ref2Ideal.nD Cert.Ref2Ideal.τ Cert.Ref2Ideal.sig) → Buf (Elt Ideal) ℓ) (g' : Dev Cert.Ref2Ideal.nD → PrngReg), Pre_Kernel2Ideal m →
    (∀ c : Dev Cert.Kernel2Ideal.nD,
      m' ((c.tc : Thread Cert.Ref2Ideal.nD Cert.Ref2Ideal.τ).loc Cert.Ref2Ideal.main_arg0) = m ((c.tc : Thread Cert.Kernel2Ideal.nD Cert.Kernel2Ideal.τ).loc Cert.Kernel2Ideal.main_arg0)
      ∧ m' ((c.tc : Thread Cert.Ref2Ideal.nD Cert.Ref2Ideal.τ).loc Cert.Ref2Ideal.main_arg1) = m ((c.tc : Thread Cert.Kernel2Ideal.nD Cert.Kernel2Ideal.τ).loc Cert.Kernel2Ideal.main_arg1)
      ∧ m' ((c.tc : Thread Cert.Ref2Ideal.nD Cert.Ref2Ideal.τ).loc Cert.Ref2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Ref2Ideal.defs (F := Ideal)) (onTc (τ := Cert.Ref2Ideal.τ) (Cert.Ref2Ideal.main (F := Ideal))) ⟨m', fun _ => 0, g'⟩ (fun r => ∀ c : Dev Cert.Ref2Ideal.nD,
          r.2.mem ((c.tc : Thread Cert.Ref2Ideal.nD Cert.Ref2Ideal.τ).loc Cert.Ref2Ideal.main_v20) = v0 c
          ∧ r.2.mem ((c.tc : Thread Cert.Ref2Ideal.nD Cert.Ref2Ideal.τ).loc Cert.Ref2Ideal.main_v21) = v1 c
          ∧ r.2.mem ((c.tc : Thread Cert.Ref2Ideal.nD Cert.Ref2Ideal.τ).loc Cert.Ref2Ideal.main_v25) = v2 c
          ∧ r.2.mem ((c.tc : Thread Cert.Ref2Ideal.nD Cert.Ref2Ideal.τ).loc Cert.Ref2Ideal.main_v27) = v3 c
          ∧ r.2.mem ((c.tc : Thread Cert.Ref2Ideal.nD Cert.Ref2Ideal.τ).loc Cert.Ref2Ideal.main_arg0) = m' ((c.tc : Thread Cert.Ref2Ideal.nD Cert.Ref2Ideal.τ).loc Cert.Ref2Ideal.main_arg0)
          ∧ r.2.mem ((c.tc : Thread Cert.Ref2Ideal.nD Cert.Ref2Ideal.τ).loc Cert.Ref2Ideal.main_arg1) = m' ((c.tc : Thread Cert.Ref2Ideal.nD Cert.Ref2Ideal.τ).loc Cert.Ref2Ideal.main_arg1)
          ∧ r.2.mem ((c.tc : Thread Cert.Ref2Ideal.nD Cert.Ref2Ideal.τ).loc Cert.Ref2Ideal.main_arg2) = m' ((c.tc : Thread Cert.Ref2Ideal.nD Cert.Ref2Ideal.τ).loc Cert.Ref2Ideal.main_arg2))

def preserves_Kernel3_Kernel3Ideal : Prop :=
  IdealRules.bf16_pair.BufferStatement Cert.Kernel3Ideal.S2048x1x2x1024 Cert.Kernel3Ideal.S2048x1x1x1024
  ∧ IdealRules.bf16_pair.BufferStatement Cert.Kernel3Ideal.S256x1x2x1024 Cert.Kernel3Ideal.S256x1x1x1024
  ∧ IdealRules.bf16_pair.PackStatement Cert.Kernel3Ideal.S256x1024
  ∧ IdealRules.bf16_pair.Statement Cert.Kernel3Ideal.S256x1x2x1024 Cert.Kernel3Ideal.S256x1x1x1024

def algebraic_Kernel3Ideal_Ref3Ideal [hKernel3Ideal : Cert.Kernel3Ideal.Facts] [hRef3Ideal : Cert.Ref3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Ref3Ideal.nD Cert.Ref3Ideal.τ Cert.Ref3Ideal.sig) → Buf (Elt Ideal) ℓ) (g' : Dev Cert.Ref3Ideal.nD → PrngReg), Pre_Kernel3Ideal m →
    (∀ c : Dev Cert.Kernel3Ideal.nD,
      m' ((c.tc : Thread Cert.Ref3Ideal.nD Cert.Ref3Ideal.τ).loc Cert.Ref3Ideal.main_arg0) = m ((c.tc : Thread Cert.Kernel3Ideal.nD Cert.Kernel3Ideal.τ).loc Cert.Kernel3Ideal.main_arg0)
      ∧ m' ((c.tc : Thread Cert.Ref3Ideal.nD Cert.Ref3Ideal.τ).loc Cert.Ref3Ideal.main_arg1) = m ((c.tc : Thread Cert.Kernel3Ideal.nD Cert.Kernel3Ideal.τ).loc Cert.Kernel3Ideal.main_arg1)
      ∧ m' ((c.tc : Thread Cert.Ref3Ideal.nD Cert.Ref3Ideal.τ).loc Cert.Ref3Ideal.main_arg2) = m ((c.tc : Thread Cert.Kernel3Ideal.nD Cert.Kernel3Ideal.τ).loc Cert.Kernel3Ideal.main_arg2)
      ∧ m' ((c.tc : Thread Cert.Ref3Ideal.nD Cert.Ref3Ideal.τ).loc Cert.Ref3Ideal.main_arg3) = m ((c.tc : Thread Cert.Kernel3Ideal.nD Cert.Kernel3Ideal.τ).loc Cert.Kernel3Ideal.main_arg3)
      ∧ m' ((c.tc : Thread Cert.Ref3Ideal.nD Cert.Ref3Ideal.τ).loc Cert.Ref3Ideal.main_arg4) = m ((c.tc : Thread Cert.Kernel3Ideal.nD Cert.Kernel3Ideal.τ).loc Cert.Kernel3Ideal.main_arg4)
      ∧ m' ((c.tc : Thread Cert.Ref3Ideal.nD Cert.Ref3Ideal.τ).loc Cert.Ref3Ideal.main_arg5) = m ((c.tc : Thread Cert.Kernel3Ideal.nD Cert.Kernel3Ideal.τ).loc Cert.Kernel3Ideal.main_arg5)
      ∧ m' ((c.tc : Thread Cert.Ref3Ideal.nD Cert.Ref3Ideal.τ).loc Cert.Ref3Ideal.main_arg6) = m ((c.tc : Thread Cert.Kernel3Ideal.nD Cert.Kernel3Ideal.τ).loc Cert.Kernel3Ideal.main_arg6)
      ∧ m' ((c.tc : Thread Cert.Ref3Ideal.nD Cert.Ref3Ideal.τ).loc Cert.Ref3Ideal.main_arg7) = m ((c.tc : Thread Cert.Kernel3Ideal.nD Cert.Kernel3Ideal.τ).loc Cert.Kernel3Ideal.main_arg7)
      ∧ m' ((c.tc : Thread Cert.Ref3Ideal.nD Cert.Ref3Ideal.τ).loc Cert.Ref3Ideal.main_arg8) = m ((c.tc : Thread Cert.Kernel3Ideal.nD Cert.Kernel3Ideal.τ).loc Cert.Kernel3Ideal.main_arg8)
      ∧ m' ((c.tc : Thread Cert.Ref3Ideal.nD Cert.Ref3Ideal.τ).loc Cert.Ref3Ideal.main_arg9) = m ((c.tc : Thread Cert.Kernel3Ideal.nD Cert.Kernel3Ideal.τ).loc Cert.Kernel3Ideal.main_arg9)
      ∧ m' ((c.tc : Thread Cert.Ref3Ideal.nD Cert.Ref3Ideal.τ).loc Cert.Ref3Ideal.main_arg10) = m ((c.tc : Thread Cert.Kernel3Ideal.nD Cert.Kernel3Ideal.τ).loc Cert.Kernel3Ideal.main_arg10)
      ∧ m' ((c.tc : Thread Cert.Ref3Ideal.nD Cert.Ref3Ideal.τ).loc Cert.Ref3Ideal.main_arg11) = m ((c.tc : Thread Cert.Kernel3Ideal.nD Cert.Kernel3Ideal.τ).loc Cert.Kernel3Ideal.main_arg11)
      ∧ m' ((c.tc : Thread Cert.Ref3Ideal.nD Cert.Ref3Ideal.τ).loc Cert.Ref3Ideal.main_arg12) = m ((c.tc : Thread Cert.Kernel3Ideal.nD Cert.Kernel3Ideal.τ).loc Cert.Kernel3Ideal.main_arg12)
      ∧ m' ((c.tc : Thread Cert.Ref3Ideal.nD Cert.Ref3Ideal.τ).loc Cert.Ref3Ideal.main_arg13) = m ((c.tc : Thread Cert.Kernel3Ideal.nD Cert.Kernel3Ideal.τ).loc Cert.Kernel3Ideal.main_arg13)
      ∧ m' ((c.tc : Thread Cert.Ref3Ideal.nD Cert.Ref3Ideal.τ).loc Cert.Ref3Ideal.main_arg14) = m ((c.tc : Thread Cert.Kernel3Ideal.nD Cert.Kernel3Ideal.τ).loc Cert.Kernel3Ideal.main_arg14)
      ∧ m' ((c.tc : Thread Cert.Ref3Ideal.nD Cert.Ref3Ideal.τ).loc Cert.Ref3Ideal.main_arg15) = m ((c.tc : Thread Cert.Kernel3Ideal.nD Cert.Kernel3Ideal.τ).loc Cert.Kernel3Ideal.main_arg15)
      ∧ m' ((c.tc : Thread Cert.Ref3Ideal.nD Cert.Ref3Ideal.τ).loc Cert.Ref3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v203_4)) (v1 : (c : Dev Cert.Kernel3Ideal.nD) → Buf (Elt Ideal) ((c.tc : Thread Cert.Kernel3Ideal.nD Cert.Kernel3Ideal.τ).loc Cert.Kernel3Ideal.main_v203_5)) (v2 : (c : Dev Cert.Kernel3Ideal.nD) → Buf (Elt Ideal) ((c.tc : Thread Cert.Kernel3Ideal.nD Cert.Kernel3Ideal.τ).loc Cert.Kernel3Ideal.main_v203_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v203_4) = v0 c
          ∧ r.2.mem ((c.tc : Thread Cert.Kernel3Ideal.nD Cert.Kernel3Ideal.τ).loc Cert.Kernel3Ideal.main_v203_5) = v1 c
          ∧ r.2.mem ((c.tc : Thread Cert.Kernel3Ideal.nD Cert.Kernel3Ideal.τ).loc Cert.Kernel3Ideal.main_v203_6) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Ref3Ideal.defs (F := Ideal)) (onTc (τ := Cert.Ref3Ideal.τ) (Cert.Ref3Ideal.main (F := Ideal))) ⟨m', fun _ => 0, g'⟩ (fun r => ∀ c : Dev Cert.Ref3Ideal.nD,
          r.2.mem ((c.tc : Thread Cert.Ref3Ideal.nD Cert.Ref3Ideal.τ).loc Cert.Ref3Ideal.main_v16) = v0 c
          ∧ r.2.mem ((c.tc : Thread Cert.Ref3Ideal.nD Cert.Ref3Ideal.τ).loc Cert.Ref3Ideal.main_v18) = v1 c
          ∧ r.2.mem ((c.tc : Thread Cert.Ref3Ideal.nD Cert.Ref3Ideal.τ).loc Cert.Ref3Ideal.main_v20) = v2 c
          ∧ r.2.mem ((c.tc : Thread Cert.Ref3Ideal.nD Cert.Ref3Ideal.τ).loc Cert.Ref3Ideal.main_arg0) = m' ((c.tc : Thread Cert.Ref3Ideal.nD Cert.Ref3Ideal.τ).loc Cert.Ref3Ideal.main_arg0)
          ∧ r.2.mem ((c.tc : Thread Cert.Ref3Ideal.nD Cert.Ref3Ideal.τ).loc Cert.Ref3Ideal.main_arg1) = m' ((c.tc : Thread Cert.Ref3Ideal.nD Cert.Ref3Ideal.τ).loc Cert.Ref3Ideal.main_arg1)
          ∧ r.2.mem ((c.tc : Thread Cert.Ref3Ideal.nD Cert.Ref3Ideal.τ).loc Cert.Ref3Ideal.main_arg2) = m' ((c.tc : Thread Cert.Ref3Ideal.nD Cert.Ref3Ideal.τ).loc Cert.Ref3Ideal.main_arg2)
          ∧ r.2.mem ((c.tc : Thread Cert.Ref3Ideal.nD Cert.Ref3Ideal.τ).loc Cert.Ref3Ideal.main_arg3) = m' ((c.tc : Thread Cert.Ref3Ideal.nD Cert.Ref3Ideal.τ).loc Cert.Ref3Ideal.main_arg3)
          ∧ r.2.mem ((c.tc : Thread Cert.Ref3Ideal.nD Cert.Ref3Ideal.τ).loc Cert.Ref3Ideal.main_arg4) = m' ((c.tc : Thread Cert.Ref3Ideal.nD Cert.Ref3Ideal.τ).loc Cert.Ref3Ideal.main_arg4)
          ∧ r.2.mem ((c.tc : Thread Cert.Ref3Ideal.nD Cert.Ref3Ideal.τ).loc Cert.Ref3Ideal.main_arg5) = m' ((c.tc : Thread Cert.Ref3Ideal.nD Cert.Ref3Ideal.τ).loc Cert.Ref3Ideal.main_arg5)
          ∧ r.2.mem ((c.tc : Thread Cert.Ref3Ideal.nD Cert.Ref3Ideal.τ).loc Cert.Ref3Ideal.main_arg6) = m' ((c.tc : Thread Cert.Ref3Ideal.nD Cert.Ref3Ideal.τ).loc Cert.Ref3Ideal.main_arg6)
          ∧ r.2.mem ((c.tc : Thread Cert.Ref3Ideal.nD Cert.Ref3Ideal.τ).loc Cert.Ref3Ideal.main_arg7) = m' ((c.tc : Thread Cert.Ref3Ideal.nD Cert.Ref3Ideal.τ).loc Cert.Ref3Ideal.main_arg7)
          ∧ r.2.mem ((c.tc : Thread Cert.Ref3Ideal.nD Cert.Ref3Ideal.τ).loc Cert.Ref3Ideal.main_arg8) = m' ((c.tc : Thread Cert.Ref3Ideal.nD Cert.Ref3Ideal.τ).loc Cert.Ref3Ideal.main_arg8)
          ∧ r.2.mem ((c.tc : Thread Cert.Ref3Ideal.nD Cert.Ref3Ideal.τ).loc Cert.Ref3Ideal.main_arg9) = m' ((c.tc : Thread Cert.Ref3Ideal.nD Cert.Ref3Ideal.τ).loc Cert.Ref3Ideal.main_arg9)
          ∧ r.2.mem ((c.tc : Thread Cert.Ref3Ideal.nD Cert.Ref3Ideal.τ).loc Cert.Ref3Ideal.main_arg10) = m' ((c.tc : Thread Cert.Ref3Ideal.nD Cert.Ref3Ideal.τ).loc Cert.Ref3Ideal.main_arg10)
          ∧ r.2.mem ((c.tc : Thread Cert.Ref3Ideal.nD Cert.Ref3Ideal.τ).loc Cert.Ref3Ideal.main_arg11) = m' ((c.tc : Thread Cert.Ref3Ideal.nD Cert.Ref3Ideal.τ).loc Cert.Ref3Ideal.main_arg11)
          ∧ r.2.mem ((c.tc : Thread Cert.Ref3Ideal.nD Cert.Ref3Ideal.τ).loc Cert.Ref3Ideal.main_arg12) = m' ((c.tc : Thread Cert.Ref3Ideal.nD Cert.Ref3Ideal.τ).loc Cert.Ref3Ideal.main_arg12)
          ∧ r.2.mem ((c.tc : Thread Cert.Ref3Ideal.nD Cert.Ref3Ideal.τ).loc Cert.Ref3Ideal.main_arg13) = m' ((c.tc : Thread Cert.Ref3Ideal.nD Cert.Ref3Ideal.τ).loc Cert.Ref3Ideal.main_arg13)
          ∧ r.2.mem ((c.tc : Thread Cert.Ref3Ideal.nD Cert.Ref3Ideal.τ).loc Cert.Ref3Ideal.main_arg14) = m' ((c.tc : Thread Cert.Ref3Ideal.nD Cert.Ref3Ideal.τ).loc Cert.Ref3Ideal.main_arg14)
          ∧ r.2.mem ((c.tc : Thread Cert.Ref3Ideal.nD Cert.Ref3Ideal.τ).loc Cert.Ref3Ideal.main_arg15) = m' ((c.tc : Thread Cert.Ref3Ideal.nD Cert.Ref3Ideal.τ).loc Cert.Ref3Ideal.main_arg15)
          ∧ r.2.mem ((c.tc : Thread Cert.Ref3Ideal.nD Cert.Ref3Ideal.τ).loc Cert.Ref3Ideal.main_arg16) = m' ((c.tc : Thread Cert.Ref3Ideal.nD Cert.Ref3Ideal.τ).loc Cert.Ref3Ideal.main_arg16))

def Claim : Prop :=
  ∃ (hKernel : Cert.Kernel.Facts) (hKernelIdeal : Cert.KernelIdeal.Facts) (hRefIdeal : Cert.RefIdeal.Facts) (hKernel2 : Cert.Kernel2.Facts) (hKernel2Ideal : Cert.Kernel2Ideal.Facts) (hRef2Ideal : Cert.Ref2Ideal.Facts) (hKernel3 : Cert.Kernel3.Facts) (hKernel3Ideal : Cert.Kernel3Ideal.Facts) (hRef3Ideal : Cert.Ref3Ideal.Facts) (hPre_tables_ok : Cert.Pre_tables_ok.Facts),
    quiescent_Kernel (hKernel := hKernel) (hPre_tables_ok := hPre_tables_ok)
    ∧ quiescent_KernelIdeal (hKernelIdeal := hKernelIdeal) (hPre_tables_ok := hPre_tables_ok)
    ∧ quiescent_RefIdeal (hRefIdeal := hRefIdeal)
    ∧ quiescent_RefIdeal_pre_tables_ok (hRefIdeal := hRefIdeal) (hPre_tables_ok := hPre_tables_ok)
    ∧ quiescent_Kernel2 (hKernel2 := hKernel2)
    ∧ quiescent_Kernel2Ideal (hKernel2Ideal := hKernel2Ideal)
    ∧ quiescent_Ref2Ideal (hRef2Ideal := hRef2Ideal)
    ∧ quiescent_Kernel3 (hKernel3 := hKernel3)
    ∧ quiescent_Kernel3Ideal (hKernel3Ideal := hKernel3Ideal)
    ∧ quiescent_Ref3Ideal (hRef3Ideal := hRef3Ideal)
    ∧ preserves_Kernel_KernelIdeal
    ∧ algebraic_KernelIdeal_RefIdeal (hKernelIdeal := hKernelIdeal) (hRefIdeal := hRefIdeal) (hPre_tables_ok := hPre_tables_ok)
    ∧ preserves_Kernel2_Kernel2Ideal
    ∧ algebraic_Kernel2Ideal_Ref2Ideal (hKernel2Ideal := hKernel2Ideal) (hRef2Ideal := hRef2Ideal)
    ∧ preserves_Kernel3_Kernel3Ideal
    ∧ algebraic_Kernel3Ideal_Ref3Ideal (hKernel3Ideal := hKernel3Ideal) (hRef3Ideal := hRef3Ideal)
-- ==== Pre_tables_ok.lean ====
abbrev S45056x1x1024 : Shape := ⟨3, ![45056, 1, 1024]⟩
abbrev S176 : Shape := ⟨1, ![176]⟩
abbrev S32x2048x512 : Shape := ⟨3, ![32, 2048, 512]⟩
abbrev S32x512x2048 : Shape := ⟨3, ![32, 512, 2048]⟩
abbrev S175 : Shape := ⟨1, ![175]⟩
abbrev S_ : Shape := ⟨0, ![]⟩
abbrev S1 : Shape := ⟨1, ![1]⟩

class Facts : Prop where
  slices_S176_S175_0 : S176.Slices ![0] S175
  slices_S176_S175_1 : S176.Slices ![1] S175
  bcast_S_S176 : S_.BroadcastsInDim S176 (![] : Fin 0 → Fin S176.rank)
  reducesTo_S176_S_d0 : S176.ReducesTo [0] S_
  h_S_ : 0 < S_.numel
  slices_S176_S1_175 : S176.Slices ![175] S1
  shapeCasts_S1_S_ : S1.ShapeCasts S_
  reducesTo_S175_S_d0 : S175.ReducesTo [0] S_

variable [Facts]

def fn_where {F : FTy → Type} [FloatOps F] (arg0 : IVec S175 1) (arg1 : IVec S175 1) (arg2 : IVec S175 1) : IVec S175 1 :=
  let v0 : IVec S175 1 := select arg0 arg1 arg2
  v0

def fn_part1 {F : FTy → Type} [FloatOps F] (main_arg3 : IVec S176 32) (main_v0 : IVec S175 32) (main_v1 : IVec S175 32) (main_v14 : IVec S_ 1) (main_v16 : IVec S_ 32) (main_c_5 : IVec S_ 32) : IVec S_ 1 :=
  let main_v17 : IVec S_ 1 := cmpi .eq main_v16 main_c_5
  let main_v18 : IVec S_ 1 := andi main_v14 main_v17
  let main_v19 : IVec S175 1 := cmpi .eq main_v1 main_v0
  let main_v20 : IVec S175 32 := (extractStridedSlice S175 ![1] · slices_S176_S175_1) main_arg3
  let main_v21 : IVec S175 32 := (extractStridedSlice S175 ![0] · slices_S176_S175_0) main_arg3
  let main_v22 : IVec S175 1 := cmpi .eq main_v20 main_v21
  let main_v23 : IVec S175 32 := (extractStridedSlice S175 ![0] · slices_S176_S175_0) main_arg3
  let main_v24 : IVec S175 1 := cmpi .eq main_v23 main_v1
  let main_v25 : IVec S175 1 := fn_where (F := F) main_v19 main_v22 main_v24
  let main_c_6 : IVec S_ 1 := constantI S_ 1 1#1
  let main_v26 : IVec S_ 1 := (fun x v => Host.reduce IntOp.andi x v reducesTo_S175_S_d0 h_S_) main_v25 main_c_6
  let main_v27 : IVec S_ 1 := andi main_v18 main_v26
  main_v27

def fn {F : FTy → Type} [FloatOps F] (main_arg0 : IVec S45056x1x1024 32) (main_arg1 : IVec S176 32) (main_arg2 : IVec S176 32) (main_arg3 : IVec S176 32) (main_arg4 : FVec F S32x2048x512 .f32) (main_arg5 : FVec F S32x2048x512 .f32) (main_arg6 : FVec F S32x512x2048 .f32) : IVec S_ 1 :=
  let main_v0 : IVec S175 32 := (extractStridedSlice S175 ![0] · slices_S176_S175_0) main_arg1
  let main_v1 : IVec S175 32 := (extractStridedSlice S175 ![1] · slices_S176_S175_1) main_arg1
  let main_c : IVec S_ 32 := constantI S_ 32 0#32
  let main_v2 : IVec S176 32 := broadcastInDim S176 ![] bcast_S_S176 main_c
  let main_v3 : IVec S176 1 := cmpi .sge main_arg1 main_v2
  let main_c_0 : IVec S_ 32 := constantI S_ 32 32#32
  let main_v4 : IVec S176 32 := broadcastInDim S176 ![] bcast_S_S176 main_c_0
  let main_v5 : IVec S176 1 := cmpi .slt main_arg1 main_v4
  let main_v6 : IVec S176 1 := andi main_v3 main_v5
  let main_c_1 : IVec S_ 1 := constantI S_ 1 1#1
  let main_v7 : IVec S_ 1 := (fun x v => Host.reduce IntOp.andi x v reducesTo_S176_S_d0 h_S_) main_v6 main_c_1
  let main_c_2 : IVec S_ 32 := constantI S_ 32 0#32
  let main_v8 : IVec S176 32 := broadcastInDim S176 ![] bcast_S_S176 main_c_2
  let main_v9 : IVec S176 1 := cmpi .sge main_arg3 main_v8
  let main_c_3 : IVec S_ 32 := constantI S_ 32 32#32
  let main_v10 : IVec S176 32 := broadcastInDim S176 ![] bcast_S_S176 main_c_3
  let main_v11 : IVec S176 1 := cmpi .sle main_arg3 main_v10
  let main_v12 : IVec S176 1 := andi main_v9 main_v11
  let main_c_4 : IVec S_ 1 := constantI S_ 1 1#1
  let main_v13 : IVec S_ 1 := (fun x v => Host.reduce IntOp.andi x v reducesTo_S176_S_d0 h_S_) main_v12 main_c_4
  let main_v14 : IVec S_ 1 := andi main_v7 main_v13
  let main_v15 : IVec S1 32 := (extractStridedSlice S1 ![175] · slices_S176_S1_175) main_arg3
  let main_v16 : IVec S_ 32 := shapeCast S_ main_v15 shapeCasts_S1_S_
  let main_c_5 : IVec S_ 32 := constantI S_ 32 32#32
  fn_part1 (F := F) main_arg3 main_v0 main_v1 main_v14 main_v16 main_c_5
-- ==== Kernel.lean ====
abbrev S45056x1x1024 : Shape := ⟨3, ![45056, 1, 1024]⟩
abbrev S176 : Shape := ⟨1, ![176]⟩
abbrev S32x2048x512 : Shape := ⟨3, ![32, 2048, 512]⟩
abbrev S32x512x2048 : Shape := ⟨3, ![32, 512, 2048]⟩
abbrev S45056x1x2048 : Shape := ⟨3, ![45056, 1, 2048]⟩
abbrev S1024x1x1024 : Shape := ⟨3, ![1024, 1, 1024]⟩
abbrev S1024x1x2048 : Shape := ⟨3, ![1024, 1, 2048]⟩
abbrev S2x2048x512 : Shape := ⟨3, ![2, 2048, 512]⟩
abbrev S2x512x2048 : Shape := ⟨3, ![2, 512, 2048]⟩
abbrev S2048x512 : Shape := ⟨2, ![2048, 512]⟩
abbrev S512x2048 : Shape := ⟨2, ![512, 2048]⟩
abbrev S2 : Shape := ⟨1, ![2]⟩
abbrev S1 : Shape := ⟨1, ![1]⟩
abbrev S_ : Shape := ⟨0, ![]⟩
abbrev S1x2048x512 : Shape := ⟨3, ![1, 2048, 512]⟩
abbrev S1x512x2048 : Shape := ⟨3, ![1, 512, 2048]⟩
abbrev S256x2048 : Shape := ⟨2, ![256, 2048]⟩
abbrev S256x1x1024 : Shape := ⟨3, ![256, 1, 1024]⟩
abbrev S256x1024 : Shape := ⟨2, ![256, 1024]⟩
abbrev S256x512 : Shape := ⟨2, ![256, 512]⟩
abbrev S256x1x2048 : Shape := ⟨3, ![256, 1, 2048]⟩

abbrev nBuf : Space → Nat
  | .hbm => 5
  | .vmem => 10
  | .smem => 4
  | _ => 0

abbrev bufTy : (tb : Table) → Fin (tcTables nBuf tb) → BufTy
  | .hbm, ⟨0, _⟩ => ⟨S45056x1x1024, .i32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S45056x1x2048, .bf16⟩
  | .local _ .vmem, ⟨0, _⟩ => ⟨S1024x1x1024, .i32⟩
  | .local _ .vmem, ⟨1, _⟩ => ⟨S1024x1x1024, .i32⟩
  | .local _ .vmem, ⟨2, _⟩ => ⟨S1024x1x2048, .bf16⟩
  | .local _ .vmem, ⟨3, _⟩ => ⟨S1024x1x2048, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S176, .i32⟩
  | .local _ .smem, ⟨1, _⟩ => ⟨S176, .i32⟩
  | .local _ .smem, ⟨2, _⟩ => ⟨S176, .i32⟩
  | .local _ .smem, ⟨3, _⟩ => ⟨S1, .i32⟩
  | _, _ => ⟨S45056x1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨3, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch7 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![44], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  ![v2.toNat]
def k0_cond1 (i : grid0.Coords) : BitVec 1 :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let v4 : BitVec 1 := Scalar.cmpi .eq v1 c0_i32_0
  let v5 : BitVec 32 := Scalar.extui v4
  let c0_i32_1 : BitVec 32 := 0#32
  let v6 : BitVec 1 := Scalar.cmpi .ne v5 c0_i32_1
  v6

def k0_off2 (v3 : BitVec 32) : Fin 3 → Nat :=
  let c0_i32_48 : BitVec 32 := 0#32
  let c0_i32_49 : BitVec 32 := 0#32
  ![v3.toNat, 0, 0]

def k0_off3 (v3 : BitVec 32) : Fin 3 → Nat :=
  let c0_i32_60 : BitVec 32 := 0#32
  let c0_i32_61 : BitVec 32 := 0#32
  ![v3.toNat, 0, 0]

def k0_chk1 (i : grid0.Coords) (v3 : BitVec 32) : Prop :=
  (∀ (k0_h1 : k0_cond1 i = 1#1), ∀ a, (k0_off2 v3) a + S1x2048x512.size a ≤ S32x2048x512.size a) ∧
  (∀ (k0_h1 : k0_cond1 i = 1#1), ∀ a, (k0_off3 v3) a + S1x512x2048.size a ≤ S32x512x2048.size a)
theorem k0_off2_inb : ∀ (i : grid0.Coords) (v3 : BitVec 32) (k0_hw1 : k0_chk1 i v3), ∀ (k0_h1 : k0_cond1 i = 1#1), ∀ a, (k0_off2 v3) a + S1x2048x512.size a ≤ S32x2048x512.size a := fun i v3 k0_hw1 k0_h1 => k0_hw1.1 k0_h1
theorem k0_off3_inb : ∀ (i : grid0.Coords) (v3 : BitVec 32) (k0_hw1 : k0_chk1 i v3), ∀ (k0_h1 : k0_cond1 i = 1#1), ∀ a, (k0_off3 v3) a + S1x512x2048.size a ≤ S32x512x2048.size a := fun i v3 k0_hw1 k0_h1 => k0_hw1.2 k0_h1

def k0_off4 (i : grid0.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c1_i32 : BitVec 32 := 1#32
  let v8 : BitVec 32 := Scalar.subi v1 c1_i32
  let c0_i32_3 : BitVec 32 := 0#32
  let v9 : BitVec 32 := Scalar.maxsi v8 c0_i32_3
  let v10 : Index := Scalar.indexCast v9
  ![v10.toNat]
def k0_off5 (v96 : BitVec 32) : Fin 1 → Nat :=
  let c2_i32_43 : BitVec 32 := 2#32
  let v97 : BitVec 32 := Scalar.remsi v96 c2_i32_43
  ![v97.toNat]
def k0_cond2 (i : grid0.Coords) (v3 : BitVec 32) (v11 : BitVec 32) : BitVec 1 :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_2 : BitVec 32 := 0#32
  let v7 : BitVec 1 := Scalar.cmpi .eq v1 c0_i32_2
  let v12 : BitVec 1 := Scalar.cmpi .ne v3 v11
  let v13 : BitVec 1 := Scalar.ori v7 v12
  let v14 : BitVec 32 := Scalar.extui v13
  let c0_i32_4 : BitVec 32 := 0#32
  let v15 : BitVec 1 := Scalar.cmpi .ne v14 c0_i32_4
  v15

def k0_off6 (v96 : BitVec 32) : Fin 3 → Nat :=
  let c2_i32_43 : BitVec 32 := 2#32
  let v97 : BitVec 32 := Scalar.remsi v96 c2_i32_43
  let c0_i32_47 : BitVec 32 := 0#32
  let c0_i32_48 : BitVec 32 := 0#32
  ![v97.toNat, 0, 0]
def k0_off7 (v3 : BitVec 32) : Fin 3 → Nat :=
  let c0_i32_49 : BitVec 32 := 0#32
  let c0_i32_50 : BitVec 32 := 0#32
  ![v3.toNat, 0, 0]

def k0_off8 (v96 : BitVec 32) : Fin 3 → Nat :=
  let c2_i32_43 : BitVec 32 := 2#32
  let v97 : BitVec 32 := Scalar.remsi v96 c2_i32_43
  let c0_i32_55 : BitVec 32 := 0#32
  let c0_i32_56 : BitVec 32 := 0#32
  ![v97.toNat, 0, 0]
def k0_off9 (v3 : BitVec 32) : Fin 3 → Nat :=
  let c0_i32_57 : BitVec 32 := 0#32
  let c0_i32_58 : BitVec 32 := 0#32
  ![v3.toNat, 0, 0]

def k0_chk3 (i : grid0.Coords) (v3 : BitVec 32) (v11 : BitVec 32) : Prop :=
  (∀ (k0_h2 : k0_cond2 i v3 v11 = 1#1), ∀ a, (k0_off7 v3) a + S1x2048x512.size a ≤ S32x2048x512.size a) ∧
  (∀ (k0_h2 : k0_cond2 i v3 v11 = 1#1), ∀ a, (k0_off9 v3) a + S1x512x2048.size a ≤ S32x512x2048.size a)
theorem k0_off7_inb : ∀ (i : grid0.Coords) (v3 : BitVec 32) (v11 : BitVec 32) (k0_hw3 : k0_chk3 i v3 v11), ∀ (k0_h2 : k0_cond2 i v3 v11 = 1#1), ∀ a, (k0_off7 v3) a + S1x2048x512.size a ≤ S32x2048x512.size a := fun i v3 v11 k0_hw3 k0_h2 => k0_hw3.1 k0_h2
theorem k0_off9_inb : ∀ (i : grid0.Coords) (v3 : BitVec 32) (v11 : BitVec 32) (k0_hw3 : k0_chk3 i v3 v11), ∀ (k0_h2 : k0_cond2 i v3 v11 = 1#1), ∀ a, (k0_off9 v3) a + S1x512x2048.size a ≤ S32x512x2048.size a := fun i v3 v11 k0_hw3 k0_h2 => k0_hw3.2 k0_h2

def k0_off10 (i : grid0.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v119 : Index := Scalar.indexCast v1
  ![v119.toNat]
def k0_off11 (v96 : BitVec 32) : Fin 1 → Nat :=
  let c1_i32_72 : BitVec 32 := 1#32
  let c2_i32_43 : BitVec 32 := 2#32
  let v97 : BitVec 32 := Scalar.remsi v96 c2_i32_43
  let v145 : BitVec 32 := Scalar.subi c1_i32_72 v97
  ![v145.toNat]
def k0_cond3 (v120 : BitVec 32) : BitVec 1 :=
  let c32_i32 : BitVec 32 := 32#32
  let v121 : BitVec 1 := Scalar.cmpi .slt v120 c32_i32
  let v122 : BitVec 32 := Scalar.extui v121
  let c0_i32_59 : BitVec 32 := 0#32
  let v123 : BitVec 1 := Scalar.cmpi .ne v122 c0_i32_59
  v123

def k0_off12 (v96 : BitVec 32) : Fin 3 → Nat :=
  let c1_i32_72 : BitVec 32 := 1#32
  let c2_i32_43 : BitVec 32 := 2#32
  let v97 : BitVec 32 := Scalar.remsi v96 c2_i32_43
  let v145 : BitVec 32 := Scalar.subi c1_i32_72 v97
  let c0_i32_73 : BitVec 32 := 0#32
  let c0_i32_74 : BitVec 32 := 0#32
  ![v145.toNat, 0, 0]
def k0_off13 (v120 : BitVec 32) : Fin 3 → Nat :=
  let c0_i32_75 : BitVec 32 := 0#32
  let c0_i32_76 : BitVec 32 := 0#32
  ![v120.toNat, 0, 0]
def k0_off14 (v96 : BitVec 32) : Fin 3 → Nat :=
  let c1_i32_72 : BitVec 32 := 1#32
  let c2_i32_43 : BitVec 32 := 2#32
  let v97 : BitVec 32 := Scalar.remsi v96 c2_i32_43
  let v145 : BitVec 32 := Scalar.subi c1_i32_72 v97
  let c0_i32_81 : BitVec 32 := 0#32
  let c0_i32_82 : BitVec 32 := 0#32
  ![v145.toNat, 0, 0]
def k0_off15 (v120 : BitVec 32) : Fin 3 → Nat :=
  let c0_i32_83 : BitVec 32 := 0#32
  let c0_i32_84 : BitVec 32 := 0#32
  ![v120.toNat, 0, 0]

def k0_chk4 (i : grid0.Coords) (v3 : BitVec 32) (v11 : BitVec 32) (v96 : BitVec 32) (v120 : BitVec 32) : Prop :=
  (∀ (k0_h2 : k0_cond2 i v3 v11 = 1#1), ∀ (k0_h3 : k0_cond3 v120 = 1#1), ∀ a, (k0_off11 v96) a + S1.size a ≤ S2.size a) ∧
  (∀ (k0_h2 : k0_cond2 i v3 v11 = 1#1), ∀ (k0_h3 : k0_cond3 v120 = 1#1), ∀ a, (k0_off12 v96) a + S1x2048x512.size a ≤ S2x2048x512.size a) ∧
  (∀ (k0_h2 : k0_cond2 i v3 v11 = 1#1), ∀ (k0_h3 : k0_cond3 v120 = 1#1), ∀ a, (k0_off13 v120) a + S1x2048x512.size a ≤ S32x2048x512.size a) ∧
  (∀ (k0_h2 : k0_cond2 i v3 v11 = 1#1), ∀ (k0_h3 : k0_cond3 v120 = 1#1), ∀ a, (k0_off14 v96) a + S1x512x2048.size a ≤ S2x512x2048.size a) ∧
  (∀ (k0_h2 : k0_cond2 i v3 v11 = 1#1), ∀ (k0_h3 : k0_cond3 v120 = 1#1), ∀ a, (k0_off15 v120) a + S1x512x2048.size a ≤ S32x512x2048.size a)
theorem k0_off11_inb : ∀ (i : grid0.Coords) (v3 : BitVec 32) (v11 : BitVec 32) (v96 : BitVec 32) (v120 : BitVec 32) (k0_hw4 : k0_chk4 i v3 v11 v96 v120), ∀ (k0_h2 : k0_cond2 i v3 v11 = 1#1), ∀ (k0_h3 : k0_cond3 v120 = 1#1), ∀ a, (k0_off11 v96) a + S1.size a ≤ S2.size a := fun i v3 v11 v96 v120 k0_hw4 k0_h2 k0_h3 => k0_hw4.1 k0_h2 k0_h3
theorem k0_off12_inb : ∀ (i : grid0.Coords) (v3 : BitVec 32) (v11 : BitVec 32) (v96 : BitVec 32) (v120 : BitVec 32) (k0_hw4 : k0_chk4 i v3 v11 v96 v120), ∀ (k0_h2 : k0_cond2 i v3 v11 = 1#1), ∀ (k0_h3 : k0_cond3 v120 = 1#1), ∀ a, (k0_off12 v96) a + S1x2048x512.size a ≤ S2x2048x512.size a := fun i v3 v11 v96 v120 k0_hw4 k0_h2 k0_h3 => k0_hw4.2.1 k0_h2 k0_h3
theorem k0_off13_inb : ∀ (i : grid0.Coords) (v3 : BitVec 32) (v11 : BitVec 32) (v96 : BitVec 32) (v120 : BitVec 32) (k0_hw4 : k0_chk4 i v3 v11 v96 v120), ∀ (k0_h2 : k0_cond2 i v3 v11 = 1#1), ∀ (k0_h3 : k0_cond3 v120 = 1#1), ∀ a, (k0_off13 v120) a + S1x2048x512.size a ≤ S32x2048x512.size a := fun i v3 v11 v96 v120 k0_hw4 k0_h2 k0_h3 => k0_hw4.2.2.1 k0_h2 k0_h3
theorem k0_off14_inb : ∀ (i : grid0.Coords) (v3 : BitVec 32) (v11 : BitVec 32) (v96 : BitVec 32) (v120 : BitVec 32) (k0_hw4 : k0_chk4 i v3 v11 v96 v120), ∀ (k0_h2 : k0_cond2 i v3 v11 = 1#1), ∀ (k0_h3 : k0_cond3 v120 = 1#1), ∀ a, (k0_off14 v96) a + S1x512x2048.size a ≤ S2x512x2048.size a := fun i v3 v11 v96 v120 k0_hw4 k0_h2 k0_h3 => k0_hw4.2.2.2.1 k0_h2 k0_h3
theorem k0_off15_inb : ∀ (i : grid0.Coords) (v3 : BitVec 32) (v11 : BitVec 32) (v96 : BitVec 32) (v120 : BitVec 32) (k0_hw4 : k0_chk4 i v3 v11 v96 v120), ∀ (k0_h2 : k0_cond2 i v3 v11 = 1#1), ∀ (k0_h3 : k0_cond3 v120 = 1#1), ∀ a, (k0_off15 v120) a + S1x512x2048.size a ≤ S32x512x2048.size a := fun i v3 v11 v96 v120 k0_hw4 k0_h2 k0_h3 => k0_hw4.2.2.2.2 k0_h2 k0_h3

def k0_off16 (v96 : BitVec 32) : Fin 3 → Nat :=
  let c2_i32_43 : BitVec 32 := 2#32
  let v97 : BitVec 32 := Scalar.remsi v96 c2_i32_43
  let v124 : Index := Scalar.indexCast v97
  let c0_60 : Index := 0#32
  let c0_61 : Index := 0#32
  ![v124.toNat, 0, 0]
def k0_off17 (v96 : BitVec 32) : Fin 3 → Nat :=
  let c2_i32_43 : BitVec 32 := 2#32
  let v97 : BitVec 32 := Scalar.remsi v96 c2_i32_43
  let v138 : Index := Scalar.indexCast v97
  let c0_68 : Index := 0#32
  let c0_69 : Index := 0#32
  ![v138.toNat, 0, 0]

def k0_chk2 (i : grid0.Coords) (v3 : BitVec 32) (v11 : BitVec 32) (v96 : BitVec 32) : Prop :=
  (∀ (k0_h2 : k0_cond2 i v3 v11 = 1#1), ∀ a, (k0_off5 v96) a + S1.size a ≤ S2.size a) ∧
  (∀ (k0_h2 : k0_cond2 i v3 v11 = 1#1), ∀ a, (k0_off6 v96) a + S1x2048x512.size a ≤ S2x2048x512.size a) ∧
  (∀ (k0_h2 : k0_cond2 i v3 v11 = 1#1), ∀ a, (k0_off8 v96) a + S1x512x2048.size a ≤ S2x512x2048.size a) ∧
  (∀ (k0_h2 : k0_cond2 i v3 v11 = 1#1), ∀ a, (k0_off16 v96) a + S1x2048x512.size a ≤ S2x2048x512.size a) ∧
  (∀ (k0_h2 : k0_cond2 i v3 v11 = 1#1), ∀ a, (k0_off17 v96) a + S1x512x2048.size a ≤ S2x512x2048.size a)
theorem k0_off5_inb : ∀ (i : grid0.Coords) (v3 : BitVec 32) (v11 : BitVec 32) (v96 : BitVec 32) (k0_hw2 : k0_chk2 i v3 v11 v96), ∀ (k0_h2 : k0_cond2 i v3 v11 = 1#1), ∀ a, (k0_off5 v96) a + S1.size a ≤ S2.size a := fun i v3 v11 v96 k0_hw2 k0_h2 => k0_hw2.1 k0_h2
theorem k0_off6_inb : ∀ (i : grid0.Coords) (v3 : BitVec 32) (v11 : BitVec 32) (v96 : BitVec 32) (k0_hw2 : k0_chk2 i v3 v11 v96), ∀ (k0_h2 : k0_cond2 i v3 v11 = 1#1), ∀ a, (k0_off6 v96) a + S1x2048x512.size a ≤ S2x2048x512.size a := fun i v3 v11 v96 k0_hw2 k0_h2 => k0_hw2.2.1 k0_h2
theorem k0_off8_inb : ∀ (i : grid0.Coords) (v3 : BitVec 32) (v11 : BitVec 32) (v96 : BitVec 32) (k0_hw2 : k0_chk2 i v3 v11 v96), ∀ (k0_h2 : k0_cond2 i v3 v11 = 1#1), ∀ a, (k0_off8 v96) a + S1x512x2048.size a ≤ S2x512x2048.size a := fun i v3 v11 v96 k0_hw2 k0_h2 => k0_hw2.2.2.1 k0_h2
theorem k0_off16_inb : ∀ (i : grid0.Coords) (v3 : BitVec 32) (v11 : BitVec 32) (v96 : BitVec 32) (k0_hw2 : k0_chk2 i v3 v11 v96), ∀ (k0_h2 : k0_cond2 i v3 v11 = 1#1), ∀ a, (k0_off16 v96) a + S1x2048x512.size a ≤ S2x2048x512.size a := fun i v3 v11 v96 k0_hw2 k0_h2 => k0_hw2.2.2.2.1 k0_h2
theorem k0_off17_inb : ∀ (i : grid0.Coords) (v3 : BitVec 32) (v11 : BitVec 32) (v96 : BitVec 32) (k0_hw2 : k0_chk2 i v3 v11 v96), ∀ (k0_h2 : k0_cond2 i v3 v11 = 1#1), ∀ a, (k0_off17 v96) a + S1x512x2048.size a ≤ S2x512x2048.size a := fun i v3 v11 v96 k0_hw2 k0_h2 => k0_hw2.2.2.2.2 k0_h2

def k0_off18 (i : grid0.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v16 : Index := Scalar.indexCast v1
  ![v16.toNat]
def k0_off19 (i : grid0.Coords) : Fin 1 → Nat :=
  let arg0 : BitVec 32 := BitVec.ofNat 32 (i 0).val
  let c4_i32_9 : BitVec 32 := 4#32
  let v24 : BitVec 32 := Scalar.muli arg0 c4_i32_9
  let c1_i32_10 : BitVec 32 := 1#32
  let v25 : BitVec 32 := Scalar.addi v24 c1_i32_10
  let v26 : Index := Scalar.indexCast v25
  ![v26.toNat]
def k0_cond6 (i : grid0.Coords) : BitVec 1 :=
  let arg0 : BitVec 32 := BitVec.ofNat 32 (i 0).val
  let c4_i32_9 : BitVec 32 := 4#32
  let v24 : BitVec 32 := Scalar.muli arg0 c4_i32_9
  let c1_i32_10 : BitVec 32 := 1#32
  let v25 : BitVec 32 := Scalar.addi v24 c1_i32_10
  let c0_i32_11 : BitVec 32 := 0#32
  let v28 : BitVec 1 := Scalar.cmpi .eq v25 c0_i32_11
  let v29 : BitVec 32 := Scalar.extui v28
  let c0_i32_12 : BitVec 32 := 0#32
  let v30 : BitVec 1 := Scalar.cmpi .ne v29 c0_i32_12
  v30

def k0_off20 (v27 : BitVec 32) : Fin 3 → Nat :=
  let c0_i32_48 : BitVec 32 := 0#32
  let c0_i32_49 : BitVec 32 := 0#32
  ![v27.toNat, 0, 0]

def k0_off21 (v27 : BitVec 32) : Fin 3 → Nat :=
  let c0_i32_60 : BitVec 32 := 0#32
  let c0_i32_61 : BitVec 32 := 0#32
  ![v27.toNat, 0, 0]

def k0_chk5 (i : grid0.Coords) (v27 : BitVec 32) : Prop :=
  (∀ (k0_h6 : k0_cond6 i = 1#1), ∀ a, (k0_off20 v27) a + S1x2048x512.size a ≤ S32x2048x512.size a) ∧
  (∀ (k0_h6 : k0_cond6 i = 1#1), ∀ a, (k0_off21 v27) a + S1x512x2048.size a ≤ S32x512x2048.size a)
theorem k0_off20_inb : ∀ (i : grid0.Coords) (v27 : BitVec 32) (k0_hw5 : k0_chk5 i v27), ∀ (k0_h6 : k0_cond6 i = 1#1), ∀ a, (k0_off20 v27) a + S1x2048x512.size a ≤ S32x2048x512.size a := fun i v27 k0_hw5 k0_h6 => k0_hw5.1 k0_h6
theorem k0_off21_inb : ∀ (i : grid0.Coords) (v27 : BitVec 32) (k0_hw5 : k0_chk5 i v27), ∀ (k0_h6 : k0_cond6 i = 1#1), ∀ a, (k0_off21 v27) a + S1x512x2048.size a ≤ S32x512x2048.size a := fun i v27 k0_hw5 k0_h6 => k0_hw5.2 k0_h6

def k0_off22 (i : grid0.Coords) : Fin 1 → Nat :=
  let arg0 : BitVec 32 := BitVec.ofNat 32 (i 0).val
  let c4_i32_9 : BitVec 32 := 4#32
  let v24 : BitVec 32 := Scalar.muli arg0 c4_i32_9
  let c1_i32_10 : BitVec 32 := 1#32
  let v25 : BitVec 32 := Scalar.addi v24 c1_i32_10
  let c1_i32_14 : BitVec 32 := 1#32
  let v32 : BitVec 32 := Scalar.subi v25 c1_i32_14
  let c0_i32_15 : BitVec 32 := 0#32
  let v33 : BitVec 32 := Scalar.maxsi v32 c0_i32_15
  let v34 : Index := Scalar.indexCast v33
  ![v34.toNat]
def k0_off23 (v96 : BitVec 32) : Fin 1 → Nat :=
  let c2_i32_43 : BitVec 32 := 2#32
  let v97 : BitVec 32 := Scalar.remsi v96 c2_i32_43
  ![v97.toNat]
def k0_cond7 (i : grid0.Coords) (v27 : BitVec 32) (v35 : BitVec 32) : BitVec 1 :=
  let arg0 : BitVec 32 := BitVec.ofNat 32 (i 0).val
  let c4_i32_9 : BitVec 32 := 4#32
  let v24 : BitVec 32 := Scalar.muli arg0 c4_i32_9
  let c1_i32_10 : BitVec 32 := 1#32
  let v25 : BitVec 32 := Scalar.addi v24 c1_i32_10
  let c0_i32_13 : BitVec 32 := 0#32
  let v31 : BitVec 1 := Scalar.cmpi .eq v25 c0_i32_13
  let v36 : BitVec 1 := Scalar.cmpi .ne v27 v35
  let v37 : BitVec 1 := Scalar.ori v31 v36
  let v38 : BitVec 32 := Scalar.extui v37
  let c0_i32_16 : BitVec 32 := 0#32
  let v39 : BitVec 1 := Scalar.cmpi .ne v38 c0_i32_16
  v39

def k0_off24 (v96 : BitVec 32) : Fin 3 → Nat :=
  let c2_i32_43 : BitVec 32 := 2#32
  let v97 : BitVec 32 := Scalar.remsi v96 c2_i32_43
  let c0_i32_47 : BitVec 32 := 0#32
  let c0_i32_48 : BitVec 32 := 0#32
  ![v97.toNat, 0, 0]
def k0_off25 (v27 : BitVec 32) : Fin 3 → Nat :=
  let c0_i32_49 : BitVec 32 := 0#32
  let c0_i32_50 : BitVec 32 := 0#32
  ![v27.toNat, 0, 0]

def k0_off26 (v96 : BitVec 32) : Fin 3 → Nat :=
  let c2_i32_43 : BitVec 32 := 2#32
  let v97 : BitVec 32 := Scalar.remsi v96 c2_i32_43
  let c0_i32_55 : BitVec 32 := 0#32
  let c0_i32_56 : BitVec 32 := 0#32
  ![v97.toNat, 0, 0]
def k0_off27 (v27 : BitVec 32) : Fin 3 → Nat :=
  let c0_i32_57 : BitVec 32 := 0#32
  let c0_i32_58 : BitVec 32 := 0#32
  ![v27.toNat, 0, 0]

def k0_chk7 (i : grid0.Coords) (v27 : BitVec 32) (v35 : BitVec 32) : Prop :=
  (∀ (k0_h7 : k0_cond7 i v27 v35 = 1#1), ∀ a, (k0_off25 v27) a + S1x2048x512.size a ≤ S32x2048x512.size a) ∧
  (∀ (k0_h7 : k0_cond7 i v27 v35 = 1#1), ∀ a, (k0_off27 v27) a + S1x512x2048.size a ≤ S32x512x2048.size a)
theorem k0_off25_inb : ∀ (i : grid0.Coords) (v27 : BitVec 32) (v35 : BitVec 32) (k0_hw7 : k0_chk7 i v27 v35), ∀ (k0_h7 : k0_cond7 i v27 v35 = 1#1), ∀ a, (k0_off25 v27) a + S1x2048x512.size a ≤ S32x2048x512.size a := fun i v27 v35 k0_hw7 k0_h7 => k0_hw7.1 k0_h7
theorem k0_off27_inb : ∀ (i : grid0.Coords) (v27 : BitVec 32) (v35 : BitVec 32) (k0_hw7 : k0_chk7 i v27 v35), ∀ (k0_h7 : k0_cond7 i v27 v35 = 1#1), ∀ a, (k0_off27 v27) a + S1x512x2048.size a ≤ S32x512x2048.size a := fun i v27 v35 k0_hw7 k0_h7 => k0_hw7.2 k0_h7

def k0_off28 (i : grid0.Coords) : Fin 1 → Nat :=
  let arg0 : BitVec 32 := BitVec.ofNat 32 (i 0).val
  let c4_i32_9 : BitVec 32 := 4#32
  let v24 : BitVec 32 := Scalar.muli arg0 c4_i32_9
  let c1_i32_10 : BitVec 32 := 1#32
  let v25 : BitVec 32 := Scalar.addi v24 c1_i32_10
  let v119 : Index := Scalar.indexCast v25
  ![v119.toNat]
def k0_off29 (v96 : BitVec 32) : Fin 1 → Nat :=
  let c1_i32_72 : BitVec 32 := 1#32
  let c2_i32_43 : BitVec 32 := 2#32
  let v97 : BitVec 32 := Scalar.remsi v96 c2_i32_43
  let v145 : BitVec 32 := Scalar.subi c1_i32_72 v97
  ![v145.toNat]
def k0_cond8 (v120 : BitVec 32) : BitVec 1 :=
  let c32_i32 : BitVec 32 := 32#32
  let v121 : BitVec 1 := Scalar.cmpi .slt v120 c32_i32
  let v122 : BitVec 32 := Scalar.extui v121
  let c0_i32_59 : BitVec 32 := 0#32
  let v123 : BitVec 1 := Scalar.cmpi .ne v122 c0_i32_59
  v123

def k0_off30 (v96 : BitVec 32) : Fin 3 → Nat :=
  let c1_i32_72 : BitVec 32 := 1#32
  let c2_i32_43 : BitVec 32 := 2#32
  let v97 : BitVec 32 := Scalar.remsi v96 c2_i32_43
  let v145 : BitVec 32 := Scalar.subi c1_i32_72 v97
  let c0_i32_73 : BitVec 32 := 0#32
  let c0_i32_74 : BitVec 32 := 0#32
  ![v145.toNat, 0, 0]
def k0_off31 (v120 : BitVec 32) : Fin 3 → Nat :=
  let c0_i32_75 : BitVec 32 := 0#32
  let c0_i32_76 : BitVec 32 := 0#32
  ![v120.toNat, 0, 0]
def k0_off32 (v96 : BitVec 32) : Fin 3 → Nat :=
  let c1_i32_72 : BitVec 32 := 1#32
  let c2_i32_43 : BitVec 32 := 2#32
  let v97 : BitVec 32 := Scalar.remsi v96 c2_i32_43
  let v145 : BitVec 32 := Scalar.subi c1_i32_72 v97
  let c0_i32_81 : BitVec 32 := 0#32
  let c0_i32_82 : BitVec 32 := 0#32
  ![v145.toNat, 0, 0]
def k0_off33 (v120 : BitVec 32) : Fin 3 → Nat :=
  let c0_i32_83 : BitVec 32 := 0#32
  let c0_i32_84 : BitVec 32 := 0#32
  ![v120.toNat, 0, 0]

def k0_chk8 (i : grid0.Coords) (v27 : BitVec 32) (v35 : BitVec 32) (v96 : BitVec 32) (v120 : BitVec 32) : Prop :=
  (∀ (k0_h7 : k0_cond7 i v27 v35 = 1#1), ∀ (k0_h8 : k0_cond8 v120 = 1#1), ∀ a, (k0_off29 v96) a + S1.size a ≤ S2.size a) ∧
  (∀ (k0_h7 : k0_cond7 i v27 v35 = 1#1), ∀ (k0_h8 : k0_cond8 v120 = 1#1), ∀ a, (k0_off30 v96) a + S1x2048x512.size a ≤ S2x2048x512.size a) ∧
  (∀ (k0_h7 : k0_cond7 i v27 v35 = 1#1), ∀ (k0_h8 : k0_cond8 v120 = 1#1), ∀ a, (k0_off31 v120) a + S1x2048x512.size a ≤ S32x2048x512.size a) ∧
  (∀ (k0_h7 : k0_cond7 i v27 v35 = 1#1), ∀ (k0_h8 : k0_cond8 v120 = 1#1), ∀ a, (k0_off32 v96) a + S1x512x2048.size a ≤ S2x512x2048.size a) ∧
  (∀ (k0_h7 : k0_cond7 i v27 v35 = 1#1), ∀ (k0_h8 : k0_cond8 v120 = 1#1), ∀ a, (k0_off33 v120) a + S1x512x2048.size a ≤ S32x512x2048.size a)
theorem k0_off29_inb : ∀ (i : grid0.Coords) (v27 : BitVec 32) (v35 : BitVec 32) (v96 : BitVec 32) (v120 : BitVec 32) (k0_hw8 : k0_chk8 i v27 v35 v96 v120), ∀ (k0_h7 : k0_cond7 i v27 v35 = 1#1), ∀ (k0_h8 : k0_cond8 v120 = 1#1), ∀ a, (k0_off29 v96) a + S1.size a ≤ S2.size a := fun i v27 v35 v96 v120 k0_hw8 k0_h7 k0_h8 => k0_hw8.1 k0_h7 k0_h8
theorem k0_off30_inb : ∀ (i : grid0.Coords) (v27 : BitVec 32) (v35 : BitVec 32) (v96 : BitVec 32) (v120 : BitVec 32) (k0_hw8 : k0_chk8 i v27 v35 v96 v120), ∀ (k0_h7 : k0_cond7 i v27 v35 = 1#1), ∀ (k0_h8 : k0_cond8 v120 = 1#1), ∀ a, (k0_off30 v96) a + S1x2048x512.size a ≤ S2x2048x512.size a := fun i v27 v35 v96 v120 k0_hw8 k0_h7 k0_h8 => k0_hw8.2.1 k0_h7 k0_h8
theorem k0_off31_inb : ∀ (i : grid0.Coords) (v27 : BitVec 32) (v35 : BitVec 32) (v96 : BitVec 32) (v120 : BitVec 32) (k0_hw8 : k0_chk8 i v27 v35 v96 v120), ∀ (k0_h7 : k0_cond7 i v27 v35 = 1#1), ∀ (k0_h8 : k0_cond8 v120 = 1#1), ∀ a, (k0_off31 v120) a + S1x2048x512.size a ≤ S32x2048x512.size a := fun i v27 v35 v96 v120 k0_hw8 k0_h7 k0_h8 => k0_hw8.2.2.1 k0_h7 k0_h8
theorem k0_off32_inb : ∀ (i : grid0.Coords) (v27 : BitVec 32) (v35 : BitVec 32) (v96 : BitVec 32) (v120 : BitVec 32) (k0_hw8 : k0_chk8 i v27 v35 v96 v120), ∀ (k0_h7 : k0_cond7 i v27 v35 = 1#1), ∀ (k0_h8 : k0_cond8 v120 = 1#1), ∀ a, (k0_off32 v96) a + S1x512x2048.size a ≤ S2x512x2048.size a := fun i v27 v35 v96 v120 k0_hw8 k0_h7 k0_h8 => k0_hw8.2.2.2.1 k0_h7 k0_h8
theorem k0_off33_inb : ∀ (i : grid0.Coords) (v27 : BitVec 32) (v35 : BitVec 32) (v96 : BitVec 32) (v120 : BitVec 32) (k0_hw8 : k0_chk8 i v27 v35 v96 v120), ∀ (k0_h7 : k0_cond7 i v27 v35 = 1#1), ∀ (k0_h8 : k0_cond8 v120 = 1#1), ∀ a, (k0_off33 v120) a + S1x512x2048.size a ≤ S32x512x2048.size a := fun i v27 v35 v96 v120 k0_hw8 k0_h7 k0_h8 => k0_hw8.2.2.2.2 k0_h7 k0_h8

def k0_off34 (v96 : BitVec 32) : Fin 3 → Nat :=
  let c2_i32_43 : BitVec 32 := 2#32
  let v97 : BitVec 32 := Scalar.remsi v96 c2_i32_43
  let v124 : Index := Scalar.indexCast v97
  let c0_60 : Index := 0#32
  let c0_61 : Index := 0#32
  ![v124.toNat, 0, 0]
def k0_off35 (v96 : BitVec 32) : Fin 3 → Nat :=
  let c2_i32_43 : BitVec 32 := 2#32
  let v97 : BitVec 32 := Scalar.remsi v96 c2_i32_43
  let v138 : Index := Scalar.indexCast v97
  let c0_68 : Index := 0#32
  let c0_69 : Index := 0#32
  ![v138.toNat, 0, 0]

def k0_chk6 (i : grid0.Coords) (v27 : BitVec 32) (v35 : BitVec 32) (v96 : BitVec 32) : Prop :=
  (∀ (k0_h7 : k0_cond7 i v27 v35 = 1#1), ∀ a, (k0_off23 v96) a + S1.size a ≤ S2.size a) ∧
  (∀ (k0_h7 : k0_cond7 i v27 v35 = 1#1), ∀ a, (k0_off24 v96) a + S1x2048x512.size a ≤ S2x2048x512.size a) ∧
  (∀ (k0_h7 : k0_cond7 i v27 v35 = 1#1), ∀ a, (k0_off26 v96) a + S1x512x2048.size a ≤ S2x512x2048.size a) ∧
  (∀ (k0_h7 : k0_cond7 i v27 v35 = 1#1), ∀ a, (k0_off34 v96) a + S1x2048x512.size a ≤ S2x2048x512.size a) ∧
  (∀ (k0_h7 : k0_cond7 i v27 v35 = 1#1), ∀ a, (k0_off35 v96) a + S1x512x2048.size a ≤ S2x512x2048.size a)
theorem k0_off23_inb : ∀ (i : grid0.Coords) (v27 : BitVec 32) (v35 : BitVec 32) (v96 : BitVec 32) (k0_hw6 : k0_chk6 i v27 v35 v96), ∀ (k0_h7 : k0_cond7 i v27 v35 = 1#1), ∀ a, (k0_off23 v96) a + S1.size a ≤ S2.size a := fun i v27 v35 v96 k0_hw6 k0_h7 => k0_hw6.1 k0_h7
theorem k0_off24_inb : ∀ (i : grid0.Coords) (v27 : BitVec 32) (v35 : BitVec 32) (v96 : BitVec 32) (k0_hw6 : k0_chk6 i v27 v35 v96), ∀ (k0_h7 : k0_cond7 i v27 v35 = 1#1), ∀ a, (k0_off24 v96) a + S1x2048x512.size a ≤ S2x2048x512.size a := fun i v27 v35 v96 k0_hw6 k0_h7 => k0_hw6.2.1 k0_h7
theorem k0_off26_inb : ∀ (i : grid0.Coords) (v27 : BitVec 32) (v35 : BitVec 32) (v96 : BitVec 32) (k0_hw6 : k0_chk6 i v27 v35 v96), ∀ (k0_h7 : k0_cond7 i v27 v35 = 1#1), ∀ a, (k0_off26 v96) a + S1x512x2048.size a ≤ S2x512x2048.size a := fun i v27 v35 v96 k0_hw6 k0_h7 => k0_hw6.2.2.1 k0_h7
theorem k0_off34_inb : ∀ (i : grid0.Coords) (v27 : BitVec 32) (v35 : BitVec 32) (v96 : BitVec 32) (k0_hw6 : k0_chk6 i v27 v35 v96), ∀ (k0_h7 : k0_cond7 i v27 v35 = 1#1), ∀ a, (k0_off34 v96) a + S1x2048x512.size a ≤ S2x2048x512.size a := fun i v27 v35 v96 k0_hw6 k0_h7 => k0_hw6.2.2.2.1 k0_h7
theorem k0_off35_inb : ∀ (i : grid0.Coords) (v27 : BitVec 32) (v35 : BitVec 32) (v96 : BitVec 32) (k0_hw6 : k0_chk6 i v27 v35 v96), ∀ (k0_h7 : k0_cond7 i v27 v35 = 1#1), ∀ a, (k0_off35 v96) a + S1x512x2048.size a ≤ S2x512x2048.size a := fun i v27 v35 v96 k0_hw6 k0_h7 => k0_hw6.2.2.2.2 k0_h7

def k0_off36 (i : grid0.Coords) : Fin 1 → Nat :=
  let arg0 : BitVec 32 := BitVec.ofNat 32 (i 0).val
  let c4_i32_9 : BitVec 32 := 4#32
  let v24 : BitVec 32 := Scalar.muli arg0 c4_i32_9
  let c1_i32_10 : BitVec 32 := 1#32
  let v25 : BitVec 32 := Scalar.addi v24 c1_i32_10
  let v40 : Index := Scalar.indexCast v25
  ![v40.toNat]
def k0_off37 (i : grid0.Coords) : Fin 1 → Nat :=
  let arg0 : BitVec 32 := BitVec.ofNat 32 (i 0).val
  let c4_i32_21 : BitVec 32 := 4#32
  let v48 : BitVec 32 := Scalar.muli arg0 c4_i32_21
  let c2_i32 : BitVec 32 := 2#32
  let v49 : BitVec 32 := Scalar.addi v48 c2_i32
  let v50 : Index := Scalar.indexCast v49
  ![v50.toNat]
def k0_cond11 (i : grid0.Coords) : BitVec 1 :=
  let arg0 : BitVec 32 := BitVec.ofNat 32 (i 0).val
  let c4_i32_21 : BitVec 32 := 4#32
  let v48 : BitVec 32 := Scalar.muli arg0 c4_i32_21
  let c2_i32 : BitVec 32 := 2#32
  let v49 : BitVec 32 := Scalar.addi v48 c2_i32
  let c0_i32_22 : BitVec 32 := 0#32
  let v52 : BitVec 1 := Scalar.cmpi .eq v49 c0_i32_22
  let v53 : BitVec 32 := Scalar.extui v52
  let c0_i32_23 : BitVec 32 := 0#32
  let v54 : BitVec 1 := Scalar.cmpi .ne v53 c0_i32_23
  v54

def k0_off38 (v51 : BitVec 32) : Fin 3 → Nat :=
  let c0_i32_48 : BitVec 32 := 0#32
  let c0_i32_49 : BitVec 32 := 0#32
  ![v51.toNat, 0, 0]

def k0_off39 (v51 : BitVec 32) : Fin 3 → Nat :=
  let c0_i32_60 : BitVec 32 := 0#32
  let c0_i32_61 : BitVec 32 := 0#32
  ![v51.toNat, 0, 0]

def k0_chk9 (i : grid0.Coords) (v51 : BitVec 32) : Prop :=
  (∀ (k0_h11 : k0_cond11 i = 1#1), ∀ a, (k0_off38 v51) a + S1x2048x512.size a ≤ S32x2048x512.size a) ∧
  (∀ (k0_h11 : k0_cond11 i = 1#1), ∀ a, (k0_off39 v51) a + S1x512x2048.size a ≤ S32x512x2048.size a)
theorem k0_off38_inb : ∀ (i : grid0.Coords) (v51 : BitVec 32) (k0_hw9 : k0_chk9 i v51), ∀ (k0_h11 : k0_cond11 i = 1#1), ∀ a, (k0_off38 v51) a + S1x2048x512.size a ≤ S32x2048x512.size a := fun i v51 k0_hw9 k0_h11 => k0_hw9.1 k0_h11
theorem k0_off39_inb : ∀ (i : grid0.Coords) (v51 : BitVec 32) (k0_hw9 : k0_chk9 i v51), ∀ (k0_h11 : k0_cond11 i = 1#1), ∀ a, (k0_off39 v51) a + S1x512x2048.size a ≤ S32x512x2048.size a := fun i v51 k0_hw9 k0_h11 => k0_hw9.2 k0_h11

def k0_off40 (i : grid0.Coords) : Fin 1 → Nat :=
  let arg0 : BitVec 32 := BitVec.ofNat 32 (i 0).val
  let c4_i32_21 : BitVec 32 := 4#32
  let v48 : BitVec 32 := Scalar.muli arg0 c4_i32_21
  let c2_i32 : BitVec 32 := 2#32
  let v49 : BitVec 32 := Scalar.addi v48 c2_i32
  let c1_i32_25 : BitVec 32 := 1#32
  let v56 : BitVec 32 := Scalar.subi v49 c1_i32_25
  let c0_i32_26 : BitVec 32 := 0#32
  let v57 : BitVec 32 := Scalar.maxsi v56 c0_i32_26
  let v58 : Index := Scalar.indexCast v57
  ![v58.toNat]
def k0_off41 (v96 : BitVec 32) : Fin 1 → Nat :=
  let c2_i32_43 : BitVec 32 := 2#32
  let v97 : BitVec 32 := Scalar.remsi v96 c2_i32_43
  ![v97.toNat]
def k0_cond12 (i : grid0.Coords) (v51 : BitVec 32) (v59 : BitVec 32) : BitVec 1 :=
  let arg0 : BitVec 32 := BitVec.ofNat 32 (i 0).val
  let c4_i32_21 : BitVec 32 := 4#32
  let v48 : BitVec 32 := Scalar.muli arg0 c4_i32_21
  let c2_i32 : BitVec 32 := 2#32
  let v49 : BitVec 32 := Scalar.addi v48 c2_i32
  let c0_i32_24 : BitVec 32 := 0#32
  let v55 : BitVec 1 := Scalar.cmpi .eq v49 c0_i32_24
  let v60 : BitVec 1 := Scalar.cmpi .ne v51 v59
  let v61 : BitVec 1 := Scalar.ori v55 v60
  let v62 : BitVec 32 := Scalar.extui v61
  let c0_i32_27 : BitVec 32 := 0#32
  let v63 : BitVec 1 := Scalar.cmpi .ne v62 c0_i32_27
  v63

def k0_off42 (v96 : BitVec 32) : Fin 3 → Nat :=
  let c2_i32_43 : BitVec 32 := 2#32
  let v97 : BitVec 32 := Scalar.remsi v96 c2_i32_43
  let c0_i32_47 : BitVec 32 := 0#32
  let c0_i32_48 : BitVec 32 := 0#32
  ![v97.toNat, 0, 0]
def k0_off43 (v51 : BitVec 32) : Fin 3 → Nat :=
  let c0_i32_49 : BitVec 32 := 0#32
  let c0_i32_50 : BitVec 32 := 0#32
  ![v51.toNat, 0, 0]

def k0_off44 (v96 : BitVec 32) : Fin 3 → Nat :=
  let c2_i32_43 : BitVec 32 := 2#32
  let v97 : BitVec 32 := Scalar.remsi v96 c2_i32_43
  let c0_i32_55 : BitVec 32 := 0#32
  let c0_i32_56 : BitVec 32 := 0#32
  ![v97.toNat, 0, 0]
def k0_off45 (v51 : BitVec 32) : Fin 3 → Nat :=
  let c0_i32_57 : BitVec 32 := 0#32
  let c0_i32_58 : BitVec 32 := 0#32
  ![v51.toNat, 0, 0]

def k0_chk11 (i : grid0.Coords) (v51 : BitVec 32) (v59 : BitVec 32) : Prop :=
  (∀ (k0_h12 : k0_cond12 i v51 v59 = 1#1), ∀ a, (k0_off43 v51) a + S1x2048x512.size a ≤ S32x2048x512.size a) ∧
  (∀ (k0_h12 : k0_cond12 i v51 v59 = 1#1), ∀ a, (k0_off45 v51) a + S1x512x2048.size a ≤ S32x512x2048.size a)
theorem k0_off43_inb : ∀ (i : grid0.Coords) (v51 : BitVec 32) (v59 : BitVec 32) (k0_hw11 : k0_chk11 i v51 v59), ∀ (k0_h12 : k0_cond12 i v51 v59 = 1#1), ∀ a, (k0_off43 v51) a + S1x2048x512.size a ≤ S32x2048x512.size a := fun i v51 v59 k0_hw11 k0_h12 => k0_hw11.1 k0_h12
theorem k0_off45_inb : ∀ (i : grid0.Coords) (v51 : BitVec 32) (v59 : BitVec 32) (k0_hw11 : k0_chk11 i v51 v59), ∀ (k0_h12 : k0_cond12 i v51 v59 = 1#1), ∀ a, (k0_off45 v51) a + S1x512x2048.size a ≤ S32x512x2048.size a := fun i v51 v59 k0_hw11 k0_h12 => k0_hw11.2 k0_h12

def k0_off46 (i : grid0.Coords) : Fin 1 → Nat :=
  let arg0 : BitVec 32 := BitVec.ofNat 32 (i 0).val
  let c4_i32_21 : BitVec 32 := 4#32
  let v48 : BitVec 32 := Scalar.muli arg0 c4_i32_21
  let c2_i32 : BitVec 32 := 2#32
  let v49 : BitVec 32 := Scalar.addi v48 c2_i32
  let v119 : Index := Scalar.indexCast v49
  ![v119.toNat]
def k0_off47 (v96 : BitVec 32) : Fin 1 → Nat :=
  let c1_i32_72 : BitVec 32 := 1#32
  let c2_i32_43 : BitVec 32 := 2#32
  let v97 : BitVec 32 := Scalar.remsi v96 c2_i32_43
  let v145 : BitVec 32 := Scalar.subi c1_i32_72 v97
  ![v145.toNat]
def k0_cond13 (v120 : BitVec 32) : BitVec 1 :=
  let c32_i32 : BitVec 32 := 32#32
  let v121 : BitVec 1 := Scalar.cmpi .slt v120 c32_i32
  let v122 : BitVec 32 := Scalar.extui v121
  let c0_i32_59 : BitVec 32 := 0#32
  let v123 : BitVec 1 := Scalar.cmpi .ne v122 c0_i32_59
  v123

def k0_off48 (v96 : BitVec 32) : Fin 3 → Nat :=
  let c1_i32_72 : BitVec 32 := 1#32
  let c2_i32_43 : BitVec 32 := 2#32
  let v97 : BitVec 32 := Scalar.remsi v96 c2_i32_43
  let v145 : BitVec 32 := Scalar.subi c1_i32_72 v97
  let c0_i32_73 : BitVec 32 := 0#32
  let c0_i32_74 : BitVec 32 := 0#32
  ![v145.toNat, 0, 0]
def k0_off49 (v120 : BitVec 32) : Fin 3 → Nat :=
  let c0_i32_75 : BitVec 32 := 0#32
  let c0_i32_76 : BitVec 32 := 0#32
  ![v120.toNat, 0, 0]
def k0_off50 (v96 : BitVec 32) : Fin 3 → Nat :=
  let c1_i32_72 : BitVec 32 := 1#32
  let c2_i32_43 : BitVec 32 := 2#32
  let v97 : BitVec 32 := Scalar.remsi v96 c2_i32_43
  let v145 : BitVec 32 := Scalar.subi c1_i32_72 v97
  let c0_i32_81 : BitVec 32 := 0#32
  let c0_i32_82 : BitVec 32 := 0#32
  ![v145.toNat, 0, 0]
def k0_off51 (v120 : BitVec 32) : Fin 3 → Nat :=
  let c0_i32_83 : BitVec 32 := 0#32
  let c0_i32_84 : BitVec 32 := 0#32
  ![v120.toNat, 0, 0]

def k0_chk12 (i : grid0.Coords) (v51 : BitVec 32) (v59 : BitVec 32) (v96 : BitVec 32) (v120 : BitVec 32) : Prop :=
  (∀ (k0_h12 : k0_cond12 i v51 v59 = 1#1), ∀ (k0_h13 : k0_cond13 v120 = 1#1), ∀ a, (k0_off47 v96) a + S1.size a ≤ S2.size a) ∧
  (∀ (k0_h12 : k0_cond12 i v51 v59 = 1#1), ∀ (k0_h13 : k0_cond13 v120 = 1#1), ∀ a, (k0_off48 v96) a + S1x2048x512.size a ≤ S2x2048x512.size a) ∧
  (∀ (k0_h12 : k0_cond12 i v51 v59 = 1#1), ∀ (k0_h13 : k0_cond13 v120 = 1#1), ∀ a, (k0_off49 v120) a + S1x2048x512.size a ≤ S32x2048x512.size a) ∧
  (∀ (k0_h12 : k0_cond12 i v51 v59 = 1#1), ∀ (k0_h13 : k0_cond13 v120 = 1#1), ∀ a, (k0_off50 v96) a + S1x512x2048.size a ≤ S2x512x2048.size a) ∧
  (∀ (k0_h12 : k0_cond12 i v51 v59 = 1#1), ∀ (k0_h13 : k0_cond13 v120 = 1#1), ∀ a, (k0_off51 v120) a + S1x512x2048.size a ≤ S32x512x2048.size a)
theorem k0_off47_inb : ∀ (i : grid0.Coords) (v51 : BitVec 32) (v59 : BitVec 32) (v96 : BitVec 32) (v120 : BitVec 32) (k0_hw12 : k0_chk12 i v51 v59 v96 v120), ∀ (k0_h12 : k0_cond12 i v51 v59 = 1#1), ∀ (k0_h13 : k0_cond13 v120 = 1#1), ∀ a, (k0_off47 v96) a + S1.size a ≤ S2.size a := fun i v51 v59 v96 v120 k0_hw12 k0_h12 k0_h13 => k0_hw12.1 k0_h12 k0_h13
theorem k0_off48_inb : ∀ (i : grid0.Coords) (v51 : BitVec 32) (v59 : BitVec 32) (v96 : BitVec 32) (v120 : BitVec 32) (k0_hw12 : k0_chk12 i v51 v59 v96 v120), ∀ (k0_h12 : k0_cond12 i v51 v59 = 1#1), ∀ (k0_h13 : k0_cond13 v120 = 1#1), ∀ a, (k0_off48 v96) a + S1x2048x512.size a ≤ S2x2048x512.size a := fun i v51 v59 v96 v120 k0_hw12 k0_h12 k0_h13 => k0_hw12.2.1 k0_h12 k0_h13
theorem k0_off49_inb : ∀ (i : grid0.Coords) (v51 : BitVec 32) (v59 : BitVec 32) (v96 : BitVec 32) (v120 : BitVec 32) (k0_hw12 : k0_chk12 i v51 v59 v96 v120), ∀ (k0_h12 : k0_cond12 i v51 v59 = 1#1), ∀ (k0_h13 : k0_cond13 v120 = 1#1), ∀ a, (k0_off49 v120) a + S1x2048x512.size a ≤ S32x2048x512.size a := fun i v51 v59 v96 v120 k0_hw12 k0_h12 k0_h13 => k0_hw12.2.2.1 k0_h12 k0_h13
theorem k0_off50_inb : ∀ (i : grid0.Coords) (v51 : BitVec 32) (v59 : BitVec 32) (v96 : BitVec 32) (v120 : BitVec 32) (k0_hw12 : k0_chk12 i v51 v59 v96 v120), ∀ (k0_h12 : k0_cond12 i v51 v59 = 1#1), ∀ (k0_h13 : k0_cond13 v120 = 1#1), ∀ a, (k0_off50 v96) a + S1x512x2048.size a ≤ S2x512x2048.size a := fun i v51 v59 v96 v120 k0_hw12 k0_h12 k0_h13 => k0_hw12.2.2.2.1 k0_h12 k0_h13
theorem k0_off51_inb : ∀ (i : grid0.Coords) (v51 : BitVec 32) (v59 : BitVec 32) (v96 : BitVec 32) (v120 : BitVec 32) (k0_hw12 : k0_chk12 i v51 v59 v96 v120), ∀ (k0_h12 : k0_cond12 i v51 v59 = 1#1), ∀ (k0_h13 : k0_cond13 v120 = 1#1), ∀ a, (k0_off51 v120) a + S1x512x2048.size a ≤ S32x512x2048.size a := fun i v51 v59 v96 v120 k0_hw12 k0_h12 k0_h13 => k0_hw12.2.2.2.2 k0_h12 k0_h13

def k0_off52 (v96 : BitVec 32) : Fin 3 → Nat :=
  let c2_i32_43 : BitVec 32 := 2#32
  let v97 : BitVec 32 := Scalar.remsi v96 c2_i32_43
  let v124 : Index := Scalar.indexCast v97
  let c0_60 : Index := 0#32
  let c0_61 : Index := 0#32
  ![v124.toNat, 0, 0]
def k0_off53 (v96 : BitVec 32) : Fin 3 → Nat :=
  let c2_i32_43 : BitVec 32 := 2#32
  let v97 : BitVec 32 := Scalar.remsi v96 c2_i32_43
  let v138 : Index := Scalar.indexCast v97
  let c0_68 : Index := 0#32
  let c0_69 : Index := 0#32
  ![v138.toNat, 0, 0]

def k0_chk10 (i : grid0.Coords) (v51 : BitVec 32) (v59 : BitVec 32) (v96 : BitVec 32) : Prop :=
  (∀ (k0_h12 : k0_cond12 i v51 v59 = 1#1), ∀ a, (k0_off41 v96) a + S1.size a ≤ S2.size a) ∧
  (∀ (k0_h12 : k0_cond12 i v51 v59 = 1#1), ∀ a, (k0_off42 v96) a + S1x2048x512.size a ≤ S2x2048x512.size a) ∧
  (∀ (k0_h12 : k0_cond12 i v51 v59 = 1#1), ∀ a, (k0_off44 v96) a + S1x512x2048.size a ≤ S2x512x2048.size a) ∧
  (∀ (k0_h12 : k0_cond12 i v51 v59 = 1#1), ∀ a, (k0_off52 v96) a + S1x2048x512.size a ≤ S2x2048x512.size a) ∧
  (∀ (k0_h12 : k0_cond12 i v51 v59 = 1#1), ∀ a, (k0_off53 v96) a + S1x512x2048.size a ≤ S2x512x2048.size a)
theorem k0_off41_inb : ∀ (i : grid0.Coords) (v51 : BitVec 32) (v59 : BitVec 32) (v96 : BitVec 32) (k0_hw10 : k0_chk10 i v51 v59 v96), ∀ (k0_h12 : k0_cond12 i v51 v59 = 1#1), ∀ a, (k0_off41 v96) a + S1.size a ≤ S2.size a := fun i v51 v59 v96 k0_hw10 k0_h12 => k0_hw10.1 k0_h12
theorem k0_off42_inb : ∀ (i : grid0.Coords) (v51 : BitVec 32) (v59 : BitVec 32) (v96 : BitVec 32) (k0_hw10 : k0_chk10 i v51 v59 v96), ∀ (k0_h12 : k0_cond12 i v51 v59 = 1#1), ∀ a, (k0_off42 v96) a + S1x2048x512.size a ≤ S2x2048x512.size a := fun i v51 v59 v96 k0_hw10 k0_h12 => k0_hw10.2.1 k0_h12
theorem k0_off44_inb : ∀ (i : grid0.Coords) (v51 : BitVec 32) (v59 : BitVec 32) (v96 : BitVec 32) (k0_hw10 : k0_chk10 i v51 v59 v96), ∀ (k0_h12 : k0_cond12 i v51 v59 = 1#1), ∀ a, (k0_off44 v96) a + S1x512x2048.size a ≤ S2x512x2048.size a := fun i v51 v59 v96 k0_hw10 k0_h12 => k0_hw10.2.2.1 k0_h12
theorem k0_off52_inb : ∀ (i : grid0.Coords) (v51 : BitVec 32) (v59 : BitVec 32) (v96 : BitVec 32) (k0_hw10 : k0_chk10 i v51 v59 v96), ∀ (k0_h12 : k0_cond12 i v51 v59 = 1#1), ∀ a, (k0_off52 v96) a + S1x2048x512.size a ≤ S2x2048x512.size a := fun i v51 v59 v96 k0_hw10 k0_h12 => k0_hw10.2.2.2.1 k0_h12
theorem k0_off53_inb : ∀ (i : grid0.Coords) (v51 : BitVec 32) (v59 : BitVec 32) (v96 : BitVec 32) (k0_hw10 : k0_chk10 i v51 v59 v96), ∀ (k0_h12 : k0_cond12 i v51 v59 = 1#1), ∀ a, (k0_off53 v96) a + S1x512x2048.size a ≤ S2x512x2048.size a := fun i v51 v59 v96 k0_hw10 k0_h12 => k0_hw10.2.2.2.2 k0_h12

def k0_off54 (i : grid0.Coords) : Fin 1 → Nat :=
  let arg0 : BitVec 32 := BitVec.ofNat 32 (i 0).val
  let c4_i32_21 : BitVec 32 := 4#32
  let v48 : BitVec 32 := Scalar.muli arg0 c4_i32_21
  let c2_i32 : BitVec 32 := 2#32
  let v49 : BitVec 32 := Scalar.addi v48 c2_i32
  let v64 : Index := Scalar.indexCast v49
  ![v64.toNat]
def k0_off55 (i : grid0.Coords) : Fin 1 → Nat :=
  let arg0 : BitVec 32 := BitVec.ofNat 32 (i 0).val
  let c4_i32_32 : BitVec 32 := 4#32
  let v72 : BitVec 32 := Scalar.muli arg0 c4_i32_32
  let c3_i32 : BitVec 32 := 3#32
  let v73 : BitVec 32 := Scalar.addi v72 c3_i32
  let v74 : Index := Scalar.indexCast v73
  ![v74.toNat]
def k0_cond16 (i : grid0.Coords) : BitVec 1 :=
  let arg0 : BitVec 32 := BitVec.ofNat 32 (i 0).val
  let c4_i32_32 : BitVec 32 := 4#32
  let v72 : BitVec 32 := Scalar.muli arg0 c4_i32_32
  let c3_i32 : BitVec 32 := 3#32
  let v73 : BitVec 32 := Scalar.addi v72 c3_i32
  let c0_i32_33 : BitVec 32 := 0#32
  let v76 : BitVec 1 := Scalar.cmpi .eq v73 c0_i32_33
  let v77 : BitVec 32 := Scalar.extui v76
  let c0_i32_34 : BitVec 32 := 0#32
  let v78 : BitVec 1 := Scalar.cmpi .ne v77 c0_i32_34
  v78

def k0_off56 (v75 : BitVec 32) : Fin 3 → Nat :=
  let c0_i32_48 : BitVec 32 := 0#32
  let c0_i32_49 : BitVec 32 := 0#32
  ![v75.toNat, 0, 0]

def k0_off57 (v75 : BitVec 32) : Fin 3 → Nat :=
  let c0_i32_60 : BitVec 32 := 0#32
  let c0_i32_61 : BitVec 32 := 0#32
  ![v75.toNat, 0, 0]

def k0_chk13 (i : grid0.Coords) (v75 : BitVec 32) : Prop :=
  (∀ (k0_h16 : k0_cond16 i = 1#1), ∀ a, (k0_off56 v75) a + S1x2048x512.size a ≤ S32x2048x512.size a) ∧
  (∀ (k0_h16 : k0_cond16 i = 1#1), ∀ a, (k0_off57 v75) a + S1x512x2048.size a ≤ S32x512x2048.size a)
theorem k0_off56_inb : ∀ (i : grid0.Coords) (v75 : BitVec 32) (k0_hw13 : k0_chk13 i v75), ∀ (k0_h16 : k0_cond16 i = 1#1), ∀ a, (k0_off56 v75) a + S1x2048x512.size a ≤ S32x2048x512.size a := fun i v75 k0_hw13 k0_h16 => k0_hw13.1 k0_h16
theorem k0_off57_inb : ∀ (i : grid0.Coords) (v75 : BitVec 32) (k0_hw13 : k0_chk13 i v75), ∀ (k0_h16 : k0_cond16 i = 1#1), ∀ a, (k0_off57 v75) a + S1x512x2048.size a ≤ S32x512x2048.size a := fun i v75 k0_hw13 k0_h16 => k0_hw13.2 k0_h16

def k0_off58 (i : grid0.Coords) : Fin 1 → Nat :=
  let arg0 : BitVec 32 := BitVec.ofNat 32 (i 0).val
  let c4_i32_32 : BitVec 32 := 4#32
  let v72 : BitVec 32 := Scalar.muli arg0 c4_i32_32
  let c3_i32 : BitVec 32 := 3#32
  let v73 : BitVec 32 := Scalar.addi v72 c3_i32
  let c1_i32_36 : BitVec 32 := 1#32
  let v80 : BitVec 32 := Scalar.subi v73 c1_i32_36
  let c0_i32_37 : BitVec 32 := 0#32
  let v81 : BitVec 32 := Scalar.maxsi v80 c0_i32_37
  let v82 : Index := Scalar.indexCast v81
  ![v82.toNat]
def k0_off59 (v96 : BitVec 32) : Fin 1 → Nat :=
  let c2_i32_43 : BitVec 32 := 2#32
  let v97 : BitVec 32 := Scalar.remsi v96 c2_i32_43
  ![v97.toNat]
def k0_cond17 (i : grid0.Coords) (v75 : BitVec 32) (v83 : BitVec 32) : BitVec 1 :=
  let arg0 : BitVec 32 := BitVec.ofNat 32 (i 0).val
  let c4_i32_32 : BitVec 32 := 4#32
  let v72 : BitVec 32 := Scalar.muli arg0 c4_i32_32
  let c3_i32 : BitVec 32 := 3#32
  let v73 : BitVec 32 := Scalar.addi v72 c3_i32
  let c0_i32_35 : BitVec 32 := 0#32
  let v79 : BitVec 1 := Scalar.cmpi .eq v73 c0_i32_35
  let v84 : BitVec 1 := Scalar.cmpi .ne v75 v83
  let v85 : BitVec 1 := Scalar.ori v79 v84
  let v86 : BitVec 32 := Scalar.extui v85
  let c0_i32_38 : BitVec 32 := 0#32
  let v87 : BitVec 1 := Scalar.cmpi .ne v86 c0_i32_38
  v87

def k0_off60 (v96 : BitVec 32) : Fin 3 → Nat :=
  let c2_i32_43 : BitVec 32 := 2#32
  let v97 : BitVec 32 := Scalar.remsi v96 c2_i32_43
  let c0_i32_47 : BitVec 32 := 0#32
  let c0_i32_48 : BitVec 32 := 0#32
  ![v97.toNat, 0, 0]
def k0_off61 (v75 : BitVec 32) : Fin 3 → Nat :=
  let c0_i32_49 : BitVec 32 := 0#32
  let c0_i32_50 : BitVec 32 := 0#32
  ![v75.toNat, 0, 0]

def k0_off62 (v96 : BitVec 32) : Fin 3 → Nat :=
  let c2_i32_43 : BitVec 32 := 2#32
  let v97 : BitVec 32 := Scalar.remsi v96 c2_i32_43
  let c0_i32_55 : BitVec 32 := 0#32
  let c0_i32_56 : BitVec 32 := 0#32
  ![v97.toNat, 0, 0]
def k0_off63 (v75 : BitVec 32) : Fin 3 → Nat :=
  let c0_i32_57 : BitVec 32 := 0#32
  let c0_i32_58 : BitVec 32 := 0#32
  ![v75.toNat, 0, 0]

def k0_chk15 (i : grid0.Coords) (v75 : BitVec 32) (v83 : BitVec 32) : Prop :=
  (∀ (k0_h17 : k0_cond17 i v75 v83 = 1#1), ∀ a, (k0_off61 v75) a + S1x2048x512.size a ≤ S32x2048x512.size a) ∧
  (∀ (k0_h17 : k0_cond17 i v75 v83 = 1#1), ∀ a, (k0_off63 v75) a + S1x512x2048.size a ≤ S32x512x2048.size a)
theorem k0_off61_inb : ∀ (i : grid0.Coords) (v75 : BitVec 32) (v83 : BitVec 32) (k0_hw15 : k0_chk15 i v75 v83), ∀ (k0_h17 : k0_cond17 i v75 v83 = 1#1), ∀ a, (k0_off61 v75) a + S1x2048x512.size a ≤ S32x2048x512.size a := fun i v75 v83 k0_hw15 k0_h17 => k0_hw15.1 k0_h17
theorem k0_off63_inb : ∀ (i : grid0.Coords) (v75 : BitVec 32) (v83 : BitVec 32) (k0_hw15 : k0_chk15 i v75 v83), ∀ (k0_h17 : k0_cond17 i v75 v83 = 1#1), ∀ a, (k0_off63 v75) a + S1x512x2048.size a ≤ S32x512x2048.size a := fun i v75 v83 k0_hw15 k0_h17 => k0_hw15.2 k0_h17

def k0_off64 (i : grid0.Coords) : Fin 1 → Nat :=
  let arg0 : BitVec 32 := BitVec.ofNat 32 (i 0).val
  let c4_i32_32 : BitVec 32 := 4#32
  let v72 : BitVec 32 := Scalar.muli arg0 c4_i32_32
  let c3_i32 : BitVec 32 := 3#32
  let v73 : BitVec 32 := Scalar.addi v72 c3_i32
  let v119 : Index := Scalar.indexCast v73
  ![v119.toNat]
def k0_off65 (v96 : BitVec 32) : Fin 1 → Nat :=
  let c1_i32_72 : BitVec 32 := 1#32
  let c2_i32_43 : BitVec 32 := 2#32
  let v97 : BitVec 32 := Scalar.remsi v96 c2_i32_43
  let v145 : BitVec 32 := Scalar.subi c1_i32_72 v97
  ![v145.toNat]
def k0_cond18 (v120 : BitVec 32) : BitVec 1 :=
  let c32_i32 : BitVec 32 := 32#32
  let v121 : BitVec 1 := Scalar.cmpi .slt v120 c32_i32
  let v122 : BitVec 32 := Scalar.extui v121
  let c0_i32_59 : BitVec 32 := 0#32
  let v123 : BitVec 1 := Scalar.cmpi .ne v122 c0_i32_59
  v123

def k0_off66 (v96 : BitVec 32) : Fin 3 → Nat :=
  let c1_i32_72 : BitVec 32 := 1#32
  let c2_i32_43 : BitVec 32 := 2#32
  let v97 : BitVec 32 := Scalar.remsi v96 c2_i32_43
  let v145 : BitVec 32 := Scalar.subi c1_i32_72 v97
  let c0_i32_73 : BitVec 32 := 0#32
  let c0_i32_74 : BitVec 32 := 0#32
  ![v145.toNat, 0, 0]
def k0_off67 (v120 : BitVec 32) : Fin 3 → Nat :=
  let c0_i32_75 : BitVec 32 := 0#32
  let c0_i32_76 : BitVec 32 := 0#32
  ![v120.toNat, 0, 0]
def k0_off68 (v96 : BitVec 32) : Fin 3 → Nat :=
  let c1_i32_72 : BitVec 32 := 1#32
  let c2_i32_43 : BitVec 32 := 2#32
  let v97 : BitVec 32 := Scalar.remsi v96 c2_i32_43
  let v145 : BitVec 32 := Scalar.subi c1_i32_72 v97
  let c0_i32_81 : BitVec 32 := 0#32
  let c0_i32_82 : BitVec 32 := 0#32
  ![v145.toNat, 0, 0]
def k0_off69 (v120 : BitVec 32) : Fin 3 → Nat :=
  let c0_i32_83 : BitVec 32 := 0#32
  let c0_i32_84 : BitVec 32 := 0#32
  ![v120.toNat, 0, 0]

def k0_chk16 (i : grid0.Coords) (v75 : BitVec 32) (v83 : BitVec 32) (v96 : BitVec 32) (v120 : BitVec 32) : Prop :=
  (∀ (k0_h17 : k0_cond17 i v75 v83 = 1#1), ∀ (k0_h18 : k0_cond18 v120 = 1#1), ∀ a, (k0_off65 v96) a + S1.size a ≤ S2.size a) ∧
  (∀ (k0_h17 : k0_cond17 i v75 v83 = 1#1), ∀ (k0_h18 : k0_cond18 v120 = 1#1), ∀ a, (k0_off66 v96) a + S1x2048x512.size a ≤ S2x2048x512.size a) ∧
  (∀ (k0_h17 : k0_cond17 i v75 v83 = 1#1), ∀ (k0_h18 : k0_cond18 v120 = 1#1), ∀ a, (k0_off67 v120) a + S1x2048x512.size a ≤ S32x2048x512.size a) ∧
  (∀ (k0_h17 : k0_cond17 i v75 v83 = 1#1), ∀ (k0_h18 : k0_cond18 v120 = 1#1), ∀ a, (k0_off68 v96) a + S1x512x2048.size a ≤ S2x512x2048.size a) ∧
  (∀ (k0_h17 : k0_cond17 i v75 v83 = 1#1), ∀ (k0_h18 : k0_cond18 v120 = 1#1), ∀ a, (k0_off69 v120) a + S1x512x2048.size a ≤ S32x512x2048.size a)
theorem k0_off65_inb : ∀ (i : grid0.Coords) (v75 : BitVec 32) (v83 : BitVec 32) (v96 : BitVec 32) (v120 : BitVec 32) (k0_hw16 : k0_chk16 i v75 v83 v96 v120), ∀ (k0_h17 : k0_cond17 i v75 v83 = 1#1), ∀ (k0_h18 : k0_cond18 v120 = 1#1), ∀ a, (k0_off65 v96) a + S1.size a ≤ S2.size a := fun i v75 v83 v96 v120 k0_hw16 k0_h17 k0_h18 => k0_hw16.1 k0_h17 k0_h18
theorem k0_off66_inb : ∀ (i : grid0.Coords) (v75 : BitVec 32) (v83 : BitVec 32) (v96 : BitVec 32) (v120 : BitVec 32) (k0_hw16 : k0_chk16 i v75 v83 v96 v120), ∀ (k0_h17 : k0_cond17 i v75 v83 = 1#1), ∀ (k0_h18 : k0_cond18 v120 = 1#1), ∀ a, (k0_off66 v96) a + S1x2048x512.size a ≤ S2x2048x512.size a := fun i v75 v83 v96 v120 k0_hw16 k0_h17 k0_h18 => k0_hw16.2.1 k0_h17 k0_h18
theorem k0_off67_inb : ∀ (i : grid0.Coords) (v75 : BitVec 32) (v83 : BitVec 32) (v96 : BitVec 32) (v120 : BitVec 32) (k0_hw16 : k0_chk16 i v75 v83 v96 v120), ∀ (k0_h17 : k0_cond17 i v75 v83 = 1#1), ∀ (k0_h18 : k0_cond18 v120 = 1#1), ∀ a, (k0_off67 v120) a + S1x2048x512.size a ≤ S32x2048x512.size a := fun i v75 v83 v96 v120 k0_hw16 k0_h17 k0_h18 => k0_hw16.2.2.1 k0_h17 k0_h18
theorem k0_off68_inb : ∀ (i : grid0.Coords) (v75 : BitVec 32) (v83 : BitVec 32) (v96 : BitVec 32) (v120 : BitVec 32) (k0_hw16 : k0_chk16 i v75 v83 v96 v120), ∀ (k0_h17 : k0_cond17 i v75 v83 = 1#1), ∀ (k0_h18 : k0_cond18 v120 = 1#1), ∀ a, (k0_off68 v96) a + S1x512x2048.size a ≤ S2x512x2048.size a := fun i v75 v83 v96 v120 k0_hw16 k0_h17 k0_h18 => k0_hw16.2.2.2.1 k0_h17 k0_h18
theorem k0_off69_inb : ∀ (i : grid0.Coords) (v75 : BitVec 32) (v83 : BitVec 32) (v96 : BitVec 32) (v120 : BitVec 32) (k0_hw16 : k0_chk16 i v75 v83 v96 v120), ∀ (k0_h17 : k0_cond17 i v75 v83 = 1#1), ∀ (k0_h18 : k0_cond18 v120 = 1#1), ∀ a, (k0_off69 v120) a + S1x512x2048.size a ≤ S32x512x2048.size a := fun i v75 v83 v96 v120 k0_hw16 k0_h17 k0_h18 => k0_hw16.2.2.2.2 k0_h17 k0_h18

def k0_off70 (v96 : BitVec 32) : Fin 3 → Nat :=
  let c2_i32_43 : BitVec 32 := 2#32
  let v97 : BitVec 32 := Scalar.remsi v96 c2_i32_43
  let v124 : Index := Scalar.indexCast v97
  let c0_60 : Index := 0#32
  let c0_61 : Index := 0#32
  ![v124.toNat, 0, 0]
def k0_off71 (v96 : BitVec 32) : Fin 3 → Nat :=
  let c2_i32_43 : BitVec 32 := 2#32
  let v97 : BitVec 32 := Scalar.remsi v96 c2_i32_43
  let v138 : Index := Scalar.indexCast v97
  let c0_68 : Index := 0#32
  let c0_69 : Index := 0#32
  ![v138.toNat, 0, 0]

def k0_chk14 (i : grid0.Coords) (v75 : BitVec 32) (v83 : BitVec 32) (v96 : BitVec 32) : Prop :=
  (∀ (k0_h17 : k0_cond17 i v75 v83 = 1#1), ∀ a, (k0_off59 v96) a + S1.size a ≤ S2.size a) ∧
  (∀ (k0_h17 : k0_cond17 i v75 v83 = 1#1), ∀ a, (k0_off60 v96) a + S1x2048x512.size a ≤ S2x2048x512.size a) ∧
  (∀ (k0_h17 : k0_cond17 i v75 v83 = 1#1), ∀ a, (k0_off62 v96) a + S1x512x2048.size a ≤ S2x512x2048.size a) ∧
  (∀ (k0_h17 : k0_cond17 i v75 v83 = 1#1), ∀ a, (k0_off70 v96) a + S1x2048x512.size a ≤ S2x2048x512.size a) ∧
  (∀ (k0_h17 : k0_cond17 i v75 v83 = 1#1), ∀ a, (k0_off71 v96) a + S1x512x2048.size a ≤ S2x512x2048.size a)
theorem k0_off59_inb : ∀ (i : grid0.Coords) (v75 : BitVec 32) (v83 : BitVec 32) (v96 : BitVec 32) (k0_hw14 : k0_chk14 i v75 v83 v96), ∀ (k0_h17 : k0_cond17 i v75 v83 = 1#1), ∀ a, (k0_off59 v96) a + S1.size a ≤ S2.size a := fun i v75 v83 v96 k0_hw14 k0_h17 => k0_hw14.1 k0_h17
theorem k0_off60_inb : ∀ (i : grid0.Coords) (v75 : BitVec 32) (v83 : BitVec 32) (v96 : BitVec 32) (k0_hw14 : k0_chk14 i v75 v83 v96), ∀ (k0_h17 : k0_cond17 i v75 v83 = 1#1), ∀ a, (k0_off60 v96) a + S1x2048x512.size a ≤ S2x2048x512.size a := fun i v75 v83 v96 k0_hw14 k0_h17 => k0_hw14.2.1 k0_h17
theorem k0_off62_inb : ∀ (i : grid0.Coords) (v75 : BitVec 32) (v83 : BitVec 32) (v96 : BitVec 32) (k0_hw14 : k0_chk14 i v75 v83 v96), ∀ (k0_h17 : k0_cond17 i v75 v83 = 1#1), ∀ a, (k0_off62 v96) a + S1x512x2048.size a ≤ S2x512x2048.size a := fun i v75 v83 v96 k0_hw14 k0_h17 => k0_hw14.2.2.1 k0_h17
theorem k0_off70_inb : ∀ (i : grid0.Coords) (v75 : BitVec 32) (v83 : BitVec 32) (v96 : BitVec 32) (k0_hw14 : k0_chk14 i v75 v83 v96), ∀ (k0_h17 : k0_cond17 i v75 v83 = 1#1), ∀ a, (k0_off70 v96) a + S1x2048x512.size a ≤ S2x2048x512.size a := fun i v75 v83 v96 k0_hw14 k0_h17 => k0_hw14.2.2.2.1 k0_h17
theorem k0_off71_inb : ∀ (i : grid0.Coords) (v75 : BitVec 32) (v83 : BitVec 32) (v96 : BitVec 32) (k0_hw14 : k0_chk14 i v75 v83 v96), ∀ (k0_h17 : k0_cond17 i v75 v83 = 1#1), ∀ a, (k0_off71 v96) a + S1x512x2048.size a ≤ S2x512x2048.size a := fun i v75 v83 v96 k0_hw14 k0_h17 => k0_hw14.2.2.2.2 k0_h17

def k0_off72 (i : grid0.Coords) : Fin 1 → Nat :=
  let arg0 : BitVec 32 := BitVec.ofNat 32 (i 0).val
  let c4_i32_32 : BitVec 32 := 4#32
  let v72 : BitVec 32 := Scalar.muli arg0 c4_i32_32
  let c3_i32 : BitVec 32 := 3#32
  let v73 : BitVec 32 := Scalar.addi v72 c3_i32
  let v88 : Index := Scalar.indexCast v73
  ![v88.toNat]
def k0_cond4 (v17 : BitVec 32) : BitVec 1 :=
  let c0_i32_5 : BitVec 32 := 0#32
  let v18 : BitVec 1 := Scalar.cmpi .sgt v17 c0_i32_5
  let v19 : BitVec 32 := Scalar.extui v18
  let c0_i32_6 : BitVec 32 := 0#32
  let v20 : BitVec 1 := Scalar.cmpi .ne v19 c0_i32_6
  v20

def k0_cond5 (v17 : BitVec 32) : BitVec 1 :=
  let c0_i32_7 : BitVec 32 := 0#32
  let v21 : BitVec 1 := Scalar.cmpi .sle v17 c0_i32_7
  let v22 : BitVec 32 := Scalar.extui v21
  let c0_i32_8 : BitVec 32 := 0#32
  let v23 : BitVec 1 := Scalar.cmpi .ne v22 c0_i32_8
  v23

def k0_cond9 (v41 : BitVec 32) : BitVec 1 :=
  let c0_i32_17 : BitVec 32 := 0#32
  let v42 : BitVec 1 := Scalar.cmpi .sgt v41 c0_i32_17
  let v43 : BitVec 32 := Scalar.extui v42
  let c0_i32_18 : BitVec 32 := 0#32
  let v44 : BitVec 1 := Scalar.cmpi .ne v43 c0_i32_18
  v44

def k0_cond10 (v41 : BitVec 32) : BitVec 1 :=
  let c0_i32_19 : BitVec 32 := 0#32
  let v45 : BitVec 1 := Scalar.cmpi .sle v41 c0_i32_19
  let v46 : BitVec 32 := Scalar.extui v45
  let c0_i32_20 : BitVec 32 := 0#32
  let v47 : BitVec 1 := Scalar.cmpi .ne v46 c0_i32_20
  v47

def k0_cond14 (v65 : BitVec 32) : BitVec 1 :=
  let c0_i32_28 : BitVec 32 := 0#32
  let v66 : BitVec 1 := Scalar.cmpi .sgt v65 c0_i32_28
  let v67 : BitVec 32 := Scalar.extui v66
  let c0_i32_29 : BitVec 32 := 0#32
  let v68 : BitVec 1 := Scalar.cmpi .ne v67 c0_i32_29
  v68

def k0_cond15 (v65 : BitVec 32) : BitVec 1 :=
  let c0_i32_30 : BitVec 32 := 0#32
  let v69 : BitVec 1 := Scalar.cmpi .sle v65 c0_i32_30
  let v70 : BitVec 32 := Scalar.extui v69
  let c0_i32_31 : BitVec 32 := 0#32
  let v71 : BitVec 1 := Scalar.cmpi .ne v70 c0_i32_31
  v71

def k0_cond19 (v89 : BitVec 32) : BitVec 1 :=
  let c0_i32_39 : BitVec 32 := 0#32
  let v90 : BitVec 1 := Scalar.cmpi .sgt v89 c0_i32_39
  let v91 : BitVec 32 := Scalar.extui v90
  let c0_i32_40 : BitVec 32 := 0#32
  let v92 : BitVec 1 := Scalar.cmpi .ne v91 c0_i32_40
  v92

def k0_cond20 (v89 : BitVec 32) : BitVec 1 :=
  let c0_i32_41 : BitVec 32 := 0#32
  let v93 : BitVec 1 := Scalar.cmpi .sle v89 c0_i32_41
  let v94 : BitVec 32 := Scalar.extui v93
  let c0_i32_42 : BitVec 32 := 0#32
  let v95 : BitVec 1 := Scalar.cmpi .ne v94 c0_i32_42
  v95

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RefIdeal.lean ====
abbrev S45056x1x1024 : Shape := ⟨3, ![45056, 1, 1024]⟩
abbrev S176 : Shape := ⟨1, ![176]⟩
abbrev S32x2048x512 : Shape := ⟨3, ![32, 2048, 512]⟩
abbrev S32x512x2048 : Shape := ⟨3, ![32, 512, 2048]⟩
abbrev S45056x1024 : Shape := ⟨2, ![45056, 1024]⟩
abbrev S_ : Shape := ⟨0, ![]⟩
abbrev S45056x2048 : Shape := ⟨2, ![45056, 2048]⟩
abbrev S176x256 : Shape := ⟨2, ![176, 256]⟩
abbrev S176x1 : Shape := ⟨2, ![176, 1]⟩
abbrev S32x176x256 : Shape := ⟨3, ![32, 176, 256]⟩
abbrev S1x176x256 : Shape := ⟨3, ![1, 176, 256]⟩
abbrev S1x176x1 : Shape := ⟨3, ![1, 176, 1]⟩
abbrev S32x45056 : Shape := ⟨2, ![32, 45056]⟩
abbrev S45056x32x512 : Shape := ⟨3, ![45056, 32, 512]⟩
abbrev S32x45056x2048 : Shape := ⟨3, ![32, 45056, 2048]⟩
abbrev S32x45056x1 : Shape := ⟨3, ![32, 45056, 1]⟩
abbrev S45056x1x2048 : Shape := ⟨3, ![45056, 1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S45056x1x1024, .i32⟩
  | .hbm, ⟨1, _⟩ => ⟨S176, .i32⟩
  | .hbm, ⟨2, _⟩ => ⟨S176, .i32⟩
  | .hbm, ⟨3, _⟩ => ⟨S176, .i32⟩
  | .hbm, ⟨4, _⟩ => ⟨S32x2048x512, .f32⟩
  | .hbm, ⟨5, _⟩ => ⟨S32x2048x512, .f32⟩
  | .hbm, ⟨6, _⟩ => ⟨S32x512x2048, .f32⟩
  | .hbm, ⟨7, _⟩ => ⟨S45056x1024, .i32⟩
  | .hbm, ⟨8, _⟩ => ⟨S_, .i32⟩
  | .hbm, ⟨9, _⟩ => ⟨S45056x1024, .i32⟩
  | .hbm, ⟨10, _⟩ => ⟨S45056x1024, .i32⟩
  | .hbm, ⟨11, _⟩ => ⟨S45056x1024, .f32⟩
  | .hbm, ⟨12, _⟩ => ⟨S_, .i32⟩
  | .hbm, ⟨13, _⟩ => ⟨S45056x1024, .i32⟩
  | .hbm, ⟨14, _⟩ => ⟨S45056x1024, .i32⟩
  | .hbm, ⟨15, _⟩ => ⟨S45056x1024, .f32⟩
  | .hbm, ⟨16, _⟩ => ⟨S45056x2048, .f32⟩
  | .hbm, ⟨17, _⟩ => ⟨S176x256, .i32⟩
  | .hbm, ⟨18, _⟩ => ⟨S176x1, .i32⟩
  | .hbm, ⟨19, _⟩ => ⟨S176x256, .i32⟩
  | .hbm, ⟨20, _⟩ => ⟨S176x256, .i1⟩
  | .hbm, ⟨21, _⟩ => ⟨S32x176x256, .i32⟩
  | .hbm, ⟨22, _⟩ => ⟨S1x176x256, .i1⟩
  | .hbm, ⟨23, _⟩ => ⟨S1x176x1, .i32⟩
  | .hbm, ⟨24, _⟩ => ⟨S32x176x256, .i32⟩
  | .hbm, ⟨25, _⟩ => ⟨S32x176x256, .i1⟩
  | .hbm, ⟨26, _⟩ => ⟨S32x176x256, .i1⟩
  | .hbm, ⟨27, _⟩ => ⟨S32x176x256, .i1⟩
  | .hbm, ⟨28, _⟩ => ⟨S32x176x256, .f32⟩
  | .hbm, ⟨29, _⟩ => ⟨S32x45056, .f32⟩
  | .hbm, ⟨30, _⟩ => ⟨S45056x32x512, .f32⟩
  | .hbm, ⟨31, _⟩ => ⟨S45056x32x512, .f32⟩
  | .hbm, ⟨32, _⟩ => ⟨S45056x32x512, .f32⟩
  | .hbm, ⟨33, _⟩ => ⟨S_, .f32⟩
  | .hbm, ⟨34, _⟩ => ⟨S45056x32x512, .f32⟩
  | .hbm, ⟨35, _⟩ => ⟨S45056x32x512, .f32⟩
  | .hbm, ⟨36, _⟩ => ⟨S_, .f32⟩
  | .hbm, ⟨37, _⟩ => ⟨S45056x32x512, .f32⟩
  | .hbm, ⟨38, _⟩ => ⟨S45056x32x512, .f32⟩
  | .hbm, ⟨39, _⟩ => ⟨S45056x32x512, .f32⟩
  | .hbm, ⟨40, _⟩ => ⟨S45056x32x512, .f32⟩
  | .hbm, ⟨41, _⟩ => ⟨S45056x32x512, .f32⟩
  | .hbm, ⟨42, _⟩ => ⟨S32x45056x2048, .f32⟩
  | .hbm, ⟨43, _⟩ => ⟨S32x45056x1, .f32⟩
  | .hbm, ⟨44, _⟩ => ⟨S32x45056x2048, .f32⟩
  | .hbm, ⟨45, _⟩ => ⟨S32x45056x2048, .f32⟩
  | .hbm, ⟨46, _⟩ => ⟨S_, .f32⟩
  | .hbm, ⟨47, _⟩ => ⟨S45056x2048, .f32⟩
  | .hbm, ⟨48, _⟩ => ⟨S45056x2048, .bf16⟩
  | .hbm, ⟨49, _⟩ => ⟨S45056x1x2048, .bf16⟩
  | _, _ => ⟨S45056x1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel2.lean ====
abbrev S32x64x2048 : Shape := ⟨3, ![32, 64, 2048]⟩
abbrev S1x2048 : Shape := ⟨2, ![1, 2048]⟩
abbrev S1x2048x8448 : Shape := ⟨3, ![1, 2048, 8448]⟩
abbrev S2048x2048 : Shape := ⟨2, ![2048, 2048]⟩
abbrev S2048 : Shape := ⟨1, ![2048]⟩
abbrev S2048x8448 : Shape := ⟨2, ![2048, 8448]⟩
abbrev S2048x8192 : Shape := ⟨2, ![2048, 8192]⟩
abbrev S2048x256 : Shape := ⟨2, ![2048, 256]⟩
abbrev S1024x2048 : Shape := ⟨2, ![1024, 2048]⟩
abbrev S2048x1024 : Shape := ⟨2, ![2048, 1024]⟩
abbrev S1024x1024 : Shape := ⟨2, ![1024, 1024]⟩
abbrev S1024x256 : Shape := ⟨2, ![1024, 256]⟩
abbrev S128x2048 : Shape := ⟨2, ![128, 2048]⟩
abbrev S128 : Shape := ⟨1, ![128]⟩
abbrev S128x1 : Shape := ⟨2, ![128, 1]⟩
abbrev S128x256 : Shape := ⟨2, ![128, 256]⟩

abbrev nBuf : Space → Nat
  | .hbm => 11
  | .vmem => 14
  | .smem => 0
  | _ => 0

abbrev bufTy : (tb : Table) → Fin (tcTables nBuf tb) → BufTy
  | .hbm, ⟨0, _⟩ => ⟨S32x64x2048, .f32⟩
  | .hbm, ⟨1, _⟩ => ⟨S1x2048, .f32⟩
  | .hbm, ⟨2, _⟩ => ⟨S1x2048x8448, .f32⟩
  | .hbm, ⟨3, _⟩ => ⟨S2048x2048, .f32⟩
  | .hbm, ⟨4, _⟩ => ⟨S2048, .f32⟩
  | .hbm, ⟨5, _⟩ => ⟨S1x2048, .f32⟩
  | .hbm, ⟨6, _⟩ => ⟨S2048x8448, .f32⟩
  | .hbm, ⟨7, _⟩ => ⟨S2048x8192, .bf16⟩
  | .hbm, ⟨8, _⟩ => ⟨S2048x256, .f32⟩
  | .hbm, ⟨9, _⟩ => ⟨S2048x8192, .bf16⟩
  | .hbm, ⟨10, _⟩ => ⟨S2048x256, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S2048x256, .f32⟩
  | .local _ .vmem, ⟨6, _⟩ => ⟨S1024x1024, .bf16⟩
  | .local _ .vmem, ⟨7, _⟩ => ⟨S1024x1024, .bf16⟩
  | .local _ .vmem, ⟨8, _⟩ => ⟨S1024x256, .f32⟩
  | .local _ .vmem, ⟨9, _⟩ => ⟨S1024x256, .f32⟩
  | .local _ .vmem, ⟨10, _⟩ => ⟨S2048x1024, .bf16⟩
  | .local _ .vmem, ⟨11, _⟩ => ⟨S2048x1024, .bf16⟩
  | .local _ .vmem, ⟨12, _⟩ => ⟨S2048x256, .bf16⟩
  | .local _ .vmem, ⟨13, _⟩ => ⟨S1024x2048, .bf16⟩
  | _, _ => ⟨S32x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 1 := Scalar.cmpi .slt v0 c4096_i32
  let c1024_i32_0 : BitVec 32 := 1024#32
  let v2 : BitVec 32 := Scalar.muli arg1 c1024_i32_0
  let c1024_i32_1 : BitVec 32 := 1024#32
  let v3 : BitVec 32 := Scalar.muli arg1 c1024_i32_1
  let c256_i32 : BitVec 32 := 256#32
  let v4 : BitVec 32 := Scalar.addi v3 c256_i32
  let v5 : BitVec 32 := Scalar.select v1 v2 v4
  v5
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c4096_i32 : BitVec 32 := 4096#32
  let v1 : BitVec 1 := Scalar.cmpi .slt v0 c4096_i32
  let c1024_i32_0 : BitVec 32 := 1024#32
  let v2 : BitVec 32 := Scalar.muli arg1 c1024_i32_0
  let c1024_i32_1 : BitVec 32 := 1024#32
  let v3 : BitVec 32 := Scalar.muli arg1 c1024_i32_1
  let c256_i32 : BitVec 32 := 256#32
  let v4 : BitVec 32 := Scalar.addi v3 c256_i32
  let v5 : BitVec 32 := Scalar.select v1 v2 v4
  let v6 : BitVec 32 := v5
  let c0_i32 : BitVec 32 := 0#32
  let c0_i32_2 : BitVec 32 := 0#32
  ![c0_i32.toNat, v6.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c4096_i32 : BitVec 32 := 4096#32
  let c0_i32_0 : BitVec 32 := 0#32
  ![c0_i32.toNat, c4096_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Ref2Ideal.lean ====
abbrev S32x64x2048 : Shape := ⟨3, ![32, 64, 2048]⟩
abbrev S1x2048 : Shape := ⟨2, ![1, 2048]⟩
abbrev S1x2048x8448 : Shape := ⟨3, ![1, 2048, 8448]⟩
abbrev S2048x8448 : Shape := ⟨2, ![2048, 8448]⟩
abbrev S2048 : Shape := ⟨1, ![2048]⟩
abbrev S_ : Shape := ⟨0, ![]⟩
abbrev S32x64 : Shape := ⟨2, ![32, 64]⟩
abbrev S32x64x1 : Shape := ⟨3, ![32, 64, 1]⟩
abbrev S1x1x2048 : Shape := ⟨3, ![1, 1, 2048]⟩
abbrev S32x64x8448 : Shape := ⟨3, ![32, 64, 8448]⟩
abbrev S2048x4096 : Shape := ⟨2, ![2048, 4096]⟩
abbrev S2048x8192 : Shape := ⟨2, ![2048, 8192]⟩
abbrev S2048x256 : Shape := ⟨2, ![2048, 256]⟩

abbrev nBuf : Space → Nat
  | .hbm => 34
  | .vmem => 0
  | .smem => 0
  | _ => 0

abbrev bufTy : (tb : Table) → Fin (tcTables nBuf tb) → BufTy
  | .hbm, ⟨0, _⟩ => ⟨S32x64x2048, .f32⟩
  | .hbm, ⟨1, _⟩ => ⟨S1x2048, .f32⟩
  | .hbm, ⟨2, _⟩ => ⟨S1x2048x8448, .f32⟩
  | .hbm, ⟨3, _⟩ => ⟨S2048x8448, .f32⟩
  | .hbm, ⟨4, _⟩ => ⟨S2048, .f32⟩
  | .hbm, ⟨5, _⟩ => ⟨S32x64x2048, .f32⟩
  | .hbm, ⟨6, _⟩ => ⟨S_, .f32⟩
  | .hbm, ⟨7, _⟩ => ⟨S32x64, .f32⟩
  | .hbm, ⟨8, _⟩ => ⟨S32x64x1, .f32⟩
  | .hbm, ⟨9, _⟩ => ⟨S_, .f32⟩
  | .hbm, ⟨10, _⟩ => ⟨S32x64x1, .f32⟩
  | .hbm, ⟨11, _⟩ => ⟨S32x64x1, .f32⟩
  | .hbm, ⟨12, _⟩ => ⟨S_, .f32⟩
  | .hbm, ⟨13, _⟩ => ⟨S32x64x1, .f32⟩
  | .hbm, ⟨14, _⟩ => ⟨S32x64x1, .f32⟩
  | .hbm, ⟨15, _⟩ => ⟨S32x64x1, .f32⟩
  | .hbm, ⟨16, _⟩ => ⟨S32x64x2048, .f32⟩
  | .hbm, ⟨17, _⟩ => ⟨S32x64x2048, .f32⟩
  | .hbm, ⟨18, _⟩ => ⟨S1x1x2048, .f32⟩
  | .hbm, ⟨19, _⟩ => ⟨S32x64x2048, .f32⟩
  | .hbm, ⟨20, _⟩ => ⟨S32x64x2048, .f32⟩
  | .hbm, ⟨21, _⟩ => ⟨S32x64x8448, .f32⟩
  | .hbm, ⟨22, _⟩ => ⟨S2048x8448, .f32⟩
  | .hbm, ⟨23, _⟩ => ⟨S2048x4096, .f32⟩
  | .hbm, ⟨24, _⟩ => ⟨S2048x4096, .f32⟩
  | .hbm, ⟨25, _⟩ => ⟨S2048x8192, .f32⟩
  | .hbm, ⟨26, _⟩ => ⟨S2048x8192, .bf16⟩
  | .hbm, ⟨27, _⟩ => ⟨S2048x256, .f32⟩
  | .hbm, ⟨28, _⟩ => ⟨S2048x4096, .f32⟩
  | .hbm, ⟨29, _⟩ => ⟨S2048x4096, .f32⟩
  | .hbm, ⟨30, _⟩ => ⟨S2048x8192, .f32⟩
  | .hbm, ⟨31, _⟩ => ⟨S2048x8192, .bf16⟩
  | .hbm, ⟨32, _⟩ => ⟨S2048x256, .f32⟩
  | .hbm, ⟨33, _⟩ => ⟨S2048x256, .bf16⟩
  | _, _ => ⟨S32x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel3.lean ====
abbrev S32x64x2048 : Shape := ⟨3, ![32, 64, 2048]⟩
abbrev S2048x8192 : Shape := ⟨2, ![2048, 8192]⟩
abbrev S2048x256 : Shape := ⟨2, ![2048, 256]⟩
abbrev S1x32x2x1024 : Shape := ⟨4, ![1, 32, 2, 1024]⟩
abbrev S1x32x128x2x64 : Shape := ⟨5, ![1, 32, 128, 2, 64]⟩
abbrev S32x16 : Shape := ⟨2, ![32, 16]⟩
abbrev S1x3x1024 : Shape := ⟨3, ![1, 3, 1024]⟩
abbrev S1024x2048 : Shape := ⟨2, ![1024, 2048]⟩
abbrev S1x16 : Shape := ⟨2, ![1, 16]⟩
abbrev S2048x2048 : Shape := ⟨2, ![2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S_ : Shape := ⟨0, ![]⟩
abbrev S40x2048 : Shape := ⟨2, ![40, 2048]⟩
abbrev S2048x4 : Shape := ⟨2, ![2048, 4]⟩
abbrev S4x2048 : Shape := ⟨2, ![4, 2048]⟩
abbrev S1 : Shape := ⟨1, ![1]⟩
abbrev S2048x32 : Shape := ⟨2, ![2048, 32]⟩
abbrev S32x2048 : Shape := ⟨2, ![32, 2048]⟩
abbrev S40x1 : Shape := ⟨2, ![40, 1]⟩
abbrev S4 : Shape := ⟨1, ![4]⟩
abbrev S2 : Shape := ⟨1, ![2]⟩
abbrev S32 : Shape := ⟨1, ![32]⟩
abbrev S3x1024 : Shape := ⟨2, ![3, 1024]⟩
abbrev S255 : Shape := ⟨1, ![255]⟩
abbrev S255x1 : Shape := ⟨2, ![255, 1]⟩
abbrev S255x16 : Shape := ⟨2, ![255, 16]⟩
abbrev S192x16 : Shape := ⟨2, ![192, 16]⟩
abbrev S1x192x16 : Shape := ⟨3, ![1, 192, 16]⟩
abbrev S16x192x16 : Shape := ⟨3, ![16, 192, 16]⟩
abbrev S64x192x16 : Shape := ⟨3, ![64, 192, 16]⟩
abbrev S16x64x192 : Shape := ⟨3, ![16, 64, 192]⟩
abbrev S16x64x256 : Shape := ⟨3, ![16, 64, 256]⟩
abbrev S2x4x2x64x256 : Shape := ⟨5, ![2, 4, 2, 64, 256]⟩
abbrev S2x4x64x2x256 : Shape := ⟨5, ![2, 4, 64, 2, 256]⟩
abbrev S2x256x512 : Shape := ⟨3, ![2, 256, 512]⟩
abbrev S2048 : Shape := ⟨1, ![2048]⟩
abbrev S32x2x1024 : Shape := ⟨3, ![32, 2, 1024]⟩
abbrev S32x128x2x64 : Shape := ⟨4, ![32, 128, 2, 64]⟩
abbrev S32x128x128 : Shape := ⟨3, ![32, 128, 128]⟩
abbrev S2048x1x1024 : Shape := ⟨3, ![2048, 1, 1024]⟩
abbrev S8x2048 : Shape := ⟨2, ![8, 2048]⟩
abbrev S256x2048 : Shape := ⟨2, ![256, 2048]⟩
abbrev S256x1024 : Shape := ⟨2, ![256, 1024]⟩
abbrev S256x256 : Shape := ⟨2, ![256, 256]⟩
abbrev S4x2x1024 : Shape := ⟨3, ![4, 2, 1024]⟩
abbrev S4x128x128 : Shape := ⟨3, ![4, 128, 128]⟩
abbrev S256x1x1024 : Shape := ⟨3, ![256, 1, 1024]⟩
abbrev S8x256 : Shape := ⟨2, ![8, 256]⟩
abbrev S8x768x128 : Shape := ⟨3, ![8, 768, 128]⟩
abbrev S8x1024 : Shape := ⟨2, ![8, 1024]⟩
abbrev S8x256x512 : Shape := ⟨3, ![8, 256, 512]⟩
abbrev S8x256x128 : Shape := ⟨3, ![8, 256, 128]⟩
abbrev S1x128x128 : Shape := ⟨3, ![1, 128, 128]⟩
abbrev S128x128 : Shape := ⟨2, ![128, 128]⟩
abbrev S64x128 : Shape := ⟨2, ![64, 128]⟩
abbrev S1x64x128 : Shape := ⟨3, ![1, 64, 128]⟩
abbrev S512x128 : Shape := ⟨2, ![512, 128]⟩
abbrev S1x192x128 : Shape := ⟨3, ![1, 192, 128]⟩
abbrev S192x128 : Shape := ⟨2, ![192, 128]⟩
abbrev S256x128 : Shape := ⟨2, ![256, 128]⟩
abbrev S256x512 : Shape := ⟨2, ![256, 512]⟩
abbrev S1x256x512 : Shape := ⟨3, ![1, 256, 512]⟩
abbrev S64x1024 : Shape := ⟨2, ![64, 1024]⟩
abbrev S1x1x1024 : Shape := ⟨3, ![1, 1, 1024]⟩
abbrev S1x1024 : Shape := ⟨2, ![1, 1024]⟩
abbrev S2x1024 : Shape := ⟨2, ![2, 1024]⟩
abbrev S1x2x1024 : Shape := ⟨3, ![1, 2, 1024]⟩
abbrev S1x64x256 : Shape := ⟨3, ![1, 64, 256]⟩
abbrev S64x256 : Shape := ⟨2, ![64, 256]⟩
abbrev S1x1 : Shape := ⟨2, ![1, 1]⟩
abbrev S64 : Shape := ⟨1, ![64]⟩
abbrev S64x1 : Shape := ⟨2, ![64, 1]⟩
abbrev S1024x256 : Shape := ⟨2, ![1024, 256]⟩
abbrev S512x256 : Shape := ⟨2, ![512, 256]⟩
abbrev S1x256x128 : Shape := ⟨3, ![1, 256, 128]⟩
abbrev S256 : Shape := ⟨1, ![256]⟩
abbrev S256x1 : Shape := ⟨2, ![256, 1]⟩
abbrev S40x256 : Shape := ⟨2, ![40, 256]⟩
abbrev S4x256 : Shape := ⟨2, ![4, 256]⟩
abbrev S1x256 : Shape := ⟨2, ![1, 256]⟩

abbrev nBuf : Space → Nat
  | .hbm => 249
  | .vmem => 51
  | .smem => 1
  | _ => 0

abbrev hbmTy0_0 (i : Nat) : BufTy := match i % 128 with
  | 0 => ⟨S32x64x2048, .f32⟩
  | 1 => ⟨S2048x8192, .bf16⟩
  | 2 => ⟨S2048x256, .f32⟩
  | 3 => ⟨S1x32x2x1024, .f32⟩
  | 4 => ⟨S1x32x128x2x64, .f32⟩
  | 5 => ⟨S1x32x128x2x64, .f32⟩
  | 6 => ⟨S32x16, .f32⟩
  | 7 => ⟨S1x3x1024, .f32⟩
  | 8 => ⟨S1024x2048, .bf16⟩
  | 9 => ⟨S1x16, .f32⟩
  | 10 => ⟨S1024x2048, .bf16⟩
  | 11 => ⟨S2048x2048, .bf16⟩
  | 12 => ⟨S1x2048, .f32⟩
  | 13 => ⟨S1x2048x4, .f32⟩
  | 14 => ⟨S1x4, .f32⟩
  | 15 => ⟨S1x2048x32, .f32⟩
  | 16 => ⟨S1x32, .f32⟩
  | 17 => ⟨S_, .f32⟩
  | 18 => ⟨S40x2048, .f32⟩
  | 19 => ⟨S2048x4, .f32⟩
  | 20 => ⟨S4x2048, .f32⟩
  | 21 => ⟨S_, .i32⟩
  | 22 => ⟨S1, .i32⟩
  | 23 => ⟨S40x2048, .f32⟩
  | 24 => ⟨S2048x32, .f32⟩
  | 25 => ⟨S32x2048, .f32⟩
  | 26 => ⟨S_, .i32⟩
  | 27 => ⟨S1, .i32⟩
  | 28 => ⟨S40x2048, .f32⟩
  | 29 => ⟨S40x2048, .bf16⟩
  | 30 => ⟨S_, .f32⟩
  | 31 => ⟨S40x1, .f32⟩
  | 32 => ⟨S4, .f32⟩
  | 33 => ⟨S_, .i32⟩
  | 34 => ⟨S1, .i32⟩
  | 35 => ⟨S_, .i32⟩
  | 36 => ⟨S1, .i32⟩
  | 37 => ⟨S2, .i32⟩
  | 38 => ⟨S40x1, .f32⟩
  | 39 => ⟨S32, .f32⟩
  | 40 => ⟨S_, .i32⟩
  | 41 => ⟨S1, .i32⟩
  | 42 => ⟨S_, .i32⟩
  | 43 => ⟨S1, .i32⟩
  | 44 => ⟨S2, .i32⟩
  | 45 => ⟨S40x1, .f32⟩
  | 46 => ⟨S2048x2048, .f32⟩
  | 47 => ⟨S3x1024, .f32⟩
  | 48 => ⟨S255, .i32⟩
  | 49 => ⟨S_, .i32⟩
  | 50 => ⟨S255, .i32⟩
  | 51 => ⟨S255, .i32⟩
  | 52 => ⟨S_, .i32⟩
  | 53 => ⟨S255, .i32⟩
  | 54 => ⟨S255, .i1⟩
  | 55 => ⟨S255, .i32⟩
  | 56 => ⟨S_, .i32⟩
  | 57 => ⟨S255, .i32⟩
  | 58 => ⟨S255, .i32⟩
  | 59 => ⟨S255, .i32⟩
  | 60 => ⟨S_, .i32⟩
  | 61 => ⟨S255, .i32⟩
  | 62 => ⟨S255, .i32⟩
  | 63 => ⟨S255, .f32⟩
  | 64 => ⟨S_, .f32⟩
  | 65 => ⟨S255, .f32⟩
  | 66 => ⟨S255, .f32⟩
  | 67 => ⟨S255, .f32⟩
  | 68 => ⟨S_, .f32⟩
  | 69 => ⟨S255, .f32⟩
  | 70 => ⟨S255, .f32⟩
  | 71 => ⟨S_, .f32⟩
  | 72 => ⟨S255, .f32⟩
  | 73 => ⟨S255, .f32⟩
  | 74 => ⟨S255, .i32⟩
  | 75 => ⟨S_, .i32⟩
  | 76 => ⟨S255, .i32⟩
  | 77 => ⟨S255, .i32⟩
  | 78 => ⟨S_, .i32⟩
  | 79 => ⟨S255, .i32⟩
  | 80 => ⟨S255, .i32⟩
  | 81 => ⟨S_, .i32⟩
  | 82 => ⟨S255, .i32⟩
  | 83 => ⟨S255, .i1⟩
  | 84 => ⟨S255, .i32⟩
  | 85 => ⟨S255, .i32⟩
  | 86 => ⟨S_, .i32⟩
  | 87 => ⟨S255, .i32⟩
  | 88 => ⟨S255, .i1⟩
  | 89 => ⟨S_, .i32⟩
  | 90 => ⟨S255, .i32⟩
  | 91 => ⟨S255, .i32⟩
  | 92 => ⟨S255, .i32⟩
  | 93 => ⟨S255x1, .i32⟩
  | 94 => ⟨S255x16, .f32⟩
  | 95 => ⟨S192x16, .f32⟩
  | 96 => ⟨S192x16, .f32⟩
  | 97 => ⟨S192x16, .f32⟩
  | 98 => ⟨S192x16, .f32⟩
  | 99 => ⟨S192x16, .f32⟩
  | 100 => ⟨S192x16, .f32⟩
  | 101 => ⟨S192x16, .f32⟩
  | 102 => ⟨S192x16, .f32⟩
  | 103 => ⟨S192x16, .f32⟩
  | 104 => ⟨S192x16, .f32⟩
  | 105 => ⟨S192x16, .f32⟩
  | 106 => ⟨S192x16, .f32⟩
  | 107 => ⟨S192x16, .f32⟩
  | 108 => ⟨S192x16, .f32⟩
  | 109 => ⟨S192x16, .f32⟩
  | 110 => ⟨S192x16, .f32⟩
  | 111 => ⟨S192x16, .f32⟩
  | 112 => ⟨S192x16, .f32⟩
  | 113 => ⟨S192x16, .f32⟩
  | 114 => ⟨S192x16, .f32⟩
  | 115 => ⟨S192x16, .f32⟩
  | 116 => ⟨S192x16, .f32⟩
  | 117 => ⟨S192x16, .f32⟩
  | 118 => ⟨S192x16, .f32⟩
  | 119 => ⟨S192x16, .f32⟩
  | 120 => ⟨S192x16, .f32⟩
  | 121 => ⟨S192x16, .f32⟩
  | 122 => ⟨S192x16, .f32⟩
  | 123 => ⟨S192x16, .f32⟩
  | 124 => ⟨S192x16, .f32⟩
  | 125 => ⟨S192x16, .f32⟩
  | 126 => ⟨S192x16, .f32⟩
  | 127 => ⟨S192x16, .f32⟩
  | _ => ⟨S32x64x2048, .f32⟩

abbrev hbmTy0_1 (i : Nat) : BufTy := match i % 128 with
  | 0 => ⟨S192x16, .f32⟩
  | 1 => ⟨S192x16, .f32⟩
  | 2 => ⟨S192x16, .f32⟩
  | 3 => ⟨S192x16, .f32⟩
  | 4 => ⟨S192x16, .f32⟩
  | 5 => ⟨S192x16, .f32⟩
  | 6 => ⟨S192x16, .f32⟩
  | 7 => ⟨S192x16, .f32⟩
  | 8 => ⟨S192x16, .f32⟩
  | 9 => ⟨S192x16, .f32⟩
  | 10 => ⟨S192x16, .f32⟩
  | 11 => ⟨S192x16, .f32⟩
  | 12 => ⟨S192x16, .f32⟩
  | 13 => ⟨S192x16, .f32⟩
  | 14 => ⟨S192x16, .f32⟩
  | 15 => ⟨S192x16, .f32⟩
  | 16 => ⟨S192x16, .f32⟩
  | 17 => ⟨S192x16, .f32⟩
  | 18 => ⟨S192x16, .f32⟩
  | 19 => ⟨S192x16, .f32⟩
  | 20 => ⟨S192x16, .f32⟩
  | 21 => ⟨S192x16, .f32⟩
  | 22 => ⟨S192x16, .f32⟩
  | 23 => ⟨S192x16, .f32⟩
  | 24 => ⟨S192x16, .f32⟩
  | 25 => ⟨S192x16, .f32⟩
  | 26 => ⟨S192x16, .f32⟩
  | 27 => ⟨S192x16, .f32⟩
  | 28 => ⟨S192x16, .f32⟩
  | 29 => ⟨S192x16, .f32⟩
  | 30 => ⟨S192x16, .f32⟩
  | 31 => ⟨S1x192x16, .f32⟩
  | 32 => ⟨S1x192x16, .f32⟩
  | 33 => ⟨S1x192x16, .f32⟩
  | 34 => ⟨S1x192x16, .f32⟩
  | 35 => ⟨S1x192x16, .f32⟩
  | 36 => ⟨S1x192x16, .f32⟩
  | 37 => ⟨S1x192x16, .f32⟩
  | 38 => ⟨S1x192x16, .f32⟩
  | 39 => ⟨S1x192x16, .f32⟩
  | 40 => ⟨S1x192x16, .f32⟩
  | 41 => ⟨S1x192x16, .f32⟩
  | 42 => ⟨S1x192x16, .f32⟩
  | 43 => ⟨S1x192x16, .f32⟩
  | 44 => ⟨S1x192x16, .f32⟩
  | 45 => ⟨S1x192x16, .f32⟩
  | 46 => ⟨S1x192x16, .f32⟩
  | 47 => ⟨S1x192x16, .f32⟩
  | 48 => ⟨S1x192x16, .f32⟩
  | 49 => ⟨S1x192x16, .f32⟩
  | 50 => ⟨S1x192x16, .f32⟩
  | 51 => ⟨S1x192x16, .f32⟩
  | 52 => ⟨S1x192x16, .f32⟩
  | 53 => ⟨S1x192x16, .f32⟩
  | 54 => ⟨S1x192x16, .f32⟩
  | 55 => ⟨S1x192x16, .f32⟩
  | 56 => ⟨S1x192x16, .f32⟩
  | 57 => ⟨S1x192x16, .f32⟩
  | 58 => ⟨S1x192x16, .f32⟩
  | 59 => ⟨S1x192x16, .f32⟩
  | 60 => ⟨S1x192x16, .f32⟩
  | 61 => ⟨S1x192x16, .f32⟩
  | 62 => ⟨S1x192x16, .f32⟩
  | 63 => ⟨S1x192x16, .f32⟩
  | 64 => ⟨S1x192x16, .f32⟩
  | 65 => ⟨S1x192x16, .f32⟩
  | 66 => ⟨S1x192x16, .f32⟩
  | 67 => ⟨S1x192x16, .f32⟩
  | 68 => ⟨S1x192x16, .f32⟩
  | 69 => ⟨S1x192x16, .f32⟩
  | 70 => ⟨S1x192x16, .f32⟩
  | 71 => ⟨S1x192x16, .f32⟩
  | 72 => ⟨S1x192x16, .f32⟩
  | 73 => ⟨S1x192x16, .f32⟩
  | 74 => ⟨S1x192x16, .f32⟩
  | 75 => ⟨S1x192x16, .f32⟩
  | 76 => ⟨S1x192x16, .f32⟩
  | 77 => ⟨S1x192x16, .f32⟩
  | 78 => ⟨S1x192x16, .f32⟩
  | 79 => ⟨S1x192x16, .f32⟩
  | 80 => ⟨S1x192x16, .f32⟩
  | 81 => ⟨S1x192x16, .f32⟩
  | 82 => ⟨S1x192x16, .f32⟩
  | 83 => ⟨S1x192x16, .f32⟩
  | 84 => ⟨S1x192x16, .f32⟩
  | 85 => ⟨S1x192x16, .f32⟩
  | 86 => ⟨S1x192x16, .f32⟩
  | 87 => ⟨S1x192x16, .f32⟩
  | 88 => ⟨S1x192x16, .f32⟩
  | 89 => ⟨S1x192x16, .f32⟩
  | 90 => ⟨S1x192x16, .f32⟩
  | 91 => ⟨S1x192x16, .f32⟩
  | 92 => ⟨S1x192x16, .f32⟩
  | 93 => ⟨S1x192x16, .f32⟩
  | 94 => ⟨S1x192x16, .f32⟩
  | 95 => ⟨S16x192x16, .f32⟩
  | 96 => ⟨S16x192x16, .f32⟩
  | 97 => ⟨S16x192x16, .f32⟩
  | 98 => ⟨S16x192x16, .f32⟩
  | 99 => ⟨S64x192x16, .f32⟩
  | 100 => ⟨S16x64x192, .f32⟩
  | 101 => ⟨S_, .f32⟩
  | 102 => ⟨S_, .f32⟩
  | 103 => ⟨S16x64x256, .f32⟩
  | 104 => ⟨S2x4x2x64x256, .f32⟩
  | 105 => ⟨S2x4x64x2x256, .f32⟩
  | 106 => ⟨S2x256x512, .f32⟩
  | 107 => ⟨S2048, .f32⟩
  | 108 => ⟨S1x2048, .f32⟩
  | 109 => ⟨S32x2x1024, .f32⟩
  | 110 => ⟨S32x128x2x64, .f32⟩
  | 111 => ⟨S32x128x128, .f32⟩
  | 112 => ⟨S32x128x2x64, .f32⟩
  | 113 => ⟨S32x128x128, .f32⟩
  | 114 => ⟨S2048x2048, .f32⟩
  | 115 => ⟨S2048x1x1024, .i32⟩
  | 116 => ⟨S8x2048, .i32⟩
  | 117 => ⟨S8x2048, .f32⟩
  | 118 => ⟨S32x2x1024, .f32⟩
  | 119 => ⟨S32x128x128, .f32⟩
  | 120 => ⟨S32x128x128, .f32⟩
  | _ => ⟨S32x64x2048, .f32⟩

abbrev hbmTy (i : Nat) : BufTy := match i / 128 with
  | 0 => hbmTy0_0 i
  | 1 => hbmTy0_1 i
  | _ => ⟨S32x64x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x256, .f32⟩
  | .local _ .vmem, ⟨15, _⟩ => ⟨S256x256, .f32⟩
  | .local _ .vmem, ⟨16, _⟩ => ⟨S4x2x1024, .f32⟩
  | .local _ .vmem, ⟨17, _⟩ => ⟨S4x2x1024, .f32⟩
  | .local _ .vmem, ⟨18, _⟩ => ⟨S4x128x128, .f32⟩
  | .local _ .vmem, ⟨19, _⟩ => ⟨S4x128x128, .f32⟩
  | .local _ .vmem, ⟨20, _⟩ => ⟨S4x128x128, .f32⟩
  | .local _ .vmem, ⟨21, _⟩ => ⟨S4x128x128, .f32⟩
  | .local _ .vmem, ⟨22, _⟩ => ⟨S3x1024, .f32⟩
  | .local _ .vmem, ⟨23, _⟩ => ⟨S1024x2048, .bf16⟩
  | .local _ .vmem, ⟨24, _⟩ => ⟨S1024x2048, .bf16⟩
  | .local _ .vmem, ⟨25, _⟩ => ⟨S2048x2048, .bf16⟩
  | .local _ .vmem, ⟨26, _⟩ => ⟨S2x256x512, .f32⟩
  | .local _ .vmem, ⟨27, _⟩ => ⟨S1x2048, .f32⟩
  | .local _ .vmem, ⟨28, _⟩ => ⟨S40x2048, .bf16⟩
  | .local _ .vmem, ⟨29, _⟩ => ⟨S40x1, .f32⟩
  | .local _ .vmem, ⟨30, _⟩ => ⟨S256x2048, .f32⟩
  | .local _ .vmem, ⟨31, _⟩ => ⟨S256x2048, .f32⟩
  | .local _ .vmem, ⟨32, _⟩ => ⟨S256x1x1024, .i32⟩
  | .local _ .vmem, ⟨33, _⟩ => ⟨S256x1x1024, .i32⟩
  | .local _ .vmem, ⟨34, _⟩ => ⟨S8x256, .i32⟩
  | .local _ .vmem, ⟨35, _⟩ => ⟨S8x256, .i32⟩
  | .local _ .vmem, ⟨36, _⟩ => ⟨S8x256, .f32⟩
  | .local _ .vmem, ⟨37, _⟩ => ⟨S8x256, .f32⟩
  | .local _ .vmem, ⟨38, _⟩ => ⟨S4x2x1024, .f32⟩
  | .local _ .vmem, ⟨39, _⟩ => ⟨S4x2x1024, .f32⟩
  | .local _ .vmem, ⟨40, _⟩ => ⟨S4x128x128, .f32⟩
  | .local _ .vmem, ⟨41, _⟩ => ⟨S4x128x128, .f32⟩
  | .local _ .vmem, ⟨42, _⟩ => ⟨S4x128x128, .f32⟩
  | .local _ .vmem, ⟨43, _⟩ => ⟨S4x128x128, .f32⟩
  | .local _ .vmem, ⟨44, _⟩ => ⟨S8x768x128, .bf16⟩
  | .local _ .vmem, ⟨45, _⟩ => ⟨S256x1024, .bf16⟩
  | .local _ .vmem, ⟨46, _⟩ => ⟨S256x1024, .bf16⟩
  | .local _ .vmem, ⟨47, _⟩ => ⟨S8x1024, .f32⟩
  | .local _ .vmem, ⟨48, _⟩ => ⟨S8x256x512, .f32⟩
  | .local _ .vmem, ⟨49, _⟩ => ⟨S8x256x512, .bf16⟩
  | .local _ .vmem, ⟨50, _⟩ => ⟨S8x256x128, .f32⟩
  | .local _ .smem, ⟨0, _⟩ => ⟨S1x16, .f32⟩
  | _, _ => ⟨S32x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .smem, ⟨0, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_c_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_8 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_11 : Ref sig .tc := ⟨.hbm, 68, rfl⟩
abbrev main_v38 : Ref sig .tc := ⟨.hbm, 69, rfl⟩
abbrev main_v39 : Ref sig .tc := ⟨.hbm, 70, rfl⟩
abbrev main_cst_12 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_13 : Ref sig .tc := ⟨.hbm, 75, rfl⟩
abbrev main_v43 : Ref sig .tc := ⟨.hbm, 76, rfl⟩
abbrev main_v44 : Ref sig .tc := ⟨.hbm, 77, rfl⟩
abbrev main_c_14 : Ref sig .tc := ⟨.hbm, 78, rfl⟩
abbrev main_v45 : Ref sig .tc := ⟨.hbm, 79, rfl⟩
abbrev main_v46 : Ref sig .tc := ⟨.hbm, 80, rfl⟩
abbrev main_c_15 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_16 : Ref sig .tc := ⟨.hbm, 86, rfl⟩
abbrev main_v51 : Ref sig .tc := ⟨.hbm, 87, rfl⟩
abbrev main_v52 : Ref sig .tc := ⟨.hbm, 88, rfl⟩
abbrev main_c_17 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_cst_18 : Ref sig .tc := ⟨.hbm, 229, rfl⟩
abbrev main_call1_v0 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203_0 : Ref sig .tc := ⟨.hbm, 242, rfl⟩
abbrev main_v203_1 : Ref sig .tc := ⟨.hbm, 243, rfl⟩
abbrev main_v203_2 : Ref sig .tc := ⟨.hbm, 244, rfl⟩
abbrev main_v203_3 : Ref sig .tc := ⟨.hbm, 245, rfl⟩
abbrev main_v203_4 : Ref sig .tc := ⟨.hbm, 246, rfl⟩
abbrev main_v203_5 : Ref sig .tc := ⟨.hbm, 247, rfl⟩
abbrev main_v203_6 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_scratch5 : Ref sig .tc := ⟨.vmem, 49, rfl⟩
abbrev cc0_scratch6 : Ref sig .tc := ⟨.vmem, 50, rfl⟩
abbrev cc0_stg16_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42
abbrev cc0_sem26_0 : DmaSem sig := 43
abbrev cc0_sem26_1 : DmaSem sig := 44

abbrev nD : Nat := 1
abbrev τ : Topo := Topo.v7x

variable {F : FTy → Type} [BitOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2x256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S40x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S40x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S256x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S256x1x1024 .i32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S8x256 .i32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S8x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 2 → Memref sig .tc .vmem S4x2x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]

abbrev stage0_25 : Fin 2 → Memref sig .tc .vmem S4x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]

abbrev stage0_26 : Fin 2 → Memref sig .tc .vmem S4x128x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]
-- ==== Kernel3Ideal.lean ====
abbrev S32x64x2048 : Shape := ⟨3, ![32, 64, 2048]⟩
abbrev S2048x8192 : Shape := ⟨2, ![2048, 8192]⟩
abbrev S2048x256 : Shape := ⟨2, ![2048, 256]⟩
abbrev S1x32x2x1024 : Shape := ⟨4, ![1, 32, 2, 1024]⟩
abbrev S1x32x128x2x64 : Shape := ⟨5, ![1, 32, 128, 2, 64]⟩
abbrev S32x16 : Shape := ⟨2, ![32, 16]⟩
abbrev S1x3x1024 : Shape := ⟨3, ![1, 3, 1024]⟩
abbrev S1024x2048 : Shape := ⟨2, ![1024, 2048]⟩
abbrev S1x16 : Shape := ⟨2, ![1, 16]⟩
abbrev S2048x2048 : Shape := ⟨2, ![2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S_ : Shape := ⟨0, ![]⟩
abbrev S40x2048 : Shape := ⟨2, ![40, 2048]⟩
abbrev S2048x4 : Shape := ⟨2, ![2048, 4]⟩
abbrev S4x2048 : Shape := ⟨2, ![4, 2048]⟩
abbrev S1 : Shape := ⟨1, ![1]⟩
abbrev S2048x32 : Shape := ⟨2, ![2048, 32]⟩
abbrev S32x2048 : Shape := ⟨2, ![32, 2048]⟩
abbrev S40x1 : Shape := ⟨2, ![40, 1]⟩
abbrev S4 : Shape := ⟨1, ![4]⟩
abbrev S2 : Shape := ⟨1, ![2]⟩
abbrev S32 : Shape := ⟨1, ![32]⟩
abbrev S3x1024 : Shape := ⟨2, ![3, 1024]⟩
abbrev S255 : Shape := ⟨1, ![255]⟩
abbrev S255x1 : Shape := ⟨2, ![255, 1]⟩
abbrev S255x16 : Shape := ⟨2, ![255, 16]⟩
abbrev S192x16 : Shape := ⟨2, ![192, 16]⟩
abbrev S1x192x16 : Shape := ⟨3, ![1, 192, 16]⟩
abbrev S16x192x16 : Shape := ⟨3, ![16, 192, 16]⟩
abbrev S64x192x16 : Shape := ⟨3, ![64, 192, 16]⟩
abbrev S16x64x192 : Shape := ⟨3, ![16, 64, 192]⟩
abbrev S16x64x256 : Shape := ⟨3, ![16, 64, 256]⟩
abbrev S2x4x2x64x256 : Shape := ⟨5, ![2, 4, 2, 64, 256]⟩
abbrev S2x4x64x2x256 : Shape := ⟨5, ![2, 4, 64, 2, 256]⟩
abbrev S2x256x512 : Shape := ⟨3, ![2, 256, 512]⟩
abbrev S2048 : Shape := ⟨1, ![2048]⟩
abbrev S32x2x1024 : Shape := ⟨3, ![32, 2, 1024]⟩
abbrev S32x128x2x64 : Shape := ⟨4, ![32, 128, 2, 64]⟩
abbrev S32x128x128 : Shape := ⟨3, ![32, 128, 128]⟩
abbrev S2048x1x2x1024 : Shape := ⟨4, ![2048, 1, 2, 1024]⟩
abbrev S8x2048 : Shape := ⟨2, ![8, 2048]⟩
abbrev S2048x1x1x1024 : Shape := ⟨4, ![2048, 1, 1, 1024]⟩
abbrev S2048x1x1024 : Shape := ⟨3, ![2048, 1, 1024]⟩
abbrev S256x2048 : Shape := ⟨2, ![256, 2048]⟩
abbrev S256x1024 : Shape := ⟨2, ![256, 1024]⟩
abbrev S256x256 : Shape := ⟨2, ![256, 256]⟩
abbrev S4x2x1024 : Shape := ⟨3, ![4, 2, 1024]⟩
abbrev S4x128x128 : Shape := ⟨3, ![4, 128, 128]⟩
abbrev S256x1x1024 : Shape := ⟨3, ![256, 1, 1024]⟩
abbrev S256x1x2x1024 : Shape := ⟨4, ![256, 1, 2, 1024]⟩
abbrev S256x1x1x1024 : Shape := ⟨4, ![256, 1, 1, 1024]⟩
abbrev S8x256 : Shape := ⟨2, ![8, 256]⟩
abbrev S8x768x128 : Shape := ⟨3, ![8, 768, 128]⟩
abbrev S8x1024 : Shape := ⟨2, ![8, 1024]⟩
abbrev S8x256x512 : Shape := ⟨3, ![8, 256, 512]⟩
abbrev S8x256x128 : Shape := ⟨3, ![8, 256, 128]⟩
abbrev S1x128x128 : Shape := ⟨3, ![1, 128, 128]⟩
abbrev S128x128 : Shape := ⟨2, ![128, 128]⟩
abbrev S64x128 : Shape := ⟨2, ![64, 128]⟩
abbrev S1x64x128 : Shape := ⟨3, ![1, 64, 128]⟩
abbrev S512x128 : Shape := ⟨2, ![512, 128]⟩
abbrev S1x192x128 : Shape := ⟨3, ![1, 192, 128]⟩
abbrev S192x128 : Shape := ⟨2, ![192, 128]⟩
abbrev S256x128 : Shape := ⟨2, ![256, 128]⟩
abbrev S256x512 : Shape := ⟨2, ![256, 512]⟩
abbrev S1x256x512 : Shape := ⟨3, ![1, 256, 512]⟩
abbrev S64x1024 : Shape := ⟨2, ![64, 1024]⟩
abbrev S1x1x1024 : Shape := ⟨3, ![1, 1, 1024]⟩
abbrev S1x1024 : Shape := ⟨2, ![1, 1024]⟩
abbrev S2x1024 : Shape := ⟨2, ![2, 1024]⟩
abbrev S1x2x1024 : Shape := ⟨3, ![1, 2, 1024]⟩
abbrev S1x64x256 : Shape := ⟨3, ![1, 64, 256]⟩
abbrev S64x256 : Shape := ⟨2, ![64, 256]⟩
abbrev S1x1 : Shape := ⟨2, ![1, 1]⟩
abbrev S64 : Shape := ⟨1, ![64]⟩
abbrev S64x1 : Shape := ⟨2, ![64, 1]⟩
abbrev S1024x256 : Shape := ⟨2, ![1024, 256]⟩
abbrev S512x256 : Shape := ⟨2, ![512, 256]⟩
abbrev S1x256x128 : Shape := ⟨3, ![1, 256, 128]⟩
abbrev S256 : Shape := ⟨1, ![256]⟩
abbrev S256x1 : Shape := ⟨2, ![256, 1]⟩
abbrev S40x256 : Shape := ⟨2, ![40, 256]⟩
abbrev S4x256 : Shape := ⟨2, ![4, 256]⟩
abbrev S1x256 : Shape := ⟨2, ![1, 256]⟩

abbrev nBuf : Space → Nat
  | .hbm => 249
  | .vmem => 51
  | .smem => 1
  | _ => 0

abbrev hbmTy0_0 (i : Nat) : BufTy := match i % 128 with
  | 0 => ⟨S32x64x2048, .f32⟩
  | 1 => ⟨S2048x8192, .bf16⟩
  | 2 => ⟨S2048x256, .f32⟩
  | 3 => ⟨S1x32x2x1024, .f32⟩
  | 4 => ⟨S1x32x128x2x64, .f32⟩
  | 5 => ⟨S1x32x128x2x64, .f32⟩
  | 6 => ⟨S32x16, .f32⟩
  | 7 => ⟨S1x3x1024, .f32⟩
  | 8 => ⟨S1024x2048, .bf16⟩
  | 9 => ⟨S1x16, .f32⟩
  | 10 => ⟨S1024x2048, .bf16⟩
  | 11 => ⟨S2048x2048, .bf16⟩
  | 12 => ⟨S1x2048, .f32⟩
  | 13 => ⟨S1x2048x4, .f32⟩
  | 14 => ⟨S1x4, .f32⟩
  | 15 => ⟨S1x2048x32, .f32⟩
  | 16 => ⟨S1x32, .f32⟩
  | 17 => ⟨S_, .f32⟩
  | 18 => ⟨S40x2048, .f32⟩
  | 19 => ⟨S2048x4, .f32⟩
  | 20 => ⟨S4x2048, .f32⟩
  | 21 => ⟨S_, .i32⟩
  | 22 => ⟨S1, .i32⟩
  | 23 => ⟨S40x2048, .f32⟩
  | 24 => ⟨S2048x32, .f32⟩
  | 25 => ⟨S32x2048, .f32⟩
  | 26 => ⟨S_, .i32⟩
  | 27 => ⟨S1, .i32⟩
  | 28 => ⟨S40x2048, .f32⟩
  | 29 => ⟨S40x2048, .bf16⟩
  | 30 => ⟨S_, .f32⟩
  | 31 => ⟨S40x1, .f32⟩
  | 32 => ⟨S4, .f32⟩
  | 33 => ⟨S_, .i32⟩
  | 34 => ⟨S1, .i32⟩
  | 35 => ⟨S_, .i32⟩
  | 36 => ⟨S1, .i32⟩
  | 37 => ⟨S2, .i32⟩
  | 38 => ⟨S40x1, .f32⟩
  | 39 => ⟨S32, .f32⟩
  | 40 => ⟨S_, .i32⟩
  | 41 => ⟨S1, .i32⟩
  | 42 => ⟨S_, .i32⟩
  | 43 => ⟨S1, .i32⟩
  | 44 => ⟨S2, .i32⟩
  | 45 => ⟨S40x1, .f32⟩
  | 46 => ⟨S2048x2048, .f32⟩
  | 47 => ⟨S3x1024, .f32⟩
  | 48 => ⟨S255, .i32⟩
  | 49 => ⟨S_, .i32⟩
  | 50 => ⟨S255, .i32⟩
  | 51 => ⟨S255, .i32⟩
  | 52 => ⟨S_, .i32⟩
  | 53 => ⟨S255, .i32⟩
  | 54 => ⟨S255, .i1⟩
  | 55 => ⟨S255, .i32⟩
  | 56 => ⟨S_, .i32⟩
  | 57 => ⟨S255, .i32⟩
  | 58 => ⟨S255, .i32⟩
  | 59 => ⟨S255, .i32⟩
  | 60 => ⟨S_, .i32⟩
  | 61 => ⟨S255, .i32⟩
  | 62 => ⟨S255, .i32⟩
  | 63 => ⟨S255, .f32⟩
  | 64 => ⟨S_, .f32⟩
  | 65 => ⟨S255, .f32⟩
  | 66 => ⟨S255, .f32⟩
  | 67 => ⟨S255, .f32⟩
  | 68 => ⟨S_, .f32⟩
  | 69 => ⟨S255, .f32⟩
  | 70 => ⟨S255, .f32⟩
  | 71 => ⟨S_, .f32⟩
  | 72 => ⟨S255, .f32⟩
  | 73 => ⟨S255, .f32⟩
  | 74 => ⟨S255, .i32⟩
  | 75 => ⟨S_, .i32⟩
  | 76 => ⟨S255, .i32⟩
  | 77 => ⟨S255, .i32⟩
  | 78 => ⟨S_, .i32⟩
  | 79 => ⟨S255, .i32⟩
  | 80 => ⟨S255, .i32⟩
  | 81 => ⟨S_, .i32⟩
  | 82 => ⟨S255, .i32⟩
  | 83 => ⟨S255, .i1⟩
  | 84 => ⟨S255, .i32⟩
  | 85 => ⟨S255, .i32⟩
  | 86 => ⟨S_, .i32⟩
  | 87 => ⟨S255, .i32⟩
  | 88 => ⟨S255, .i1⟩
  | 89 => ⟨S_, .i32⟩
  | 90 => ⟨S255, .i32⟩
  | 91 => ⟨S255, .i32⟩
  | 92 => ⟨S255, .i32⟩
  | 93 => ⟨S255x1, .i32⟩
  | 94 => ⟨S255x16, .f32⟩
  | 95 => ⟨S192x16, .f32⟩
  | 96 => ⟨S192x16, .f32⟩
  | 97 => ⟨S192x16, .f32⟩
  | 98 => ⟨S192x16, .f32⟩
  | 99 => ⟨S192x16, .f32⟩
  | 100 => ⟨S192x16, .f32⟩
  | 101 => ⟨S192x16, .f32⟩
  | 102 => ⟨S192x16, .f32⟩
  | 103 => ⟨S192x16, .f32⟩
  | 104 => ⟨S192x16, .f32⟩
  | 105 => ⟨S192x16, .f32⟩
  | 106 => ⟨S192x16, .f32⟩
  | 107 => ⟨S192x16, .f32⟩
  | 108 => ⟨S192x16, .f32⟩
  | 109 => ⟨S192x16, .f32⟩
  | 110 => ⟨S192x16, .f32⟩
  | 111 => ⟨S192x16, .f32⟩
  | 112 => ⟨S192x16, .f32⟩
  | 113 => ⟨S192x16, .f32⟩
  | 114 => ⟨S192x16, .f32⟩
  | 115 => ⟨S192x16, .f32⟩
  | 116 => ⟨S192x16, .f32⟩
  | 117 => ⟨S192x16, .f32⟩
  | 118 => ⟨S192x16, .f32⟩
  | 119 => ⟨S192x16, .f32⟩
  | 120 => ⟨S192x16, .f32⟩
  | 121 => ⟨S192x16, .f32⟩
  | 122 => ⟨S192x16, .f32⟩
  | 123 => ⟨S192x16, .f32⟩
  | 124 => ⟨S192x16, .f32⟩
  | 125 => ⟨S192x16, .f32⟩
  | 126 => ⟨S192x16, .f32⟩
  | 127 => ⟨S192x16, .f32⟩
  | _ => ⟨S32x64x2048, .f32⟩

abbrev hbmTy0_1 (i : Nat) : BufTy := match i % 128 with
  | 0 => ⟨S192x16, .f32⟩
  | 1 => ⟨S192x16, .f32⟩
  | 2 => ⟨S192x16, .f32⟩
  | 3 => ⟨S192x16, .f32⟩
  | 4 => ⟨S192x16, .f32⟩
  | 5 => ⟨S192x16, .f32⟩
  | 6 => ⟨S192x16, .f32⟩
  | 7 => ⟨S192x16, .f32⟩
  | 8 => ⟨S192x16, .f32⟩
  | 9 => ⟨S192x16, .f32⟩
  | 10 => ⟨S192x16, .f32⟩
  | 11 => ⟨S192x16, .f32⟩
  | 12 => ⟨S192x16, .f32⟩
  | 13 => ⟨S192x16, .f32⟩
  | 14 => ⟨S192x16, .f32⟩
  | 15 => ⟨S192x16, .f32⟩
  | 16 => ⟨S192x16, .f32⟩
  | 17 => ⟨S192x16, .f32⟩
  | 18 => ⟨S192x16, .f32⟩
  | 19 => ⟨S192x16, .f32⟩
  | 20 => ⟨S192x16, .f32⟩
  | 21 => ⟨S192x16, .f32⟩
  | 22 => ⟨S192x16, .f32⟩
  | 23 => ⟨S192x16, .f32⟩
  | 24 => ⟨S192x16, .f32⟩
  | 25 => ⟨S192x16, .f32⟩
  | 26 => ⟨S192x16, .f32⟩
  | 27 => ⟨S192x16, .f32⟩
  | 28 => ⟨S192x16, .f32⟩
  | 29 => ⟨S192x16, .f32⟩
  | 30 => ⟨S192x16, .f32⟩
  | 31 => ⟨S1x192x16, .f32⟩
  | 32 => ⟨S1x192x16, .f32⟩
  | 33 => ⟨S1x192x16, .f32⟩
  | 34 => ⟨S1x192x16, .f32⟩
  | 35 => ⟨S1x192x16, .f32⟩
  | 36 => ⟨S1x192x16, .f32⟩
  | 37 => ⟨S1x192x16, .f32⟩
  | 38 => ⟨S1x192x16, .f32⟩
  | 39 => ⟨S1x192x16, .f32⟩
  | 40 => ⟨S1x192x16, .f32⟩
  | 41 => ⟨S1x192x16, .f32⟩
  | 42 => ⟨S1x192x16, .f32⟩
  | 43 => ⟨S1x192x16, .f32⟩
  | 44 => ⟨S1x192x16, .f32⟩
  | 45 => ⟨S1x192x16, .f32⟩
  | 46 => ⟨S1x192x16, .f32⟩
  | 47 => ⟨S1x192x16, .f32⟩
  | 48 => ⟨S1x192x16, .f32⟩
  | 49 => ⟨S1x192x16, .f32⟩
  | 50 => ⟨S1x192x16, .f32⟩
  | 51 => ⟨S1x192x16, .f32⟩
  | 52 => ⟨S1x192x16, .f32⟩
  | 53 => ⟨S1x192x16, .f32⟩
  | 54 => ⟨S1x192x16, .f32⟩
  | 55 => ⟨S1x192x16, .f32⟩
  | 56 => ⟨S1x192x16, .f32⟩
  | 57 => ⟨S1x192x16, .f32⟩
  | 58 => ⟨S1x192x16, .f32⟩
  | 59 => ⟨S1x192x16, .f32⟩
  | 60 => ⟨S1x192x16, .f32⟩
  | 61 => ⟨S1x192x16, .f32⟩
  | 62 => ⟨S1x192x16, .f32⟩
  | 63 => ⟨S1x192x16, .f32⟩
  | 64 => ⟨S1x192x16, .f32⟩
  | 65 => ⟨S1x192x16, .f32⟩
  | 66 => ⟨S1x192x16, .f32⟩
  | 67 => ⟨S1x192x16, .f32⟩
  | 68 => ⟨S1x192x16, .f32⟩
  | 69 => ⟨S1x192x16, .f32⟩
  | 70 => ⟨S1x192x16, .f32⟩
  | 71 => ⟨S1x192x16, .f32⟩
  | 72 => ⟨S1x192x16, .f32⟩
  | 73 => ⟨S1x192x16, .f32⟩
  | 74 => ⟨S1x192x16, .f32⟩
  | 75 => ⟨S1x192x16, .f32⟩
  | 76 => ⟨S1x192x16, .f32⟩
  | 77 => ⟨S1x192x16, .f32⟩
  | 78 => ⟨S1x192x16, .f32⟩
  | 79 => ⟨S1x192x16, .f32⟩
  | 80 => ⟨S1x192x16, .f32⟩
  | 81 => ⟨S1x192x16, .f32⟩
  | 82 => ⟨S1x192x16, .f32⟩
  | 83 => ⟨S1x192x16, .f32⟩
  | 84 => ⟨S1x192x16, .f32⟩
  | 85 => ⟨S1x192x16, .f32⟩
  | 86 => ⟨S1x192x16, .f32⟩
  | 87 => ⟨S1x192x16, .f32⟩
  | 88 => ⟨S1x192x16, .f32⟩
  | 89 => ⟨S1x192x16, .f32⟩
  | 90 => ⟨S1x192x16, .f32⟩
  | 91 => ⟨S1x192x16, .f32⟩
  | 92 => ⟨S1x192x16, .f32⟩
  | 93 => ⟨S1x192x16, .f32⟩
  | 94 => ⟨S1x192x16, .f32⟩
  | 95 => ⟨S16x192x16, .f32⟩
  | 96 => ⟨S16x192x16, .f32⟩
  | 97 => ⟨S16x192x16, .f32⟩
  | 98 => ⟨S16x192x16, .f32⟩
  | 99 => ⟨S64x192x16, .f32⟩
  | 100 => ⟨S16x64x192, .f32⟩
  | 101 => ⟨S_, .f32⟩
  | 102 => ⟨S_, .f32⟩
  | 103 => ⟨S16x64x256, .f32⟩
  | 104 => ⟨S2x4x2x64x256, .f32⟩
  | 105 => ⟨S2x4x64x2x256, .f32⟩
  | 106 => ⟨S2x256x512, .f32⟩
  | 107 => ⟨S2048, .f32⟩
  | 108 => ⟨S1x2048, .f32⟩
  | 109 => ⟨S32x2x1024, .f32⟩
  | 110 => ⟨S32x128x2x64, .f32⟩
  | 111 => ⟨S32x128x128, .f32⟩
  | 112 => ⟨S32x128x2x64, .f32⟩
  | 113 => ⟨S32x128x128, .f32⟩
  | 114 => ⟨S2048x2048, .f32⟩
  | 115 => ⟨S2048x1x2x1024, .bf16⟩
  | 116 => ⟨S8x2048, .i32⟩
  | 117 => ⟨S8x2048, .f32⟩
  | 118 => ⟨S32x2x1024, .f32⟩
  | 119 => ⟨S32x128x128, .f32⟩
  | 120 => ⟨S32x128x128, .f32⟩
  | _ => ⟨S32x64x2048, .f32⟩

abbrev hbmTy (i : Nat) : BufTy := match i / 128 with
  | 0 => hbmTy0_0 i
  | 1 => hbmTy0_1 i
  | _ => ⟨S32x64x2048, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x256, .f32⟩
  | .local _ .vmem, ⟨15, _⟩ => ⟨S256x256, .f32⟩
  | .local _ .vmem, ⟨16, _⟩ => ⟨S4x2x1024, .f32⟩
  | .local _ .vmem, ⟨17, _⟩ => ⟨S4x2x1024, .f32⟩
  | .local _ .vmem, ⟨18, _⟩ => ⟨S4x128x128, .f32⟩
  | .local _ .vmem, ⟨19, _⟩ => ⟨S4x128x128, .f32⟩
  | .local _ .vmem, ⟨20, _⟩ => ⟨S4x128x128, .f32⟩
  | .local _ .vmem, ⟨21, _⟩ => ⟨S4x128x128, .f32⟩
  | .local _ .vmem, ⟨22, _⟩ => ⟨S3x1024, .f32⟩
  | .local _ .vmem, ⟨23, _⟩ => ⟨S1024x2048, .bf16⟩
  | .local _ .vmem, ⟨24, _⟩ => ⟨S1024x2048, .bf16⟩
  | .local _ .vmem, ⟨25, _⟩ => ⟨S2048x2048, .bf16⟩
  | .local _ .vmem, ⟨26, _⟩ => ⟨S2x256x512, .f32⟩
  | .local _ .vmem, ⟨27, _⟩ => ⟨S1x2048, .f32⟩
  | .local _ .vmem, ⟨28, _⟩ => ⟨S40x2048, .bf16⟩
  | .local _ .vmem, ⟨29, _⟩ => ⟨S40x1, .f32⟩
  | .local _ .vmem, ⟨30, _⟩ => ⟨S256x2048, .f32⟩
  | .local _ .vmem, ⟨31, _⟩ => ⟨S256x2048, .f32⟩
  | .local _ .vmem, ⟨32, _⟩ => ⟨S256x1x2x1024, .bf16⟩
  | .local _ .vmem, ⟨33, _⟩ => ⟨S256x1x2x1024, .bf16⟩
  | .local _ .vmem, ⟨34, _⟩ => ⟨S8x256, .i32⟩
  | .local _ .vmem, ⟨35, _⟩ => ⟨S8x256, .i32⟩
  | .local _ .vmem, ⟨36, _⟩ => ⟨S8x256, .f32⟩
  | .local _ .vmem, ⟨37, _⟩ => ⟨S8x256, .f32⟩
  | .local _ .vmem, ⟨38, _⟩ => ⟨S4x2x1024, .f32⟩
  | .local _ .vmem, ⟨39, _⟩ => ⟨S4x2x1024, .f32⟩
  | .local _ .vmem, ⟨40, _⟩ => ⟨S4x128x128, .f32⟩
  | .local _ .vmem, ⟨41, _⟩ => ⟨S4x128x128, .f32⟩
  | .local _ .vmem, ⟨42, _⟩ => ⟨S4x128x128, .f32⟩
  | .local _ .vmem, ⟨43, _⟩ => ⟨S4x128x128, .f32⟩
  | .local _ .vmem, ⟨44, _⟩ => ⟨S8x768x128, .bf16⟩
  | .local _ .vmem, ⟨45, _⟩ => ⟨S256x1024, .bf16⟩
  | .local _ .vmem, ⟨46, _⟩ => ⟨S256x1024, .bf16⟩
  | .local _ .vmem, ⟨47, _⟩ => ⟨S8x1024, .f32⟩
  | .local _ .vmem, ⟨48, _⟩ => ⟨S8x256x512, .f32⟩
  | .local _ .vmem, ⟨49, _⟩ => ⟨S8x256x512, .bf16⟩
  | .local _ .vmem, ⟨50, _⟩ => ⟨S8x256x128, .f32⟩
  | .local _ .smem, ⟨0, _⟩ => ⟨S1x16, .f32⟩
  | _, _ => ⟨S32x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .smem, ⟨0, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_c_2 : Ref sig .tc := ⟨.hbm, 33, rfl⟩
abbrev main_v12 : Ref sig .tc := ⟨.hbm, 34, rfl⟩
abbrev main_c_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_6 : Ref sig .tc := ⟨.hbm, 49, rfl⟩
abbrev main_v24 : Ref sig .tc := ⟨.hbm, 50, rfl⟩
abbrev main_v25 : Ref sig .tc := ⟨.hbm, 51, rfl⟩
abbrev main_c_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_c_8 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_9 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_11 : Ref sig .tc := ⟨.hbm, 68, rfl⟩
abbrev main_v38 : Ref sig .tc := ⟨.hbm, 69, rfl⟩
abbrev main_v39 : Ref sig .tc := ⟨.hbm, 70, rfl⟩
abbrev main_cst_12 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_13 : Ref sig .tc := ⟨.hbm, 75, rfl⟩
abbrev main_v43 : Ref sig .tc := ⟨.hbm, 76, rfl⟩
abbrev main_v44 : Ref sig .tc := ⟨.hbm, 77, rfl⟩
abbrev main_c_14 : Ref sig .tc := ⟨.hbm, 78, rfl⟩
abbrev main_v45 : Ref sig .tc := ⟨.hbm, 79, rfl⟩
abbrev main_v46 : Ref sig .tc := ⟨.hbm, 80, rfl⟩
abbrev main_c_15 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_16 : Ref sig .tc := ⟨.hbm, 86, rfl⟩
abbrev main_v51 : Ref sig .tc := ⟨.hbm, 87, rfl⟩
abbrev main_v52 : Ref sig .tc := ⟨.hbm, 88, rfl⟩
abbrev main_c_17 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_cst_18 : Ref sig .tc := ⟨.hbm, 229, rfl⟩
abbrev main_call1_v0 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203_0 : Ref sig .tc := ⟨.hbm, 242, rfl⟩
abbrev main_v203_1 : Ref sig .tc := ⟨.hbm, 243, rfl⟩
abbrev main_v203_2 : Ref sig .tc := ⟨.hbm, 244, rfl⟩
abbrev main_v203_3 : Ref sig .tc := ⟨.hbm, 245, rfl⟩
abbrev main_v203_4 : Ref sig .tc := ⟨.hbm, 246, rfl⟩
abbrev main_v203_5 : Ref sig .tc := ⟨.hbm, 247, rfl⟩
abbrev main_v203_6 : Ref sig .tc := ⟨.hbm, 248, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_stg24_0 : Ref sig .tc := ⟨.vmem, 38, rfl⟩
abbrev cc0_stg24_1 : Ref sig .tc := ⟨.vmem, 39, rfl⟩
abbrev cc0_stg25_0 : Ref sig .tc := ⟨.vmem, 40, rfl⟩
abbrev cc0_stg25_1 : Ref sig .tc := ⟨.vmem, 41, rfl⟩
abbrev cc0_stg26_0 : Ref sig .tc := ⟨.vmem, 42, rfl⟩
abbrev cc0_stg26_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_scratch5 : Ref sig .tc := ⟨.vmem, 49, rfl⟩
abbrev cc0_scratch6 : Ref sig .tc := ⟨.vmem, 50, rfl⟩
abbrev cc0_stg16_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem20_1 : DmaSem sig := 32
abbrev cc0_sem21_0 : DmaSem sig := 33
abbrev cc0_sem21_1 : DmaSem sig := 34
abbrev cc0_sem22_0 : DmaSem sig := 35
abbrev cc0_sem22_1 : DmaSem sig := 36
abbrev cc0_sem23_0 : DmaSem sig := 37
abbrev cc0_sem23_1 : DmaSem sig := 38
abbrev cc0_sem24_0 : DmaSem sig := 39
abbrev cc0_sem24_1 : DmaSem sig := 40
abbrev cc0_sem25_0 : DmaSem sig := 41
abbrev cc0_sem25_1 : DmaSem sig := 42
abbrev cc0_sem26_0 : DmaSem sig := 43
abbrev cc0_sem26_1 : DmaSem sig := 44

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, 0, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4x2x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2x256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .smem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S40x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S40x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S256x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 2 → Memref sig .tc .vmem S256x1x2x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]

abbrev stage0_22 : Fin 2 → Memref sig .tc .vmem S8x256 .i32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S8x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 2 → Memref sig .tc .vmem S4x2x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, false]

abbrev stage0_25 : Fin 2 → Memref sig .tc .vmem S4x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]

abbrev stage0_26 : Fin 2 → Memref sig .tc .vmem S4x128x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]
-- ==== Ref3Ideal.lean ====
abbrev S32x64x2048 : Shape := ⟨3, ![32, 64, 2048]⟩
abbrev S2048x8192 : Shape := ⟨2, ![2048, 8192]⟩
abbrev S2048x256 : Shape := ⟨2, ![2048, 256]⟩
abbrev S1x32x2x1024 : Shape := ⟨4, ![1, 32, 2, 1024]⟩
abbrev S1x32x128x2x64 : Shape := ⟨5, ![1, 32, 128, 2, 64]⟩
abbrev S32x16 : Shape := ⟨2, ![32, 16]⟩
abbrev S1x3x1024 : Shape := ⟨3, ![1, 3, 1024]⟩
abbrev S1024x2048 : Shape := ⟨2, ![1024, 2048]⟩
abbrev S1x16 : Shape := ⟨2, ![1, 16]⟩
abbrev S2048x2048 : Shape := ⟨2, ![2048, 2048]⟩
abbrev S1x2048 : Shape := ⟨2, ![1, 2048]⟩
abbrev S1x2048x4 : Shape := ⟨3, ![1, 2048, 4]⟩
abbrev S1x4 : Shape := ⟨2, ![1, 4]⟩
abbrev S1x2048x32 : Shape := ⟨3, ![1, 2048, 32]⟩
abbrev S1x32 : Shape := ⟨2, ![1, 32]⟩
abbrev S32x64x8192 : Shape := ⟨3, ![32, 64, 8192]⟩
abbrev S32x64x256 : Shape := ⟨3, ![32, 64, 256]⟩
abbrev S32x64x1024 : Shape := ⟨3, ![32, 64, 1024]⟩
abbrev S32x2x1024 : Shape := ⟨3, ![32, 2, 1024]⟩
abbrev S32x66x1024 : Shape := ⟨3, ![32, 66, 1024]⟩
abbrev S32x128x2x64 : Shape := ⟨4, ![32, 128, 2, 64]⟩
abbrev S32x64x128 : Shape := ⟨3, ![32, 64, 128]⟩
abbrev S32x64x2x64 : Shape := ⟨4, ![32, 64, 2, 64]⟩
abbrev S32x192x2x64 : Shape := ⟨4, ![32, 192, 2, 64]⟩
abbrev S32x128x128 : Shape := ⟨3, ![32, 128, 128]⟩

abbrev nBuf : Space → Nat
  | .hbm => 38
  | .vmem => 0
  | .smem => 0
  | _ => 0

abbrev bufTy : (tb : Table) → Fin (tcTables nBuf tb) → BufTy
  | .hbm, ⟨0, _⟩ => ⟨S32x64x2048, .f32⟩
  | .hbm, ⟨1, _⟩ => ⟨S2048x8192, .bf16⟩
  | .hbm, ⟨2, _⟩ => ⟨S2048x256, .f32⟩
  | .hbm, ⟨3, _⟩ => ⟨S1x32x2x1024, .f32⟩
  | .hbm, ⟨4, _⟩ => ⟨S1x32x128x2x64, .f32⟩
  | .hbm, ⟨5, _⟩ => ⟨S1x32x128x2x64, .f32⟩
  | .hbm, ⟨6, _⟩ => ⟨S32x16, .f32⟩
  | .hbm, ⟨7, _⟩ => ⟨S1x3x1024, .f32⟩
  | .hbm, ⟨8, _⟩ => ⟨S1024x2048, .bf16⟩
  | .hbm, ⟨9, _⟩ => ⟨S1x16, .f32⟩
  | .hbm, ⟨10, _⟩ => ⟨S1024x2048, .bf16⟩
  | .hbm, ⟨11, _⟩ => ⟨S2048x2048, .bf16⟩
  | .hbm, ⟨12, _⟩ => ⟨S1x2048, .f32⟩
  | .hbm, ⟨13, _⟩ => ⟨S1x2048x4, .f32⟩
  | .hbm, ⟨14, _⟩ => ⟨S1x4, .f32⟩
  | .hbm, ⟨15, _⟩ => ⟨S1x2048x32, .f32⟩
  | .hbm, ⟨16, _⟩ => ⟨S1x32, .f32⟩
  | .hbm, ⟨17, _⟩ => ⟨S2048x8192, .f32⟩
  | .hbm, ⟨18, _⟩ => ⟨S32x64x8192, .f32⟩
  | .hbm, ⟨19, _⟩ => ⟨S32x64x256, .f32⟩
  | .hbm, ⟨20, _⟩ => ⟨S32x64x1024, .f32⟩
  | .hbm, ⟨21, _⟩ => ⟨S32x64x1024, .f32⟩
  | .hbm, ⟨22, _⟩ => ⟨S32x64x1024, .f32⟩
  | .hbm, ⟨23, _⟩ => ⟨S32x2x1024, .f32⟩
  | .hbm, ⟨24, _⟩ => ⟨S32x66x1024, .f32⟩
  | .hbm, ⟨25, _⟩ => ⟨S32x128x2x64, .f32⟩
  | .hbm, ⟨26, _⟩ => ⟨S32x64x128, .f32⟩
  | .hbm, ⟨27, _⟩ => ⟨S32x64x2x64, .f32⟩
  | .hbm, ⟨28, _⟩ => ⟨S32x192x2x64, .f32⟩
  | .hbm, ⟨29, _⟩ => ⟨S32x128x2x64, .f32⟩
  | .hbm, ⟨30, _⟩ => ⟨S32x64x128, .f32⟩
  | .hbm, ⟨31, _⟩ => ⟨S32x64x2x64, .f32⟩
  | .hbm, ⟨32, _⟩ => ⟨S32x192x2x64, .f32⟩
  | .hbm, ⟨33, _⟩ => ⟨S32x2x1024, .f32⟩
  | .hbm, ⟨34, _⟩ => ⟨S32x128x2x64, .f32⟩
  | .hbm, ⟨35, _⟩ => ⟨S32x128x128, .f32⟩
  | .hbm, ⟨36, _⟩ => ⟨S32x128x2x64, .f32⟩
  | .hbm, ⟨37, _⟩ => ⟨S32x128x128, .f32⟩
  | _, _ => ⟨S32x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Proof.MixRows.lean ====
/-
  The states the mixer carries on, as the reference has them over the extended reals, entry by entry: the last two gated rows
  of a sequence, and the last 128 rows of its keys and values. And the caches as the region reads them.
-/
module

public import proofs.«01_k».proof.Proof.Gen.Kernel3Ideal.Frame.Runs
public import proofs.«01_k».proof.Proof.Gen.Ref3Ideal.Run
public import Idealize.ShloMosaic.Lib.Pointwise
public import Idealize.ShloMosaic.Lib.ValueLayout

@[expose] public section

set_option maxRecDepth 16384

noncomputable section

namespace Cert.MixValue

open Idealize.ShloMosaic Idealize.ShloMosaic.TcCoe
open Idealize.ShloMosaic.Pipeline (Dat Cfg Window)

section
open Cert.Ref3Ideal Cert.Ref3Ideal.Gen

/-- A sequence's gated rows after the two it began with; of these the last two. -/
def refConv (p : FVec Ideal S2048x8192 .bf16) (c : FVec Ideal S1x32x2x1024 .f32) : FVec Ideal S32x2x1024 .f32 :=
  extractStridedSlice S32x2x1024 ![0, 64, 0] (concatenate S32x66x1024 1 [⟨S32x2x1024, (shapeCast _ c facts.shapeCasts_S1x32x2x1024_S32x2x1024)⟩, ⟨S32x64x1024, (mulf (extractStridedSlice S32x64x1024 ![0, 0, 1024] (shapeCast _ (extf .f32 p facts.bitsLt_bf16_f32) facts.shapeCasts_S2048x8192_S32x64x8192) facts.slices_S32x64x8192_S32x64x1024_0_0_1024) (extractStridedSlice S32x64x1024 ![0, 0, 2048] (shapeCast _ (extf .f32 p facts.bitsLt_bf16_f32) facts.shapeCasts_S2048x8192_S32x64x8192) facts.slices_S32x64x8192_S32x64x1024_0_0_2048))⟩] facts.concatenates_S32x2x1024_S32x64x1024_S32x66x1024_d1) facts.slices_S32x66x1024_S32x2x1024_0_64_0
/-- A sequence's keys after the 128 rows it began with; of these the last 128. -/
def refKeys (kv : FVec Ideal S2048x256 .f32) (c : FVec Ideal S1x32x128x2x64 .f32) : FVec Ideal S32x128x128 .f32 :=
  shapeCast _ (extractStridedSlice S32x128x2x64 ![0, 64, 0, 0] (concatenate S32x192x2x64 1 [⟨S32x128x2x64, (shapeCast _ c facts.shapeCasts_S1x32x128x2x64_S32x128x2x64)⟩, ⟨S32x64x2x64, (shapeCast _ (extractStridedSlice S32x64x128 ![0, 0, 0] (shapeCast _ kv facts.shapeCasts_S2048x256_S32x64x256) facts.slices_S32x64x256_S32x64x128_0_0_0) facts.shapeCasts_S32x64x128_S32x64x2x64)⟩] facts.concatenates_S32x128x2x64_S32x64x2x64_S32x192x2x64_d1) facts.slices_S32x192x2x64_S32x128x2x64_0_64_0_0) facts.shapeCasts_S32x128x2x64_S32x128x128
/-- The same of the values. -/
def refVals (kv : FVec Ideal S2048x256 .f32) (c : FVec Ideal S1x32x128x2x64 .f32) : FVec Ideal S32x128x128 .f32 :=
  shapeCast _ (extractStridedSlice S32x128x2x64 ![0, 64, 0, 0] (concatenate S32x192x2x64 1 [⟨S32x128x2x64, (shapeCast _ c facts.shapeCasts_S1x32x128x2x64_S32x128x2x64)⟩, ⟨S32x64x2x64, (shapeCast _ (extractStridedSlice S32x64x128 ![0, 0, 128] (shapeCast _ kv facts.shapeCasts_S2048x256_S32x64x256) facts.slices_S32x64x256_S32x64x128_0_0_128) facts.shapeCasts_S32x64x128_S32x64x2x64)⟩] facts.concatenates_S32x128x2x64_S32x64x2x64_S32x192x2x64_d1) facts.slices_S32x192x2x64_S32x128x2x64_0_64_0_0) facts.shapeCasts_S32x128x2x64_S32x128x128

theorem refConv_apply (p : FVec Ideal S2048x8192 .bf16) (c : FVec Ideal S1x32x2x1024 .f32) (s : Fin 32) (r : Fin 2) (z : Fin 1024) :
    refConv p c (ix3 s r z) = p (ix2 ⟨64 * s.val + 62 + r.val, by omega⟩ ⟨1024 + z.val, by omega⟩) * p (ix2 ⟨64 * s.val + 62 + r.val, by omega⟩ ⟨2048 + z.val, by omega⟩) := by
  pointwise [refConv]
  rw [dif_neg (by omega)]
  have e : (⟨s.val * 64 + (64 + r.val - 2), by omega⟩ : Fin 2048) = ⟨64 * s.val + 62 + r.val, by omega⟩ := Fin.ext (by show s.val * 64 + (64 + r.val - 2) = 64 * s.val + 62 + r.val; omega)
  rw [e]
theorem refKeys_apply (kv : FVec Ideal S2048x256 .f32) (c : FVec Ideal S1x32x128x2x64 .f32) (s : Fin 32) (r z : Fin 128) :
    refKeys kv c (ix3 s r z) = if h : r.val < 64 then c (ix5 0 s ⟨64 + r.val, by omega⟩ ⟨z.val / 64, by omega⟩ ⟨z.val % 64, by omega⟩)
      else kv (ix2 ⟨64 * s.val + (r.val - 64), by omega⟩ ⟨z.val, by omega⟩) := by
  pointwise [refKeys]
  by_cases h : r.val < 64
  · rw [dif_pos (show 64 + r.val < 128 by omega), dif_pos h]
  · rw [dif_neg (show ¬ 64 + r.val < 128 by omega), dif_neg h]
    refine congrArg kv (congrArg (fun q : Fin 2048 => ix2 (n0 := 2048) (n1 := 256) q ⟨z.val, by omega⟩) (Fin.ext ?_))
    show s.val * 64 + (64 + r.val - 128) = 64 * s.val + (r.val - 64)
    omega
theorem refVals_apply (kv : FVec Ideal S2048x256 .f32) (c : FVec Ideal S1x32x128x2x64 .f32) (s : Fin 32) (r z : Fin 128) :
    refVals kv c (ix3 s r z) = if h : r.val < 64 then c (ix5 0 s ⟨64 + r.val, by omega⟩ ⟨z.val / 64, by omega⟩ ⟨z.val % 64, by omega⟩)
      else kv (ix2 ⟨64 * s.val + (r.val - 64), by omega⟩ ⟨128 + z.val, by omega⟩) := by
  pointwise [refVals]
  by_cases h : r.val < 64
  · rw [dif_pos (show 64 + r.val < 128 by omega), dif_pos h]
  · rw [dif_neg (show ¬ 64 + r.val < 128 by omega), dif_neg h]
    refine congrArg kv (congrArg (fun q : Fin 2048 => ix2 (n0 := 2048) (n1 := 256) q ⟨128 + z.val, by omega⟩) (Fin.ext ?_))
    show s.val * 64 + (64 + r.val - 128) = 64 * s.val + (r.val - 64)
    omega
end

section
open Cert.Kernel3Ideal Cert.Kernel3Ideal.Gen

/-- A cache's rows with its heads side by side. -/
theorem cast_cache (c : FVec Ideal S1x32x128x2x64 .f32) (s : Fin 32) (r z : Fin 128) :
    shapeCast S32x128x128 (shapeCast S32x128x2x64 c facts.shapeCasts_S1x32x128x2x64_S32x128x2x64) facts.shapeCasts_S32x128x2x64_S32x128x128 (ix3 s r z)
      = c (ix5 0 s r ⟨z.val / 64, by omega⟩ ⟨z.val % 64, by omega⟩) := by
  pointwise

variable (m : (ℓ : Loc nD τ sig) → Buf (Elt Ideal) ℓ)

/-- The buffers before the last of the host's lines. -/
def before (c : Dev nD) : Valuation τ sig (Elt Ideal) :=
  StableHlo.after (List.flatten [hostOps0, hostOps0_1, hostOps0_2, hostOps0_3]) (fun b => m (c, b))

theorem V_before (c : Dev nD) (b : Ref sig .tc) : V m c b = StableHlo.after hostOps0_4 (before m c) b := by
  unfold before
  rw [← StableHlo.after_append]
  simp only [V, List.flatten_cons, List.flatten_nil, List.append_nil, List.append_assoc]

theorem before_arg4 (c : Dev nD) : before m c main_arg4 = m ((c.tc : Thread nD τ).loc main_arg4) := by
  refine Eq.trans ?_ ((V_before m c main_arg4).symm.trans (V_main_arg4 m c))
  generalize before m c = w
  after_results_simp <;> rfl
theorem before_arg5 (c : Dev nD) : before m c main_arg5 = m ((c.tc : Thread nD τ).loc main_arg5) := by
  refine Eq.trans ?_ ((V_before m c main_arg5).symm.trans (V_main_arg5 m c))
  generalize before m c = w
  after_results_simp <;> rfl

/-- The first cache as the region finds it. -/
theorem V_v200 (c : Dev nD) : V m c main_v200 = shapeCast S32x128x128 (shapeCast S32x128x2x64 (m ((c.tc : Thread nD τ).loc main_arg4) : FVec Ideal S1x32x128x2x64 .f32) facts.shapeCasts_S1x32x128x2x64_S32x128x2x64) facts.shapeCasts_S32x128x2x64_S32x128x128 := by
  rw [V_before, ← before_arg4 m c]
  generalize before m c = w
  after_results_simp <;> rfl
/-- The second. -/
theorem V_v202 (c : Dev nD) : V m c main_v202 = shapeCast S32x128x128 (shapeCast S32x128x2x64 (m ((c.tc : Thread nD τ).loc main_arg5) : FVec Ideal S1x32x128x2x64 .f32) facts.shapeCasts_S1x32x128x2x64_S32x128x2x64) facts.shapeCasts_S32x128x2x64_S32x128x128 := by
  rw [V_before, ← before_arg5 m c]
  generalize before m c = w
  after_results_simp <;> rfl
end

end Cert.MixValue
-- ==== Proof.MixPieces.lean ====
/-
  What the mixer's stores into the states' blocks hold, each as a part of one function of the blocks it reads.
-/
module

public import proofs.«01_k».proof.Proof.MixRows
public import Idealize.ShloMosaic.Lib.WholeRead

@[expose] public section

set_option maxRecDepth 16384

noncomputable section

namespace Cert.MixValue

open Cert.Kernel3Ideal Cert.Kernel3Ideal.Gen
open Idealize.ShloMosaic Idealize.ShloMosaic.TcCoe

/-- Row `r` of sequence `s`'s keys (`o` is 0) or values (`o` is 128): the second half of the cache, then the new rows. -/
def stAt (o : ℕ) (ho : o + 128 ≤ 256) (ck : FVec Ideal S4x128x128 .f32) (kv : FVec Ideal S256x256 .f32) (s : Fin 4) (r z : Fin 128) : EReal :=
  if h : r.val < 64 then ck (ix3 s ⟨64 + r.val, by omega⟩ z) else kv (ix2 ⟨64 * s.val + (r.val - 64), by omega⟩ ⟨o + z.val, by omega⟩)
def stBlk (o : ℕ) (ho : o + 128 ≤ 256) (ck : FVec Ideal S4x128x128 .f32) (kv : FVec Ideal S256x256 .f32) : FVec Ideal S4x128x128 .f32 :=
  fun y => stAt o ho ck kv (y 0) (y 1) (y 2)
/-- The last two gated rows of each sequence. -/
def cvAt (a b : FVec Ideal S256x1024 .bf16) (s : Fin 4) (r : Fin 2) (z : Fin 1024) : EReal :=
  a (ix2 ⟨64 * s.val + 62 + r.val, by omega⟩ z) * b (ix2 ⟨64 * s.val + 62 + r.val, by omega⟩ z)
def cvBlk (a b : FVec Ideal S256x1024 .bf16) : FVec Ideal S4x2x1024 .f32 := fun y => cvAt a b (y 0) (y 1) (y 2)

theorem pay28_apply (v : FVec Ideal S1x64x128 .f32) (q : Fin 1) (r : Fin 64) (z : Fin 128) : k0_pay28 (F := Ideal) v (ix3 q r z) = v (ix3 0 r z) := by
  obtain rfl : q = 0 := Subsingleton.elim _ _
  pointwise [k0_pay28]
theorem pay30_apply (v : FVec Ideal S64x128 .f32) (q : Fin 1) (r : Fin 64) (z : Fin 128) : k0_pay30 (F := Ideal) v (ix3 q r z) = v (ix2 r z) := by
  pointwise [k0_pay30]
theorem pay148_apply (a b : FVec Ideal S64x1024 .bf16) (q : Fin 1) (r : Fin 2) (z : Fin 1024) :
    k0_pay148 (F := Ideal) (k0_pay145 a b) (ix3 q r z) = a (ix2 ⟨62 + r.val, by omega⟩ z) * b (ix2 ⟨62 + r.val, by omega⟩ z) := by
  pointwise [k0_pay148, k0_pay145]

/-- The cache's second half, stored in a sequence's first rows. -/
theorem piece_old (o : ℕ) (ho : o + 128 ≤ 256) (a : Memref sig .tc .vmem S4x128x128 .f32) (h : a.IsWhole) (ck : FVec Ideal S4x128x128 .f32) (kv : FVec Ideal S256x256 .f32)
    (s : Fin 4) (inb : ∀ k, (![s.val, 64, 0] : Fin 3 → ℕ) k + S1x64x128.size k ≤ S4x128x128.size k)
    (inb' : ∀ k, (![s.val, 0, 0] : Fin 3 → ℕ) k + S1x64x128.size k ≤ S4x128x128.size k) (x : (Rect.unit (s := S4x128x128) ![s.val, 0, 0] S1x64x128.size inb').shape.Idx) :
    k0_pay28 (F := Ideal) (View.readAt (Elt Ideal) a.view (Rect.unit (s := S4x128x128) ![s.val, 64, 0] S1x64x128.size inb).toLoadRect (h.unread ck)) x
      = stBlk o ho ck kv ((Rect.unit (s := S4x128x128) ![s.val, 0, 0] S1x64x128.size inb').emb x) := by
  obtain ⟨q, r, z, rfl⟩ : ∃ (q : Fin 1) (r : Fin 64) (z : Fin 128), x = ix3 q r z := ⟨x 0, x 1, x 2, eq_ix3 x⟩
  have e : (Rect.unit (s := S4x128x128) ![s.val, 0, 0] S1x64x128.size inb').emb (ix3 q r z) = ix3 s ⟨r.val, by omega⟩ z := by
    funext k
    apply Fin.ext
    rw [Rect.emb_apply]
    fin_cases k <;> simp [ix3] <;> omega
  rw [e]
  refine (pay28_apply _ q r z).trans ?_
  refine (Memref.IsWhole.readAt_unread (Val := Elt Ideal) h ck _ _).trans ?_
  show _ = stAt o ho ck kv s ⟨r.val, by omega⟩ z
  unfold stAt
  rw [dif_pos r.isLt]
  refine congrArg ck (funext fun k => Fin.ext ?_)
  fin_cases k <;> simp [ix3]

/-- The new rows, stored in a sequence's last rows. -/
theorem piece_new (o : ℕ) (ho : o + 128 ≤ 256) (a : Memref sig .tc .vmem S256x256 .f32) (h : a.IsWhole) (ck : FVec Ideal S4x128x128 .f32) (kv : FVec Ideal S256x256 .f32)
    (s : Fin 4) (n : ℕ) (hn : n = 64 * s.val) (inb : ∀ k, (![n, o] : Fin 2 → ℕ) k + S64x128.size k ≤ S256x256.size k)
    (inb' : ∀ k, (![s.val, 64, 0] : Fin 3 → ℕ) k + S1x64x128.size k ≤ S4x128x128.size k) (x : (Rect.unit (s := S4x128x128) ![s.val, 64, 0] S1x64x128.size inb').shape.Idx) :
    k0_pay30 (F := Ideal) (View.readAt (Elt Ideal) a.view (Rect.unit (s := S256x256) ![n, o] S64x128.size inb).toLoadRect (h.unread kv)) x
      = stBlk o ho ck kv ((Rect.unit (s := S4x128x128) ![s.val, 64, 0] S1x64x128.size inb').emb x) := by
  obtain ⟨q, r, z, rfl⟩ : ∃ (q : Fin 1) (r : Fin 64) (z : Fin 128), x = ix3 q r z := ⟨x 0, x 1, x 2, eq_ix3 x⟩
  have e : (Rect.unit (s := S4x128x128) ![s.val, 64, 0] S1x64x128.size inb').emb (ix3 q r z) = ix3 s ⟨64 + r.val, by omega⟩ z := by
    funext k
    apply Fin.ext
    rw [Rect.emb_apply]
    fin_cases k <;> simp [ix3] <;> omega
  rw [e]
  refine (pay30_apply _ q r z).trans ?_
  refine (Memref.IsWhole.readAt_unread (Val := Elt Ideal) h kv _ _).trans ?_
  show _ = stAt o ho ck kv s ⟨64 + r.val, by omega⟩ z
  unfold stAt
  rw [dif_neg (show ¬ 64 + r.val < 64 by omega)]
  subst hn
  refine congrArg kv (funext fun k => Fin.ext ?_)
  fin_cases k <;> simp [ix2]

/-- The last two gated rows, stored. -/
theorem piece_conv (a b : Memref sig .tc .vmem S256x1024 .bf16) (ha : a.IsWhole) (hb : b.IsWhole) (u v : FVec Ideal S256x1024 .bf16)
    (s : Fin 4) (n : ℕ) (hn : n = 64 * s.val) (inb : ∀ k, (![n, 0] : Fin 2 → ℕ) k + S64x1024.size k ≤ S256x1024.size k)
    (inb' : ∀ k, (![s.val, 0, 0] : Fin 3 → ℕ) k + S1x2x1024.size k ≤ S4x2x1024.size k) (x : (Rect.unit (s := S4x2x1024) ![s.val, 0, 0] S1x2x1024.size inb').shape.Idx) :
    k0_pay148 (F := Ideal) (k0_pay145 (View.readAt (Elt Ideal) a.view (Rect.unit (s := S256x1024) ![n, 0] S64x1024.size inb).toLoadRect (ha.unread u))
        (View.readAt (Elt Ideal) b.view (Rect.unit (s := S256x1024) ![n, 0] S64x1024.size inb).toLoadRect (hb.unread v))) x
      = cvBlk u v ((Rect.unit (s := S4x2x1024) ![s.val, 0, 0] S1x2x1024.size inb').emb x) := by
  obtain ⟨q, r, z, rfl⟩ : ∃ (q : Fin 1) (r : Fin 2) (z : Fin 1024), x = ix3 q r z := ⟨x 0, x 1, x 2, eq_ix3 x⟩
  have e : (Rect.unit (s := S4x2x1024) ![s.val, 0, 0] S1x2x1024.size inb').emb (ix3 q r z) = ix3 s r z := by
    funext k
    apply Fin.ext
    rw [Rect.emb_apply]
    fin_cases k <;> simp [ix3] <;> omega
  rw [e]
  refine (pay148_apply _ _ q r z).trans ?_
  show _ = cvAt u v s r z
  unfold cvAt
  subst hn
  refine congrArg₂ (fun p q : EReal => p * q) ((Memref.IsWhole.readAt_unread (Val := Elt Ideal) ha u _ _).trans ?_) ((Memref.IsWhole.readAt_unread (Val := Elt Ideal) hb v _ _).trans ?_)
  · refine congrArg u (funext fun k => Fin.ext ?_)
    fin_cases k <;> simp [ix2] <;> omega
  · refine congrArg v (funext fun k => Fin.ext ?_)
    fin_cases k <;> simp [ix2] <;> omega

end Cert.MixValue
-- ==== Proof.MixValue.lean ====
/-
  The states' three arrays the mixer leaves over the extended reals are the reference's.
-/
module

public import proofs.«01_k».proof.Proof.MixPieces
public import proofs.«01_k».proof.Proof.Gen.Kernel3Ideal.Value
public import Idealize.ShloMosaic.Lib.Pipeline.ValueKit.Geometry

@[expose] public section

set_option maxRecDepth 16384

noncomputable section

namespace Cert.MixValue

open Cert.Kernel3Ideal Cert.Kernel3Ideal.Gen
open Idealize.ShloMosaic Idealize.ShloMosaic.TcCoe
open Idealize.ShloMosaic.Pipeline (Dat Cfg Window)

variable (m : (ℓ : Loc nD τ sig) → Buf (Elt Ideal) ℓ)

/-- The block of gated rows a point writes back. -/
theorem flushed_24 (c : Dev nD) (t : Fin cfg0.N) (y : S4x2x1024.Idx) :
    ((dats m 0 c).flushed 24 t : FVec Ideal S4x2x1024 .f32) y = cvBlk (iblk m c 4 t) (iblk m c 5 t) y := by
  rw [Value.flushed24_A]
  show out0_A_24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y = _
  unfold out0_A_24
  refine View.read_writes_apply_of_pieces (Val := Elt Ideal) _ _ (cvBlk (iblk m c 4 t) (iblk m c 5 t)) _ ?_ y (cover0_A_24 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_A
  dsimp only
  simp only [List.forall_mem_cons]
  refine ⟨fun x => piece_conv (ms0_4 t) (ms0_5 t) (hs0_4 t) (hs0_5 t) (iblk m c 4 t) (iblk m c 5 t) 3 192 rfl _ _ x, fun x => piece_conv (ms0_4 t) (ms0_5 t) (hs0_4 t) (hs0_5 t) (iblk m c 4 t) (iblk m c 5 t) 2 128 rfl _ _ x, fun x => piece_conv (ms0_4 t) (ms0_5 t) (hs0_4 t) (hs0_5 t) (iblk m c 4 t) (iblk m c 5 t) 1 64 rfl _ _ x, fun x => piece_conv (ms0_4 t) (ms0_5 t) (hs0_4 t) (hs0_5 t) (iblk m c 4 t) (iblk m c 5 t) 0 0 rfl _ _ x, fun p hp => absurd hp List.not_mem_nil⟩
/-- The block of keys a point writes back. -/
theorem flushed_25 (c : Dev nD) (t : Fin cfg0.N) (y : S4x128x128.Idx) :
    ((dats m 0 c).flushed 25 t : FVec Ideal S4x128x128 .f32) y = stBlk 0 (by decide) (iblk m c 9 t) (iblk m c 7 t) y := by
  rw [Value.flushed25_A]
  show out0_A_25 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y = _
  unfold out0_A_25
  refine View.read_writes_apply_of_pieces (Val := Elt Ideal) _ _ (stBlk 0 (by decide) (iblk m c 9 t) (iblk m c 7 t)) _ ?_ y (cover0_A_25 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_A
  dsimp only
  simp only [List.forall_mem_cons]
  refine ⟨fun x => piece_new 0 (by decide) (ms0_7 t) (hs0_7 t) (iblk m c 9 t) (iblk m c 7 t) 3 192 rfl _ _ x, fun x => piece_old 0 (by decide) (ms0_9 t) (hs0_9 t) (iblk m c 9 t) (iblk m c 7 t) 3 _ _ x, fun x => piece_new 0 (by decide) (ms0_7 t) (hs0_7 t) (iblk m c 9 t) (iblk m c 7 t) 2 128 rfl _ _ x, fun x => piece_old 0 (by decide) (ms0_9 t) (hs0_9 t) (iblk m c 9 t) (iblk m c 7 t) 2 _ _ x, fun x => piece_new 0 (by decide) (ms0_7 t) (hs0_7 t) (iblk m c 9 t) (iblk m c 7 t) 1 64 rfl _ _ x, fun x => piece_old 0 (by decide) (ms0_9 t) (hs0_9 t) (iblk m c 9 t) (iblk m c 7 t) 1 _ _ x, fun x => piece_new 0 (by decide) (ms0_7 t) (hs0_7 t) (iblk m c 9 t) (iblk m c 7 t) 0 0 rfl _ _ x, fun x => piece_old 0 (by decide) (ms0_9 t) (hs0_9 t) (iblk m c 9 t) (iblk m c 7 t) 0 _ _ x, fun p hp => absurd hp List.not_mem_nil⟩
/-- The block of values a point writes back. -/
theorem flushed_26 (c : Dev nD) (t : Fin cfg0.N) (y : S4x128x128.Idx) :
    ((dats m 0 c).flushed 26 t : FVec Ideal S4x128x128 .f32) y = stBlk 128 (by decide) (iblk m c 10 t) (iblk m c 7 t) y := by
  rw [Value.flushed26_A]
  show out0_A_26 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y = _
  unfold out0_A_26
  refine View.read_writes_apply_of_pieces (Val := Elt Ideal) _ _ (stBlk 128 (by decide) (iblk m c 10 t) (iblk m c 7 t)) _ ?_ y (cover0_A_26 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  unfold kernelRun0_A
  dsimp only
  simp only [List.forall_mem_cons]
  refine ⟨fun x => piece_new 128 (by decide) (ms0_7 t) (hs0_7 t) (iblk m c 10 t) (iblk m c 7 t) 3 192 rfl _ _ x, fun x => piece_old 128 (by decide) (ms0_10 t) (hs0_10 t) (iblk m c 10 t) (iblk m c 7 t) 3 _ _ x, fun x => piece_new 128 (by decide) (ms0_7 t) (hs0_7 t) (iblk m c 10 t) (iblk m c 7 t) 2 128 rfl _ _ x, fun x => piece_old 128 (by decide) (ms0_10 t) (hs0_10 t) (iblk m c 10 t) (iblk m c 7 t) 2 _ _ x, fun x => piece_new 128 (by decide) (ms0_7 t) (hs0_7 t) (iblk m c 10 t) (iblk m c 7 t) 1 64 rfl _ _ x, fun x => piece_old 128 (by decide) (ms0_10 t) (hs0_10 t) (iblk m c 10 t) (iblk m c 7 t) 1 _ _ x, fun x => piece_new 128 (by decide) (ms0_7 t) (hs0_7 t) (iblk m c 10 t) (iblk m c 7 t) 0 0 rfl _ _ x, fun x => piece_old 128 (by decide) (ms0_10 t) (hs0_10 t) (iblk m c 10 t) (iblk m c 7 t) 0 _ _ x, fun p hp => absurd hp List.not_mem_nil⟩

/-! ## The blocks the region reads -/

theorem tr_4 : ∀ t : Fin grid0.N, cc0_transform_4 (grid0.coords t) 0 = t.val := by decide +kernel
theorem tr_5 : ∀ t : Fin grid0.N, cc0_transform_5 (grid0.coords t) 0 = t.val := by decide +kernel
theorem tr_7 : ∀ t : Fin grid0.N, cc0_transform_7 (grid0.coords t) 0 = t.val := by decide +kernel
theorem tr_9 : ∀ t : Fin grid0.N, cc0_transform_9 (grid0.coords t) 0 = t.val := by decide +kernel
theorem tr_10 : ∀ t : Fin grid0.N, cc0_transform_10 (grid0.coords t) 0 = t.val := by decide +kernel
theorem tr_24 : ∀ t : Fin grid0.N, cc0_transform_24 (grid0.coords t) 0 = t.val := by decide +kernel
theorem tr_25 : ∀ t : Fin grid0.N, cc0_transform_25 (grid0.coords t) 0 = t.val := by decide +kernel
theorem tr_26 : ∀ t : Fin grid0.N, cc0_transform_26 (grid0.coords t) 0 = t.val := by decide +kernel
theorem lt8 (t : Fin cfg0.N) : t.val < 8 := lt_of_lt_of_eq t.isLt (by decide +kernel)

/-- The arguments, as arrays. -/
abbrev proj (c : Dev nD) : FVec Ideal S2048x8192 .bf16 := m ((c.tc : Thread nD τ).loc main_arg1)
abbrev kvs (c : Dev nD) : FVec Ideal S2048x256 .f32 := m ((c.tc : Thread nD τ).loc main_arg2)
abbrev cacheC (c : Dev nD) : FVec Ideal S1x32x2x1024 .f32 := m ((c.tc : Thread nD τ).loc main_arg3)
abbrev cacheK (c : Dev nD) : FVec Ideal S1x32x128x2x64 .f32 := m ((c.tc : Thread nD τ).loc main_arg4)
abbrev cacheV (c : Dev nD) : FVec Ideal S1x32x128x2x64 .f32 := m ((c.tc : Thread nD τ).loc main_arg5)

/-- Column block 1 of a point's rows. -/
theorem iblk_4 (c : Dev nD) (t : Fin cfg0.N) (r : Fin 256) (z : Fin 1024) (R : Fin 2048) (Z : Fin 8192) (hR : R.val = 256 * t.val + r.val) (hZ : Z.val = 1024 + z.val) :
    (iblk m c 4 t : FVec Ideal S256x1024 .bf16) (ix2 r z) = proj m c (ix2 R Z) := by
  refine Eq.trans ?_ (congrFun (V_main_arg1 m c) (ix2 R Z))
  show V m c main_arg1 (((cfg0.win 4).rect t).emb (ix2 (n0 := 256) (n1 := 1024) r z)) = _
  congr 1
  funext a
  apply Fin.ext
  refine (Pipeline.Window.rect_emb_val_off _ t _ a).trans ?_
  fin_cases a
  · show (cc0_transform_4 (grid0.coords t)) 0 * 256 + r.val = R.val
    rw [tr_4, hR]; omega
  · show 1 * 1024 + z.val = Z.val
    omega
/-- Column block 2 of a point's rows. -/
theorem iblk_5 (c : Dev nD) (t : Fin cfg0.N) (r : Fin 256) (z : Fin 1024) (R : Fin 2048) (Z : Fin 8192) (hR : R.val = 256 * t.val + r.val) (hZ : Z.val = 2048 + z.val) :
    (iblk m c 5 t : FVec Ideal S256x1024 .bf16) (ix2 r z) = proj m c (ix2 R Z) := by
  refine Eq.trans ?_ (congrFun (V_main_arg1 m c) (ix2 R Z))
  show V m c main_arg1 (((cfg0.win 5).rect t).emb (ix2 (n0 := 256) (n1 := 1024) r z)) = _
  congr 1
  funext a
  apply Fin.ext
  refine (Pipeline.Window.rect_emb_val_off _ t _ a).trans ?_
  fin_cases a
  · show (cc0_transform_5 (grid0.coords t)) 0 * 256 + r.val = R.val
    rw [tr_5, hR]; omega
  · show 2 * 1024 + z.val = Z.val
    omega
/-- A point's rows of keys and values. -/
theorem iblk_7 (c : Dev nD) (t : Fin cfg0.N) (r : Fin 256) (z : Fin 256) (R : Fin 2048) (hR : R.val = 256 * t.val + r.val) :
    (iblk m c 7 t : FVec Ideal S256x256 .f32) (ix2 r z) = kvs m c (ix2 R z) := by
  refine Eq.trans ?_ (congrFun (V_main_arg2 m c) (ix2 R z))
  show V m c main_arg2 (((cfg0.win 7).rect t).emb (ix2 (n0 := 256) (n1 := 256) r z)) = _
  congr 1
  funext a
  apply Fin.ext
  refine (Pipeline.Window.rect_emb_val_off _ t _ a).trans ?_
  fin_cases a
  · show (cc0_transform_7 (grid0.coords t)) 0 * 256 + r.val = R.val
    rw [tr_7, hR]; omega
  · show 0 * 256 + z.val = z.val
    omega
/-- A point's cached keys. -/
theorem iblk_9 (c : Dev nD) (t : Fin cfg0.N) (s : Fin 4) (r z : Fin 128) (S : Fin 32) (hS : S.val = 4 * t.val + s.val) :
    (iblk m c 9 t : FVec Ideal S4x128x128 .f32) (ix3 s r z) = cacheK m c (ix5 0 S r ⟨z.val / 64, by omega⟩ ⟨z.val % 64, by omega⟩) := by
  refine Eq.trans ?_ ((congrFun (V_v200 m c) (ix3 S r z)).trans (cast_cache _ S r z))
  show V m c main_v200 (((cfg0.win 9).rect t).emb (ix3 (n0 := 4) (n1 := 128) (n2 := 128) s r z)) = _
  congr 1
  funext a
  apply Fin.ext
  refine (Pipeline.Window.rect_emb_val_off _ t _ a).trans ?_
  fin_cases a
  · show (cc0_transform_9 (grid0.coords t)) 0 * 4 + s.val = S.val
    rw [tr_9, hS]; omega
  · show 0 * 128 + r.val = r.val
    omega
  · show 0 * 128 + z.val = z.val
    omega
/-- A point's cached values. -/
theorem iblk_10 (c : Dev nD) (t : Fin cfg0.N) (s : Fin 4) (r z : Fin 128) (S : Fin 32) (hS : S.val = 4 * t.val + s.val) :
    (iblk m c 10 t : FVec Ideal S4x128x128 .f32) (ix3 s r z) = cacheV m c (ix5 0 S r ⟨z.val / 64, by omega⟩ ⟨z.val % 64, by omega⟩) := by
  refine Eq.trans ?_ ((congrFun (V_v202 m c) (ix3 S r z)).trans (cast_cache _ S r z))
  show V m c main_v202 (((cfg0.win 10).rect t).emb (ix3 (n0 := 4) (n1 := 128) (n2 := 128) s r z)) = _
  congr 1
  funext a
  apply Fin.ext
  refine (Pipeline.Window.rect_emb_val_off _ t _ a).trans ?_
  fin_cases a
  · show (cc0_transform_10 (grid0.coords t)) 0 * 4 + s.val = S.val
    rw [tr_10, hS]; omega
  · show 0 * 128 + r.val = r.val
    omega
  · show 0 * 128 + z.val = z.val
    omega

/-! ## The three arrays -/

/-- The array of gated rows the mixer leaves is the reference's. -/
theorem arr_24 (c : Dev nD) : (dats m 0 c).arrAt 24 cfg0.N = refConv (proj m c) (cacheC m c) := by
  refine (dats m 0 c).arrAt_eq_of_covers 24 (refConv (proj m c) (cacheC m c)) (by decide +kernel) fun t hf y => ?_
  obtain ⟨s, r, z, rfl⟩ : ∃ (s : Fin 4) (r : Fin 2) (z : Fin 1024), y = ix3 s r z := ⟨y 0, y 1, y 2, eq_ix3 y⟩
  have ht := lt8 t
  have e : ((cfg0.win 24).rect t).emb (ix3 (n0 := 4) (n1 := 2) (n2 := 1024) s r z) = ix3 (n0 := 32) (n1 := 2) (n2 := 1024) ⟨4 * t.val + s.val, by omega⟩ r z := by
    funext a
    apply Fin.ext
    refine (Pipeline.Window.rect_emb_val_off _ t _ a).trans ?_
    fin_cases a
    · show (cc0_transform_24 (grid0.coords t)) 0 * 4 + s.val = 4 * t.val + s.val
      rw [tr_24]; omega
    · show 0 * 2 + r.val = r.val
      omega
    · show 0 * 1024 + z.val = z.val
      omega
  refine (flushed_24 m c t (ix3 s r z)).trans (Eq.trans ?_ (congrArg (refConv (proj m c) (cacheC m c)) e.symm))
  rw [refConv_apply]
  show cvAt (iblk m c 4 t) (iblk m c 5 t) s r z = _
  unfold cvAt
  exact congrArg₂ (fun p q : EReal => p * q)
    (iblk_4 m c t _ z _ _ (by show 64 * (4 * t.val + s.val) + 62 + r.val = 256 * t.val + (64 * s.val + 62 + r.val); omega) rfl)
    (iblk_5 m c t _ z _ _ (by show 64 * (4 * t.val + s.val) + 62 + r.val = 256 * t.val + (64 * s.val + 62 + r.val); omega) rfl)
/-- The array of keys the mixer leaves is the reference's. -/
theorem arr_25 (c : Dev nD) : (dats m 0 c).arrAt 25 cfg0.N = refKeys (kvs m c) (cacheK m c) := by
  refine (dats m 0 c).arrAt_eq_of_covers 25 (refKeys (kvs m c) (cacheK m c)) (by decide +kernel) fun t hf y => ?_
  obtain ⟨s, r, z, rfl⟩ : ∃ (s : Fin 4) (r z : Fin 128), y = ix3 s r z := ⟨y 0, y 1, y 2, eq_ix3 y⟩
  have ht := lt8 t
  have e : ((cfg0.win 25).rect t).emb (ix3 (n0 := 4) (n1 := 128) (n2 := 128) s r z) = ix3 (n0 := 32) (n1 := 128) (n2 := 128) ⟨4 * t.val + s.val, by omega⟩ r z := by
    funext a
    apply Fin.ext
    refine (Pipeline.Window.rect_emb_val_off _ t _ a).trans ?_
    fin_cases a
    · show (cc0_transform_25 (grid0.coords t)) 0 * 4 + s.val = 4 * t.val + s.val
      rw [tr_25]; omega
    · show 0 * 128 + r.val = r.val
      omega
    · show 0 * 128 + z.val = z.val
      omega
  refine (flushed_25 m c t (ix3 s r z)).trans (Eq.trans ?_ (congrArg (refKeys (kvs m c) (cacheK m c)) e.symm))
  rw [refKeys_apply]
  show stAt 0 _ (iblk m c 9 t) (iblk m c 7 t) s r z = _
  unfold stAt
  by_cases h : r.val < 64
  · rw [dif_pos h, dif_pos h]
    exact iblk_9 m c t s _ z _ rfl
  · rw [dif_neg h, dif_neg h]
    refine (iblk_7 m c t _ _ ⟨64 * (4 * t.val + s.val) + (r.val - 64), by omega⟩ (by show 64 * (4 * t.val + s.val) + (r.val - 64) = 256 * t.val + (64 * s.val + (r.val - 64)); omega)).trans ?_
    refine congrArg (kvs m c) (congrArg (fun q : Fin 256 => ix2 (n0 := 2048) (n1 := 256) _ q) (Fin.ext ?_))
    show 0 + z.val = z.val
    omega
/-- The array of values the mixer leaves is the reference's. -/
theorem arr_26 (c : Dev nD) : (dats m 0 c).arrAt 26 cfg0.N = refVals (kvs m c) (cacheV m c) := by
  refine (dats m 0 c).arrAt_eq_of_covers 26 (refVals (kvs m c) (cacheV m c)) (by decide +kernel) fun t hf y => ?_
  obtain ⟨s, r, z, rfl⟩ : ∃ (s : Fin 4) (r z : Fin 128), y = ix3 s r z := ⟨y 0, y 1, y 2, eq_ix3 y⟩
  have ht := lt8 t
  have e : ((cfg0.win 26).rect t).emb (ix3 (n0 := 4) (n1 := 128) (n2 := 128) s r z) = ix3 (n0 := 32) (n1 := 128) (n2 := 128) ⟨4 * t.val + s.val, by omega⟩ r z := by
    funext a
    apply Fin.ext
    refine (Pipeline.Window.rect_emb_val_off _ t _ a).trans ?_
    fin_cases a
    · show (cc0_transform_26 (grid0.coords t)) 0 * 4 + s.val = 4 * t.val + s.val
      rw [tr_26]; omega
    · show 0 * 128 + r.val = r.val
      omega
    · show 0 * 128 + z.val = z.val
      omega
  refine (flushed_26 m c t (ix3 s r z)).trans (Eq.trans ?_ (congrArg (refVals (kvs m c) (cacheV m c)) e.symm))
  rw [refVals_apply]
  show stAt 128 _ (iblk m c 10 t) (iblk m c 7 t) s r z = _
  unfold stAt
  by_cases h : r.val < 64
  · rw [dif_pos h, dif_pos h]
    exact iblk_10 m c t s _ z _ rfl
  · rw [dif_neg h, dif_neg h]
    refine (iblk_7 m c t _ _ ⟨64 * (4 * t.val + s.val) + (r.val - 64), by omega⟩ (by show 64 * (4 * t.val + s.val) + (r.val - 64) = 256 * t.val + (64 * s.val + (r.val - 64)); omega)).trans ?_
    refine congrArg (kvs m c) (congrArg (fun q : Fin 256 => ix2 (n0 := 2048) (n1 := 256) _ q) (Fin.ext ?_))
    show 128 + z.val = 128 + z.val
    omega

/-- The run, with what the states' three arrays hold and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v203_4) = refConv (proj m c) (cacheC m c)
      ∧ r.2.mem ((c.tc : Thread nD τ).loc main_v203_5) = refKeys (kvs m c) (cacheK m c)
      ∧ r.2.mem ((c.tc : Thread nD τ).loc main_v203_6) = refVals (kvs m c) (cacheV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => by
    obtain ⟨-, -, -, -, h4, h5, h6, hargs⟩ := h c
    exact ⟨h4.trans (arr_24 m c), h5.trans (arr_25 m c), h6.trans (arr_26 m c), hargs⟩) (Value.run_blocks m ρ)

end Cert.MixValue
-- ==== Proof.InSame.lean ====
/-
  The in-projection's program at bit patterns and the one read at the ideal instance are one text: the frame proved of the
  second for any float values is the first's too.
-/
module

public import proofs.«01_k».proof.Proof.Gen.Kernel2
public import proofs.«01_k».proof.Proof.Gen.Kernel2Ideal

@[expose] public section

noncomputable section

namespace Cert.InProof

open Idealize.ShloMosaic Idealize.SL.Sem

variable {F : FTy → Type} [FloatOps F]

/-- The kernel's body. -/
theorem inproj_eq : Cert.Kernel2.cc0_inproj (F := F) = Cert.Kernel2Ideal.cc0_inproj (F := F) := rfl

/-- The body table's row. -/
theorem row_eq (ℓ : Cert.Kernel2.Λ₀.Label) (a : Cert.Kernel2.Λ₀.Args ℓ) :
    Cert.Kernel2.defs₀ (F := F) .tc ℓ a = Cert.Kernel2Ideal.defs₀ (F := F) .tc ℓ a := by
  match ℓ, a with
  | 0, (t, s) =>
    unfold Cert.Kernel2.defs₀ Cert.Kernel2Ideal.defs₀
    dsimp only [Defs.onTc]
    rw [inproj_eq]
    rfl

/-- The body table. -/
theorem defs₀_eq : Cert.Kernel2.defs₀ (F := F) = Cert.Kernel2Ideal.defs₀ (F := F) := by
  funext k
  cases k with
  | tc => funext ℓ a; exact row_eq ℓ a
  | scScalar _ => rfl
  | scVector _ _ => rfl

/-- The table with the pipeline's own rows. -/
theorem defs_eq : Cert.Kernel2.defs (F := F) = Cert.Kernel2Ideal.defs (F := F) :=
  (congrArg (Pipeline.defs Cert.Kernel2.pcfgs) defs₀_eq).trans rfl

/-- The program. -/
theorem main_eq : Cert.Kernel2.main (F := F) = Cert.Kernel2Ideal.main (F := F) := rfl

end Cert.InProof
-- ==== Proof.InBody.lean ====
/-
  The in-projection's body at a grid point, in the four cases of its two conditionals: what each buffer holds when it ends.
-/
module

public import proofs.«01_k».proof.Proof.Gen.Kernel2Ideal.Frame
public import proofs.«01_k».proof.Proof.Gen.Kernel2Ideal.Skeleton
public import Idealize.ShloMosaic.Lib.WritesUnit
public import Idealize.ShloMosaic.Lib.VecWindow
public import Idealize.ShloMosaic.Lib.WholeRead
public import Idealize.ShloMosaic.Lib.WordCmp
public import Idealize.ShloMosaic.Lib.Pointwise.Index

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's. -/
local notation "𝕄" => MT nD τ sig Unit (Elt F) ℕ (UR sig nD τ) ℕ

/-- The rows of the row tile from `128 q`. -/
def slice (q : ℕ) (x : Vec F S1024x2048 .f32) : Vec F S128x2048 .f32 := fun z =>
  x (ix2 (n0 := 1024) (n1 := 2048) ⟨(128 * q + (z 0).val) % 1024, Nat.mod_lt _ (by decide)⟩ (z 1))

/-- The normalized row tile: each row by the slice of 128 rows it lies in. -/
def hBlk (x : Vec F S1024x2048 .f32) (g : Vec F S1x2048 .f32) : FVec F S1024x2048 .bf16 := fun y =>
  k0_pay5 (slice ((y 0).val / 128) x) g (ix2 (n0 := 128) (n1 := 2048) ⟨(y 0).val % 128, Nat.mod_lt _ (by decide)⟩ (y 1))

/-- The row tile's 256 columns kept at full width. -/
def kvBlk (x : Vec F S1024x2048 .f32) (g : Vec F S1x2048 .f32) (w : Vec F S2048x256 .f32) : FVec F S1024x256 .f32 := fun y =>
  k0_pay6 w (slice ((y 0).val / 128) x) g (ix2 (n0 := 128) (n1 := 256) ⟨(y 0).val % 128, Nat.mod_lt _ (by decide)⟩ (y 1))

/-- Eight stores of 128 rows each leave the block they together are. -/
theorem read_eight {κ : Kind} {sp : Space} {n : ℕ} {e : EltTy} (v : View sig κ sp ⟨2, ![1024, n]⟩ e) (f : v.ty.Contents (Elt F))
    (G : (⟨2, ![1024, n]⟩ : Shape).Idx → Elt F e)
    {i0 : ∀ a, (![0, 0] : Fin 2 → ℕ) a + (![128, n] : Fin 2 → ℕ) a ≤ (⟨2, ![1024, n]⟩ : Shape).size a}
    {i1 : ∀ a, (![128, 0] : Fin 2 → ℕ) a + (![128, n] : Fin 2 → ℕ) a ≤ (⟨2, ![1024, n]⟩ : Shape).size a}
    {i2 : ∀ a, (![256, 0] : Fin 2 → ℕ) a + (![128, n] : Fin 2 → ℕ) a ≤ (⟨2, ![1024, n]⟩ : Shape).size a}
    {i3 : ∀ a, (![384, 0] : Fin 2 → ℕ) a + (![128, n] : Fin 2 → ℕ) a ≤ (⟨2, ![1024, n]⟩ : Shape).size a}
    {i4 : ∀ a, (![512, 0] : Fin 2 → ℕ) a + (![128, n] : Fin 2 → ℕ) a ≤ (⟨2, ![1024, n]⟩ : Shape).size a}
    {i5 : ∀ a, (![640, 0] : Fin 2 → ℕ) a + (![128, n] : Fin 2 → ℕ) a ≤ (⟨2, ![1024, n]⟩ : Shape).size a}
    {i6 : ∀ a, (![768, 0] : Fin 2 → ℕ) a + (![128, n] : Fin 2 → ℕ) a ≤ (⟨2, ![1024, n]⟩ : Shape).size a}
    {i7 : ∀ a, (![896, 0] : Fin 2 → ℕ) a + (![128, n] : Fin 2 → ℕ) a ≤ (⟨2, ![1024, n]⟩ : Shape).size a}
    (p0 p1 p2 p3 p4 p5 p6 p7 : (⟨2, ![128, n]⟩ : Shape).Idx → Elt F e)
    (h0 : ∀ (r : Fin 128) (z : Fin n), p0 (ix2 r z) = G (ix2 (n0 := 1024) (n1 := n) ⟨0 + r.val, by omega⟩ z))
    (h1 : ∀ (r : Fin 128) (z : Fin n), p1 (ix2 r z) = G (ix2 (n0 := 1024) (n1 := n) ⟨128 + r.val, by omega⟩ z))
    (h2 : ∀ (r : Fin 128) (z : Fin n), p2 (ix2 r z) = G (ix2 (n0 := 1024) (n1 := n) ⟨256 + r.val, by omega⟩ z))
    (h3 : ∀ (r : Fin 128) (z : Fin n), p3 (ix2 r z) = G (ix2 (n0 := 1024) (n1 := n) ⟨384 + r.val, by omega⟩ z))
    (h4 : ∀ (r : Fin 128) (z : Fin n), p4 (ix2 r z) = G (ix2 (n0 := 1024) (n1 := n) ⟨512 + r.val, by omega⟩ z))
    (h5 : ∀ (r : Fin 128) (z : Fin n), p5 (ix2 r z) = G (ix2 (n0 := 1024) (n1 := n) ⟨640 + r.val, by omega⟩ z))
    (h6 : ∀ (r : Fin 128) (z : Fin n), p6 (ix2 r z) = G (ix2 (n0 := 1024) (n1 := n) ⟨768 + r.val, by omega⟩ z))
    (h7 : ∀ (r : Fin 128) (z : Fin n), p7 (ix2 r z) = G (ix2 (n0 := 1024) (n1 := n) ⟨896 + r.val, by omega⟩ z)) :
    v.read (Elt F) (v.writes (Elt F) f [⟨Rect.unit (s := ⟨2, ![1024, n]⟩) ![896, 0] ![128, n] i7, p7⟩,
      ⟨Rect.unit (s := ⟨2, ![1024, n]⟩) ![768, 0] ![128, n] i6, p6⟩,
      ⟨Rect.unit (s := ⟨2, ![1024, n]⟩) ![640, 0] ![128, n] i5, p5⟩,
      ⟨Rect.unit (s := ⟨2, ![1024, n]⟩) ![512, 0] ![128, n] i4, p4⟩,
      ⟨Rect.unit (s := ⟨2, ![1024, n]⟩) ![384, 0] ![128, n] i3, p3⟩,
      ⟨Rect.unit (s := ⟨2, ![1024, n]⟩) ![256, 0] ![128, n] i2, p2⟩,
      ⟨Rect.unit (s := ⟨2, ![1024, n]⟩) ![128, 0] ![128, n] i1, p1⟩,
      ⟨Rect.unit (s := ⟨2, ![1024, n]⟩) ![0, 0] ![128, n] i0, p0⟩]) = G := by
  funext y
  have b0 : (y 0).val < 1024 := (y 0).2
  have at_ : ∀ (q : ℕ), (y 0).val / 128 = q → ∀ a, (y a).val = (![128 * q, 0] : Fin 2 → ℕ) a + ((ix2 (n0 := 128) (n1 := n) ⟨(y 0).val % 128, Nat.mod_lt _ (by decide)⟩ (y 1)) a).val := by
    intro q hq a
    fin_cases a
    · show (y 0).val = 128 * q + (y 0).val % 128
      omega
    · show (y 1).val = 0 + (y 1).val
      omega
  have back : ∀ (q : ℕ) (h : 128 * q + (y 0).val % 128 < 1024), (y 0).val / 128 = q → ix2 (n0 := 1024) (n1 := n) ⟨128 * q + (y 0).val % 128, h⟩ (y 1) = y := by
    intro q h hq
    funext a
    apply Fin.ext
    fin_cases a
    · show 128 * q + (y 0).val % 128 = (y 0).val
      omega
    · rfl
  rcases (show (y 0).val / 128 = 7 ∨ (y 0).val / 128 = 6 ∨ (y 0).val / 128 = 5 ∨ (y 0).val / 128 = 4 ∨ (y 0).val / 128 = 3 ∨ (y 0).val / 128 = 2 ∨ (y 0).val / 128 = 1 ∨ (y 0).val / 128 = 0 by omega) with h | h | h | h | h | h | h | h
  · exact (View.read_writes_cons_unit_of_mem v f _ _ _ y _ (off' := ![896, 0]) rfl (at_ 7 h)).trans ((h7 _ _).trans (congrArg G (back 7 (by omega) h)))
  · refine (View.read_writes_cons_unit_of_not_mem v f _ _ _ y rfl 0 (.inl (show (y 0).val < 896 by omega))).trans ?_
    exact (View.read_writes_cons_unit_of_mem v f _ _ _ y _ (off' := ![768, 0]) rfl (at_ 6 h)).trans ((h6 _ _).trans (congrArg G (back 6 (by omega) h)))
  · refine (View.read_writes_cons_unit_of_not_mem v f _ _ _ y rfl 0 (.inl (show (y 0).val < 896 by omega))).trans ?_
    refine (View.read_writes_cons_unit_of_not_mem v f _ _ _ y rfl 0 (.inl (show (y 0).val < 768 by omega))).trans ?_
    exact (View.read_writes_cons_unit_of_mem v f _ _ _ y _ (off' := ![640, 0]) rfl (at_ 5 h)).trans ((h5 _ _).trans (congrArg G (back 5 (by omega) h)))
  · refine (View.read_writes_cons_unit_of_not_mem v f _ _ _ y rfl 0 (.inl (show (y 0).val < 896 by omega))).trans ?_
    refine (View.read_writes_cons_unit_of_not_mem v f _ _ _ y rfl 0 (.inl (show (y 0).val < 768 by omega))).trans ?_
    refine (View.read_writes_cons_unit_of_not_mem v f _ _ _ y rfl 0 (.inl (show (y 0).val < 640 by omega))).trans ?_
    exact (View.read_writes_cons_unit_of_mem v f _ _ _ y _ (off' := ![512, 0]) rfl (at_ 4 h)).trans ((h4 _ _).trans (congrArg G (back 4 (by omega) h)))
  · refine (View.read_writes_cons_unit_of_not_mem v f _ _ _ y rfl 0 (.inl (show (y 0).val < 896 by omega))).trans ?_
    refine (View.read_writes_cons_unit_of_not_mem v f _ _ _ y rfl 0 (.inl (show (y 0).val < 768 by omega))).trans ?_
    refine (View.read_writes_cons_unit_of_not_mem v f _ _ _ y rfl 0 (.inl (show (y 0).val < 640 by omega))).trans ?_
    refine (View.read_writes_cons_unit_of_not_mem v f _ _ _ y rfl 0 (.inl (show (y 0).val < 512 by omega))).trans ?_
    exact (View.read_writes_cons_unit_of_mem v f _ _ _ y _ (off' := ![384, 0]) rfl (at_ 3 h)).trans ((h3 _ _).trans (congrArg G (back 3 (by omega) h)))
  · refine (View.read_writes_cons_unit_of_not_mem v f _ _ _ y rfl 0 (.inl (show (y 0).val < 896 by omega))).trans ?_
    refine (View.read_writes_cons_unit_of_not_mem v f _ _ _ y rfl 0 (.inl (show (y 0).val < 768 by omega))).trans ?_
    refine (View.read_writes_cons_unit_of_not_mem v f _ _ _ y rfl 0 (.inl (show (y 0).val < 640 by omega))).trans ?_
    refine (View.read_writes_cons_unit_of_not_mem v f _ _ _ y rfl 0 (.inl (show (y 0).val < 512 by omega))).trans ?_
    refine (View.read_writes_cons_unit_of_not_mem v f _ _ _ y rfl 0 (.inl (show (y 0).val < 384 by omega))).trans ?_
    exact (View.read_writes_cons_unit_of_mem v f _ _ _ y _ (off' := ![256, 0]) rfl (at_ 2 h)).trans ((h2 _ _).trans (congrArg G (back 2 (by omega) h)))
  · refine (View.read_writes_cons_unit_of_not_mem v f _ _ _ y rfl 0 (.inl (show (y 0).val < 896 by omega))).trans ?_
    refine (View.read_writes_cons_unit_of_not_mem v f _ _ _ y rfl 0 (.inl (show (y 0).val < 768 by omega))).trans ?_
    refine (View.read_writes_cons_unit_of_not_mem v f _ _ _ y rfl 0 (.inl (show (y 0).val < 640 by omega))).trans ?_
    refine (View.read_writes_cons_unit_of_not_mem v f _ _ _ y rfl 0 (.inl (show (y 0).val < 512 by omega))).trans ?_
    refine (View.read_writes_cons_unit_of_not_mem v f _ _ _ y rfl 0 (.inl (show (y 0).val < 384 by omega))).trans ?_
    refine (View.read_writes_cons_unit_of_not_mem v f _ _ _ y rfl 0 (.inl (show (y 0).val < 256 by omega))).trans ?_
    exact (View.read_writes_cons_unit_of_mem v f _ _ _ y _ (off' := ![128, 0]) rfl (at_ 1 h)).trans ((h1 _ _).trans (congrArg G (back 1 (by omega) h)))
  · refine (View.read_writes_cons_unit_of_not_mem v f _ _ _ y rfl 0 (.inl (show (y 0).val < 896 by omega))).trans ?_
    refine (View.read_writes_cons_unit_of_not_mem v f _ _ _ y rfl 0 (.inl (show (y 0).val < 768 by omega))).trans ?_
    refine (View.read_writes_cons_unit_of_not_mem v f _ _ _ y rfl 0 (.inl (show (y 0).val < 640 by omega))).trans ?_
    refine (View.read_writes_cons_unit_of_not_mem v f _ _ _ y rfl 0 (.inl (show (y 0).val < 512 by omega))).trans ?_
    refine (View.read_writes_cons_unit_of_not_mem v f _ _ _ y rfl 0 (.inl (show (y 0).val < 384 by omega))).trans ?_
    refine (View.read_writes_cons_unit_of_not_mem v f _ _ _ y rfl 0 (.inl (show (y 0).val < 256 by omega))).trans ?_
    refine (View.read_writes_cons_unit_of_not_mem v f _ _ _ y rfl 0 (.inl (show (y 0).val < 128 by omega))).trans ?_
    exact (View.read_writes_cons_unit_of_mem v f _ _ _ y _ (off' := ![0, 0]) rfl (at_ 0 h)).trans ((h0 _ _).trans (congrArg G (back 0 (by omega) h)))

/-- A load of 128 rows of a row tile is its slice. -/
theorem readAt_slice {arg2 : Memref sig .tc .vmem S1024x2048 .f32} (harg2 : arg2.IsWhole) (x : Vec F S1024x2048 .f32) (q : ℕ) (hq : q < 8) (o : Fin 2 → ℕ) (ho : o = ![128 * q, 0])
    (inb : ∀ a, o a + S128x2048.size a ≤ S1024x2048.size a) :
    View.readAt (Elt F) arg2.view (Rect.unit (s := S1024x2048) o S128x2048.size inb).toLoadRect (harg2.unread x) = slice q x := by
  subst ho
  funext z
  refine (harg2.readAt_unread x _ z).trans ?_
  unfold slice
  congr 1
  have b0 : (z 0).val < 128 := (z 0).2
  funext a
  apply Fin.ext
  fin_cases a
  · show 128 * q + 1 * (z 0).val = (128 * q + (z 0).val) % 1024
    omega
  · show 0 + 1 * (z 1).val = (z 1).val
    omega

/-- A load of a whole buffer is its contents. -/
theorem readAt_all {s : Shape} {e : EltTy} {M : Memref sig .tc .vmem s e} (h : M.IsWhole) (x : s.Idx → Elt F e) (o : Fin s.rank → ℕ) (inb : ∀ a, o a + s.size a ≤ s.size a) :
    View.readAt (Elt F) M.view (Rect.unit o s.size inb).toLoadRect (h.unread x) = x :=
  (View.readAt_full M.view _ inb).trans (h.read_unread x)

/-- A row of the normalized tile. -/
theorem hBlk_row (x : Vec F S1024x2048 .f32) (g : Vec F S1x2048 .f32) (q : ℕ) (hq : q < 8) (o : ℕ) (ho : o = 128 * q) (r : Fin 128) (z : Fin 2048) (h : o + r.val < 1024) :
    hBlk x g (ix2 (n0 := 1024) (n1 := 2048) ⟨o + r.val, h⟩ z) = k0_pay5 (slice q x) g (ix2 r z) := by
  subst ho
  have e1 : (128 * q + r.val) / 128 = q := by omega
  have e2 : (⟨(128 * q + r.val) % 128, Nat.mod_lt _ (by decide)⟩ : Fin 128) = r := Fin.ext (by show (128 * q + r.val) % 128 = r.val; omega)
  show k0_pay5 (slice ((128 * q + r.val) / 128) x) g (ix2 (n0 := 128) (n1 := 2048) ⟨(128 * q + r.val) % 128, Nat.mod_lt _ (by decide)⟩ z) = _
  rw [e1, e2]

/-- A row of the tile's 256 full-width columns. -/
theorem kvBlk_row (x : Vec F S1024x2048 .f32) (g : Vec F S1x2048 .f32) (w : Vec F S2048x256 .f32) (q : ℕ) (hq : q < 8) (o : ℕ) (ho : o = 128 * q) (r : Fin 128) (z : Fin 256) (h : o + r.val < 1024) :
    kvBlk x g w (ix2 (n0 := 1024) (n1 := 256) ⟨o + r.val, h⟩ z) = k0_pay6 w (slice q x) g (ix2 r z) := by
  subst ho
  have e1 : (128 * q + r.val) / 128 = q := by omega
  have e2 : (⟨(128 * q + r.val) % 128, Nat.mod_lt _ (by decide)⟩ : Fin 128) = r := Fin.ext (by show (128 * q + r.val) % 128 = r.val; omega)
  show k0_pay6 w (slice ((128 * q + r.val) / 128) x) g (ix2 (n0 := 128) (n1 := 256) ⟨(128 * q + r.val) % 128, Nat.mod_lt _ (by decide)⟩ z) = _
  rw [e1, e2]

/-! The eight slices go through one computation, however its parts are cut. -/

/-- Slice 1 of the normalized rows. -/
theorem h_1 (v : Vec F S128x2048 .f32) (g : Vec F S1x2048 .f32) : k0_pay11 (k0_pay7 v) (k0_pay8 g) (k0_pay9 v) = k0_pay5 v g := rfl
/-- Slice 1 of the full-width columns. -/
theorem kv_1 (w : Vec F S2048x256 .f32) (v : Vec F S128x2048 .f32) (g : Vec F S1x2048 .f32) : k0_pay12 (k0_pay3 w) (k0_pay7 v) (k0_pay8 g) (k0_pay9 v) = k0_pay6 w v g := rfl
/-- Slice 2 of the normalized rows. -/
theorem h_2 (v : Vec F S128x2048 .f32) (g : Vec F S1x2048 .f32) : k0_pay14 v g = k0_pay5 v g := rfl
/-- Slice 2 of the full-width columns. -/
theorem kv_2 (w : Vec F S2048x256 .f32) (v : Vec F S128x2048 .f32) (g : Vec F S1x2048 .f32) : k0_pay15 (k0_pay3 w) v g = k0_pay6 w v g := rfl
/-- Slice 3 of the normalized rows. -/
theorem h_3 (v : Vec F S128x2048 .f32) (g : Vec F S1x2048 .f32) : k0_pay18 (k0_pay16 v) g = k0_pay5 v g := rfl
/-- Slice 3 of the full-width columns. -/
theorem kv_3 (w : Vec F S2048x256 .f32) (v : Vec F S128x2048 .f32) (g : Vec F S1x2048 .f32) : k0_pay19 (k0_pay3 w) (k0_pay16 v) g = k0_pay6 w v g := rfl
/-- Slice 4 of the normalized rows. -/
theorem h_4 (v : Vec F S128x2048 .f32) (g : Vec F S1x2048 .f32) : k0_pay21 v g = k0_pay5 v g := rfl
/-- Slice 4 of the full-width columns. -/
theorem kv_4 (w : Vec F S2048x256 .f32) (v : Vec F S128x2048 .f32) (g : Vec F S1x2048 .f32) : k0_pay22 (k0_pay3 w) (k0_pay20 v g) (constant S128x256 .f32 0x00000000#32) = k0_pay6 w v g := rfl
/-- Slice 5 of the normalized rows. -/
theorem h_5 (v : Vec F S128x2048 .f32) (g : Vec F S1x2048 .f32) : k0_pay24 v g = k0_pay5 v g := rfl
/-- Slice 5 of the full-width columns. -/
theorem kv_5 (w : Vec F S2048x256 .f32) (v : Vec F S128x2048 .f32) (g : Vec F S1x2048 .f32) : k0_pay25 (k0_pay3 w) v g = k0_pay6 w v g := rfl
/-- Slice 6 of the normalized rows. -/
theorem h_6 (v : Vec F S128x2048 .f32) (g : Vec F S1x2048 .f32) : k0_pay30 (k0_pay26 v) (k0_pay27 g) (k0_pay28 v) = k0_pay5 v g := rfl
/-- Slice 6 of the full-width columns. -/
theorem kv_6 (w : Vec F S2048x256 .f32) (v : Vec F S128x2048 .f32) (g : Vec F S1x2048 .f32) : k0_pay31 (k0_pay3 w) (k0_pay26 v) (k0_pay27 g) (k0_pay28 v) = k0_pay6 w v g := rfl
/-- Slice 7 of the normalized rows. -/
theorem h_7 (v : Vec F S128x2048 .f32) (g : Vec F S1x2048 .f32) : k0_pay33 v g = k0_pay5 v g := rfl
/-- Slice 7 of the full-width columns. -/
theorem kv_7 (w : Vec F S2048x256 .f32) (v : Vec F S128x2048 .f32) (g : Vec F S1x2048 .f32) : k0_pay34 (k0_pay3 w) v g = k0_pay6 w v g := rfl

set_option maxHeartbeats 2000000 in
/-- The body where the row tile is the first and the column tile is the first. -/
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S2048x256 .f32) (harg5 : arg5.IsWhole) (arg6 : Memref sig .tc .vmem S1024x1024 .bf16) (harg6 : arg6.IsWhole) (arg7 : Memref sig .tc .vmem S1024x256 .f32) (harg7 : arg7.IsWhole) (arg8 : Memref sig .tc .vmem S2048x1024 .bf16) (harg8 : arg8.IsWhole) (arg9 : Memref sig .tc .vmem S2048x256 .bf16) (harg9 : arg9.IsWhole) (arg10 : Memref sig .tc .vmem S1024x2048 .bf16) (harg10 : arg10.IsWhole) (hc0 : k0_cond1 i = 1#1) (hc1 : k0_cond2 i = 1#1)
    (x0 : Vec F S1024x2048 .f32) (x1 : Vec F S1x2048 .f32) (x2 : Vec F S2048x1024 .f32) (x3 : Vec F S2048x256 .f32) (x4 : FVec F S1024x1024 .bf16) (x5 : FVec F S1024x256 .f32) (x6 : FVec F S2048x1024 .bf16) (x7 : FVec F S2048x256 .bf16) (h : FVec F S1024x2048 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare h
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (hBlk x0 x1) x2) ∗ owns (c : Thread nD τ) arg7 fullShare (kvBlk x0 x1 x3) ∗ owns (c : Thread nD τ) arg8 fullShare (k0_pay1 x2) ∗ owns (c : Thread nD τ) arg9 fullShare (k0_pay3 x3) ∗ owns (c : Thread nD τ) arg10 fullShare (hBlk x0 x1)) -∗ K ⟨⟩))
        ⊢ wp frame (wpE (defs₀ (F := F)) Variants.none c none) E (cc0_inproj i arg2 harg2 arg3 harg3 arg4 harg4 arg5 harg5 arg6 harg6 arg7 harg7 arg8 harg8 arg9 harg9 arg10 harg10) K := by
  intro E K
  simp only [cc0_inproj_eq_skeleton]; unfold cc0_inproj_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs, HS0⟩, Hk⟩
  obtain rfl := harg2.eq_unread hf0; obtain rfl := harg3.eq_unread hf1; obtain rfl := harg4.eq_unread hf2; obtain rfl := harg5.eq_unread hf3
  obtain rfl := harg10.eq_unread hfs
  sl_exec (disch := first | sl_exact hc0 | sl_exact hc1)
  sl_step
  iapply Hk
  have e0 : ∀ q (hq : q < 8) (o : Fin 2 → ℕ) (ho : o = ![128 * q, 0]) (inb : ∀ a, o a + S128x2048.size a ≤ S1024x2048.size a), View.readAt (Elt F) arg2.view (Rect.unit (s := S1024x2048) o S128x2048.size inb).toLoadRect (harg2.unread x0) = slice q x0 := readAt_slice harg2 x0
  have eg : View.readAt (Elt F) arg3.view (Rect.unit (s := S1x2048) ![0, 0] S1x2048.size inb_S1x2048_S1x2048_0_0).toLoadRect (harg3.unread x1) = x1 := readAt_all harg3 x1 _ _
  have ew : View.readAt (Elt F) arg5.view (Rect.unit (s := S2048x256) ![0, 0] S2048x256.size inb_S2048x256_S2048x256_0_0).toLoadRect (harg5.unread x3) = x3 := readAt_all harg5 x3 _ _
  have hH : ∀ f, arg10.view.read (Elt F) (arg10.view.writes (Elt F) f (run_A.sl.HS0_8 c arg2 harg2 arg3 harg3 x0 x1)) = hBlk x0 x1 := fun f =>
    read_eight (n := 2048) arg10.view f (hBlk x0 x1) _ _ _ _ _ _ _ _
      (fun r z => (congrFun (show k0_pay5 (View.readAt (Elt F) arg2.view (Rect.unit (s := S1024x2048) ![0, 0] S128x2048.size inb_S1024x2048_S128x2048_0_0).toLoadRect (harg2.unread x0)) (View.readAt (Elt F) arg3.view (Rect.unit (s := S1x2048) ![0, 0] S1x2048.size inb_S1x2048_S1x2048_0_0).toLoadRect (harg3.unread x1)) = k0_pay5 (slice 0 x0) x1 by rw [(e0 0 (by omega) ![0, 0] rfl inb_S1024x2048_S128x2048_0_0), eg]) (ix2 r z)).trans (hBlk_row x0 x1 0 (by omega) 0 rfl r z _).symm)
      (fun r z => (congrFun (show k0_pay5 (View.readAt (Elt F) arg2.view (Rect.unit (s := S1024x2048) ![128, 0] S128x2048.size inb_S1024x2048_S128x2048_128_0).toLoadRect (harg2.unread x0)) (View.readAt (Elt F) arg3.view (Rect.unit (s := S1x2048) ![0, 0] S1x2048.size inb_S1x2048_S1x2048_0_0).toLoadRect (harg3.unread x1)) = k0_pay5 (slice 1 x0) x1 by rw [(e0 1 (by omega) ![128, 0] rfl inb_S1024x2048_S128x2048_128_0), eg]) (ix2 r z)).trans (hBlk_row x0 x1 1 (by omega) 128 rfl r z _).symm)
      (fun r z => (congrFun (show k0_pay5 (View.readAt (Elt F) arg2.view (Rect.unit (s := S1024x2048) ![256, 0] S128x2048.size inb_S1024x2048_S128x2048_256_0).toLoadRect (harg2.unread x0)) (View.readAt (Elt F) arg3.view (Rect.unit (s := S1x2048) ![0, 0] S1x2048.size inb_S1x2048_S1x2048_0_0).toLoadRect (harg3.unread x1)) = k0_pay5 (slice 2 x0) x1 by rw [(e0 2 (by omega) ![256, 0] rfl inb_S1024x2048_S128x2048_256_0), eg]) (ix2 r z)).trans (hBlk_row x0 x1 2 (by omega) 256 rfl r z _).symm)
      (fun r z => (congrFun (show k0_pay5 (View.readAt (Elt F) arg2.view (Rect.unit (s := S1024x2048) ![384, 0] S128x2048.size inb_S1024x2048_S128x2048_384_0).toLoadRect (harg2.unread x0)) (View.readAt (Elt F) arg3.view (Rect.unit (s := S1x2048) ![0, 0] S1x2048.size inb_S1x2048_S1x2048_0_0).toLoadRect (harg3.unread x1)) = k0_pay5 (slice 3 x0) x1 by rw [(e0 3 (by omega) ![384, 0] rfl inb_S1024x2048_S128x2048_384_0), eg]) (ix2 r z)).trans (hBlk_row x0 x1 3 (by omega) 384 rfl r z _).symm)
      (fun r z => (congrFun (show k0_pay5 (View.readAt (Elt F) arg2.view (Rect.unit (s := S1024x2048) ![512, 0] S128x2048.size inb_S1024x2048_S128x2048_512_0).toLoadRect (harg2.unread x0)) (View.readAt (Elt F) arg3.view (Rect.unit (s := S1x2048) ![0, 0] S1x2048.size inb_S1x2048_S1x2048_0_0).toLoadRect (harg3.unread x1)) = k0_pay5 (slice 4 x0) x1 by rw [(e0 4 (by omega) ![512, 0] rfl inb_S1024x2048_S128x2048_512_0), eg]) (ix2 r z)).trans (hBlk_row x0 x1 4 (by omega) 512 rfl r z _).symm)
      (fun r z => (congrFun (show k0_pay5 (View.readAt (Elt F) arg2.view (Rect.unit (s := S1024x2048) ![640, 0] S128x2048.size inb_S1024x2048_S128x2048_640_0).toLoadRect (harg2.unread x0)) (View.readAt (Elt F) arg3.view (Rect.unit (s := S1x2048) ![0, 0] S1x2048.size inb_S1x2048_S1x2048_0_0).toLoadRect (harg3.unread x1)) = k0_pay5 (slice 5 x0) x1 by rw [(e0 5 (by omega) ![640, 0] rfl inb_S1024x2048_S128x2048_640_0), eg]) (ix2 r z)).trans (hBlk_row x0 x1 5 (by omega) 640 rfl r z _).symm)
      (fun r z => (congrFun (show k0_pay5 (View.readAt (Elt F) arg2.view (Rect.unit (s := S1024x2048) ![768, 0] S128x2048.size inb_S1024x2048_S128x2048_768_0).toLoadRect (harg2.unread x0)) (View.readAt (Elt F) arg3.view (Rect.unit (s := S1x2048) ![0, 0] S1x2048.size inb_S1x2048_S1x2048_0_0).toLoadRect (harg3.unread x1)) = k0_pay5 (slice 6 x0) x1 by rw [(e0 6 (by omega) ![768, 0] rfl inb_S1024x2048_S128x2048_768_0), eg]) (ix2 r z)).trans (hBlk_row x0 x1 6 (by omega) 768 rfl r z _).symm)
      (fun r z => (congrFun (show k0_pay5 (View.readAt (Elt F) arg2.view (Rect.unit (s := S1024x2048) ![896, 0] S128x2048.size inb_S1024x2048_S128x2048_896_0).toLoadRect (harg2.unread x0)) (View.readAt (Elt F) arg3.view (Rect.unit (s := S1x2048) ![0, 0] S1x2048.size inb_S1x2048_S1x2048_0_0).toLoadRect (harg3.unread x1)) = k0_pay5 (slice 7 x0) x1 by rw [(e0 7 (by omega) ![896, 0] rfl inb_S1024x2048_S128x2048_896_0), eg]) (ix2 r z)).trans (hBlk_row x0 x1 7 (by omega) 896 rfl r z _).symm)
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact (View.read_writes_full arg6.view _ _ _ _).trans (congrArg₂ k0_pay2 ((View.readAt_full arg10.view _ _).trans (hH _)) (readAt_all harg4 x2 _ _))
  isplitl [H5]
  · iexists _; isplitr; swap; · iexact H5
    ipureintro
    exact read_eight (n := 256) arg7.view f5 (kvBlk x0 x1 x3) _ _ _ _ _ _ _ _
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![0, 0] S128x2048.size inb_S1024x2048_S128x2048_0_0).toLoadRect (harg2.unread x0)) (View.readAt (Elt F) arg3.view (Rect.unit (s := S1x2048) ![0, 0] S1x2048.size inb_S1x2048_S1x2048_0_0).toLoadRect (harg3.unread x1)) = k0_pay6 x3 (slice 0 x0) x1 by rw [(e0 0 (by omega) ![0, 0] rfl inb_S1024x2048_S128x2048_0_0), eg, ew]) (ix2 r z)).trans (kvBlk_row x0 x1 x3 0 (by omega) 0 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![128, 0] S128x2048.size inb_S1024x2048_S128x2048_128_0).toLoadRect (harg2.unread x0)) (View.readAt (Elt F) arg3.view (Rect.unit (s := S1x2048) ![0, 0] S1x2048.size inb_S1x2048_S1x2048_0_0).toLoadRect (harg3.unread x1)) = k0_pay6 x3 (slice 1 x0) x1 by rw [(e0 1 (by omega) ![128, 0] rfl inb_S1024x2048_S128x2048_128_0), eg, ew]) (ix2 r z)).trans (kvBlk_row x0 x1 x3 1 (by omega) 128 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![256, 0] S128x2048.size inb_S1024x2048_S128x2048_256_0).toLoadRect (harg2.unread x0)) (View.readAt (Elt F) arg3.view (Rect.unit (s := S1x2048) ![0, 0] S1x2048.size inb_S1x2048_S1x2048_0_0).toLoadRect (harg3.unread x1)) = k0_pay6 x3 (slice 2 x0) x1 by rw [(e0 2 (by omega) ![256, 0] rfl inb_S1024x2048_S128x2048_256_0), eg, ew]) (ix2 r z)).trans (kvBlk_row x0 x1 x3 2 (by omega) 256 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![384, 0] S128x2048.size inb_S1024x2048_S128x2048_384_0).toLoadRect (harg2.unread x0)) (View.readAt (Elt F) arg3.view (Rect.unit (s := S1x2048) ![0, 0] S1x2048.size inb_S1x2048_S1x2048_0_0).toLoadRect (harg3.unread x1)) = k0_pay6 x3 (slice 3 x0) x1 by rw [(e0 3 (by omega) ![384, 0] rfl inb_S1024x2048_S128x2048_384_0), eg, ew]) (ix2 r z)).trans (kvBlk_row x0 x1 x3 3 (by omega) 384 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![512, 0] S128x2048.size inb_S1024x2048_S128x2048_512_0).toLoadRect (harg2.unread x0)) (View.readAt (Elt F) arg3.view (Rect.unit (s := S1x2048) ![0, 0] S1x2048.size inb_S1x2048_S1x2048_0_0).toLoadRect (harg3.unread x1)) = k0_pay6 x3 (slice 4 x0) x1 by rw [(e0 4 (by omega) ![512, 0] rfl inb_S1024x2048_S128x2048_512_0), eg, ew]) (ix2 r z)).trans (kvBlk_row x0 x1 x3 4 (by omega) 512 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![640, 0] S128x2048.size inb_S1024x2048_S128x2048_640_0).toLoadRect (harg2.unread x0)) (View.readAt (Elt F) arg3.view (Rect.unit (s := S1x2048) ![0, 0] S1x2048.size inb_S1x2048_S1x2048_0_0).toLoadRect (harg3.unread x1)) = k0_pay6 x3 (slice 5 x0) x1 by rw [(e0 5 (by omega) ![640, 0] rfl inb_S1024x2048_S128x2048_640_0), eg, ew]) (ix2 r z)).trans (kvBlk_row x0 x1 x3 5 (by omega) 640 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![768, 0] S128x2048.size inb_S1024x2048_S128x2048_768_0).toLoadRect (harg2.unread x0)) (View.readAt (Elt F) arg3.view (Rect.unit (s := S1x2048) ![0, 0] S1x2048.size inb_S1x2048_S1x2048_0_0).toLoadRect (harg3.unread x1)) = k0_pay6 x3 (slice 6 x0) x1 by rw [(e0 6 (by omega) ![768, 0] rfl inb_S1024x2048_S128x2048_768_0), eg, ew]) (ix2 r z)).trans (kvBlk_row x0 x1 x3 6 (by omega) 768 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![896, 0] S128x2048.size inb_S1024x2048_S128x2048_896_0).toLoadRect (harg2.unread x0)) (View.readAt (Elt F) arg3.view (Rect.unit (s := S1x2048) ![0, 0] S1x2048.size inb_S1x2048_S1x2048_0_0).toLoadRect (harg3.unread x1)) = k0_pay6 x3 (slice 7 x0) x1 by rw [(e0 7 (by omega) ![896, 0] rfl inb_S1024x2048_S128x2048_896_0), eg, ew]) (ix2 r z)).trans (kvBlk_row x0 x1 x3 7 (by omega) 896 rfl r z _).symm)
  isplitl [H6]
  · iexists _; isplitr; swap; · iexact H6
    ipureintro
    exact (View.read_writes_full arg8.view _ _ _ _).trans (congrArg k0_pay1 (readAt_all harg4 x2 _ _))
  isplitl [H7]
  · iexists _; isplitr; swap; · iexact H7
    ipureintro
    exact (View.read_writes_full arg9.view _ _ _ _).trans (congrArg k0_pay3 ew)
  iexists _; isplitr; swap; · iexact HS0
  ipureintro
  exact hH _

set_option maxHeartbeats 2000000 in
/-- The body where the row tile is the first and the column tile is a later one. -/
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S2048x256 .f32) (harg5 : arg5.IsWhole) (arg6 : Memref sig .tc .vmem S1024x1024 .bf16) (harg6 : arg6.IsWhole) (arg7 : Memref sig .tc .vmem S1024x256 .f32) (harg7 : arg7.IsWhole) (arg8 : Memref sig .tc .vmem S2048x1024 .bf16) (harg8 : arg8.IsWhole) (arg9 : Memref sig .tc .vmem S2048x256 .bf16) (harg9 : arg9.IsWhole) (arg10 : Memref sig .tc .vmem S1024x2048 .bf16) (harg10 : arg10.IsWhole) (hc0 : k0_cond1 i = 1#1) (hc1 : ¬ k0_cond2 i = 1#1)
    (x0 : Vec F S1024x2048 .f32) (x1 : Vec F S1x2048 .f32) (x2 : Vec F S2048x1024 .f32) (x3 : Vec F S2048x256 .f32) (x4 : FVec F S1024x1024 .bf16) (x5 : FVec F S1024x256 .f32) (x6 : FVec F S2048x1024 .bf16) (x7 : FVec F S2048x256 .bf16) (h : FVec F S1024x2048 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare h
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 h x2) ∗ owns (c : Thread nD τ) arg7 fullShare x5 ∗ owns (c : Thread nD τ) arg8 fullShare (k0_pay1 x2) ∗ owns (c : Thread nD τ) arg9 fullShare x7 ∗ owns (c : Thread nD τ) arg10 fullShare h) -∗ K ⟨⟩))
        ⊢ wp frame (wpE (defs₀ (F := F)) Variants.none c none) E (cc0_inproj i arg2 harg2 arg3 harg3 arg4 harg4 arg5 harg5 arg6 harg6 arg7 harg7 arg8 harg8 arg9 harg9 arg10 harg10) K := by
  intro E K
  simp only [cc0_inproj_eq_skeleton]; unfold cc0_inproj_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs, HS0⟩, Hk⟩
  obtain rfl := harg2.eq_unread hf0; obtain rfl := harg3.eq_unread hf1; obtain rfl := harg4.eq_unread hf2; obtain rfl := harg5.eq_unread hf3
  obtain rfl := harg10.eq_unread hfs
  sl_exec (disch := first | sl_exact hc0 | sl_exact hc1)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact (View.read_writes_full arg6.view _ _ _ _).trans (congrArg₂ k0_pay2 (readAt_all harg10 h _ _) (readAt_all harg4 x2 _ _))
  isplitl [H5]
  · iexists _; isplitr; swap; · iexact H5
    ipureintro
    exact hf5
  isplitl [H6]
  · iexists _; isplitr; swap; · iexact H6
    ipureintro
    exact (View.read_writes_full arg8.view _ _ _ _).trans (congrArg k0_pay1 (readAt_all harg4 x2 _ _))
  isplitl [H7]
  · iexists _; isplitr; swap; · iexact H7
    ipureintro
    exact hf7
  iexists _; isplitr; swap; · iexact HS0
  ipureintro
  exact harg10.read_unread _

set_option maxHeartbeats 2000000 in
/-- The body where the row tile is a later one and the column tile is the first. -/
theorem run_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S2048x256 .f32) (harg5 : arg5.IsWhole) (arg6 : Memref sig .tc .vmem S1024x1024 .bf16) (harg6 : arg6.IsWhole) (arg7 : Memref sig .tc .vmem S1024x256 .f32) (harg7 : arg7.IsWhole) (arg8 : Memref sig .tc .vmem S2048x1024 .bf16) (harg8 : arg8.IsWhole) (arg9 : Memref sig .tc .vmem S2048x256 .bf16) (harg9 : arg9.IsWhole) (arg10 : Memref sig .tc .vmem S1024x2048 .bf16) (harg10 : arg10.IsWhole) (hc0 : ¬ k0_cond1 i = 1#1) (hc1 : k0_cond2 i = 1#1)
    (x0 : Vec F S1024x2048 .f32) (x1 : Vec F S1x2048 .f32) (x2 : Vec F S2048x1024 .f32) (x3 : Vec F S2048x256 .f32) (x4 : FVec F S1024x1024 .bf16) (x5 : FVec F S1024x256 .f32) (x6 : FVec F S2048x1024 .bf16) (x7 : FVec F S2048x256 .bf16) (h : FVec F S1024x2048 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare h
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 (hBlk x0 x1) x2) ∗ owns (c : Thread nD τ) arg7 fullShare (kvBlk x0 x1 x3) ∗ owns (c : Thread nD τ) arg8 fullShare x6 ∗ owns (c : Thread nD τ) arg9 fullShare (k0_pay3 x3) ∗ owns (c : Thread nD τ) arg10 fullShare (hBlk x0 x1)) -∗ K ⟨⟩))
        ⊢ wp frame (wpE (defs₀ (F := F)) Variants.none c none) E (cc0_inproj i arg2 harg2 arg3 harg3 arg4 harg4 arg5 harg5 arg6 harg6 arg7 harg7 arg8 harg8 arg9 harg9 arg10 harg10) K := by
  intro E K
  simp only [cc0_inproj_eq_skeleton]; unfold cc0_inproj_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs, HS0⟩, Hk⟩
  obtain rfl := harg2.eq_unread hf0; obtain rfl := harg3.eq_unread hf1; obtain rfl := harg4.eq_unread hf2; obtain rfl := harg5.eq_unread hf3
  obtain rfl := harg10.eq_unread hfs
  sl_exec (disch := first | sl_exact hc0 | sl_exact hc1)
  sl_step
  iapply Hk
  have e0 : ∀ q (hq : q < 8) (o : Fin 2 → ℕ) (ho : o = ![128 * q, 0]) (inb : ∀ a, o a + S128x2048.size a ≤ S1024x2048.size a), View.readAt (Elt F) arg2.view (Rect.unit (s := S1024x2048) o S128x2048.size inb).toLoadRect (harg2.unread x0) = slice q x0 := readAt_slice harg2 x0
  have eg : View.readAt (Elt F) arg3.view (Rect.unit (s := S1x2048) ![0, 0] S1x2048.size inb_S1x2048_S1x2048_0_0).toLoadRect (harg3.unread x1) = x1 := readAt_all harg3 x1 _ _
  have ew : View.readAt (Elt F) arg5.view (Rect.unit (s := S2048x256) ![0, 0] S2048x256.size inb_S2048x256_S2048x256_0_0).toLoadRect (harg5.unread x3) = x3 := readAt_all harg5 x3 _ _
  have hH : ∀ f, arg10.view.read (Elt F) (arg10.view.writes (Elt F) f (run_C.sl.HS0_8 c arg2 harg2 arg3 harg3 x0 x1)) = hBlk x0 x1 := fun f =>
    read_eight (n := 2048) arg10.view f (hBlk x0 x1) _ _ _ _ _ _ _ _
      (fun r z => (congrFun (show k0_pay5 (View.readAt (Elt F) arg2.view (Rect.unit (s := S1024x2048) ![0, 0] S128x2048.size inb_S1024x2048_S128x2048_0_0).toLoadRect (harg2.unread x0)) (View.readAt (Elt F) arg3.view (Rect.unit (s := S1x2048) ![0, 0] S1x2048.size inb_S1x2048_S1x2048_0_0).toLoadRect (harg3.unread x1)) = k0_pay5 (slice 0 x0) x1 by rw [(e0 0 (by omega) ![0, 0] rfl inb_S1024x2048_S128x2048_0_0), eg]) (ix2 r z)).trans (hBlk_row x0 x1 0 (by omega) 0 rfl r z _).symm)
      (fun r z => (congrFun (show k0_pay5 (View.readAt (Elt F) arg2.view (Rect.unit (s := S1024x2048) ![128, 0] S128x2048.size inb_S1024x2048_S128x2048_128_0).toLoadRect (harg2.unread x0)) (View.readAt (Elt F) arg3.view (Rect.unit (s := S1x2048) ![0, 0] S1x2048.size inb_S1x2048_S1x2048_0_0).toLoadRect (harg3.unread x1)) = k0_pay5 (slice 1 x0) x1 by rw [(e0 1 (by omega) ![128, 0] rfl inb_S1024x2048_S128x2048_128_0), eg]) (ix2 r z)).trans (hBlk_row x0 x1 1 (by omega) 128 rfl r z _).symm)
      (fun r z => (congrFun (show k0_pay5 (View.readAt (Elt F) arg2.view (Rect.unit (s := S1024x2048) ![256, 0] S128x2048.size inb_S1024x2048_S128x2048_256_0).toLoadRect (harg2.unread x0)) (View.readAt (Elt F) arg3.view (Rect.unit (s := S1x2048) ![0, 0] S1x2048.size inb_S1x2048_S1x2048_0_0).toLoadRect (harg3.unread x1)) = k0_pay5 (slice 2 x0) x1 by rw [(e0 2 (by omega) ![256, 0] rfl inb_S1024x2048_S128x2048_256_0), eg]) (ix2 r z)).trans (hBlk_row x0 x1 2 (by omega) 256 rfl r z _).symm)
      (fun r z => (congrFun (show k0_pay5 (View.readAt (Elt F) arg2.view (Rect.unit (s := S1024x2048) ![384, 0] S128x2048.size inb_S1024x2048_S128x2048_384_0).toLoadRect (harg2.unread x0)) (View.readAt (Elt F) arg3.view (Rect.unit (s := S1x2048) ![0, 0] S1x2048.size inb_S1x2048_S1x2048_0_0).toLoadRect (harg3.unread x1)) = k0_pay5 (slice 3 x0) x1 by rw [(e0 3 (by omega) ![384, 0] rfl inb_S1024x2048_S128x2048_384_0), eg]) (ix2 r z)).trans (hBlk_row x0 x1 3 (by omega) 384 rfl r z _).symm)
      (fun r z => (congrFun (show k0_pay5 (View.readAt (Elt F) arg2.view (Rect.unit (s := S1024x2048) ![512, 0] S128x2048.size inb_S1024x2048_S128x2048_512_0).toLoadRect (harg2.unread x0)) (View.readAt (Elt F) arg3.view (Rect.unit (s := S1x2048) ![0, 0] S1x2048.size inb_S1x2048_S1x2048_0_0).toLoadRect (harg3.unread x1)) = k0_pay5 (slice 4 x0) x1 by rw [(e0 4 (by omega) ![512, 0] rfl inb_S1024x2048_S128x2048_512_0), eg]) (ix2 r z)).trans (hBlk_row x0 x1 4 (by omega) 512 rfl r z _).symm)
      (fun r z => (congrFun (show k0_pay5 (View.readAt (Elt F) arg2.view (Rect.unit (s := S1024x2048) ![640, 0] S128x2048.size inb_S1024x2048_S128x2048_640_0).toLoadRect (harg2.unread x0)) (View.readAt (Elt F) arg3.view (Rect.unit (s := S1x2048) ![0, 0] S1x2048.size inb_S1x2048_S1x2048_0_0).toLoadRect (harg3.unread x1)) = k0_pay5 (slice 5 x0) x1 by rw [(e0 5 (by omega) ![640, 0] rfl inb_S1024x2048_S128x2048_640_0), eg]) (ix2 r z)).trans (hBlk_row x0 x1 5 (by omega) 640 rfl r z _).symm)
      (fun r z => (congrFun (show k0_pay5 (View.readAt (Elt F) arg2.view (Rect.unit (s := S1024x2048) ![768, 0] S128x2048.size inb_S1024x2048_S128x2048_768_0).toLoadRect (harg2.unread x0)) (View.readAt (Elt F) arg3.view (Rect.unit (s := S1x2048) ![0, 0] S1x2048.size inb_S1x2048_S1x2048_0_0).toLoadRect (harg3.unread x1)) = k0_pay5 (slice 6 x0) x1 by rw [(e0 6 (by omega) ![768, 0] rfl inb_S1024x2048_S128x2048_768_0), eg]) (ix2 r z)).trans (hBlk_row x0 x1 6 (by omega) 768 rfl r z _).symm)
      (fun r z => (congrFun (show k0_pay5 (View.readAt (Elt F) arg2.view (Rect.unit (s := S1024x2048) ![896, 0] S128x2048.size inb_S1024x2048_S128x2048_896_0).toLoadRect (harg2.unread x0)) (View.readAt (Elt F) arg3.view (Rect.unit (s := S1x2048) ![0, 0] S1x2048.size inb_S1x2048_S1x2048_0_0).toLoadRect (harg3.unread x1)) = k0_pay5 (slice 7 x0) x1 by rw [(e0 7 (by omega) ![896, 0] rfl inb_S1024x2048_S128x2048_896_0), eg]) (ix2 r z)).trans (hBlk_row x0 x1 7 (by omega) 896 rfl r z _).symm)
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact (View.read_writes_full arg6.view _ _ _ _).trans (congrArg₂ k0_pay2 ((View.readAt_full arg10.view _ _).trans (hH _)) (readAt_all harg4 x2 _ _))
  isplitl [H5]
  · iexists _; isplitr; swap; · iexact H5
    ipureintro
    exact read_eight (n := 256) arg7.view f5 (kvBlk x0 x1 x3) _ _ _ _ _ _ _ _
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![0, 0] S128x2048.size inb_S1024x2048_S128x2048_0_0).toLoadRect (harg2.unread x0)) (View.readAt (Elt F) arg3.view (Rect.unit (s := S1x2048) ![0, 0] S1x2048.size inb_S1x2048_S1x2048_0_0).toLoadRect (harg3.unread x1)) = k0_pay6 x3 (slice 0 x0) x1 by rw [(e0 0 (by omega) ![0, 0] rfl inb_S1024x2048_S128x2048_0_0), eg, ew]) (ix2 r z)).trans (kvBlk_row x0 x1 x3 0 (by omega) 0 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![128, 0] S128x2048.size inb_S1024x2048_S128x2048_128_0).toLoadRect (harg2.unread x0)) (View.readAt (Elt F) arg3.view (Rect.unit (s := S1x2048) ![0, 0] S1x2048.size inb_S1x2048_S1x2048_0_0).toLoadRect (harg3.unread x1)) = k0_pay6 x3 (slice 1 x0) x1 by rw [(e0 1 (by omega) ![128, 0] rfl inb_S1024x2048_S128x2048_128_0), eg, ew]) (ix2 r z)).trans (kvBlk_row x0 x1 x3 1 (by omega) 128 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![256, 0] S128x2048.size inb_S1024x2048_S128x2048_256_0).toLoadRect (harg2.unread x0)) (View.readAt (Elt F) arg3.view (Rect.unit (s := S1x2048) ![0, 0] S1x2048.size inb_S1x2048_S1x2048_0_0).toLoadRect (harg3.unread x1)) = k0_pay6 x3 (slice 2 x0) x1 by rw [(e0 2 (by omega) ![256, 0] rfl inb_S1024x2048_S128x2048_256_0), eg, ew]) (ix2 r z)).trans (kvBlk_row x0 x1 x3 2 (by omega) 256 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![384, 0] S128x2048.size inb_S1024x2048_S128x2048_384_0).toLoadRect (harg2.unread x0)) (View.readAt (Elt F) arg3.view (Rect.unit (s := S1x2048) ![0, 0] S1x2048.size inb_S1x2048_S1x2048_0_0).toLoadRect (harg3.unread x1)) = k0_pay6 x3 (slice 3 x0) x1 by rw [(e0 3 (by omega) ![384, 0] rfl inb_S1024x2048_S128x2048_384_0), eg, ew]) (ix2 r z)).trans (kvBlk_row x0 x1 x3 3 (by omega) 384 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![512, 0] S128x2048.size inb_S1024x2048_S128x2048_512_0).toLoadRect (harg2.unread x0)) (View.readAt (Elt F) arg3.view (Rect.unit (s := S1x2048) ![0, 0] S1x2048.size inb_S1x2048_S1x2048_0_0).toLoadRect (harg3.unread x1)) = k0_pay6 x3 (slice 4 x0) x1 by rw [(e0 4 (by omega) ![512, 0] rfl inb_S1024x2048_S128x2048_512_0), eg, ew]) (ix2 r z)).trans (kvBlk_row x0 x1 x3 4 (by omega) 512 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![640, 0] S128x2048.size inb_S1024x2048_S128x2048_640_0).toLoadRect (harg2.unread x0)) (View.readAt (Elt F) arg3.view (Rect.unit (s := S1x2048) ![0, 0] S1x2048.size inb_S1x2048_S1x2048_0_0).toLoadRect (harg3.unread x1)) = k0_pay6 x3 (slice 5 x0) x1 by rw [(e0 5 (by omega) ![640, 0] rfl inb_S1024x2048_S128x2048_640_0), eg, ew]) (ix2 r z)).trans (kvBlk_row x0 x1 x3 5 (by omega) 640 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![768, 0] S128x2048.size inb_S1024x2048_S128x2048_768_0).toLoadRect (harg2.unread x0)) (View.readAt (Elt F) arg3.view (Rect.unit (s := S1x2048) ![0, 0] S1x2048.size inb_S1x2048_S1x2048_0_0).toLoadRect (harg3.unread x1)) = k0_pay6 x3 (slice 6 x0) x1 by rw [(e0 6 (by omega) ![768, 0] rfl inb_S1024x2048_S128x2048_768_0), eg, ew]) (ix2 r z)).trans (kvBlk_row x0 x1 x3 6 (by omega) 768 rfl r z _).symm)
      (fun r z => (congrFun (show k0_pay6 (View.readAt (Elt F) arg5.view (Rect.unit (s := S2048x256) ![0, 0] S2048x256.size inb_S2048x256_S2048x256_0_0).toLoadRect (harg5.unread x3)) (View.readAt (Elt F) arg2.view (Rect.unit (s := S1024x2048) ![896, 0] S128x2048.size inb_S1024x2048_S128x2048_896_0).toLoadRect (harg2.unread x0)) (View.readAt (Elt F) arg3.view (Rect.unit (s := S1x2048) ![0, 0] S1x2048.size inb_S1x2048_S1x2048_0_0).toLoadRect (harg3.unread x1)) = k0_pay6 x3 (slice 7 x0) x1 by rw [(e0 7 (by omega) ![896, 0] rfl inb_S1024x2048_S128x2048_896_0), eg, ew]) (ix2 r z)).trans (kvBlk_row x0 x1 x3 7 (by omega) 896 rfl r z _).symm)
  isplitl [H6]
  · iexists _; isplitr; swap; · iexact H6
    ipureintro
    exact hf6
  isplitl [H7]
  · iexists _; isplitr; swap; · iexact H7
    ipureintro
    exact (View.read_writes_full arg9.view _ _ _ _).trans (congrArg k0_pay3 ew)
  iexists _; isplitr; swap; · iexact HS0
  ipureintro
  exact hH _

set_option maxHeartbeats 2000000 in
/-- The body where the row tile is a later one and the column tile is a later one. -/
theorem run_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S2048x256 .f32) (harg5 : arg5.IsWhole) (arg6 : Memref sig .tc .vmem S1024x1024 .bf16) (harg6 : arg6.IsWhole) (arg7 : Memref sig .tc .vmem S1024x256 .f32) (harg7 : arg7.IsWhole) (arg8 : Memref sig .tc .vmem S2048x1024 .bf16) (harg8 : arg8.IsWhole) (arg9 : Memref sig .tc .vmem S2048x256 .bf16) (harg9 : arg9.IsWhole) (arg10 : Memref sig .tc .vmem S1024x2048 .bf16) (harg10 : arg10.IsWhole) (hc0 : ¬ k0_cond1 i = 1#1) (hc1 : ¬ k0_cond2 i = 1#1)
    (x0 : Vec F S1024x2048 .f32) (x1 : Vec F S1x2048 .f32) (x2 : Vec F S2048x1024 .f32) (x3 : Vec F S2048x256 .f32) (x4 : FVec F S1024x1024 .bf16) (x5 : FVec F S1024x256 .f32) (x6 : FVec F S2048x1024 .bf16) (x7 : FVec F S2048x256 .bf16) (h : FVec F S1024x2048 .bf16) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare h
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 h x2) ∗ owns (c : Thread nD τ) arg7 fullShare x5 ∗ owns (c : Thread nD τ) arg8 fullShare x6 ∗ owns (c : Thread nD τ) arg9 fullShare x7 ∗ owns (c : Thread nD τ) arg10 fullShare h) -∗ K ⟨⟩))
        ⊢ wp frame (wpE (defs₀ (F := F)) Variants.none c none) E (cc0_inproj i arg2 harg2 arg3 harg3 arg4 harg4 arg5 harg5 arg6 harg6 arg7 harg7 arg8 harg8 arg9 harg9 arg10 harg10) K := by
  intro E K
  simp only [cc0_inproj_eq_skeleton]; unfold cc0_inproj_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs, HS0⟩, Hk⟩
  obtain rfl := harg2.eq_unread hf0; obtain rfl := harg3.eq_unread hf1; obtain rfl := harg4.eq_unread hf2; obtain rfl := harg5.eq_unread hf3
  obtain rfl := harg10.eq_unread hfs
  sl_exec (disch := first | sl_exact hc0 | sl_exact hc1)
  sl_step
  iapply Hk
  isplitl [H0]
  · iexists _; isplitr; swap; · iexact H0
    ipureintro
    exact harg2.read_unread _
  isplitl [H1]
  · iexists _; isplitr; swap; · iexact H1
    ipureintro
    exact harg3.read_unread _
  isplitl [H2]
  · iexists _; isplitr; swap; · iexact H2
    ipureintro
    exact harg4.read_unread _
  isplitl [H3]
  · iexists _; isplitr; swap; · iexact H3
    ipureintro
    exact harg5.read_unread _
  isplitl [H4]
  · iexists _; isplitr; swap; · iexact H4
    ipureintro
    exact (View.read_writes_full arg6.view _ _ _ _).trans (congrArg₂ k0_pay2 (readAt_all harg10 h _ _) (readAt_all harg4 x2 _ _))
  isplitl [H5]
  · iexists _; isplitr; swap; · iexact H5
    ipureintro
    exact hf5
  isplitl [H6]
  · iexists _; isplitr; swap; · iexact H6
    ipureintro
    exact hf6
  isplitl [H7]
  · iexists _; isplitr; swap; · iexact H7
    ipureintro
    exact hf7
  iexists _; isplitr; swap; · iexact HS0
  ipureintro
  exact harg10.read_unread _

end Cert.Kernel2Ideal.Hand
-- ==== Proof.InFrame.lean ====
/-
  The in-projection's launch: what each buffer holds after each grid point, the body's obligation from its four cases, and
  the run, which ends with the arguments as they were, every counter at zero and each array at its flushed blocks.
-/
module

public import proofs.«01_k».proof.Proof.InBody
public import Idealize.ShloMosaic.Lib.Pipeline.TableIdle
public import Idealize.ShloMosaic.Lib.Pipeline.FrameBody
public import Idealize.ShloMosaic.Lib.WritesUnit
public import Idealize.ShloMosaic.Lib.VecWindow
public import Idealize.ShloMosaic.Lib.WholeRead
public import Idealize.ShloMosaic.Lib.WordCmp
public import Idealize.ShloMosaic.Lib.Pointwise.Index

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's. -/
local notation "𝕄" => MT nD τ sig Unit (Elt F) ℕ (UR sig nD τ) ℕ

variable (m : (ℓ : Loc nD τ sig) → Buf (Elt F) ℓ) (ρ : Dev nD → PrngReg)

/-! ## The two conditions at a point -/

theorem cond1_iff (t : Fin grid0.N) : k0_cond1 (grid0.coords t) = 1#1 ↔ t.val < 8 := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  simp only [k0_cond1, e0, e1]
  word_cmp
theorem cond2_iff (t : Fin grid0.N) : k0_cond2 (grid0.coords t) = 1#1 ↔ t.val % 8 = 0 := by
  have ht : t.val < 16 := Nat.lt_of_lt_of_eq t.isLt N_0
  have e0 : (grid0.coords t 0).val = t.val / 8 % 2 := Pipeline.Grid.coords_val t 0 (by decide) rfl
  have e1 : (grid0.coords t 1).val = t.val / 1 % 8 := Pipeline.Grid.coords_val t 1 (by decide) rfl
  simp only [k0_cond2, e0, e1]
  word_cmp

/-! ## What the buffers hold -/

/-- The first point of point `n`'s row tile. -/
def tp (n : ℕ) : Fin cfg0.N := ⟨8 * (n / 8) % 16, lt_of_lt_of_eq (Nat.mod_lt _ (by decide)) N_0.symm⟩
/-- The last point up to `n` that casts a block of the weight. -/
def cp (n : ℕ) : Fin cfg0.N := ⟨min n 7, lt_of_lt_of_eq (by omega) N_0.symm⟩

/-- The normalized row tile at point `n`. -/
def hAt (c : Dev nD) (n : ℕ) : FVec F S1024x2048 .bf16 := hBlk (iblk m c 0 (tp n)) (iblk m c 1 (tp n))

/-- What holds between points: the generator register, and the scratch at the row tile's normalized rows inside a tile. -/
def Inv (c : Dev nD) (n : ℕ) : sProp 𝕄 :=
  iprop((∃ r, prngReg (c : Dev nD) r) ∗ (∃ d, ⌜n % 8 ≠ 0 → d = hAt m c n⌝ ∗ owns (c : Thread nD τ) (Memref.whole cc0_scratch0) fullShare d))

/-- The proof data: the inputs' buffers keep their blocks; the outputs' hold what the last point that wrote them left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (hAt m c t.val) (iblk m c 2 t)
    | ⟨5, _⟩ => kvBlk (iblk m c 0 (tp t.val)) (iblk m c 1 (tp t.val)) (iblk m c 3 (tp t.val))
    | ⟨6, _⟩ => k0_pay1 (iblk m c 2 (cp t.val))
    | ⟨7, _⟩ => k0_pay3 (iblk m c 3 (tp t.val))
  Φ p := Inv m c p.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay2 (hAt m c t.val) (iblk m c 2 t) := by dsimp only [dats]
theorem after_5 (c : Dev nD) (t : Fin cfg0.N) : (dats m 0 c).after 5 t = kvBlk (iblk m c 0 (tp t.val)) (iblk m c 1 (tp t.val)) (iblk m c 3 (tp t.val)) := by dsimp only [dats]
theorem after_6 (c : Dev nD) (t : Fin cfg0.N) : (dats m 0 c).after 6 t = k0_pay1 (iblk m c 2 (cp t.val)) := by dsimp only [dats]
theorem after_7 (c : Dev nD) (t : Fin cfg0.N) : (dats m 0 c).after 7 t = k0_pay3 (iblk m c 3 (tp t.val)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem tp_pred (n : ℕ) (h : n % 8 ≠ 0) : tp (n - 1) = tp n := by
  apply Fin.ext; show 8 * ((n - 1) / 8) % 16 = 8 * (n / 8) % 16
  have : (n - 1) / 8 = n / 8 := by omega
  rw [this]
theorem cp_pred (n : ℕ) (h : ¬ n < 8) : cp (n - 1) = cp n := by
  apply Fin.ext; show min (n - 1) 7 = min n 7
  omega

theorem idle_5 (t : Fin cfg0.N) : cfg0.idle 5 (cfg0.grid.coords t) = true ↔ t.val % 8 ≠ 0 := by
  show (!(k0_cond2 (grid0.coords t) == 1#1)) = true ↔ _
  rw [Bool.not_eq_true', beq_eq_false_iff_ne, Ne, cond2_iff]
theorem idle_6 (t : Fin cfg0.N) : cfg0.idle 6 (cfg0.grid.coords t) = true ↔ ¬ t.val < 8 := by
  show (!(k0_cond1 (grid0.coords t) == 1#1)) = true ↔ _
  rw [Bool.not_eq_true', beq_eq_false_iff_ne, Ne, cond1_iff]
theorem idle_7 (t : Fin cfg0.N) : cfg0.idle 7 (cfg0.grid.coords t) = true ↔ t.val % 8 ≠ 0 := idle_5 t

theorem fresh_5 : ∀ t : Fin cfg0.N, t.val % 8 ≠ 0 → cfg0.fresh 5 t.val = false :=
  (by decide +kernel : ∀ t : Fin 16, t.val % 8 ≠ 0 → cfg0.fresh 5 t.val = false)
theorem fresh_6 : ∀ t : Fin cfg0.N, ¬ t.val < 8 → cfg0.fresh 6 t.val = false :=
  (by decide +kernel : ∀ t : Fin 16, ¬ t.val < 8 → cfg0.fresh 6 t.val = false)
theorem fresh_7 : ∀ t : Fin cfg0.N, t.val % 8 ≠ 0 → cfg0.fresh 7 t.val = false :=
  (by decide +kernel : ∀ t : Fin 16, t.val % 8 ≠ 0 → cfg0.fresh 7 t.val = false)

theorem carry_5 (c : Dev nD) (t : Fin cfg0.N) (h : t.val % 8 ≠ 0) : (dats m 0 c).after 5 t = (dats m 0 c).after 5 ⟨t.val - 1, by omega⟩ := by
  rw [after_5, after_5]
  dsimp only
  rw [tp_pred _ h]
/-- A point that leaves window 5 alone finds in its buffer what it leaves there. -/
theorem before_5 (c : Dev nD) (t : Fin cfg0.N) (h : t.val % 8 ≠ 0) (d) : (dats m 0 c).before 5 t d = (dats m 0 c).after 5 t := by
  rw [(dats m 0 c).before_out_traj 5 rfl (fun _ _ => rfl) (fun t _ hi _ => carry_5 m c t ((idle_5 t).1 hi)) t.val t rfl d,
    if_neg (by rw [fresh_5 t h]; exact Bool.false_ne_true)]
  exact (carry_5 m c t h).symm
theorem carry_6 (c : Dev nD) (t : Fin cfg0.N) (h : ¬ t.val < 8) : (dats m 0 c).after 6 t = (dats m 0 c).after 6 ⟨t.val - 1, by omega⟩ := by
  rw [after_6, after_6]
  dsimp only
  rw [cp_pred _ h]
/-- A point that leaves window 6 alone finds in its buffer what it leaves there. -/
theorem before_6 (c : Dev nD) (t : Fin cfg0.N) (h : ¬ t.val < 8) (d) : (dats m 0 c).before 6 t d = (dats m 0 c).after 6 t := by
  rw [(dats m 0 c).before_out_traj 6 rfl (fun _ _ => rfl) (fun t _ hi _ => carry_6 m c t ((idle_6 t).1 hi)) t.val t rfl d,
    if_neg (by rw [fresh_6 t h]; exact Bool.false_ne_true)]
  exact (carry_6 m c t h).symm
theorem carry_7 (c : Dev nD) (t : Fin cfg0.N) (h : t.val % 8 ≠ 0) : (dats m 0 c).after 7 t = (dats m 0 c).after 7 ⟨t.val - 1, by omega⟩ := by
  rw [after_7, after_7]
  dsimp only
  rw [tp_pred _ h]
/-- A point that leaves window 7 alone finds in its buffer what it leaves there. -/
theorem before_7 (c : Dev nD) (t : Fin cfg0.N) (h : t.val % 8 ≠ 0) (d) : (dats m 0 c).before 7 t d = (dats m 0 c).after 7 t := by
  rw [(dats m 0 c).before_out_traj 7 rfl (fun _ _ => rfl) (fun t _ hi _ => carry_7 m c t ((idle_7 t).1 hi)) t.val t rfl d,
    if_neg (by rw [fresh_7 t h]; exact Bool.false_ne_true)]
  exact (carry_7 m c t h).symm

/-! ## The body at a point -/

abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1024 .f32 := win0_2.stage (cfg0.slots t 2)
abbrev ms3 (t : Fin cfg0.N) : Memref sig .tc .vmem S2048x256 .f32 := win0_3.stage (cfg0.slots t 3)
abbrev ms4 (t : Fin cfg0.N) : Memref sig .tc .vmem S1024x1024 .bf16 := win0_4.stage (cfg0.slots t 4)
abbrev ms5 (t : Fin cfg0.N) : Memref sig .tc .vmem S1024x256 .f32 := win0_5.stage (cfg0.slots t 5)
abbrev ms6 (t : Fin cfg0.N) : Memref sig .tc .vmem S2048x1024 .bf16 := win0_6.stage (cfg0.slots t 6)
abbrev ms7 (t : Fin cfg0.N) : Memref sig .tc .vmem S2048x256 .bf16 := win0_7.stage (cfg0.slots t 7)

/-- What the body finds at point `t`, and what it leaves. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

theorem tp_self (t : Fin cfg0.N) (h : t.val % 8 = 0) : tp t.val = t := by
  have hN : t.val < 16 := lt_of_lt_of_eq t.isLt N_0
  apply Fin.ext; show 8 * (t.val / 8) % 16 = t.val
  omega
theorem cp_self (t : Fin cfg0.N) (h : t.val < 8) : cp t.val = t := by
  apply Fin.ext; show min t.val 7 = t.val
  omega
theorem hAt_succ (c : Dev nD) (n : ℕ) (h : (n + 1) % 8 ≠ 0) : hAt m c n = hAt m c (n + 1) := by
  unfold hAt
  have : tp n = tp (n + 1) := tp_pred (n + 1) h
  rw [this]

set_option maxHeartbeats 1600000 in
/-- The body at any point, by the case its two conditions put it in. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold Inv
  iintro ⟨⟨Hg, ⟨%hs, %hh, HS⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val < 8
  · by_cases h1 : t.val % 8 = 0
    · iapply (run_A c (grid0.coords t) _ _ _ _ _ _ _ _ _ _ _ _ _ _ _ _ _ _ ((cond1_iff t).2 h0) ((cond2_iff t).2 h1) (iblk m c 0 t) (iblk m c 1 t) (iblk m c 2 t) (iblk m c 3 t) ((dats m 0 c).before 4 t d4) ((dats m 0 c).before 5 t d5) ((dats m 0 c).before 6 t d6) ((dats m 0 c).before 7 t d7) hs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [Hg]; · iexact Hg
        iexists _; isplitr; swap; · iexact HS
        ipureintro; intro hn; rw [← hAt_succ m c t.val hn]; unfold hAt; rw [tp_self t h1]
      isplitl [Ho]; · iexact Ho
      isplitl [H0]; · rw [after_0]; iexact H0
      isplitl [H1]; · rw [after_1]; iexact H1
      isplitl [H2]; · rw [after_2]; iexact H2
      isplitl [H3]; · rw [after_3]; iexact H3
      isplitl [H4]; · rw [after_4]; unfold hAt; rw [tp_self t h1]; iexact H4
      isplitl [H5]; · rw [after_5, tp_self t h1]; iexact H5
      isplitl [H6]; · rw [after_6, cp_self t h0]; iexact H6
      rw [after_7, tp_self t h1]; iexact H7
    · iapply (run_B c (grid0.coords t) _ _ _ _ _ _ _ _ _ _ _ _ _ _ _ _ _ _ ((cond1_iff t).2 h0) (fun h => h1 ((cond2_iff t).1 h)) (iblk m c 0 t) (iblk m c 1 t) (iblk m c 2 t) (iblk m c 3 t) ((dats m 0 c).before 4 t d4) ((dats m 0 c).before 5 t d5) ((dats m 0 c).before 6 t d6) ((dats m 0 c).before 7 t d7) hs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [Hg]; · iexact Hg
        iexists _; isplitr; swap; · iexact HS
        ipureintro; intro hn; rw [← hAt_succ m c t.val hn]; exact hh h1
      isplitl [Ho]; · iexact Ho
      isplitl [H0]; · rw [after_0]; iexact H0
      isplitl [H1]; · rw [after_1]; iexact H1
      isplitl [H2]; · rw [after_2]; iexact H2
      isplitl [H3]; · rw [after_3]; iexact H3
      isplitl [H4]; · rw [after_4, ← hh h1]; iexact H4
      isplitl [H5]; · rw [← before_5 m c t h1 d5]; iexact H5
      isplitl [H6]; · rw [after_6, cp_self t h0]; iexact H6
      rw [← before_7 m c t h1 d7]; iexact H7
  · by_cases h1 : t.val % 8 = 0
    · iapply (run_C c (grid0.coords t) _ _ _ _ _ _ _ _ _ _ _ _ _ _ _ _ _ _ (fun h => h0 ((cond1_iff t).1 h)) ((cond2_iff t).2 h1) (iblk m c 0 t) (iblk m c 1 t) (iblk m c 2 t) (iblk m c 3 t) ((dats m 0 c).before 4 t d4) ((dats m 0 c).before 5 t d5) ((dats m 0 c).before 6 t d6) ((dats m 0 c).before 7 t d7) hs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [Hg]; · iexact Hg
        iexists _; isplitr; swap; · iexact HS
        ipureintro; intro hn; rw [← hAt_succ m c t.val hn]; unfold hAt; rw [tp_self t h1]
      isplitl [Ho]; · iexact Ho
      isplitl [H0]; · rw [after_0]; iexact H0
      isplitl [H1]; · rw [after_1]; iexact H1
      isplitl [H2]; · rw [after_2]; iexact H2
      isplitl [H3]; · rw [after_3]; iexact H3
      isplitl [H4]; · rw [after_4]; unfold hAt; rw [tp_self t h1]; iexact H4
      isplitl [H5]; · rw [after_5, tp_self t h1]; iexact H5
      isplitl [H6]; · rw [← before_6 m c t h0 d6]; iexact H6
      rw [after_7, tp_self t h1]; iexact H7
    · iapply (run_D c (grid0.coords t) _ _ _ _ _ _ _ _ _ _ _ _ _ _ _ _ _ _ (fun h => h0 ((cond1_iff t).1 h)) (fun h => h1 ((cond2_iff t).1 h)) (iblk m c 0 t) (iblk m c 1 t) (iblk m c 2 t) (iblk m c 3 t) ((dats m 0 c).before 4 t d4) ((dats m 0 c).before 5 t d5) ((dats m 0 c).before 6 t d6) ((dats m 0 c).before 7 t d7) hs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS Hg]
      · isplitl [Hg]; · iexact Hg
        iexists _; isplitr; swap; · iexact HS
        ipureintro; intro hn; rw [← hAt_succ m c t.val hn]; exact hh h1
      isplitl [Ho]; · iexact Ho
      isplitl [H0]; · rw [after_0]; iexact H0
      isplitl [H1]; · rw [after_1]; iexact H1
      isplitl [H2]; · rw [after_2]; iexact H2
      isplitl [H3]; · rw [after_3]; iexact H3
      isplitl [H4]; · rw [after_4, ← hh h1]; iexact H4
      isplitl [H5]; · rw [← before_5 m c t h1 d5]; iexact H5
      isplitl [H6]; · rw [← before_6 m c t h0 d6]; iexact H6
      rw [← before_7 m c t h1 d7]; iexact H7

theorem defs₀_row (t : Fin cfg0.N) :
    defs₀ (F := F) .tc cfg0.body (cfg0.bodyArgs t (cfg0.slots t)) = bodyAt0 t := by
  unfold defs₀; rw [Defs.onTc_tc]

/-- A buffer at what its window's point leaves serves whether the point is idle for the window or not. -/
theorem leaves_of (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  cases hi : cfg0.idle w (cfg0.grid.coords t) with
  | false => exact .rfl
  | true =>
    cases hf : (cfg0.win w).flush t with
    | true => exact .rfl
    | false =>
      dsimp only
      iintro H
      iexists ((dats m 0 c).after w t)
      rw [h hi]
      iexact H

theorem post_out (c : Dev nD) (t : Fin cfg0.N) : bodyPost m c t ⊢
    iprop((dats m 0 c).Φ t.succ ∗ (dats m 0 c).owesAt () t.succ
      ∗ (dats m 0 c).leavesExact 0 t
      ∗ (dats m 0 c).leavesExact 1 t
      ∗ (dats m 0 c).leavesExact 2 t
      ∗ (dats m 0 c).leavesExact 3 t
      ∗ (dats m 0 c).leavesExact 4 t
      ∗ (dats m 0 c).leavesExact 5 t
      ∗ (dats m 0 c).leavesExact 6 t
      ∗ (dats m 0 c).leavesExact 7 t) := by
  unfold bodyPost
  iintro ⟨HP, HO, H0, H1, H2, H3, H4, H5, H6, H7⟩
  isplitl [HP]; · iexact HP
  isplitl [HO]; · iexact HO
  isplitl [H0]; · iapply (leaves_of m c 0 t (fun h => absurd (show false = true from h) Bool.false_ne_true)); iexact H0
  isplitl [H1]; · iapply (leaves_of m c 1 t (fun h => absurd (show false = true from h) Bool.false_ne_true)); iexact H1
  isplitl [H2]; · iapply (leaves_of m c 2 t (fun h => absurd (show false = true from h) Bool.false_ne_true)); iexact H2
  isplitl [H3]; · iapply (leaves_of m c 3 t (fun h => absurd (show false = true from h) Bool.false_ne_true)); iexact H3
  isplitl [H4]; · iapply (leaves_of m c 4 t (fun h => absurd (show false = true from h) Bool.false_ne_true)); iexact H4
  isplitl [H5]; · iapply (leaves_of m c 5 t (fun h => before_5 m c t ((idle_5 t).1 h))); iexact H5
  isplitl [H6]; · iapply (leaves_of m c 6 t (fun h => before_6 m c t ((idle_6 t).1 h))); iexact H6
  iapply (leaves_of m c 7 t (fun h => before_7 m c t ((idle_7 t).1 h))); iexact H7

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => post_out m c t

/-! ## The run -/

theorem enter (c : Dev nD) : Pipeline.ΦA spec0 c ⊢ (dats (F := F) m 0 c).Φ 0 := by
  rw [show (dats m 0 c).Φ 0 = Inv m c 0 from rfl]
  unfold Pipeline.ΦA Inv; rw [scopedRest0_eq]; simp only [owns_whole]
  iintro ⟨⟨%d, HS⟩, Hg⟩
  isplitl [Hg]; · iexact Hg
  iexists d; isplitr; · ipureintro; exact fun h => absurd rfl h
  iexact HS

theorem leave (c : Dev nD) : (dats (F := F) m 0 c).Φ (Fin.last cfg0.N) ⊢ Pipeline.ΦA spec0 c := by
  rw [show (dats m 0 c).Φ (Fin.last cfg0.N) = Inv m c cfg0.N from rfl]
  unfold Pipeline.ΦA Inv; rw [scopedRest0_eq]; simp only [owns_whole]
  iintro ⟨Hg, ⟨%d, -, HS⟩⟩
  isplitl [HS]; · iexists d; iexact HS
  iexact Hg

set_option backward.isDefEq.respectTransparency.types false in
/-- The run: every array at its flushed blocks, every other buffer as the region found it, every counter at zero. -/
theorem run_post : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- The arguments end as they were and every counter at zero. -/
theorem frame2 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_post m ρ)

end Cert.Kernel2Ideal.Hand
-- ==== Proof.InRef.lean ====
/-
  What the in-projection's reference computes over the extended reals, entry by entry.
-/
module

public import proofs.«01_k».proof.Proof.InFrame
public import proofs.«01_k».proof.Proof.Gen.Ref2Ideal.Run
public import Idealize.ShloMosaic.Lib.Pointwise
public import Idealize.ShloMosaic.Lib.ValueLayout

@[expose] public section

noncomputable section

namespace Cert.InValue

open Idealize.ShloMosaic

/-- A row divided by the root of its mean square (plus a small constant) and scaled, at one entry. -/
def nrm (X G : Fin 2048 → EReal) (d : Fin 2048) : EReal :=
  X d * Ideal.rsqrt (Ideal.div (∑ k, X k * X k) (Ideal.ofBits FTy.f32 1157627904#32) + Ideal.ofBits FTy.f32 897988541#32) * G d

section
open Cert.Ref2Ideal Cert.Ref2Ideal.Gen

/-- The reference's normalized rows. -/
def refH (x : FVec Ideal S32x64x2048 .f32) (g : FVec Ideal S1x2048 .f32) : FVec Ideal S32x64x2048 .f32 :=
  mulf (mulf x (broadcastInDim S32x64x2048 ![0, 1, 2] bcast_S32x64x1_S32x64x2048_0_1_2 (Host.rsqrt (addf (Host.divf (broadcastInDim S32x64x1 ![0, 1] bcast_S32x64_S32x64x1_0_1 (Host.reduceAdd (mulf x x) (constant S_ .f32 0x00000000#32) reducesTo_S32x64x2048_S32x64_d2 h_S_)) (broadcastInDim S32x64x1 ![] bcast_S_S32x64x1 (constant S_ .f32 0x45000000#32))) (broadcastInDim S32x64x1 ![] bcast_S_S32x64x1 (constant S_ .f32 0x358637BD#32)))))) (broadcastInDim S32x64x2048 ![0, 1, 2] bcast_S1x1x2048_S32x64x2048_0_1_2 (broadcastInDim S1x1x2048 ![2] bcast_S2048_S1x1x2048_2 (shapeCast _ g shapeCasts_S1x2048_S2048)))

/-- The reference's products of the rows with the whole weight. -/
def refP (h : FVec Ideal S32x64x2048 .f32) (w : FVec Ideal S1x2048x8448 .f32) : FVec Ideal S2048x8448 .f32 :=
  shapeCast _ (Host.dotGeneral dot_S32x64x2048_S2048x8448_S32x64x8448_2_0_01_1_n_n none h (shapeCast _ w shapeCasts_S1x2048x8448_S2048x8448)) shapeCasts_S32x64x8448_S2048x8448

theorem refH_apply (x : FVec Ideal S32x64x2048 .f32) (g : FVec Ideal S1x2048 .f32) (a : Fin 32) (b : Fin 64) (d : Fin 2048) :
    refH x g (ix3 a b d) = nrm (fun k => x (ix3 a b k)) (fun k => g (ix2 0 k)) d := by
  pointwise [refH, nrm]
theorem refP_apply (h : FVec Ideal S32x64x2048 .f32) (w : FVec Ideal S1x2048x8448 .f32) (r : Fin 2048) (k : Fin 8448) :
    refP h w (ix2 r k) = ∑ d : Fin 2048, h (ix3 ⟨r.val / 64, by omega⟩ ⟨r.val % 64, by omega⟩ d) * w (ix3 0 d k) := by
  pointwise [refP]
end

section
open Cert.Kernel2Ideal Cert.Kernel2Ideal.Gen Cert.Kernel2Ideal.Hand
theorem pay5_apply (v : FVec Ideal S128x2048 .f32) (g : FVec Ideal S1x2048 .f32) (r : Fin 128) (d : Fin 2048) :
    k0_pay5 (F := Ideal) v g (ix2 r d) = nrm (fun k => v (ix2 r k)) (fun k => g (ix2 0 k)) d := by
  pointwise [k0_pay5, k0_pay4, nrm]
theorem pay6_apply (w : FVec Ideal S2048x256 .f32) (v : FVec Ideal S128x2048 .f32) (g : FVec Ideal S1x2048 .f32) (r : Fin 128) (z : Fin 256) :
    k0_pay6 (F := Ideal) w v g (ix2 r z) = ∑ d : Fin 2048, k0_pay5 (F := Ideal) v g (ix2 r d) * w (ix2 d z) := by
  pointwise [k0_pay6, k0_pay5, k0_pay4, k0_pay3]
theorem pay2_apply (h : FVec Ideal S1024x2048 .bf16) (w : FVec Ideal S2048x1024 .f32) (r : Fin 1024) (z : Fin 1024) :
    k0_pay2 (F := Ideal) h w (ix2 r z) = ∑ d : Fin 2048, h (ix2 r d) * w (ix2 d z) := by
  pointwise [k0_pay2]

theorem pay1_apply (w : FVec Ideal S2048x1024 .f32) (r : Fin 2048) (z : Fin 1024) : k0_pay1 (F := Ideal) w (ix2 r z) = w (ix2 r z) := by
  pointwise [k0_pay1]
theorem pay3_apply (w : FVec Ideal S2048x256 .f32) (r : Fin 2048) (z : Fin 256) : k0_pay3 (F := Ideal) w (ix2 r z) = w (ix2 r z) := by
  pointwise [k0_pay3]

variable (m : (ℓ : Loc nD τ sig) → Buf (Elt Ideal) ℓ)

theorem V_v0 (c : Dev nD) : V m c main_v0 = shapeCast S2048x2048 (m ((c.tc : Thread nD τ).loc main_arg0) : FVec Ideal S32x64x2048 .f32) shapeCasts_S32x64x2048_S2048x2048 := by
  unfold V
  after_results_simp <;> rfl
theorem V_v2 (c : Dev nD) : V m c main_v2 = broadcastInDim S1x2048 ![1] bcast_S2048_S1x2048_1 (shapeCast S2048 (m ((c.tc : Thread nD τ).loc main_arg1) : FVec Ideal S1x2048 .f32) shapeCasts_S1x2048_S2048) := by
  unfold V
  after_results_simp <;> rfl
theorem V_v3 (c : Dev nD) : V m c main_v3 = shapeCast S2048x8448 (m ((c.tc : Thread nD τ).loc main_arg2) : FVec Ideal S1x2048x8448 .f32) shapeCasts_S1x2048x8448_S2048x8448 := by
  unfold V
  after_results_simp <;> rfl
end

end Cert.InValue
-- ==== Proof.InValue.lean ====
/-
  The four arrays the in-projection leaves over the extended reals are the reference's results: the normalized rows' products
  with the weight's columns, but for the 256 kept at full width, those 256, and the weight itself in the same two parts.
-/
module

public import proofs.«01_k».proof.Proof.InRef
public import Idealize.ShloMosaic.Lib.Pipeline.ValueKit.Geometry

@[expose] public section

set_option maxRecDepth 16384

noncomputable section

namespace Cert.InValue

open Cert.Kernel2Ideal Cert.Kernel2Ideal.Gen Cert.Kernel2Ideal.Hand
open Idealize.ShloMosaic Idealize.ShloMosaic.TcCoe
open Idealize.ShloMosaic.Pipeline (Dat Cfg Window)

/-- The weight's column that the output's column `k` is: the 256 columns from 4096 are left out. -/
def col (k : Fin 8192) : Fin 8448 := if h : k.val < 4096 then ⟨k.val, by omega⟩ else ⟨k.val + 256, by omega⟩
/-- The weight's column that column `k` of the 256 is. -/
def kvc (k : Fin 256) : Fin 8448 := ⟨4096 + k.val, by omega⟩

/-! ## The windows' blocks -/

theorem tr_0 : ∀ t : Fin grid0.N, cc0_transform_0 (grid0.coords t) 0 = t.val / 8 := by decide +kernel
theorem tr_2 : ∀ t : Fin grid0.N, cc0_transform_2 (grid0.coords t) 1 = if t.val % 8 < 4 then 1024 * (t.val % 8) else 1024 * (t.val % 8) + 256 := by decide +kernel
theorem tr_4r : ∀ t : Fin grid0.N, cc0_transform_4 (grid0.coords t) 0 = t.val / 8 := by decide +kernel
theorem tr_4c : ∀ t : Fin grid0.N, cc0_transform_4 (grid0.coords t) 1 = t.val % 8 := by decide +kernel
theorem tr_5 : ∀ t : Fin grid0.N, cc0_transform_5 (grid0.coords t) 0 = t.val / 8 := by decide +kernel
theorem tr_6 : ∀ t : Fin grid0.N, cc0_transform_6 (grid0.coords t) 1 = min t.val 7 := by decide +kernel

theorem lt16 (t : Fin cfg0.N) : t.val < 16 := lt_of_lt_of_eq t.isLt N_0

variable (m : (ℓ : Loc nD τ sig) → Buf (Elt Ideal) ℓ)

/-- The three arrays the region reads, as it finds them. -/
abbrev xs (c : Dev nD) : FVec Ideal S2048x2048 .f32 := V m c main_v0
abbrev gs (c : Dev nD) : FVec Ideal S1x2048 .f32 := V m c main_v2
abbrev ws (c : Dev nD) : FVec Ideal S2048x8448 .f32 := V m c main_v3

/-- The row tile of a point. -/
theorem iblk_0 (c : Dev nD) (t : Fin cfg0.N) (r : Fin 1024) (d : Fin 2048) (R : Fin 2048) (hR : R.val = 1024 * (t.val / 8) + r.val) :
    (iblk m c 0 t : FVec Ideal S1024x2048 .f32) (ix2 r d) = xs m c (ix2 R d) := by
  show V m c main_v0 (((cfg0.win 0).rect t).emb (ix2 (n0 := 1024) (n1 := 2048) r d)) = _
  congr 1
  funext a
  apply Fin.ext
  refine (Pipeline.Window.rect_emb_val_off _ t _ a).trans ?_
  fin_cases a
  · show (cc0_transform_0 (grid0.coords t)) 0 * 1024 + r.val = R.val
    rw [tr_0, hR]; omega
  · show 0 * 2048 + d.val = d.val
    omega
theorem iblk_1 (c : Dev nD) (t : Fin cfg0.N) (d : Fin 2048) : (iblk m c 1 t : FVec Ideal S1x2048 .f32) (ix2 0 d) = gs m c (ix2 0 d) := by
  show V m c main_v2 (((cfg0.win 1).rect t).emb (ix2 (n0 := 1) (n1 := 2048) 0 d)) = _
  congr 1
  funext a
  apply Fin.ext
  refine (Pipeline.Window.rect_emb_val_off _ t _ a).trans ?_
  fin_cases a
  · show 0 * 1 + 0 = 0
    omega
  · show 0 * 2048 + d.val = d.val
    omega
/-- The column tile of a point. -/
theorem iblk_2 (c : Dev nD) (t : Fin cfg0.N) (d : Fin 2048) (z : Fin 1024) (K : Fin 8192) (hK : K.val = 1024 * (t.val % 8) + z.val) :
    (iblk m c 2 t : FVec Ideal S2048x1024 .f32) (ix2 d z) = ws m c (ix2 d (col K)) := by
  show V m c main_v3 (((cfg0.win 2).rect t).emb (ix2 (n0 := 2048) (n1 := 1024) d z)) = _
  congr 1
  funext a
  apply Fin.ext
  refine (Pipeline.Window.rect_emb_val_off _ t _ a).trans ?_
  fin_cases a
  · show 0 + d.val = d.val
    omega
  · show (cc0_transform_2 (grid0.coords t)) 1 + z.val = (col K).val
    rw [tr_2]
    unfold col
    by_cases h : t.val % 8 < 4
    · rw [if_pos h, dif_pos (by omega)]
      exact hK.symm
    · rw [if_neg h, dif_neg (by omega)]
      show _ = K.val + 256
      omega
theorem iblk_3 (c : Dev nD) (t : Fin cfg0.N) (d : Fin 2048) (z : Fin 256) :
    (iblk m c 3 t : FVec Ideal S2048x256 .f32) (ix2 d z) = ws m c (ix2 d (kvc z)) := by
  show V m c main_v3 (((cfg0.win 3).rect t).emb (ix2 (n0 := 2048) (n1 := 256) d z)) = _
  congr 1
  funext a
  apply Fin.ext
  refine (Pipeline.Window.rect_emb_val_off _ t _ a).trans ?_
  fin_cases a
  · show 0 + d.val = d.val
    omega
  · rfl

/-! ## What the tiles hold -/

/-- A row of a slice is its row of the tile. -/
theorem slice_apply (x : FVec Ideal S1024x2048 .f32) (r : Fin 1024) (d : Fin 2048) :
    slice (F := Ideal) (r.val / 128) x (ix2 (n0 := 128) (n1 := 2048) ⟨r.val % 128, Nat.mod_lt _ (by decide)⟩ d) = x (ix2 r d) := by
  unfold slice
  refine congrArg x (congrArg (fun q : Fin 1024 => ix2 (n0 := 1024) (n1 := 2048) q d) (Fin.ext ?_))
  show (128 * (r.val / 128) + r.val % 128) % 1024 = r.val
  omega

theorem hBlk_apply (x : FVec Ideal S1024x2048 .f32) (g : FVec Ideal S1x2048 .f32) (r : Fin 1024) (d : Fin 2048) :
    hBlk (F := Ideal) x g (ix2 r d) = nrm (fun k => x (ix2 r k)) (fun k => g (ix2 0 k)) d := by
  refine (pay5_apply (slice (F := Ideal) (r.val / 128) x) g ⟨r.val % 128, Nat.mod_lt _ (by decide)⟩ d).trans ?_
  simp only [slice_apply]

theorem kvBlk_apply (x : FVec Ideal S1024x2048 .f32) (g : FVec Ideal S1x2048 .f32) (w : FVec Ideal S2048x256 .f32) (r : Fin 1024) (z : Fin 256) :
    kvBlk (F := Ideal) x g w (ix2 r z) = ∑ d : Fin 2048, nrm (fun k => x (ix2 r k)) (fun k => g (ix2 0 k)) d * w (ix2 d z) := by
  refine (pay6_apply w (slice (F := Ideal) (r.val / 128) x) g ⟨r.val % 128, Nat.mod_lt _ (by decide)⟩ z).trans ?_
  refine Finset.sum_congr rfl fun d _ => ?_
  rw [pay5_apply]
  simp only [slice_apply]

theorem tp_div (t : Fin cfg0.N) : (tp t.val).val / 8 = t.val / 8 := by
  have := lt16 t
  show 8 * (t.val / 8) % 16 / 8 = t.val / 8
  omega

theorem hAt_apply (c : Dev nD) (t : Fin cfg0.N) (r : Fin 1024) (d : Fin 2048) (R : Fin 2048) (hR : R.val = 1024 * (t.val / 8) + r.val) :
    hAt m c t.val (ix2 r d) = nrm (fun k => xs m c (ix2 R k)) (fun k => gs m c (ix2 0 k)) d := by
  unfold hAt
  rw [hBlk_apply]
  have e : ∀ k, (iblk m c 0 (tp t.val) : FVec Ideal S1024x2048 .f32) (ix2 r k) = xs m c (ix2 R k) := fun k =>
    iblk_0 m c (tp t.val) r k R (by rw [tp_div, hR])
  simp only [e, iblk_1]

/-! ## The four arrays -/

/-- The rows' products with the weight's columns, but for the 256. -/
def out4 (c : Dev nD) : FVec Ideal S2048x8192 .bf16 := fun i =>
  ∑ d : Fin 2048, nrm (fun k => xs m c (ix2 (i 0) k)) (fun k => gs m c (ix2 0 k)) d * ws m c (ix2 d (col (i 1)))
/-- The rows' products with the 256 columns. -/
def out5 (c : Dev nD) : FVec Ideal S2048x256 .f32 := fun i =>
  ∑ d : Fin 2048, nrm (fun k => xs m c (ix2 (i 0) k)) (fun k => gs m c (ix2 0 k)) d * ws m c (ix2 d (kvc (i 1)))
/-- The weight's columns, but for the 256. -/
def out6 (c : Dev nD) : FVec Ideal S2048x8192 .bf16 := fun i => ws m c (ix2 (i 0) (col (i 1)))
/-- The 256 columns. -/
def out7 (c : Dev nD) : FVec Ideal S2048x256 .bf16 := fun i => ws m c (ix2 (i 0) (kvc (i 1)))

theorem arr_4 (c : Dev nD) : (dats m 0 c).arrAt 4 cfg0.N = out4 m c := by
  refine (dats m 0 c).arrAt_eq_of_covers 4 (out4 m c) (by decide +kernel) fun t hf y => ?_
  obtain ⟨r, z, rfl⟩ : ∃ (r : Fin 1024) (z : Fin 1024), y = ix2 r z := ⟨y 0, y 1, eq_ix2 y⟩
  have ht := lt16 t
  have e : ((cfg0.win 4).rect t).emb (ix2 (n0 := 1024) (n1 := 1024) r z)
      = ix2 (n0 := 2048) (n1 := 8192) ⟨1024 * (t.val / 8) + r.val, by omega⟩ ⟨1024 * (t.val % 8) + z.val, by omega⟩ := by
    funext a
    apply Fin.ext
    refine (Pipeline.Window.rect_emb_val_off _ t _ a).trans ?_
    fin_cases a
    · show (cc0_transform_4 (grid0.coords t)) 0 * 1024 + r.val = 1024 * (t.val / 8) + r.val
      rw [tr_4r]; omega
    · show (cc0_transform_4 (grid0.coords t)) 1 * 1024 + z.val = 1024 * (t.val % 8) + z.val
      rw [tr_4c]; omega
  show k0_pay2 (F := Ideal) (hAt m c t.val) (iblk m c 2 t) (ix2 r z) = out4 m c (((cfg0.win 4).rect t).emb (ix2 (n0 := 1024) (n1 := 1024) r z))
  rw [e, pay2_apply]
  refine Finset.sum_congr rfl fun d _ => ?_
  exact congrArg₂ (· * ·) (hAt_apply m c t r d _ rfl) (iblk_2 m c t d z _ rfl)

theorem arr_5 (c : Dev nD) : (dats m 0 c).arrAt 5 cfg0.N = out5 m c := by
  refine (dats m 0 c).arrAt_eq_of_covers 5 (out5 m c) (by decide +kernel) fun t hf y => ?_
  obtain ⟨r, z, rfl⟩ : ∃ (r : Fin 1024) (z : Fin 256), y = ix2 r z := ⟨y 0, y 1, eq_ix2 y⟩
  have ht := lt16 t
  have e : ((cfg0.win 5).rect t).emb (ix2 (n0 := 1024) (n1 := 256) r z)
      = ix2 (n0 := 2048) (n1 := 256) ⟨1024 * (t.val / 8) + r.val, by omega⟩ z := by
    funext a
    apply Fin.ext
    refine (Pipeline.Window.rect_emb_val_off _ t _ a).trans ?_
    fin_cases a
    · show (cc0_transform_5 (grid0.coords t)) 0 * 1024 + r.val = 1024 * (t.val / 8) + r.val
      rw [tr_5]; omega
    · show 0 * 256 + z.val = z.val
      omega
  show kvBlk (F := Ideal) (iblk m c 0 (tp t.val)) (iblk m c 1 (tp t.val)) (iblk m c 3 (tp t.val)) (ix2 r z)
    = out5 m c (((cfg0.win 5).rect t).emb (ix2 (n0 := 1024) (n1 := 256) r z))
  rw [e, kvBlk_apply]
  refine Finset.sum_congr rfl fun d _ => ?_
  refine congrArg₂ (· * ·) ?_ (iblk_3 m c (tp t.val) d z)
  exact (hBlk_apply _ _ r d).symm.trans (hAt_apply m c t r d _ rfl)

theorem arr_6 (c : Dev nD) : (dats m 0 c).arrAt 6 cfg0.N = out6 m c := by
  refine (dats m 0 c).arrAt_eq_of_covers 6 (out6 m c) (by decide +kernel) fun t hf y => ?_
  obtain ⟨d, z, rfl⟩ : ∃ (d : Fin 2048) (z : Fin 1024), y = ix2 d z := ⟨y 0, y 1, eq_ix2 y⟩
  have e : ((cfg0.win 6).rect t).emb (ix2 (n0 := 2048) (n1 := 1024) d z)
      = ix2 (n0 := 2048) (n1 := 8192) d ⟨1024 * min t.val 7 + z.val, by omega⟩ := by
    funext a
    apply Fin.ext
    refine (Pipeline.Window.rect_emb_val_off _ t _ a).trans ?_
    fin_cases a
    · show 0 * 2048 + d.val = d.val
      omega
    · show (cc0_transform_6 (grid0.coords t)) 1 * 1024 + z.val = 1024 * min t.val 7 + z.val
      rw [tr_6]; omega
  show k0_pay1 (F := Ideal) (iblk m c 2 (cp t.val)) (ix2 d z) = out6 m c (((cfg0.win 6).rect t).emb (ix2 (n0 := 2048) (n1 := 1024) d z))
  rw [e, pay1_apply]
  refine iblk_2 m c (cp t.val) d z _ ?_
  show 1024 * min t.val 7 + z.val = 1024 * (min t.val 7 % 8) + z.val
  omega

theorem arr_7 (c : Dev nD) : (dats m 0 c).arrAt 7 cfg0.N = out7 m c := by
  refine (dats m 0 c).arrAt_eq_of_covers 7 (out7 m c) (by decide +kernel) fun t hf y => ?_
  obtain ⟨d, z, rfl⟩ : ∃ (d : Fin 2048) (z : Fin 256), y = ix2 d z := ⟨y 0, y 1, eq_ix2 y⟩
  have e : ((cfg0.win 7).rect t).emb (ix2 (n0 := 2048) (n1 := 256) d z) = ix2 (n0 := 2048) (n1 := 256) d z := by
    funext a
    apply Fin.ext
    refine (Pipeline.Window.rect_emb_val_off _ t _ a).trans ?_
    fin_cases a
    · show 0 * 2048 + d.val = d.val
      omega
    · show 0 * 256 + z.val = z.val
      omega
  show k0_pay3 (F := Ideal) (iblk m c 3 (tp t.val)) (ix2 d z) = out7 m c (((cfg0.win 7).rect t).emb (ix2 (n0 := 2048) (n1 := 256) d z))
  rw [e, pay3_apply]
  exact iblk_3 m c (tp t.val) d z

/-! ## The reference's results -/

theorem cast_rows (x : FVec Ideal S32x64x2048 .f32) (r d : Fin 2048) :
    shapeCast S2048x2048 x Gen.facts.shapeCasts_S32x64x2048_S2048x2048 (ix2 r d) = x (ix3 ⟨r.val / 64, by omega⟩ ⟨r.val % 64, by omega⟩ d) := by
  pointwise
theorem cast_gain (g : FVec Ideal S1x2048 .f32) (d : Fin 2048) :
    broadcastInDim S1x2048 ![1] Gen.facts.bcast_S2048_S1x2048_1 (shapeCast S2048 g Gen.facts.shapeCasts_S1x2048_S2048) (ix2 0 d) = g (ix2 0 d) := by
  pointwise
theorem cast_weight (w : FVec Ideal S1x2048x8448 .f32) (d : Fin 2048) (k : Fin 8448) :
    shapeCast S2048x8448 w Gen.facts.shapeCasts_S1x2048x8448_S2048x8448 (ix2 d k) = w (ix3 0 d k) := by
  pointwise

/-- The region's three arrays are the arguments, laid out. -/
theorem xs_apply (c : Dev nD) (r d : Fin 2048) :
    xs m c (ix2 r d) = (m ((c.tc : Thread nD τ).loc main_arg0) : FVec Ideal S32x64x2048 .f32) (ix3 ⟨r.val / 64, by omega⟩ ⟨r.val % 64, by omega⟩ d) :=
  (congrFun (V_v0 m c) _).trans (cast_rows _ r d)
theorem gs_apply (c : Dev nD) (d : Fin 2048) : gs m c (ix2 0 d) = (m ((c.tc : Thread nD τ).loc main_arg1) : FVec Ideal S1x2048 .f32) (ix2 0 d) :=
  (congrFun (V_v2 m c) _).trans (cast_gain _ d)
theorem ws_apply (c : Dev nD) (d : Fin 2048) (k : Fin 8448) :
    ws m c (ix2 d k) = (m ((c.tc : Thread nD τ).loc main_arg2) : FVec Ideal S1x2048x8448 .f32) (ix3 0 d k) :=
  (congrFun (V_v3 m c) _).trans (cast_weight _ d k)

/-- The reference's columns but for the 256, of a table of all of them. -/
def mainOf (p : FVec Ideal Cert.Ref2Ideal.S2048x8448 .f32) : FVec Ideal Cert.Ref2Ideal.S2048x8192 .bf16 :=
  truncf .bf16 (concatenate Cert.Ref2Ideal.S2048x8192 1 [⟨Cert.Ref2Ideal.S2048x4096, (extractStridedSlice Cert.Ref2Ideal.S2048x4096 ![0, 0] p Cert.Ref2Ideal.Gen.facts.slices_S2048x8448_S2048x4096_0_0)⟩, ⟨Cert.Ref2Ideal.S2048x4096, (extractStridedSlice Cert.Ref2Ideal.S2048x4096 ![0, 4352] p Cert.Ref2Ideal.Gen.facts.slices_S2048x8448_S2048x4096_0_4352)⟩] Cert.Ref2Ideal.Gen.facts.concatenates_S2048x4096_S2048x4096_S2048x8192_d1) Cert.Ref2Ideal.Gen.facts.bitsLt_bf16_f32
/-- The 256 columns. -/
def kvOf (p : FVec Ideal Cert.Ref2Ideal.S2048x8448 .f32) : FVec Ideal Cert.Ref2Ideal.S2048x256 .f32 :=
  extractStridedSlice Cert.Ref2Ideal.S2048x256 ![0, 4096] p Cert.Ref2Ideal.Gen.facts.slices_S2048x8448_S2048x256_0_4096
/-- The weight, without its leading axis of one. -/
def wOf (w : FVec Ideal Cert.Ref2Ideal.S1x2048x8448 .f32) : FVec Ideal Cert.Ref2Ideal.S2048x8448 .f32 :=
  shapeCast _ w Cert.Ref2Ideal.Gen.facts.shapeCasts_S1x2048x8448_S2048x8448

theorem mainOf_apply (p : FVec Ideal Cert.Ref2Ideal.S2048x8448 .f32) (r : Fin 2048) (k : Fin 8192) : mainOf p (ix2 r k) = p (ix2 r (col k)) := by
  pointwise [mainOf, col]
  by_cases h : k.val < 4096
  · rw [dif_pos h, dif_pos h]
  · rw [dif_neg h, dif_neg h]
    refine congrArg p (congrArg (fun q : Fin 8448 => ix2 (n0 := 2048) (n1 := 8448) r q) (Fin.ext ?_))
    show 4352 + (k.val - 4096) = k.val + 256
    omega
theorem kvOf_apply (p : FVec Ideal Cert.Ref2Ideal.S2048x8448 .f32) (r : Fin 2048) (k : Fin 256) : kvOf p (ix2 r k) = p (ix2 r (kvc k)) := by
  pointwise [kvOf, kvc]
theorem wOf_apply (w : FVec Ideal Cert.Ref2Ideal.S1x2048x8448 .f32) (d : Fin 2048) (k : Fin 8448) : wOf w (ix2 d k) = w (ix3 0 d k) := by
  pointwise [wOf]

/-- A row's product with a column of the weight, read from the region's arrays, is the reference's. -/
theorem product_eq (c : Dev nD) (r : Fin 2048) (k : Fin 8448) :
    ∑ d : Fin 2048, nrm (fun j => xs m c (ix2 r j)) (fun j => gs m c (ix2 0 j)) d * ws m c (ix2 d k)
      = refP (refH (m ((c.tc : Thread nD τ).loc main_arg0)) (m ((c.tc : Thread nD τ).loc main_arg1))) (m ((c.tc : Thread nD τ).loc main_arg2)) (ix2 r k) := by
  rw [refP_apply]
  refine Finset.sum_congr rfl fun d _ => ?_
  rw [refH_apply]
  exact congrArg₂ (· * ·) (congrArg₂ (fun X G => nrm X G d) (funext fun j => xs_apply m c r j) (funext fun j => gs_apply m c j)) (ws_apply m c d k)

theorem out4_eq (c : Dev nD) : out4 m c = mainOf (refP (refH (m ((c.tc : Thread nD τ).loc main_arg0)) (m ((c.tc : Thread nD τ).loc main_arg1))) (m ((c.tc : Thread nD τ).loc main_arg2))) := by
  funext i
  obtain ⟨r, k, rfl⟩ : ∃ (r : Fin 2048) (k : Fin 8192), i = ix2 r k := ⟨i 0, i 1, eq_ix2 i⟩
  exact (product_eq m c r (col k)).trans (mainOf_apply _ r k).symm
theorem out5_eq (c : Dev nD) : out5 m c = kvOf (refP (refH (m ((c.tc : Thread nD τ).loc main_arg0)) (m ((c.tc : Thread nD τ).loc main_arg1))) (m ((c.tc : Thread nD τ).loc main_arg2))) := by
  funext i
  obtain ⟨r, k, rfl⟩ : ∃ (r : Fin 2048) (k : Fin 256), i = ix2 r k := ⟨i 0, i 1, eq_ix2 i⟩
  exact (product_eq m c r (kvc k)).trans (kvOf_apply _ r k).symm
theorem out6_eq (c : Dev nD) : out6 m c = mainOf (wOf (m ((c.tc : Thread nD τ).loc main_arg2))) := by
  funext i
  obtain ⟨d, k, rfl⟩ : ∃ (d : Fin 2048) (k : Fin 8192), i = ix2 d k := ⟨i 0, i 1, eq_ix2 i⟩
  exact (ws_apply m c d (col k)).trans ((mainOf_apply _ d k).trans (wOf_apply _ d (col k))).symm
theorem out7_eq (c : Dev nD) : out7 m c = truncf .bf16 (kvOf (wOf (m ((c.tc : Thread nD τ).loc main_arg2)))) Cert.Ref2Ideal.Gen.facts.bitsLt_bf16_f32 := by
  funext i
  obtain ⟨d, k, rfl⟩ : ∃ (d : Fin 2048) (k : Fin 256), i = ix2 d k := ⟨i 0, i 1, eq_ix2 i⟩
  exact (ws_apply m c d (kvc k)).trans ((kvOf_apply _ d k).trans (wOf_apply _ d (kvc k))).symm

/-- The run, with what its four arrays hold and the arguments as they were. -/
theorem run_values (ρ : Dev nD → PrngReg) : θ_run defs (onTc (τ := τ) (main (F := Ideal))) ⟨m, fun _ => 0, ρ⟩ (fun r => ∀ c : Dev nD,
      r.2.mem ((c.tc : Thread nD τ).loc main_v4_0) = out4 m c
      ∧ r.2.mem ((c.tc : Thread nD τ).loc main_v4_1) = out5 m c
      ∧ r.2.mem ((c.tc : Thread nD τ).loc main_v4_2) = out6 m c
      ∧ r.2.mem ((c.tc : Thread nD τ).loc main_v4_3) = out7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).1 4).trans (arr_4 m c), ((h.1 c).1 5).trans (arr_5 m c), ((h.1 c).1 6).trans (arr_6 m c), ((h.1 c).1 7).trans (arr_7 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run_post m ρ)

end Cert.InValue
-- ==== Proof.Weights.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Batch
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

/-- The proof's user algebra: the pipeline library's beside the transfers' counters. -/
local notation "𝕄" => MT nD τ sig Unit (Elt F) ℕ (Pipeline.UD sig nD τ) ℕ

/-! ## The slots, the weights and the two cells -/

/-- The three staging buffers, two slots each. -/
abbrev stG : Memref sig .tc .vmem S2x2048x512 .f32 := Memref.whole cc0_scratch0
abbrev stU : Memref sig .tc .vmem S2x2048x512 .f32 := Memref.whole cc0_scratch1
abbrev stD : Memref sig .tc .vmem S2x512x2048 .f32 := Memref.whole cc0_scratch2
/-- The weights, which stay in HBM. -/
abbrev wgM : Memref sig .tc .hbm S32x2048x512 .f32 := Memref.whole main_arg4
abbrev wuM : Memref sig .tc .hbm S32x2048x512 .f32 := Memref.whole main_arg5
abbrev wdM : Memref sig .tc .hbm S32x512x2048 .f32 := Memref.whole main_arg6

/-- The leading-axis block at offsets `o` of a staging buffer or of a weight array, its unit axis dropped. -/
abbrev slotA (M : Memref sig .tc .vmem S2x2048x512 .f32) (o : Fin 3 → ℕ) (h : ∀ a, o a + S1x2048x512.size a ≤ S2x2048x512.size a) :
    Memref sig .tc .vmem S2048x512 .f32 :=
  (M.slice (Rect.unit (s := S2x2048x512) o S1x2048x512.size h) (fun _ => rfl)).squeeze S2048x512 squeezes_S1x2048x512_S2048x512
abbrev slotB (M : Memref sig .tc .vmem S2x512x2048 .f32) (o : Fin 3 → ℕ) (h : ∀ a, o a + S1x512x2048.size a ≤ S2x512x2048.size a) :
    Memref sig .tc .vmem S512x2048 .f32 :=
  (M.slice (Rect.unit (s := S2x512x2048) o S1x512x2048.size h) (fun _ => rfl)).squeeze S512x2048 squeezes_S1x512x2048_S512x2048
abbrev slabA (M : Memref sig .tc .hbm S32x2048x512 .f32) (o : Fin 3 → ℕ) (h : ∀ a, o a + S1x2048x512.size a ≤ S32x2048x512.size a) :
    Memref sig .tc .hbm S2048x512 .f32 :=
  (M.slice (Rect.unit (s := S32x2048x512) o S1x2048x512.size h) (fun _ => rfl)).squeeze S2048x512 squeezes_S1x2048x512_S2048x512
abbrev slabB (M : Memref sig .tc .hbm S32x512x2048 .f32) (o : Fin 3 → ℕ) (h : ∀ a, o a + S1x512x2048.size a ≤ S32x512x2048.size a) :
    Memref sig .tc .hbm S512x2048 .f32 :=
  (M.slice (Rect.unit (s := S32x512x2048) o S1x512x2048.size h) (fun _ => rfl)).squeeze S512x2048 squeezes_S1x512x2048_S512x2048
/-- The DMA semaphore at offset `o` of the kernel's pair. -/
abbrev semAt (o : Fin 1 → ℕ) (h : ∀ a, o a + S1.size a ≤ S2.size a) : DmaSem sig :=
  ((cc0_scratch6.slice (Rect.unit (s := S2) o S1.size h)).squeeze S_ squeezes_S1_S_).sem

theorem inbS1 {s : ℕ} (hs : s < 2) : ∀ a, (![s] : Fin 1 → ℕ) a + S1.size a ≤ S2.size a := by
  intro a; fin_cases a; simp [S1, S2]; omega
theorem inbSA {s : ℕ} (hs : s < 2) : ∀ a, (![s, 0, 0] : Fin 3 → ℕ) a + S1x2048x512.size a ≤ S2x2048x512.size a := by
  intro a; fin_cases a <;> simp [S1x2048x512, S2x2048x512]; omega
theorem inbSB {s : ℕ} (hs : s < 2) : ∀ a, (![s, 0, 0] : Fin 3 → ℕ) a + S1x512x2048.size a ≤ S2x512x2048.size a := by
  intro a; fin_cases a <;> simp [S1x512x2048, S2x512x2048]; omega
theorem inbWA {e : ℕ} (he : e < 32) : ∀ a, (![e, 0, 0] : Fin 3 → ℕ) a + S1x2048x512.size a ≤ S32x2048x512.size a := by
  intro a; fin_cases a <;> simp [S1x2048x512, S32x2048x512]; omega
theorem inbWB {e : ℕ} (he : e < 32) : ∀ a, (![e, 0, 0] : Fin 3 → ℕ) a + S1x512x2048.size a ≤ S32x512x2048.size a := by
  intro a; fin_cases a <;> simp [S1x512x2048, S32x512x2048]; omega

/-- Slot `s` of the staging buffers, expert `e`'s blocks of the weights, slot `s`'s cell. -/
abbrev gS (s : Fin 2) := slotA stG ![s, 0, 0] (inbSA s.2)
abbrev uS (s : Fin 2) := slotA stU ![s, 0, 0] (inbSA s.2)
abbrev dS (s : Fin 2) := slotB stD ![s, 0, 0] (inbSB s.2)
abbrev gW (e : Fin 32) := slabA wgM ![e, 0, 0] (inbWA e.2)
abbrev uW (e : Fin 32) := slabA wuM ![e, 0, 0] (inbWA e.2)
abbrev dW (e : Fin 32) := slabB wdM ![e, 0, 0] (inbWB e.2)
abbrev cell (s : Fin 2) : DmaSem sig := semAt ![s] (inbS1 s.2)

/-- The credit of one block's copy. -/
abbrev cred : ℕ := (gS 0).view.dmaCredit

theorem cred_gS (s : Fin 2) : (gS s).view.dmaCredit = cred := rfl
theorem cred_uS (s : Fin 2) : (uS s).view.dmaCredit = cred := by fin_cases s <;> decide
theorem cred_dS (s : Fin 2) : (dS s).view.dmaCredit = cred := by fin_cases s <;> decide
theorem cred_pos : 0 < cred := by decide

/-! ## The assertions: a slot free, the weights at home, one expert's three copies in flight -/

/-- The contents of the slots' buffers and of the weights, by location. -/
abbrev GBuf (c : Dev nD) := Buf (Elt F) ((gS 0).view.loc (c : Thread nD τ))
abbrev UBuf (c : Dev nD) := Buf (Elt F) ((uS 0).view.loc (c : Thread nD τ))
abbrev DBuf (c : Dev nD) := Buf (Elt F) ((dS 0).view.loc (c : Thread nD τ))
abbrev GW (c : Dev nD) := Buf (Elt F) ((gW 0).view.loc (c : Thread nD τ))
abbrev UW (c : Dev nD) := Buf (Elt F) ((uW 0).view.loc (c : Thread nD τ))
abbrev DW (c : Dev nD) := Buf (Elt F) ((dW 0).view.loc (c : Thread nD τ))

/-- A slot's elements, an expert's elements of the weights, and a weight's other elements. -/
abbrev gPt (c : Dev nD) (s : Fin 2) (f : GBuf (F := F) c) : sProp 𝕄 := ((gS s).view.loc (c : Thread nD τ) ↦[(gS s).view.set]{fullShare} f)
abbrev uPt (c : Dev nD) (s : Fin 2) (f : UBuf (F := F) c) : sProp 𝕄 := ((uS s).view.loc (c : Thread nD τ) ↦[(uS s).view.set]{fullShare} f)
abbrev dPt (c : Dev nD) (s : Fin 2) (f : DBuf (F := F) c) : sProp 𝕄 := ((dS s).view.loc (c : Thread nD τ) ↦[(dS s).view.set]{fullShare} f)
abbrev gIn (c : Dev nD) (e : Fin 32) (w : GW (F := F) c) : sProp 𝕄 := ((gW e).view.loc (c : Thread nD τ) ↦[(gW e).view.set]{fullShare} w)
abbrev uIn (c : Dev nD) (e : Fin 32) (w : UW (F := F) c) : sProp 𝕄 := ((uW e).view.loc (c : Thread nD τ) ↦[(uW e).view.set]{fullShare} w)
abbrev dIn (c : Dev nD) (e : Fin 32) (w : DW (F := F) c) : sProp 𝕄 := ((dW e).view.loc (c : Thread nD τ) ↦[(dW e).view.set]{fullShare} w)
abbrev gOut (c : Dev nD) (e : Fin 32) (w : GW (F := F) c) : sProp 𝕄 := ((gW e).view.loc (c : Thread nD τ) ↦[Finset.univ \ (gW e).view.set]{fullShare} w)
abbrev uOut (c : Dev nD) (e : Fin 32) (w : UW (F := F) c) : sProp 𝕄 := ((uW e).view.loc (c : Thread nD τ) ↦[Finset.univ \ (uW e).view.set]{fullShare} w)
abbrev dOut (c : Dev nD) (e : Fin 32) (w : DW (F := F) c) : sProp 𝕄 := ((dW e).view.loc (c : Thread nD τ) ↦[Finset.univ \ (dW e).view.set]{fullShare} w)

/-- The three weights, whole and unchanged. -/
def Home (c : Dev nD) (wg : GW (F := F) c) (wu : UW (F := F) c) (wd : DW (F := F) c) : sProp 𝕄 :=
  iprop(((gW 0).view.loc (c : Thread nD τ) ↦{fullShare} wg) ∗ ((uW 0).view.loc (c : Thread nD τ) ↦{fullShare} wu) ∗ ((dW 0).view.loc (c : Thread nD τ) ↦{fullShare} wd))

/-- The three weights but for expert `e`'s blocks. -/
def Away (c : Dev nD) (e : Fin 32) (wg : GW (F := F) c) (wu : UW (F := F) c) (wd : DW (F := F) c) : sProp 𝕄 :=
  iprop(gOut c e wg ∗ uOut c e wu ∗ dOut c e wd)

/-- Slot `s` idle: its cell at zero, its three blocks owned at any contents. -/
def Free (c : Dev nD) (s : Fin 2) : sProp 𝕄 :=
  iprop(semVal ((c : Thread nD τ), SemLoc.dma (cell s)) 0 ∗ (∃ f, gPt (F := F) c s f) ∗ (∃ f, uPt (F := F) c s f) ∗ (∃ f, dPt (F := F) c s f))

/-- What the three copies of expert `e` into slot `s` hand back: the slot's blocks written, the weights' blocks returned. -/
def deliv (c : Dev nD) (s : Fin 2) (e : Fin 32) (wg : GW (F := F) c) (wu : UW (F := F) c) (wd : DW (F := F) c)
    (fg : GBuf (F := F) c) (fu : UBuf (F := F) c) (fd : DBuf (F := F) c) : Fin 3 → sProp 𝕄
  | ⟨0, _⟩ => iprop(gPt c s ((gS s).view.write (Elt F) fg (ReadAs.same.apply ((gW e).view.read (Elt F) wg)) Finset.univ) ∗ gIn c e wg)
  | ⟨1, _⟩ => iprop(uPt c s ((uS s).view.write (Elt F) fu (ReadAs.same.apply ((uW e).view.read (Elt F) wu)) Finset.univ) ∗ uIn c e wu)
  | ⟨2, _⟩ => iprop(dPt c s ((dS s).view.write (Elt F) fd (ReadAs.same.apply ((dW e).view.read (Elt F) wd)) Finset.univ) ∗ dIn c e wd)

instance deliv_storable (c : Dev nD) (s : Fin 2) (e : Fin 32) (wg : GW (F := F) c) (wu : UW (F := F) c) (wd : DW (F := F) c)
    (fg : GBuf (F := F) c) (fu : UBuf (F := F) c) (fd : DBuf (F := F) c) :
    ∀ t, Storable (upEmb : UEmb _ 𝕄) (deliv c s e wg wu wd fg fu fd t)
  | ⟨0, _⟩ => by unfold deliv; infer_instance
  | ⟨1, _⟩ => by unfold deliv; infer_instance
  | ⟨2, _⟩ => by unfold deliv; infer_instance

/-- Expert `e` on its way into slot `s`. -/
def InFlight (c : Dev nD) (s : Fin 2) (e : Fin 32) (wg : GW (F := F) c) (wu : UW (F := F) c) (wd : DW (F := F) c) : sProp 𝕄 :=
  iprop((∃ fg fu fd, Transfers.Batch (countersEmb (U := Pipeline.UD sig nD τ)) (c : Thread nD τ) (.dma (cell s)) () cred
      (deliv c s e wg wu wd fg fu fd) 3 0) ∗ Away c e wg wu wd)

/-- Slot `s` holding expert `e`'s weights: its cell at zero, its blocks reading what the weights' blocks read. -/
def Landed (c : Dev nD) (s : Fin 2) (e : Fin 32) (wg : GW (F := F) c) (wu : UW (F := F) c) (wd : DW (F := F) c) : sProp 𝕄 :=
  iprop(semVal ((c : Thread nD τ), SemLoc.dma (cell s)) 0
    ∗ (∃ f, gPt c s f ∗ ⌜(gS s).view.read (Elt F) f = (gW e).view.read (Elt F) wg⌝)
    ∗ (∃ f, uPt c s f ∗ ⌜(uS s).view.read (Elt F) f = (uW e).view.read (Elt F) wu⌝)
    ∗ (∃ f, dPt c s f ∗ ⌜(dS s).view.read (Elt F) f = (dW e).view.read (Elt F) wd⌝))

/-- Expert `e`'s blocks leave the weights. -/
theorem home_split (c : Dev nD) (e : Fin 32) (wg : GW (F := F) c) (wu : UW (F := F) c) (wd : DW (F := F) c) :
    Home c wg wu wd ⊢ iprop(gIn c e wg ∗ uIn c e wu ∗ dIn c e wd ∗ Away c e wg wu wd) := by
  unfold Home Away
  iintro ⟨Hg, Hu, Hd⟩
  ihave Hg' := (pointsTo_split_subset (Finset.subset_univ (gW e).view.set)).1 $$ Hg
  ihave Hu' := (pointsTo_split_subset (Finset.subset_univ (uW e).view.set)).1 $$ Hu
  ihave Hd' := (pointsTo_split_subset (Finset.subset_univ (dW e).view.set)).1 $$ Hd
  icases Hg' with ⟨Hg1, Hg2⟩
  icases Hu' with ⟨Hu1, Hu2⟩
  icases Hd' with ⟨Hd1, Hd2⟩
  isplitl [Hg1]; · iexact Hg1
  isplitl [Hu1]; · iexact Hu1
  isplitl [Hd1]; · iexact Hd1
  isplitl [Hg2]; · iexact Hg2
  isplitl [Hu2]; · iexact Hu2
  iexact Hd2

/-- … and return. -/
theorem home_join (c : Dev nD) (e : Fin 32) (wg : GW (F := F) c) (wu : UW (F := F) c) (wd : DW (F := F) c) :
    iprop(gIn c e wg ∗ uIn c e wu ∗ dIn c e wd ∗ Away c e wg wu wd) ⊢ Home c wg wu wd := by
  unfold Home Away
  iintro ⟨Hg1, Hu1, Hd1, Hg2, Hu2, Hd2⟩
  isplitl [Hg1 Hg2]
  · iapply (pointsTo_split_subset (Finset.subset_univ (gW e).view.set)).2
    isplitl [Hg1]; · iexact Hg1
    iexact Hg2
  isplitl [Hu1 Hu2]
  · iapply (pointsTo_split_subset (Finset.subset_univ (uW e).view.set)).2
    isplitl [Hu1]; · iexact Hu1
    iexact Hu2
  · iapply (pointsTo_split_subset (Finset.subset_univ (dW e).view.set)).2
    isplitl [Hd1]; · iexact Hd1
    iexact Hd2

/-- A landed slot is an idle one. -/
theorem landed_free (c : Dev nD) (s : Fin 2) (e : Fin 32) (wg : GW (F := F) c) (wu : UW (F := F) c) (wd : DW (F := F) c) :
    Landed c s e wg wu wd ⊢ Free (F := F) c s := by
  unfold Landed Free
  iintro ⟨Hv, ⟨%fg, Hg, -⟩, ⟨%fu, Hu, -⟩, ⟨%fd, Hd, -⟩⟩
  isplitl [Hv]; · iexact Hv
  isplitl [Hg]; · iexists fg; iexact Hg
  isplitl [Hu]; · iexists fu; iexact Hu
  iexists fd; iexact Hd

/-- The three deliveries, one by one. -/
theorem deliv_split (c : Dev nD) (s : Fin 2) (e : Fin 32) (wg : GW (F := F) c) (wu : UW (F := F) c) (wd : DW (F := F) c)
    (fg : GBuf (F := F) c) (fu : UBuf (F := F) c) (fd : DBuf (F := F) c) :
    bigSep Finset.univ (deliv c s e wg wu wd fg fu fd)
      ⊢ iprop(deliv c s e wg wu wd fg fu fd 0 ∗ deliv c s e wg wu wd fg fu fd 1 ∗ deliv c s e wg wu wd fg fu fd 2) := by
  rw [Idealize.SL.BI.bigSep_univ_eq_bigSepL [0, 1, 2] (by decide) (by decide) _]
  exact .rfl

/-- A hand rule leaves its continuation applied: the next statement is `k a`. -/
theorem ret_bind' {E : Type → Type} {α β : Type} (a : α) (k : α → Prog E β) : (Prog.ret a).bind k = k a := rfl

/-! ## The three copies started, the three copies awaited -/

/-- The copies of one expert's three blocks into a slot, then `k`. -/
def startP (oS : Fin 1 → ℕ) (hS : ∀ a, oS a + S1.size a ≤ S2.size a)
    (oA : Fin 3 → ℕ) (hA : ∀ a, oA a + S1x2048x512.size a ≤ S2x2048x512.size a) (oB : Fin 3 → ℕ) (hB : ∀ a, oB a + S1x512x2048.size a ≤ S2x512x2048.size a)
    (oE : Fin 3 → ℕ) (hE : ∀ a, oE a + S1x2048x512.size a ≤ S32x2048x512.size a) (oF : Fin 3 → ℕ) (hF : ∀ a, oF a + S1x512x2048.size a ≤ S32x512x2048.size a)
    {α : Type} (k : PUnit.{1} → Prog (TpuEff nD τ sig (Elt F) Λ₀ .tc) α) : Prog (TpuEff nD τ sig (Elt F) Λ₀ .tc) α := do
  Prog.lift (.enqueueDma (slabA wgM oE hE) (.here (slotA stG oA hA)) (.dma (semAt oS hS)) ((View.wordExact_bits rfl).reshape _ _) ((View.wordExact_bits rfl).reshape _ _) ⟨Or.inl rfl, trivial⟩)
  Prog.lift (.enqueueDma (slabA wuM oE hE) (.here (slotA stU oA hA)) (.dma (semAt oS hS)) ((View.wordExact_bits rfl).reshape _ _) ((View.wordExact_bits rfl).reshape _ _) ⟨Or.inl rfl, trivial⟩)
  Prog.lift (.enqueueDma (slabB wdM oF hF) (.here (slotB stD oB hB)) (.dma (semAt oS hS)) ((View.wordExact_bits rfl).reshape _ _) ((View.wordExact_bits rfl).reshape _ _) ⟨Or.inl rfl, trivial⟩)
  k ⟨⟩

/-- The three waits on a slot's cell, then `k`. -/
def waitP (oS : Fin 1 → ℕ) (hS : ∀ a, oS a + S1.size a ≤ S2.size a)
    (oA : Fin 3 → ℕ) (hA : ∀ a, oA a + S1x2048x512.size a ≤ S2x2048x512.size a) (oB : Fin 3 → ℕ) (hB : ∀ a, oB a + S1x512x2048.size a ≤ S2x512x2048.size a)
    (oE : Fin 3 → ℕ) (hE : ∀ a, oE a + S1x2048x512.size a ≤ S32x2048x512.size a) (oF : Fin 3 → ℕ) (hF : ∀ a, oF a + S1x512x2048.size a ≤ S32x512x2048.size a)
    {α : Type} (k : PUnit.{1} → Prog (TpuEff nD τ sig (Elt F) Λ₀ .tc) α) : Prog (TpuEff nD τ sig (Elt F) Λ₀ .tc) α := do
  Prog.lift (.waitDma2 (semAt oS hS) (slabA wgM oE hE) (slotA stG oA hA) ((View.wordExact_bits rfl).reshape _ _) ((View.wordExact_bits rfl).reshape _ _))
  Prog.lift (.waitDma2 (semAt oS hS) (slabA wuM oE hE) (slotA stU oA hA) ((View.wordExact_bits rfl).reshape _ _) ((View.wordExact_bits rfl).reshape _ _))
  Prog.lift (.waitDma2 (semAt oS hS) (slabB wdM oF hF) (slotB stD oB hB) ((View.wordExact_bits rfl).reshape _ _) ((View.wordExact_bits rfl).reshape _ _))
  k ⟨⟩

variable (defs : Defs nD τ sig (Elt F) Λ₀) (𝒱 : Variants)

/-- Starting expert `e` into the idle slot `s`. -/
theorem wp_startP (c : Dev nD) (s : Fin 2) (e : Fin 32) (wg : GW (F := F) c) (wu : UW (F := F) c) (wd : DW (F := F) c)
    {oS hS oA hA oB hB oE hE oF hF} (hoS : oS = ![s.val]) (hoA : oA = ![s.val, 0, 0]) (hoB : oB = ![s.val, 0, 0])
    (hoE : oE = ![e.val, 0, 0]) (hoF : oF = ![e.val, 0, 0]) {α : Type}
    (k : PUnit.{1} → Prog (TpuEff nD τ sig (Elt F) Λ₀ .tc) α) (Q : α → sProp 𝕄) :
    iprop(Free (F := F) c s ∗ Home c wg wu wd ∗ (InFlight c s e wg wu wd -∗ wp frame (wpE defs 𝒱 (c : Thread nD τ) none) Set.univ (k ⟨⟩) Q))
      ⊢ wp frame (wpE defs 𝒱 (c : Thread nD τ) none) Set.univ (startP (F := F) oS hS oA hA oB hB oE hE oF hF k) Q := by
  subst hoS hoA hoB hoE hoF
  unfold Free
  iintro ⟨⟨Hv, ⟨%fg, Hg⟩, ⟨%fu, Hu⟩, ⟨%fd, Hd⟩⟩, HH, Hk⟩
  ihave HH' := (home_split c e wg wu wd) $$ HH
  icases HH' with ⟨Hwg, Hwu, Hwd, HA⟩
  unfold startP
  imod (Transfers.batch_alloc' (Lvl := ℕ) (countersEmb (U := Pipeline.UD sig nD τ)) (c : Thread nD τ) () cred (deliv c s e wg wu wd fg fu fd) (sm := .dma (cell s)) (E := Set.univ)) $$ Hv with HB
  iapply (Transfers.wp_dmaBatch (countersEmb (U := Pipeline.UD sig nD τ)) 𝒱 (c : Thread nD τ) none (src := gW e) (dst := gS s) (sm := .dma (cell s)) () cred (cred_gS s) subset_rfl
    (D := deliv c s e wg wu wd fg fu fd) (j := 0) (u := 0) (by decide) (Nat.zero_le _) (by unfold deliv; exact .rfl)) $$ [Hwg Hg HB]
  · isplitl [Hwg]; · iexact Hwg
    isplitl [Hg]; · iexact Hg
    iexact HB
  iintro HB
  simp only [ret_bind']
  iapply (Transfers.wp_dmaBatch (countersEmb (U := Pipeline.UD sig nD τ)) 𝒱 (c : Thread nD τ) none (src := uW e) (dst := uS s) (sm := .dma (cell s)) () cred (cred_uS s) subset_rfl
    (D := deliv c s e wg wu wd fg fu fd) (j := 1) (u := 0) (by decide) (Nat.zero_le _) (by unfold deliv; exact .rfl)) $$ [Hwu Hu HB]
  · isplitl [Hwu]; · iexact Hwu
    isplitl [Hu]; · iexact Hu
    iexact HB
  iintro HB
  simp only [ret_bind']
  iapply (Transfers.wp_dmaBatch (countersEmb (U := Pipeline.UD sig nD τ)) 𝒱 (c : Thread nD τ) none (src := dW e) (dst := dS s) (sm := .dma (cell s)) () cred (cred_dS s) subset_rfl
    (D := deliv c s e wg wu wd fg fu fd) (j := 2) (u := 0) (by decide) (Nat.zero_le _) (by unfold deliv; exact .rfl)) $$ [Hwd Hd HB]
  · isplitl [Hwd]; · iexact Hwd
    isplitl [Hd]; · iexact Hd
    iexact HB
  iintro HB
  simp only [ret_bind']
  iapply Hk
  unfold InFlight
  isplitl [HB]
  · iexists fg, fu, fd; iexact HB
  iexact HA

/-- Awaiting the three copies into slot `s`. -/
theorem wp_waitP (c : Dev nD) (s : Fin 2) (e : Fin 32) (wg : GW (F := F) c) (wu : UW (F := F) c) (wd : DW (F := F) c)
    {oS hS oA hA oB hB oE hE oF hF} (hoS : oS = ![s.val]) (hoA : oA = ![s.val, 0, 0]) (hoB : oB = ![s.val, 0, 0]) {α : Type}
    (k : PUnit.{1} → Prog (TpuEff nD τ sig (Elt F) Λ₀ .tc) α) (Q : α → sProp 𝕄) :
    iprop(InFlight c s e wg wu wd ∗ (∃ W, owes (c : Thread nD τ) 0 W)
        ∗ (Landed c s e wg wu wd -∗ Home c wg wu wd -∗ (∃ W, owes (c : Thread nD τ) 0 W) -∗ wp frame (wpE defs 𝒱 (c : Thread nD τ) none) Set.univ (k ⟨⟩) Q))
      ⊢ wp frame (wpE defs 𝒱 (c : Thread nD τ) none) Set.univ (waitP (F := F) oS hS oA hA oB hB oE hE oF hF k) Q := by
  subst hoS hoA hoB
  unfold InFlight
  iintro ⟨⟨⟨%fg, %fu, %fd, HB⟩, HA⟩, ⟨%W, HO⟩, Hk⟩
  unfold waitP
  iapply (Transfers.wp_waitBatch (countersEmb (U := Pipeline.UD sig nD τ)) 𝒱 (c : Thread nD τ) none () (cred_gS s) (D := deliv c s e wg wu wd fg fu fd) (u := 0) (by decide)) $$ [HB HO]
  · isplitl [HB] <;> iassumption
  iintro ⟨HB, HO⟩
  simp only [ret_bind']
  iapply (Transfers.wp_waitBatch (countersEmb (U := Pipeline.UD sig nD τ)) 𝒱 (c : Thread nD τ) none () (cred_uS s) (D := deliv c s e wg wu wd fg fu fd) (u := 0 + cred) (by decide)) $$ [HB HO]
  · isplitl [HB] <;> iassumption
  iintro ⟨HB, HO⟩
  simp only [ret_bind']
  iapply (Transfers.wp_waitBatchLast (countersEmb (U := Pipeline.UD sig nD τ)) 𝒱 (c : Thread nD τ) none () (cred_dS s) cred_pos (D := deliv c s e wg wu wd fg fu fd) (u := 0 + cred + cred) (by decide)) $$ [HB HO]
  · isplitl [HB] <;> iassumption
  iintro ⟨HD, Hv, HO⟩
  simp only [ret_bind']
  ihave HD' := (deliv_split c s e wg wu wd fg fu fd) $$ HD
  unfold deliv
  icases HD' with ⟨⟨Hg, Hwg⟩, ⟨Hu, Hwu⟩, ⟨Hd, Hwd⟩⟩
  iapply Hk $$ [Hv Hg Hu Hd] [HA Hwg Hwu Hwd] [HO]
  · unfold Landed
    isplitl [Hv]; · iexact Hv
    isplitl [Hg]
    · iexists _; isplitl [Hg]; · iexact Hg
      ipureintro; exact View.read_write_univ _ _
    isplitl [Hu]
    · iexists _; isplitl [Hu]; · iexact Hu
      ipureintro; exact View.read_write_univ _ _
    · iexists _; isplitl [Hd]; · iexact Hd
      ipureintro; exact View.read_write_univ _ _
  · iapply (home_join c e wg wu wd)
    isplitl [Hwg]; · iexact Hwg
    isplitl [Hwu]; · iexact Hwu
    isplitl [Hwd]; · iexact Hwd
    iexact HA
  · iexists _; iexact HO

end Cert.KernelIdeal.Hand
-- ==== Proof.Segs.lean ====
module

public import proofs.«01_k».proof.Proof.Weights

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

/-- The proof's user algebra: the pipeline library's beside the transfers' counters. -/
local notation "𝕄" => MT nD τ sig Unit (Elt F) ℕ (Pipeline.UD sig nD τ) ℕ

/-! ## The buffers the body reads and writes by words -/

/-- The three tables: each tile's expert, each tile's rows, each tile's next expert. -/
abbrev teM : Memref sig .tc .smem S176 .i32 := Memref.whole main_arg1
abbrev nrM : Memref sig .tc .smem S176 .i32 := Memref.whole main_arg2
abbrev nxM : Memref sig .tc .smem S176 .i32 := Memref.whole main_arg3
/-- The count of changes, one word. -/
abbrev ncM : Memref sig .tc .smem S1 .i32 := Memref.whole cc0_scratch7
/-- The current expert's weights, cast. -/
abbrev curG : Memref sig .tc .vmem S2048x512 .bf16 := Memref.whole cc0_scratch3
abbrev curU : Memref sig .tc .vmem S2048x512 .bf16 := Memref.whole cc0_scratch4
abbrev curD : Memref sig .tc .vmem S512x2048 .bf16 := Memref.whole cc0_scratch5

/-! ## The tile's three steps -/

/-- Step one: the tile's expert read; at the first tile its copies started into slot 0. -/
def segA (oT : Fin 1 → ℕ) (hT : ∀ a, oT a + S1.size a ≤ S176.size a) (chk : BitVec 32 → Prop) (dec : ∀ v, Decidable (chk v)) (cond : BitVec 1)
    (hE : ∀ v, chk v → cond = 1#1 → ∀ a, (k0_off2 v) a + S1x2048x512.size a ≤ S32x2048x512.size a)
    (hF : ∀ v, chk v → cond = 1#1 → ∀ a, (k0_off3 v) a + S1x512x2048.size a ≤ S32x512x2048.size a)
    {α : Type} (k : (v : Elt F .i32) → chk v → Prog (TpuEff nD τ sig (Elt F) Λ₀ .tc) α) : Prog (TpuEff nD τ sig (Elt F) Λ₀ .tc) α := do
  let v : Elt F .i32 ← smemLoad teM (Rect.unit (s := S176) oT S1.size hT) numel1_S1 rfl
  have hw : chk v := (← Prog.lift (TpuEff.assume (chk v) (dec v))).down
  if h : cond = 1#1 then do
    let v96 : Elt F .i32 ← smemLoad ncM (Rect.unit (s := S1) ![0] S1.size inb_S1_S1_0) numel1_S1 rfl
    Prog.lift (.store ncM (Rect.unit (s := S1) ![0] S1.size inb_S1_S1_0) (fun _ => 0#32) Finset.univ (View.stores_smem_one rfl numel1_S1) (.inl rfl))
    startP ![0] inb_S2_S1_0 ![0, 0, 0] inb_S2x2048x512_S1x2048x512_0_0_0 ![0, 0, 0] inb_S2x512x2048_S1x512x2048_0_0_0 (k0_off2 v) (hE v hw h) (k0_off3 v) (hF v hw h)
      fun _ => k v hw
  else k v hw

/-- The change of expert, to the load of the gate's weights: the copies awaited, the next expert's started into the other slot. -/
def segP (ve : BitVec 32) (hE : ∀ a, (k0_off2 ve) a + S1x2048x512.size a ≤ S32x2048x512.size a) (hF : ∀ a, (k0_off3 ve) a + S1x512x2048.size a ≤ S32x512x2048.size a)
    (chk : BitVec 32 → Prop) (dec : ∀ v, Decidable (chk v))
    (hS : ∀ v, chk v → ∀ a, (k0_off5 v) a + S1.size a ≤ S2.size a) (hA : ∀ v, chk v → ∀ a, (k0_off6 v) a + S1x2048x512.size a ≤ S2x2048x512.size a)
    (hB : ∀ v, chk v → ∀ a, (k0_off8 v) a + S1x512x2048.size a ≤ S2x512x2048.size a) (hL : ∀ v, chk v → ∀ a, (k0_off16 v) a + S1x2048x512.size a ≤ S2x2048x512.size a)
    (oX : Fin 1 → ℕ) (hX : ∀ a, oX a + S1.size a ≤ S176.size a) (chkn : BitVec 32 → BitVec 32 → Prop) (decn : ∀ v n, Decidable (chkn v n))
    (hS' : ∀ v n, chkn v n → k0_cond3 n = 1#1 → ∀ a, (k0_off11 v) a + S1.size a ≤ S2.size a)
    (hA' : ∀ v n, chkn v n → k0_cond3 n = 1#1 → ∀ a, (k0_off12 v) a + S1x2048x512.size a ≤ S2x2048x512.size a)
    (hB' : ∀ v n, chkn v n → k0_cond3 n = 1#1 → ∀ a, (k0_off14 v) a + S1x512x2048.size a ≤ S2x512x2048.size a)
    (hE' : ∀ v n, chkn v n → k0_cond3 n = 1#1 → ∀ a, (k0_off13 n) a + S1x2048x512.size a ≤ S32x2048x512.size a)
    (hF' : ∀ v n, chkn v n → k0_cond3 n = 1#1 → ∀ a, (k0_off15 n) a + S1x512x2048.size a ≤ S32x512x2048.size a) :
    Prog (TpuEff nD τ sig (Elt F) Λ₀ .tc) (Σ' (v96 : Elt F .i32) (hw : chk v96) (v97 : BitVec 32), FVec F S2048x512 .bf16) := do
  let v96 : Elt F .i32 ← smemLoad ncM (Rect.unit (s := S1) ![0] S1.size inb_S1_S1_0) numel1_S1 rfl
  have hw : chk v96 := (← Prog.lift (TpuEff.assume (chk v96) (dec v96))).down
  let v98 : Elt F .i32 ← smemLoad ncM (Rect.unit (s := S1) ![0] S1.size inb_S1_S1_0) numel1_S1 rfl
  let v100 : Elt F .i32 ← smemLoad ncM (Rect.unit (s := S1) ![0] S1.size inb_S1_S1_0) numel1_S1 rfl
  Prog.lift (.store ncM (Rect.unit (s := S1) ![0] S1.size inb_S1_S1_0) (fun _ => Scalar.addi v98 1#32) Finset.univ (View.stores_smem_one rfl numel1_S1) (.inl rfl))
  waitP (k0_off5 v96) (hS v96 hw) (k0_off6 v96) (hA v96 hw) (k0_off8 v96) (hB v96 hw) (k0_off2 ve) hE (k0_off3 ve) hF fun _ => do
    let n : Elt F .i32 ← smemLoad nxM (Rect.unit (s := S176) oX S1.size hX) numel1_S1 rfl
    have hwn : chkn v96 n := (← Prog.lift (TpuEff.assume (chkn v96 n) (decn v96 n))).down
    let fin : Prog (TpuEff nD τ sig (Elt F) Λ₀ .tc) (Σ' (v96 : Elt F .i32) (hw : chk v96) (v97 : BitVec 32), FVec F S2048x512 .bf16) := do
      let v125 : Vec F S1x2048x512 .f32 ← Prog.lift (.load stG (Rect.unit (s := S2x2048x512) (k0_off16 v96) S1x2048x512.size (hL v96 hw)).toLoadRect (View.loadsAt_vmem h_S1x2048x512))
      pure ⟨v96, hw, Scalar.remsi v96 2#32, k0_pay8 v125⟩
    if h : k0_cond3 n = 1#1 then
      startP (k0_off11 v96) (hS' v96 n hwn h) (k0_off12 v96) (hA' v96 n hwn h) (k0_off14 v96) (hB' v96 n hwn h) (k0_off13 n) (hE' v96 n hwn h) (k0_off15 n) (hF' v96 n hwn h)
        fun _ => fin
    else fin

/-- Step two: where the tile's expert is new, the change and the three casts. -/
def segB (oT : Fin 1 → ℕ) (hT : ∀ a, oT a + S1.size a ≤ S176.size a) (chk : BitVec 32 → Prop) (dec : ∀ v, Decidable (chk v)) (cond : BitVec 32 → BitVec 1)
    (chk2 : BitVec 32 → BitVec 32 → Prop)
    (part : ∀ v, chk v → cond v = 1#1 → Prog (TpuEff nD τ sig (Elt F) Λ₀ .tc) (Σ' (v96 : Elt F .i32) (hw : chk2 v v96) (v97 : BitVec 32), FVec F S2048x512 .bf16))
    (hA : ∀ v w, chk2 v w → cond v = 1#1 → ∀ a, (k0_off16 w) a + S1x2048x512.size a ≤ S2x2048x512.size a)
    (hB : ∀ v w, chk2 v w → cond v = 1#1 → ∀ a, (k0_off17 w) a + S1x512x2048.size a ≤ S2x512x2048.size a)
    {α : Type} (k : PUnit.{1} → Prog (TpuEff nD τ sig (Elt F) Λ₀ .tc) α) : Prog (TpuEff nD τ sig (Elt F) Λ₀ .tc) α := do
  let v : Elt F .i32 ← smemLoad teM (Rect.unit (s := S176) oT S1.size hT) numel1_S1 rfl
  have hw : chk v := (← Prog.lift (TpuEff.assume (chk v) (dec v))).down
  if h : cond v = 1#1 then do
    let ⟨v96, hw2, v97, v127⟩ : Σ' (v96 : Elt F .i32) (hw : chk2 v v96) (v97 : BitVec 32), FVec F S2048x512 .bf16 ← part v hw h
    let v128 : Vec F S2048x512 .bf16 ← Prog.lift (.load curG (Rect.unit (s := S2048x512) ![0, 0] S2048x512.size inb_S2048x512_S2048x512_0_0).toLoadRect (View.loadsAt_vmem h_S2048x512))
    Prog.lift (.store curG (Rect.unit (s := S2048x512) ![0, 0] S2048x512.size inb_S2048x512_S2048x512_0_0) (k0_pay12 v127) Finset.univ (View.stores_vmem h_S2048x512 ((Memref.isWhole_whole _).storeExact_slice rfl _ packedbf16_S2048x512_S2048x512_0_0) (fun _ => rfl)) (.inl rfl))
    let v132 : Vec F S1x2048x512 .f32 ← Prog.lift (.load stU (Rect.unit (s := S2x2048x512) (k0_off16 v96) S1x2048x512.size (hA v v96 hw2 h)).toLoadRect (View.loadsAt_vmem h_S1x2048x512))
    let v135 : Vec F S2048x512 .bf16 ← Prog.lift (.load curU (Rect.unit (s := S2048x512) ![0, 0] S2048x512.size inb_S2048x512_S2048x512_0_0).toLoadRect (View.loadsAt_vmem h_S2048x512))
    Prog.lift (.store curU (Rect.unit (s := S2048x512) ![0, 0] S2048x512.size inb_S2048x512_S2048x512_0_0) (k0_pay13 v132) Finset.univ (View.stores_vmem h_S2048x512 ((Memref.isWhole_whole _).storeExact_slice rfl _ packedbf16_S2048x512_S2048x512_0_0) (fun _ => rfl)) (.inl rfl))
    let v139 : Vec F S1x512x2048 .f32 ← Prog.lift (.load stD (Rect.unit (s := S2x512x2048) (k0_off17 v96) S1x512x2048.size (hB v v96 hw2 h)).toLoadRect (View.loadsAt_vmem h_S1x512x2048))
    let v142 : Vec F S512x2048 .bf16 ← Prog.lift (.load curD (Rect.unit (s := S512x2048) ![0, 0] S512x2048.size inb_S512x2048_S512x2048_0_0).toLoadRect (View.loadsAt_vmem h_S512x2048))
    Prog.lift (.store curD (Rect.unit (s := S512x2048) ![0, 0] S512x2048.size inb_S512x2048_S512x2048_0_0) (k0_pay14 v139) Finset.univ (View.stores_vmem h_S512x2048 ((Memref.isWhole_whole _).storeExact_slice rfl _ packedbf16_S512x2048_S512x2048_0_0) (fun _ => rfl)) (.inl rfl))
    k ⟨⟩
  else k ⟨⟩

/-- Step three: the tile's 256 rows through the expert, or zeros where the tile has no row. -/
def segC (arg4 : Memref sig .tc .vmem S1024x1x1024 .i32) (arg8 : Memref sig .tc .vmem S1024x1x2048 .bf16) (harg8 : arg8.IsWhole)
    (o : Fin 3 → ℕ) (hX : ∀ a, o a + S256x1x1024.size a ≤ S1024x1x1024.size a) (hY : ∀ a, o a + S256x1x2048.size a ≤ S1024x1x2048.size a)
    (hP : (Rect.unit (s := S1024x1x2048) o S256x1x2048.size hY).PackedRows (EltTy.packing .bf16)) (v17 : Elt F .i32)
    {α : Type} (k : PUnit.{1} → Prog (TpuEff nD τ sig (Elt F) Λ₀ .tc) α) : Prog (TpuEff nD τ sig (Elt F) Λ₀ .tc) α := do
  let zero : Prog (TpuEff nD τ sig (Elt F) Λ₀ .tc) α :=
    if h5 : k0_cond5 v17 = 1#1 then do
      let v99 : Vec F S256x1x2048 .bf16 ← Prog.lift (.load arg8 (Rect.unit (s := S1024x1x2048) o S256x1x2048.size hY).toLoadRect (View.loadsAt_vmem h_S256x1x2048))
      Prog.lift (.store arg8 (Rect.unit (s := S1024x1x2048) o S256x1x2048.size hY) (k0_pay16 (F := F)) Finset.univ (View.stores_vmem h_S256x1x2048 (harg8.storeExact_slice rfl _ hP) (fun _ => rfl)) (.inl rfl))
      k ⟨⟩
    else k ⟨⟩
  if h4 : k0_cond4 v17 = 1#1 then do
    let v99 : Vec F S256x1x1024 .i32 ← Prog.lift (.load arg4 (Rect.unit (s := S1024x1x1024) o S256x1x1024.size hX).toLoadRect (View.loadsAt_vmem h_S256x1x1024))
    let v107 : Vec F S2048x512 .bf16 ← Prog.lift (.load curG (Rect.unit (s := S2048x512) ![0, 0] S2048x512.size inb_S2048x512_S2048x512_0_0).toLoadRect (View.loadsAt_vmem h_S2048x512))
    let v109 : Vec F S2048x512 .bf16 ← Prog.lift (.load curU (Rect.unit (s := S2048x512) ![0, 0] S2048x512.size inb_S2048x512_S2048x512_0_0).toLoadRect (View.loadsAt_vmem h_S2048x512))
    let v115 : Vec F S512x2048 .bf16 ← Prog.lift (.load curD (Rect.unit (s := S512x2048) ![0, 0] S512x2048.size inb_S512x2048_S512x2048_0_0).toLoadRect (View.loadsAt_vmem h_S512x2048))
    let v119 : Vec F S256x1x2048 .bf16 ← Prog.lift (.load arg8 (Rect.unit (s := S1024x1x2048) o S256x1x2048.size hY).toLoadRect (View.loadsAt_vmem h_S256x1x2048))
    Prog.lift (.store arg8 (Rect.unit (s := S1024x1x2048) o S256x1x2048.size hY) (k0_pay15 v17 v99 v107 v109 v115) Finset.univ (View.stores_vmem h_S256x1x2048 (harg8.storeExact_slice rfl _ hP) (fun _ => rfl)) (.inl rfl))
    zero
  else zero

end Cert.KernelIdeal.Hand
-- ==== Proof.Split.lean ====
module

public import proofs.«01_k».proof.Proof.Segs
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

/-- The proof's user algebra: the pipeline library's beside the transfers' counters. -/
local notation "𝕄" => MT nD τ sig Unit (Elt F) ℕ (Pipeline.UD sig nD τ) ℕ

/-! ## The printed body as the steps of its four tiles -/

variable (i : grid0.Coords) (arg4 : Memref sig .tc .vmem S1024x1x1024 .i32) (harg4 : arg4.IsWhole)
  (arg8 : Memref sig .tc .vmem S1024x1x2048 .bf16) (harg8 : arg8.IsWhole)

/-- Tile 0 of the point: its first step. -/
def stepA0 {α : Type} (k : (v : Elt F .i32) → k0_chk1 i v → Prog (TpuEff nD τ sig (Elt F) Λ₀ .tc) α) : Prog (TpuEff nD τ sig (Elt F) Λ₀ .tc) α :=
  segA (k0_off1 i) (k0_off1_inb i) (k0_chk1 i) (k0_chk1.dec i) (k0_cond1 i) (fun v hw h => k0_off2_inb i v hw h) (fun v hw h => k0_off3_inb i v hw h) k

/-- Its change of expert. -/
def stepP0 (v3 v11 : Elt F .i32) (hw : k0_chk3 i v3 v11) (h : k0_cond2 i v3 v11 = 1#1) :
    Prog (TpuEff nD τ sig (Elt F) Λ₀ .tc) (Σ' (v96 : Elt F .i32) (hw : k0_chk2 i v3 v11 v96) (v97 : BitVec 32), FVec F S2048x512 .bf16) :=
  segP v3 (k0_off7_inb i v3 v11 hw h) (k0_off9_inb i v3 v11 hw h) (k0_chk2 i v3 v11) (k0_chk2.dec i v3 v11)
    (fun v w => k0_off5_inb i v3 v11 v w h) (fun v w => k0_off6_inb i v3 v11 v w h) (fun v w => k0_off8_inb i v3 v11 v w h) (fun v w => k0_off16_inb i v3 v11 v w h)
    (k0_off10 i) (k0_off10_inb i) (k0_chk4 i v3 v11) (k0_chk4.dec i v3 v11)
    (fun v n w g => k0_off11_inb i v3 v11 v n w h g) (fun v n w g => k0_off12_inb i v3 v11 v n w h g) (fun v n w g => k0_off14_inb i v3 v11 v n w h g)
    (fun v n w g => k0_off13_inb i v3 v11 v n w h g) (fun v n w g => k0_off15_inb i v3 v11 v n w h g)

/-- Its second step, at the printed part or at the step that equals it. -/
def stepB0 (v3 : Elt F .i32)
    (part : ∀ v11, k0_chk3 i v3 v11 → k0_cond2 i v3 v11 = 1#1 → Prog (TpuEff nD τ sig (Elt F) Λ₀ .tc) (Σ' (v96 : Elt F .i32) (hw : k0_chk2 i v3 v11 v96) (v97 : BitVec 32), FVec F S2048x512 .bf16))
    {α : Type} (k : PUnit.{1} → Prog (TpuEff nD τ sig (Elt F) Λ₀ .tc) α) : Prog (TpuEff nD τ sig (Elt F) Λ₀ .tc) α :=
  segB (k0_off4 i) (k0_off4_inb i) (k0_chk3 i v3) (k0_chk3.dec i v3) (k0_cond2 i v3) (k0_chk2 i v3) part
    (fun v w hw h => k0_off16_inb i v3 v w hw h) (fun v w hw h => k0_off17_inb i v3 v w hw h) k

/-- Its rows' count, read. -/
def stepN0 {α : Type} (k : Elt F .i32 → Prog (TpuEff nD τ sig (Elt F) Λ₀ .tc) α) : Prog (TpuEff nD τ sig (Elt F) Λ₀ .tc) α := do
  let v : Elt F .i32 ← smemLoad nrM (Rect.unit (s := S176) (k0_off18 i) S1.size (k0_off18_inb i)) numel1_S1 rfl
  k v

/-- Its third step. -/
def stepC0 (v17 : Elt F .i32) {α : Type} (k : PUnit.{1} → Prog (TpuEff nD τ sig (Elt F) Λ₀ .tc) α) : Prog (TpuEff nD τ sig (Elt F) Λ₀ .tc) α :=
  segC arg4 arg8 harg8 ![0, 0, 0] inb_S1024x1x1024_S256x1x1024_0_0_0 inb_S1024x1x2048_S256x1x2048_0_0_0 packedbf16_S1024x1x2048_S256x1x2048_0_0_0 v17 k

theorem part1_eq (v1 : BitVec 32) (v3 v11 : Elt F .i32) (hw : k0_chk3 i v3 v11) (h : k0_cond2 i v3 v11 = 1#1) :
    k0_part1 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) v1 v3 v11 hw h = stepP0 i v3 v11 hw h := by
  rw [k0_part1_eq_skeleton]; rfl

/-- Tile 1 of the point: its first step. -/
def stepA1 {α : Type} (k : (v : Elt F .i32) → k0_chk5 i v → Prog (TpuEff nD τ sig (Elt F) Λ₀ .tc) α) : Prog (TpuEff nD τ sig (Elt F) Λ₀ .tc) α :=
  segA (k0_off19 i) (k0_off19_inb i) (k0_chk5 i) (k0_chk5.dec i) (k0_cond6 i) (fun v hw h => k0_off20_inb i v hw h) (fun v hw h => k0_off21_inb i v hw h) k

/-- Its change of expert. -/
def stepP1 (v3 v11 : Elt F .i32) (hw : k0_chk7 i v3 v11) (h : k0_cond7 i v3 v11 = 1#1) :
    Prog (TpuEff nD τ sig (Elt F) Λ₀ .tc) (Σ' (v96 : Elt F .i32) (hw : k0_chk6 i v3 v11 v96) (v97 : BitVec 32), FVec F S2048x512 .bf16) :=
  segP v3 (k0_off25_inb i v3 v11 hw h) (k0_off27_inb i v3 v11 hw h) (k0_chk6 i v3 v11) (k0_chk6.dec i v3 v11)
    (fun v w => k0_off23_inb i v3 v11 v w h) (fun v w => k0_off24_inb i v3 v11 v w h) (fun v w => k0_off26_inb i v3 v11 v w h) (fun v w => k0_off34_inb i v3 v11 v w h)
    (k0_off28 i) (k0_off28_inb i) (k0_chk8 i v3 v11) (k0_chk8.dec i v3 v11)
    (fun v n w g => k0_off29_inb i v3 v11 v n w h g) (fun v n w g => k0_off30_inb i v3 v11 v n w h g) (fun v n w g => k0_off32_inb i v3 v11 v n w h g)
    (fun v n w g => k0_off31_inb i v3 v11 v n w h g) (fun v n w g => k0_off33_inb i v3 v11 v n w h g)

/-- Its second step, at the printed part or at the step that equals it. -/
def stepB1 (v3 : Elt F .i32)
    (part : ∀ v11, k0_chk7 i v3 v11 → k0_cond7 i v3 v11 = 1#1 → Prog (TpuEff nD τ sig (Elt F) Λ₀ .tc) (Σ' (v96 : Elt F .i32) (hw : k0_chk6 i v3 v11 v96) (v97 : BitVec 32), FVec F S2048x512 .bf16))
    {α : Type} (k : PUnit.{1} → Prog (TpuEff nD τ sig (Elt F) Λ₀ .tc) α) : Prog (TpuEff nD τ sig (Elt F) Λ₀ .tc) α :=
  segB (k0_off22 i) (k0_off22_inb i) (k0_chk7 i v3) (k0_chk7.dec i v3) (k0_cond7 i v3) (k0_chk6 i v3) part
    (fun v w hw h => k0_off34_inb i v3 v w hw h) (fun v w hw h => k0_off35_inb i v3 v w hw h) k

/-- Its rows' count, read. -/
def stepN1 {α : Type} (k : Elt F .i32 → Prog (TpuEff nD τ sig (Elt F) Λ₀ .tc) α) : Prog (TpuEff nD τ sig (Elt F) Λ₀ .tc) α := do
  let v : Elt F .i32 ← smemLoad nrM (Rect.unit (s := S176) (k0_off36 i) S1.size (k0_off36_inb i)) numel1_S1 rfl
  k v

/-- Its third step. -/
def stepC1 (v17 : Elt F .i32) {α : Type} (k : PUnit.{1} → Prog (TpuEff nD τ sig (Elt F) Λ₀ .tc) α) : Prog (TpuEff nD τ sig (Elt F) Λ₀ .tc) α :=
  segC arg4 arg8 harg8 ![256, 0, 0] inb_S1024x1x1024_S256x1x1024_256_0_0 inb_S1024x1x2048_S256x1x2048_256_0_0 packedbf16_S1024x1x2048_S256x1x2048_256_0_0 v17 k

theorem part2_eq (v1 : BitVec 32) (v3 v11 : Elt F .i32) (hw : k0_chk7 i v3 v11) (h : k0_cond7 i v3 v11 = 1#1) :
    k0_part2 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) v1 v3 v11 hw h = stepP1 i v3 v11 hw h := by
  rw [k0_part2_eq_skeleton]; rfl

/-- Tile 2 of the point: its first step. -/
def stepA2 {α : Type} (k : (v : Elt F .i32) → k0_chk9 i v → Prog (TpuEff nD τ sig (Elt F) Λ₀ .tc) α) : Prog (TpuEff nD τ sig (Elt F) Λ₀ .tc) α :=
  segA (k0_off37 i) (k0_off37_inb i) (k0_chk9 i) (k0_chk9.dec i) (k0_cond11 i) (fun v hw h => k0_off38_inb i v hw h) (fun v hw h => k0_off39_inb i v hw h) k

/-- Its change of expert. -/
def stepP2 (v3 v11 : Elt F .i32) (hw : k0_chk11 i v3 v11) (h : k0_cond12 i v3 v11 = 1#1) :
    Prog (TpuEff nD τ sig (Elt F) Λ₀ .tc) (Σ' (v96 : Elt F .i32) (hw : k0_chk10 i v3 v11 v96) (v97 : BitVec 32), FVec F S2048x512 .bf16) :=
  segP v3 (k0_off43_inb i v3 v11 hw h) (k0_off45_inb i v3 v11 hw h) (k0_chk10 i v3 v11) (k0_chk10.dec i v3 v11)
    (fun v w => k0_off41_inb i v3 v11 v w h) (fun v w => k0_off42_inb i v3 v11 v w h) (fun v w => k0_off44_inb i v3 v11 v w h) (fun v w => k0_off52_inb i v3 v11 v w h)
    (k0_off46 i) (k0_off46_inb i) (k0_chk12 i v3 v11) (k0_chk12.dec i v3 v11)
    (fun v n w g => k0_off47_inb i v3 v11 v n w h g) (fun v n w g => k0_off48_inb i v3 v11 v n w h g) (fun v n w g => k0_off50_inb i v3 v11 v n w h g)
    (fun v n w g => k0_off49_inb i v3 v11 v n w h g) (fun v n w g => k0_off51_inb i v3 v11 v n w h g)

/-- Its second step, at the printed part or at the step that equals it. -/
def stepB2 (v3 : Elt F .i32)
    (part : ∀ v11, k0_chk11 i v3 v11 → k0_cond12 i v3 v11 = 1#1 → Prog (TpuEff nD τ sig (Elt F) Λ₀ .tc) (Σ' (v96 : Elt F .i32) (hw : k0_chk10 i v3 v11 v96) (v97 : BitVec 32), FVec F S2048x512 .bf16))
    {α : Type} (k : PUnit.{1} → Prog (TpuEff nD τ sig (Elt F) Λ₀ .tc) α) : Prog (TpuEff nD τ sig (Elt F) Λ₀ .tc) α :=
  segB (k0_off40 i) (k0_off40_inb i) (k0_chk11 i v3) (k0_chk11.dec i v3) (k0_cond12 i v3) (k0_chk10 i v3) part
    (fun v w hw h => k0_off52_inb i v3 v w hw h) (fun v w hw h => k0_off53_inb i v3 v w hw h) k

/-- Its rows' count, read. -/
def stepN2 {α : Type} (k : Elt F .i32 → Prog (TpuEff nD τ sig (Elt F) Λ₀ .tc) α) : Prog (TpuEff nD τ sig (Elt F) Λ₀ .tc) α := do
  let v : Elt F .i32 ← smemLoad nrM (Rect.unit (s := S176) (k0_off54 i) S1.size (k0_off54_inb i)) numel1_S1 rfl
  k v

/-- Its third step. -/
def stepC2 (v17 : Elt F .i32) {α : Type} (k : PUnit.{1} → Prog (TpuEff nD τ sig (Elt F) Λ₀ .tc) α) : Prog (TpuEff nD τ sig (Elt F) Λ₀ .tc) α :=
  segC arg4 arg8 harg8 ![512, 0, 0] inb_S1024x1x1024_S256x1x1024_512_0_0 inb_S1024x1x2048_S256x1x2048_512_0_0 packedbf16_S1024x1x2048_S256x1x2048_512_0_0 v17 k

theorem part3_eq (v1 : BitVec 32) (v3 v11 : Elt F .i32) (hw : k0_chk11 i v3 v11) (h : k0_cond12 i v3 v11 = 1#1) :
    k0_part3 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) v1 v3 v11 hw h = stepP2 i v3 v11 hw h := by
  rw [k0_part3_eq_skeleton]; rfl

/-- Tile 3 of the point: its first step. -/
def stepA3 {α : Type} (k : (v : Elt F .i32) → k0_chk13 i v → Prog (TpuEff nD τ sig (Elt F) Λ₀ .tc) α) : Prog (TpuEff nD τ sig (Elt F) Λ₀ .tc) α :=
  segA (k0_off55 i) (k0_off55_inb i) (k0_chk13 i) (k0_chk13.dec i) (k0_cond16 i) (fun v hw h => k0_off56_inb i v hw h) (fun v hw h => k0_off57_inb i v hw h) k

/-- Its change of expert. -/
def stepP3 (v3 v11 : Elt F .i32) (hw : k0_chk15 i v3 v11) (h : k0_cond17 i v3 v11 = 1#1) :
    Prog (TpuEff nD τ sig (Elt F) Λ₀ .tc) (Σ' (v96 : Elt F .i32) (hw : k0_chk14 i v3 v11 v96) (v97 : BitVec 32), FVec F S2048x512 .bf16) :=
  segP v3 (k0_off61_inb i v3 v11 hw h) (k0_off63_inb i v3 v11 hw h) (k0_chk14 i v3 v11) (k0_chk14.dec i v3 v11)
    (fun v w => k0_off59_inb i v3 v11 v w h) (fun v w => k0_off60_inb i v3 v11 v w h) (fun v w => k0_off62_inb i v3 v11 v w h) (fun v w => k0_off70_inb i v3 v11 v w h)
    (k0_off64 i) (k0_off64_inb i) (k0_chk16 i v3 v11) (k0_chk16.dec i v3 v11)
    (fun v n w g => k0_off65_inb i v3 v11 v n w h g) (fun v n w g => k0_off66_inb i v3 v11 v n w h g) (fun v n w g => k0_off68_inb i v3 v11 v n w h g)
    (fun v n w g => k0_off67_inb i v3 v11 v n w h g) (fun v n w g => k0_off69_inb i v3 v11 v n w h g)

/-- Its second step, at the printed part or at the step that equals it. -/
def stepB3 (v3 : Elt F .i32)
    (part : ∀ v11, k0_chk15 i v3 v11 → k0_cond17 i v3 v11 = 1#1 → Prog (TpuEff nD τ sig (Elt F) Λ₀ .tc) (Σ' (v96 : Elt F .i32) (hw : k0_chk14 i v3 v11 v96) (v97 : BitVec 32), FVec F S2048x512 .bf16))
    {α : Type} (k : PUnit.{1} → Prog (TpuEff nD τ sig (Elt F) Λ₀ .tc) α) : Prog (TpuEff nD τ sig (Elt F) Λ₀ .tc) α :=
  segB (k0_off58 i) (k0_off58_inb i) (k0_chk15 i v3) (k0_chk15.dec i v3) (k0_cond17 i v3) (k0_chk14 i v3) part
    (fun v w hw h => k0_off70_inb i v3 v w hw h) (fun v w hw h => k0_off71_inb i v3 v w hw h) k

/-- Its rows' count, read. -/
def stepN3 {α : Type} (k : Elt F .i32 → Prog (TpuEff nD τ sig (Elt F) Λ₀ .tc) α) : Prog (TpuEff nD τ sig (Elt F) Λ₀ .tc) α := do
  let v : Elt F .i32 ← smemLoad nrM (Rect.unit (s := S176) (k0_off72 i) S1.size (k0_off72_inb i)) numel1_S1 rfl
  k v

/-- Its third step. -/
def stepC3 (v17 : Elt F .i32) {α : Type} (k : PUnit.{1} → Prog (TpuEff nD τ sig (Elt F) Λ₀ .tc) α) : Prog (TpuEff nD τ sig (Elt F) Λ₀ .tc) α :=
  segC arg4 arg8 harg8 ![768, 0, 0] inb_S1024x1x1024_S256x1x1024_768_0_0 inb_S1024x1x2048_S256x1x2048_768_0_0 packedbf16_S1024x1x2048_S256x1x2048_768_0_0 v17 k

theorem part4_eq (v1 : BitVec 32) (v3 v11 : Elt F .i32) (hw : k0_chk15 i v3 v11) (h : k0_cond17 i v3 v11 = 1#1) :
    k0_part4 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) v1 v3 v11 hw h = stepP3 i v3 v11 hw h := by
  rw [k0_part4_eq_skeleton]; rfl

theorem part5_eq :
    k0_part5 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _)
      = stepA0 i fun v3 _ => stepB0 i v3 (fun v11 hw h => k0_part1 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) (Scalar.addi (Scalar.muli (BitVec.ofNat 32 (i 0).val) 4#32) 0#32) v3 v11 hw h) fun _ => stepN0 i fun v17 => stepC0 arg4 arg8 harg8 v17 fun _ => stepA1 i fun v27 _ =>
          pure ⟨BitVec.ofNat 32 (i 0).val, Scalar.addi (Scalar.muli (BitVec.ofNat 32 (i 0).val) 4#32) 1#32, v27, Scalar.cmpi .eq (Scalar.addi (Scalar.muli (BitVec.ofNat 32 (i 0).val) 4#32) 1#32) 0#32, Scalar.subi (Scalar.addi (Scalar.muli (BitVec.ofNat 32 (i 0).val) 4#32) 1#32) 1#32⟩ := by
  rw [k0_part5_eq_skeleton]; rfl

theorem part6_eq (arg0 v25 : BitVec 32) (v27 : Elt F .i32) (v31 : BitVec 1) (v32 : BitVec 32) :
    k0_part6 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) arg0 v25 v27 v31 v32
      = stepB1 i v27 (fun v11 hw h => k0_part2 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) v25 v27 v11 hw h) fun _ => stepN1 i fun v41 => stepC1 arg4 arg8 harg8 v41 fun _ =>
          stepA2 i fun v51 _ => stepB2 i v51 (fun v11 hw h => k0_part3 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) (Scalar.addi (Scalar.muli arg0 4#32) 2#32) v51 v11 hw h) fun _ => stepN2 i fun v65 => pure v65 := by
  rw [k0_part6_eq_skeleton]; rfl

theorem body_eq :
    cc0_experts (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _)
      = (k0_part5 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _)).bind fun x =>
          (k0_part6 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) x.1 x.2.1 x.2.2.1 x.2.2.2.1 x.2.2.2.2).bind fun v65 =>
            stepC2 arg4 arg8 harg8 v65 fun _ => stepA3 i fun v75 _ =>
              stepB3 i v75 (fun v11 hw h => k0_part4 (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _) (Scalar.addi (Scalar.muli x.1 4#32) 3#32) v75 v11 hw h) fun _ =>
                stepN3 i fun v89 => stepC3 arg4 arg8 harg8 v89 fun _ => pure ⟨⟩ := by
  rw [cc0_experts_eq_skeleton]; rfl

end Cert.KernelIdeal.Hand
-- ==== Proof.Steps.lean ====
module

public import proofs.«01_k».proof.Proof.Segs
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

/-- The proof's user algebra: the pipeline library's beside the transfers' counters. -/
local notation "𝕄" => MT nD τ sig Unit (Elt F) ℕ (Pipeline.UD sig nD τ) ℕ

/-! ## Reading and writing the words -/

variable (defs : Defs nD τ sig (Elt F) Λ₀) (𝒱 : Variants)

/-- The count's one word reads `w`. -/
def Nc (c : Dev nD) (w : BitVec 32) : sProp 𝕄 :=
  iprop(∃ f, (ncM.view.loc (c : Thread nD τ) ↦{fullShare} f) ∗ ⌜∀ x, (ncM.access (Rect.unit (s := S1) ![0] S1.size inb_S1_S1_0)).read (Elt F) f x = w⌝)

/-- A program in two parts: the first, then the second. -/
theorem wp_bind_in (c : Dev nD) {α β : Type} (p : Prog (TpuEff nD τ sig (Elt F) Λ₀ .tc) α) (k : α → Prog (TpuEff nD τ sig (Elt F) Λ₀ .tc) β) (Q : β → sProp 𝕄) :
    wp frame (wpE defs 𝒱 (c : Thread nD τ) none) Set.univ p (fun a => wp frame (wpE defs 𝒱 (c : Thread nD τ) none) Set.univ (k a) Q)
      ⊢ wp frame (wpE defs 𝒱 (c : Thread nD τ) none) Set.univ (p >>= k) Q := by
  rw [Idealize.SL.Sem.wp_bind]

/-- A word of a table held at any share. -/
theorem wp_word (c : Dev nD) (M : Memref sig .tc .smem S176 .i32) {oT : Fin 1 → ℕ} {hT : ∀ a, oT a + S1.size a ≤ S176.size a} {q : PosShare TreeShare}
    {f : Buf (Elt F) (M.view.loc (c : Thread nD τ))} {v : Elt F .i32}
    (hv : ∀ x, (M.access (Rect.unit (s := S176) oT S1.size hT)).read (Elt F) f x = v) {α : Type}
    (k : Elt F .i32 → Prog (TpuEff nD τ sig (Elt F) Λ₀ .tc) α) (Q : α → sProp 𝕄) :
    iprop((M.view.loc (c : Thread nD τ) ↦{q} f) ∗ ((M.view.loc (c : Thread nD τ) ↦{q} f) -∗ wp frame (wpE defs 𝒱 (c : Thread nD τ) none) Set.univ (k v) Q))
      ⊢ wp frame (wpE defs 𝒱 (c : Thread nD τ) none) Set.univ (smemLoad M (Rect.unit (s := S176) oT S1.size hT) numel1_S1 rfl >>= k) Q := by
  iintro ⟨H, Hk⟩
  iapply (wp_load_rect (hl := View.loadsAt_rect (View.loads_smem_one rfl numel1_S1)) 𝒱 (c : Thread nD τ) none Set.univ (m := M) (r := Rect.unit (s := S176) oT S1.size hT) (q := q) (f := f) (Finset.subset_univ _)) $$ H
  iintro H
  simp only [hv, ret_bind']
  iapply Hk $$ H

/-- The count read. -/
theorem wp_nc (c : Dev nD) (w : BitVec 32) {α : Type}
    (k : Elt F .i32 → Prog (TpuEff nD τ sig (Elt F) Λ₀ .tc) α) (Q : α → sProp 𝕄) :
    iprop(Nc (F := F) c w ∗ (Nc (F := F) c w -∗ wp frame (wpE defs 𝒱 (c : Thread nD τ) none) Set.univ (k w) Q))
      ⊢ wp frame (wpE defs 𝒱 (c : Thread nD τ) none) Set.univ (smemLoad ncM (Rect.unit (s := S1) ![0] S1.size inb_S1_S1_0) numel1_S1 rfl >>= k) Q := by
  unfold Nc
  iintro ⟨⟨%f, H, %hv⟩, Hk⟩
  iapply (wp_load_rect (hl := View.loadsAt_rect (View.loads_smem_one rfl numel1_S1)) 𝒱 (c : Thread nD τ) none Set.univ (m := ncM) (r := Rect.unit (s := S1) ![0] S1.size inb_S1_S1_0) (q := fullShare) (f := f) (Finset.subset_univ _)) $$ H
  iintro H
  simp only [hv, ret_bind']
  iapply Hk
  iexists f
  isplitl [H]; · iexact H
  ipureintro; exact hv

/-- The count written. -/
theorem wp_nc_set (c : Dev nD) (w : BitVec 32) {hx hm} {α : Type}
    (k : PUnit.{1} → Prog (TpuEff nD τ sig (Elt F) Λ₀ .tc) α) (Q : α → sProp 𝕄) :
    iprop((∃ v, Nc (F := F) c v) ∗ (Nc (F := F) c w -∗ wp frame (wpE defs 𝒱 (c : Thread nD τ) none) Set.univ (k ⟨⟩) Q))
      ⊢ wp frame (wpE defs 𝒱 (c : Thread nD τ) none) Set.univ
          (Prog.lift (.store ncM (Rect.unit (s := S1) ![0] S1.size inb_S1_S1_0) (fun _ => w) Finset.univ hx hm) >>= k) Q := by
  unfold Nc
  iintro ⟨⟨%v, %f, H, -⟩, Hk⟩
  iapply (wp_store 𝒱 (c : Thread nD τ) none Set.univ (m := ncM) (r := Rect.unit (s := S1) ![0] S1.size inb_S1_S1_0) (f := f) (Finset.subset_univ _)) $$ H
  iintro H
  simp only [ret_bind']
  iapply Hk
  iexists _
  isplitl [H]; · iexact H
  ipureintro; intro x; rw [View.read_write_univ]

/-! ## Slots in turn -/

/-- The slot of the `k`th expert: the two in turn. -/
abbrev sl (k : ℕ) : Fin 2 := ⟨k % 2, Nat.mod_lt _ (by decide)⟩

/-- The expert that a word of the third table names, `32` naming none. -/
def nextOf (n : BitVec 32) : Option (Fin 32) := if h : n.toNat < 32 then some ⟨n.toNat, h⟩ else none

/-- A slot that the next expert is on its way into, where there is one. -/
def Next (c : Dev nD) (s : Fin 2) (o : Option (Fin 32)) (wg : GW (F := F) c) (wu : UW (F := F) c) (wd : DW (F := F) c) : sProp 𝕄 :=
  match o with
  | some e => InFlight c s e wg wu wd
  | none => iprop(Free (F := F) c s ∗ Home c wg wu wd)

theorem Next_some (c : Dev nD) (s : Fin 2) (e : Fin 32) (wg : GW (F := F) c) (wu : UW (F := F) c) (wd : DW (F := F) c) :
    Next c s (some e) wg wu wd = InFlight c s e wg wu wd := rfl
theorem Next_none (c : Dev nD) (s : Fin 2) (wg : GW (F := F) c) (wu : UW (F := F) c) (wd : DW (F := F) c) :
    Next c s none wg wu wd = iprop(Free (F := F) c s ∗ Home c wg wu wd) := rfl

/-- The state between two tiles: `k` changes so far, expert `o` on its way into the slot that is next, the other slot idle. -/
def Ring (c : Dev nD) (k : ℕ) (o : Option (Fin 32)) (wg : GW (F := F) c) (wu : UW (F := F) c) (wd : DW (F := F) c) : sProp 𝕄 :=
  iprop(Nc (F := F) c (BitVec.ofNat 32 k) ∗ Next c (sl k) o wg wu wd ∗ Free (F := F) c (sl (k + 1)))

/-- An expert's three weights as the tiles use them: rounded to bf16. -/
def GV (c : Dev nD) (e : Fin 32) (wg : GW (F := F) c) : FVec F S2048x512 .bf16 :=
  shapeCast S2048x512 (truncf .bf16 ((gW e).view.read (Elt F) wg : FVec F S2048x512 .f32) bitsLt_bf16_f32) shapeCasts_S2048x512_S2048x512
def UV (c : Dev nD) (e : Fin 32) (wu : UW (F := F) c) : FVec F S2048x512 .bf16 :=
  shapeCast S2048x512 (truncf .bf16 ((uW e).view.read (Elt F) wu : FVec F S2048x512 .f32) bitsLt_bf16_f32) shapeCasts_S2048x512_S2048x512
def DV (c : Dev nD) (e : Fin 32) (wd : DW (F := F) c) : FVec F S512x2048 .bf16 :=
  shapeCast S512x2048 (truncf .bf16 ((dW e).view.read (Elt F) wd : FVec F S512x2048 .f32) bitsLt_bf16_f32) shapeCasts_S512x2048_S512x2048

theorem rem_two : ∀ k : Fin 256, (Scalar.remsi (BitVec.ofNat 32 k.val) 2#32).toNat = k.val % 2 := by decide +kernel
theorem sub_rem_two : ∀ k : Fin 256, (Scalar.subi 1#32 (Scalar.remsi (BitVec.ofNat 32 k.val) 2#32)).toNat = (k.val + 1) % 2 := by decide +kernel

theorem off5_eq {k : ℕ} (hk : k < 256) : k0_off5 (BitVec.ofNat 32 k) = ![(sl k).val] := congrArg (fun n : ℕ => ![n]) (rem_two ⟨k, hk⟩)
theorem off6_eq {k : ℕ} (hk : k < 256) : k0_off6 (BitVec.ofNat 32 k) = ![(sl k).val, 0, 0] := congrArg (fun n : ℕ => ![n, 0, 0]) (rem_two ⟨k, hk⟩)
theorem off8_eq {k : ℕ} (hk : k < 256) : k0_off8 (BitVec.ofNat 32 k) = ![(sl k).val, 0, 0] := congrArg (fun n : ℕ => ![n, 0, 0]) (rem_two ⟨k, hk⟩)
theorem off16_eq {k : ℕ} (hk : k < 256) : k0_off16 (BitVec.ofNat 32 k) = ![(sl k).val, 0, 0] := congrArg (fun n : ℕ => ![n, 0, 0]) (rem_two ⟨k, hk⟩)
theorem off17_eq {k : ℕ} (hk : k < 256) : k0_off17 (BitVec.ofNat 32 k) = ![(sl k).val, 0, 0] := congrArg (fun n : ℕ => ![n, 0, 0]) (rem_two ⟨k, hk⟩)
theorem off11_eq {k : ℕ} (hk : k < 256) : k0_off11 (BitVec.ofNat 32 k) = ![(sl (k + 1)).val] := congrArg (fun n : ℕ => ![n]) (sub_rem_two ⟨k, hk⟩)
theorem off12_eq {k : ℕ} (hk : k < 256) : k0_off12 (BitVec.ofNat 32 k) = ![(sl (k + 1)).val, 0, 0] := congrArg (fun n : ℕ => ![n, 0, 0]) (sub_rem_two ⟨k, hk⟩)
theorem off14_eq {k : ℕ} (hk : k < 256) : k0_off14 (BitVec.ofNat 32 k) = ![(sl (k + 1)).val, 0, 0] := congrArg (fun n : ℕ => ![n, 0, 0]) (sub_rem_two ⟨k, hk⟩)

/-- The test for a next expert, on the words the table may hold. -/
theorem cond3_iff (n : BitVec 32) (hn : n.toNat ≤ 32) : k0_cond3 n = 1#1 ↔ n.toNat < 32 := by
  have h : ∀ m : Fin 33, (k0_cond3 (BitVec.ofNat 32 m.val) = 1#1 ↔ m.val < 32) := by decide +kernel
  have := h ⟨n.toNat, by omega⟩
  simpa using this

/-- The gate's weights in slot `s`, loaded and rounded; the up-projection's; the down-projection's. -/
theorem wp_slotG (c : Dev nD) (s : Fin 2) (f : GBuf (F := F) c) {o : Fin 3 → ℕ} {h} (ho : o = ![s.val, 0, 0]) {hl} {α : Type}
    (k : Vec F S1x2048x512 .f32 → Prog (TpuEff nD τ sig (Elt F) Λ₀ .tc) α) (Q : α → sProp 𝕄) :
    iprop(gPt c s f ∗ (∀ v : Vec F S1x2048x512 .f32, ⌜shapeCast S2048x512 v shapeCasts_S1x2048x512_S2048x512 = (gS s).view.read (Elt F) f⌝ -∗ gPt c s f -∗ wp frame (wpE defs 𝒱 (c : Thread nD τ) none) Set.univ (k v) Q))
      ⊢ wp frame (wpE defs 𝒱 (c : Thread nD τ) none) Set.univ
          (Prog.lift (.load stG (Rect.unit (s := S2x2048x512) o S1x2048x512.size h).toLoadRect hl) >>= k) Q := by
  subst ho
  iintro ⟨H, Hk⟩
  iapply (wp_load_rect 𝒱 (c : Thread nD τ) none Set.univ (m := stG) (r := Rect.unit (s := S2x2048x512) ![s.val, 0, 0] S1x2048x512.size h) (hl := hl) (S := (gS s).view.set) (q := fullShare) (f := f)
    (by rw [View.set_reshape])) $$ H
  iintro H
  simp only [ret_bind']
  iapply Hk $$ [] H
  ipureintro; rfl

theorem wp_slotU (c : Dev nD) (s : Fin 2) (f : UBuf (F := F) c) {o : Fin 3 → ℕ} {h} (ho : o = ![s.val, 0, 0]) {hl} {α : Type}
    (k : Vec F S1x2048x512 .f32 → Prog (TpuEff nD τ sig (Elt F) Λ₀ .tc) α) (Q : α → sProp 𝕄) :
    iprop(uPt c s f ∗ (∀ v : Vec F S1x2048x512 .f32, ⌜shapeCast S2048x512 v shapeCasts_S1x2048x512_S2048x512 = (uS s).view.read (Elt F) f⌝ -∗ uPt c s f -∗ wp frame (wpE defs 𝒱 (c : Thread nD τ) none) Set.univ (k v) Q))
      ⊢ wp frame (wpE defs 𝒱 (c : Thread nD τ) none) Set.univ
          (Prog.lift (.load stU (Rect.unit (s := S2x2048x512) o S1x2048x512.size h).toLoadRect hl) >>= k) Q := by
  subst ho
  iintro ⟨H, Hk⟩
  iapply (wp_load_rect 𝒱 (c : Thread nD τ) none Set.univ (m := stU) (r := Rect.unit (s := S2x2048x512) ![s.val, 0, 0] S1x2048x512.size h) (hl := hl) (S := (uS s).view.set) (q := fullShare) (f := f)
    (by rw [View.set_reshape])) $$ H
  iintro H
  simp only [ret_bind']
  iapply Hk $$ [] H
  ipureintro; rfl

theorem wp_slotD (c : Dev nD) (s : Fin 2) (f : DBuf (F := F) c) {o : Fin 3 → ℕ} {h} (ho : o = ![s.val, 0, 0]) {hl} {α : Type}
    (k : Vec F S1x512x2048 .f32 → Prog (TpuEff nD τ sig (Elt F) Λ₀ .tc) α) (Q : α → sProp 𝕄) :
    iprop(dPt c s f ∗ (∀ v : Vec F S1x512x2048 .f32, ⌜shapeCast S512x2048 v shapeCasts_S1x512x2048_S512x2048 = (dS s).view.read (Elt F) f⌝ -∗ dPt c s f -∗ wp frame (wpE defs 𝒱 (c : Thread nD τ) none) Set.univ (k v) Q))
      ⊢ wp frame (wpE defs 𝒱 (c : Thread nD τ) none) Set.univ
          (Prog.lift (.load stD (Rect.unit (s := S2x512x2048) o S1x512x2048.size h).toLoadRect hl) >>= k) Q := by
  subst ho
  iintro ⟨H, Hk⟩
  iapply (wp_load_rect 𝒱 (c : Thread nD τ) none Set.univ (m := stD) (r := Rect.unit (s := S2x512x2048) ![s.val, 0, 0] S1x512x2048.size h) (hl := hl) (S := (dS s).view.set) (q := fullShare) (f := f)
    (by rw [View.set_reshape])) $$ H
  iintro H
  simp only [ret_bind']
  iapply Hk $$ [] H
  ipureintro; rfl

/-! ## The steps -/

/-- Step one where nothing is to start: the tile's expert is read. -/
theorem wp_segA_no (c : Dev nD) {oT hT} {chk : BitVec 32 → Prop} {dec cond hE hF} {q : PosShare TreeShare} {f : Buf (Elt F) (teM.view.loc (c : Thread nD τ))} {v : Elt F .i32}
    (hv : ∀ x, (teM.access (Rect.unit (s := S176) oT S1.size hT)).read (Elt F) f x = v) (hc : chk v) (hn : cond ≠ 1#1) {α : Type}
    (k : (v : Elt F .i32) → chk v → Prog (TpuEff nD τ sig (Elt F) Λ₀ .tc) α) (Q : α → sProp 𝕄) :
    iprop((teM.view.loc (c : Thread nD τ) ↦{q} f) ∗ ((teM.view.loc (c : Thread nD τ) ↦{q} f) -∗ wp frame (wpE defs 𝒱 (c : Thread nD τ) none) Set.univ (k v hc) Q))
      ⊢ wp frame (wpE defs 𝒱 (c : Thread nD τ) none) Set.univ (segA (F := F) oT hT chk dec cond hE hF k) Q := by
  unfold segA
  iintro ⟨H, Hk⟩
  iapply (wp_word defs 𝒱 c teM hv)
  isplitl [H]; · iexact H
  iintro H
  iapply (wp_assume 𝒱 (c : Thread nD τ) none Set.univ hc)
  simp only [ret_bind', dif_neg hn]
  iapply Hk $$ H

/-- Step one at the first tile: the count is zeroed and the tile's expert started into slot 0. -/
theorem wp_segA_first (c : Dev nD) {oT hT} {chk : BitVec 32 → Prop} {dec cond hE hF} {q : PosShare TreeShare} {f : Buf (Elt F) (teM.view.loc (c : Thread nD τ))} {v : Elt F .i32}
    (hv : ∀ x, (teM.access (Rect.unit (s := S176) oT S1.size hT)).read (Elt F) f x = v) (hc : chk v) (hy : cond = 1#1)
    (e : Fin 32) (he : v.toNat = e.val) (wg : GW (F := F) c) (wu : UW (F := F) c) (wd : DW (F := F) c) {α : Type}
    (k : (v : Elt F .i32) → chk v → Prog (TpuEff nD τ sig (Elt F) Λ₀ .tc) α) (Q : α → sProp 𝕄) :
    iprop((teM.view.loc (c : Thread nD τ) ↦{q} f) ∗ (∃ w, Nc (F := F) c w) ∗ Free (F := F) c 0 ∗ Free (F := F) c 1 ∗ Home c wg wu wd
        ∗ ((teM.view.loc (c : Thread nD τ) ↦{q} f) -∗ Ring c 0 (some e) wg wu wd -∗ wp frame (wpE defs 𝒱 (c : Thread nD τ) none) Set.univ (k v hc) Q))
      ⊢ wp frame (wpE defs 𝒱 (c : Thread nD τ) none) Set.univ (segA (F := F) oT hT chk dec cond hE hF k) Q := by
  unfold segA
  iintro ⟨H, ⟨%w, HN⟩, HF0, HF1, HH, Hk⟩
  iapply (wp_word defs 𝒱 c teM hv)
  isplitl [H]; · iexact H
  iintro H
  iapply (wp_assume 𝒱 (c : Thread nD τ) none Set.univ hc)
  simp only [ret_bind', dif_pos hy]
  iapply (wp_nc defs 𝒱 c w)
  isplitl [HN]; · iexact HN
  iintro HN
  iapply (wp_nc_set defs 𝒱 c 0#32)
  isplitl [HN]; · iexists w; iexact HN
  iintro HN
  iapply (wp_startP defs 𝒱 c 0 e wg wu wd rfl rfl rfl (congrArg (fun n : ℕ => ![n, 0, 0]) he) (congrArg (fun n : ℕ => ![n, 0, 0]) he))
  isplitl [HF0]; · iexact HF0
  isplitl [HH]; · iexact HH
  iintro HI
  iapply Hk $$ H
  unfold Ring Next
  isplitl [HN]; · iexact HN
  isplitl [HI]; · iexact HI
  iexact HF1

/-- The change of expert: expert `e` has landed, the next is on its way, the gate's weights are loaded and rounded. -/
theorem wp_segP (c : Dev nD) {ve hE hF} {chk : BitVec 32 → Prop} {dec hS hA hB hL oX hX} {chkn : BitVec 32 → BitVec 32 → Prop} {decn hS' hA' hB' hE' hF'}
    {q : PosShare TreeShare} {f : Buf (Elt F) (nxM.view.loc (c : Thread nD τ))} {n : Elt F .i32}
    (hv : ∀ x, (nxM.access (Rect.unit (s := S176) oX S1.size hX)).read (Elt F) f x = n) (hn : n.toNat ≤ 32)
    {k : ℕ} (hk : k < 256) (hc : chk (BitVec.ofNat 32 k)) (hcn : chkn (BitVec.ofNat 32 k) n)
    (e : Fin 32) (he : ve.toNat = e.val) (wg : GW (F := F) c) (wu : UW (F := F) c) (wd : DW (F := F) c)
    (Q : (Σ' (v96 : Elt F .i32) (hw : chk v96) (v97 : BitVec 32), FVec F S2048x512 .bf16) → sProp 𝕄) :
    iprop(Ring c k (some e) wg wu wd ∗ (∃ W, owes (c : Thread nD τ) 0 W) ∗ (nxM.view.loc (c : Thread nD τ) ↦{q} f)
        ∗ (Nc (F := F) c (BitVec.ofNat 32 (k + 1)) -∗ Landed c (sl k) e wg wu wd -∗ Next c (sl (k + 1)) (nextOf n) wg wu wd -∗ (∃ W, owes (c : Thread nD τ) 0 W)
          -∗ (nxM.view.loc (c : Thread nD τ) ↦{q} f)
          -∗ Q ⟨BitVec.ofNat 32 k, hc, Scalar.remsi (BitVec.ofNat 32 k) 2#32, truncf .bf16 ((gW e).view.read (Elt F) wg : FVec F S2048x512 .f32) bitsLt_bf16_f32⟩))
      ⊢ wp frame (wpE defs 𝒱 (c : Thread nD τ) none) Set.univ
          (segP (F := F) ve hE hF chk dec hS hA hB hL oX hX chkn decn hS' hA' hB' hE' hF') Q := by
  unfold segP Ring
  rw [Next_some]
  iintro ⟨⟨HN, HI, HF⟩, HO, H, Hk⟩
  iapply (wp_nc defs 𝒱 c (BitVec.ofNat 32 k))
  isplitl [HN]; · iexact HN
  iintro HN
  iapply (wp_assume 𝒱 (c : Thread nD τ) none Set.univ hc)
  simp only [ret_bind']
  iapply (wp_nc defs 𝒱 c (BitVec.ofNat 32 k))
  isplitl [HN]; · iexact HN
  iintro HN
  iapply (wp_nc defs 𝒱 c (BitVec.ofNat 32 k))
  isplitl [HN]; · iexact HN
  iintro HN
  iapply (wp_nc_set defs 𝒱 c (Scalar.addi (BitVec.ofNat 32 k) 1#32))
  isplitl [HN]; · iexists _; iexact HN
  simp only [show (Scalar.addi (BitVec.ofNat 32 k) 1#32 : BitVec 32) = BitVec.ofNat 32 (k + 1) from (BitVec.ofNat_add k 1).symm]
  iintro HN
  iapply (wp_waitP defs 𝒱 c (sl k) e wg wu wd (off5_eq hk) (off6_eq hk) (off8_eq hk))
  isplitl [HI]; · iexact HI
  isplitl [HO]; · iexact HO
  iintro HL HH HO
  iapply (wp_word defs 𝒱 c nxM hv)
  isplitl [H]; · iexact H
  iintro H
  iapply (wp_assume 𝒱 (c : Thread nD τ) none Set.univ hcn)
  simp only [ret_bind']
  by_cases h3 : k0_cond3 n = 1#1
  · have hlt := (cond3_iff n hn).1 h3
    simp only [dif_pos h3]
    iapply (wp_startP defs 𝒱 c (sl (k + 1)) ⟨n.toNat, hlt⟩ wg wu wd (off11_eq hk) (off12_eq hk) (off14_eq hk) rfl rfl)
    isplitl [HF]; · iexact HF
    isplitl [HH]; · iexact HH
    iintro HI
    unfold Landed
    icases HL with ⟨Hv, ⟨%fg, Hg, %hg⟩, HU, HD⟩
    iapply (wp_slotG defs 𝒱 c (sl k) fg (off16_eq hk))
    isplitl [Hg]; · iexact Hg
    iintro %v %hvv Hg
    have hp : k0_pay8 v = truncf .bf16 ((gW e).view.read (Elt F) wg : FVec F S2048x512 .f32) bitsLt_bf16_f32 := by
      rw [← hg, ← hvv]; rfl
    simp only [wp_pure, hp]
    imodintro
    iapply Hk $$ HN [Hv Hg HU HD] [HI] HO H
    · isplitl [Hv]; · iexact Hv
      isplitl [Hg]
      · iexists fg; isplitl [Hg]; · iexact Hg
        ipureintro; exact hg
      isplitl [HU]; · iexact HU
      iexact HD
    · simp only [nextOf, dif_pos hlt, Next_some]; iexact HI
  · have hlt : ¬ n.toNat < 32 := fun h => h3 ((cond3_iff n hn).2 h)
    simp only [dif_neg h3]
    unfold Landed
    icases HL with ⟨Hv, ⟨%fg, Hg, %hg⟩, HU, HD⟩
    iapply (wp_slotG defs 𝒱 c (sl k) fg (off16_eq hk))
    isplitl [Hg]; · iexact Hg
    iintro %v %hvv Hg
    have hp : k0_pay8 v = truncf .bf16 ((gW e).view.read (Elt F) wg : FVec F S2048x512 .f32) bitsLt_bf16_f32 := by
      rw [← hg, ← hvv]; rfl
    simp only [wp_pure, hp]
    imodintro
    iapply Hk $$ HN [Hv Hg HU HD] [HF HH] HO H
    · isplitl [Hv]; · iexact Hv
      isplitl [Hg]
      · iexists fg; isplitl [Hg]; · iexact Hg
        ipureintro; exact hg
      isplitl [HU]; · iexact HU
      iexact HD
    · simp only [nextOf, dif_neg hlt, Next_none]
      isplitl [HF]; · iexact HF
      iexact HH

/-- The three current weights, at any contents; at expert `e`'s. -/
def AnyCur (c : Dev nD) : sProp 𝕄 :=
  iprop((∃ f, (curG.view.loc (c : Thread nD τ) ↦{fullShare} (f : Buf (Elt F) _))) ∗ (∃ f, (curU.view.loc (c : Thread nD τ) ↦{fullShare} (f : Buf (Elt F) _)))
    ∗ (∃ f, (curD.view.loc (c : Thread nD τ) ↦{fullShare} (f : Buf (Elt F) _))))
def Cur (c : Dev nD) (e : Fin 32) (wg : GW (F := F) c) (wu : UW (F := F) c) (wd : DW (F := F) c) : sProp 𝕄 :=
  iprop((∃ f, (curG.view.loc (c : Thread nD τ) ↦{fullShare} f) ∗ ⌜(curG.access (Rect.unit (s := S2048x512) ![0, 0] S2048x512.size inb_S2048x512_S2048x512_0_0)).read (Elt F) f = GV c e wg⌝)
    ∗ (∃ f, (curU.view.loc (c : Thread nD τ) ↦{fullShare} f) ∗ ⌜(curU.access (Rect.unit (s := S2048x512) ![0, 0] S2048x512.size inb_S2048x512_S2048x512_0_0)).read (Elt F) f = UV c e wu⌝)
    ∗ (∃ f, (curD.view.loc (c : Thread nD τ) ↦{fullShare} f) ∗ ⌜(curD.access (Rect.unit (s := S512x2048) ![0, 0] S512x2048.size inb_S512x2048_S512x2048_0_0)).read (Elt F) f = DV c e wd⌝))

/-- An expert's current weights are some current weights. -/
theorem cur_any (c : Dev nD) (e : Fin 32) (wg : GW (F := F) c) (wu : UW (F := F) c) (wd : DW (F := F) c) :
    Cur c e wg wu wd ⊢ AnyCur (F := F) c := by
  unfold Cur AnyCur
  iintro ⟨⟨%f, Hf, -⟩, ⟨%g, Hg, -⟩, ⟨%h, Hh, -⟩⟩
  isplitl [Hf]; · iexists f; iexact Hf
  isplitl [Hg]; · iexists g; iexact Hg
  iexists h; iexact Hh

/-- Step two where the expert stays. -/
theorem wp_segB_no (c : Dev nD) {oT hT} {chk : BitVec 32 → Prop} {dec cond} {chk2 : BitVec 32 → BitVec 32 → Prop} {part hA hB} {q : PosShare TreeShare}
    {f : Buf (Elt F) (teM.view.loc (c : Thread nD τ))} {v : Elt F .i32}
    (hv : ∀ x, (teM.access (Rect.unit (s := S176) oT S1.size hT)).read (Elt F) f x = v) (hc : chk v) (hn : cond v ≠ 1#1) {α : Type}
    (k : PUnit.{1} → Prog (TpuEff nD τ sig (Elt F) Λ₀ .tc) α) (Q : α → sProp 𝕄) :
    iprop((teM.view.loc (c : Thread nD τ) ↦{q} f) ∗ ((teM.view.loc (c : Thread nD τ) ↦{q} f) -∗ wp frame (wpE defs 𝒱 (c : Thread nD τ) none) Set.univ (k ⟨⟩) Q))
      ⊢ wp frame (wpE defs 𝒱 (c : Thread nD τ) none) Set.univ (segB (F := F) oT hT chk dec cond chk2 part hA hB k) Q := by
  unfold segB
  iintro ⟨H, Hk⟩
  iapply (wp_word defs 𝒱 c teM hv)
  isplitl [H]; · iexact H
  iintro H
  iapply (wp_assume 𝒱 (c : Thread nD τ) none Set.univ hc)
  simp only [ret_bind', dif_neg hn]
  iapply Hk $$ H

/-- Step two where the expert is new: its weights become the current ones, the next expert's are on their way. -/
theorem wp_segB_yes (c : Dev nD) {oT hT} {chk : BitVec 32 → Prop} {dec cond} {chk2 : BitVec 32 → BitVec 32 → Prop} {part hA hB} {q : PosShare TreeShare}
    {f : Buf (Elt F) (teM.view.loc (c : Thread nD τ))} {v : Elt F .i32}
    (hv : ∀ x, (teM.access (Rect.unit (s := S176) oT S1.size hT)).read (Elt F) f x = v) (hc : chk v) (hy : cond v = 1#1)
    {fx : Buf (Elt F) (nxM.view.loc (c : Thread nD τ))} {n : Elt F .i32} {k : ℕ} (hk : k < 256) (hc2 : chk2 v (BitVec.ofNat 32 k))
    (e : Fin 32) (wg : GW (F := F) c) (wu : UW (F := F) c) (wd : DW (F := F) c)
    (hpart : ∀ Q, iprop(Ring c k (some e) wg wu wd ∗ (∃ W, owes (c : Thread nD τ) 0 W) ∗ (nxM.view.loc (c : Thread nD τ) ↦{q} fx)
        ∗ (Nc (F := F) c (BitVec.ofNat 32 (k + 1)) -∗ Landed c (sl k) e wg wu wd -∗ Next c (sl (k + 1)) (nextOf n) wg wu wd -∗ (∃ W, owes (c : Thread nD τ) 0 W)
          -∗ (nxM.view.loc (c : Thread nD τ) ↦{q} fx)
          -∗ Q ⟨BitVec.ofNat 32 k, hc2, Scalar.remsi (BitVec.ofNat 32 k) 2#32, truncf .bf16 ((gW e).view.read (Elt F) wg : FVec F S2048x512 .f32) bitsLt_bf16_f32⟩))
      ⊢ wp frame (wpE defs 𝒱 (c : Thread nD τ) none) Set.univ (part v hc hy) Q) {α : Type}
    (kk : PUnit.{1} → Prog (TpuEff nD τ sig (Elt F) Λ₀ .tc) α) (Q : α → sProp 𝕄) :
    iprop((teM.view.loc (c : Thread nD τ) ↦{q} f) ∗ (nxM.view.loc (c : Thread nD τ) ↦{q} fx) ∗ Ring c k (some e) wg wu wd ∗ AnyCur (F := F) c ∗ (∃ W, owes (c : Thread nD τ) 0 W)
        ∗ ((teM.view.loc (c : Thread nD τ) ↦{q} f) -∗ (nxM.view.loc (c : Thread nD τ) ↦{q} fx) -∗ Ring c (k + 1) (nextOf n) wg wu wd -∗ Cur c e wg wu wd
          -∗ (∃ W, owes (c : Thread nD τ) 0 W) -∗ wp frame (wpE defs 𝒱 (c : Thread nD τ) none) Set.univ (kk ⟨⟩) Q))
      ⊢ wp frame (wpE defs 𝒱 (c : Thread nD τ) none) Set.univ (segB (F := F) oT hT chk dec cond chk2 part hA hB kk) Q := by
  unfold segB AnyCur
  iintro ⟨H, Hx, HR, ⟨⟨%cg, Hcg⟩, ⟨%cu, Hcu⟩, ⟨%cd, Hcd⟩⟩, HO, Hk⟩
  iapply (wp_word defs 𝒱 c teM hv)
  isplitl [H]; · iexact H
  iintro H
  iapply (wp_assume 𝒱 (c : Thread nD τ) none Set.univ hc)
  simp only [ret_bind', dif_pos hy]
  iapply (wp_bind_in defs 𝒱 c)
  iapply (hpart _)
  isplitl [HR]; · iexact HR
  isplitl [HO]; · iexact HO
  isplitl [Hx]; · iexact Hx
  iintro HN HL HX HO Hx
  unfold Landed
  icases HL with ⟨Hv, ⟨%fg, Hg, %hg⟩, ⟨%fu, Hu, %hu⟩, ⟨%fd, Hd, %hd⟩⟩
  iapply (wp_load_rect 𝒱 (c : Thread nD τ) none Set.univ (m := curG) (r := Rect.unit (s := S2048x512) ![0, 0] S2048x512.size inb_S2048x512_S2048x512_0_0) (hl := View.loadsAt_vmem h_S2048x512) (q := fullShare) (f := cg) (Finset.subset_univ _)) $$ Hcg
  iintro Hcg
  simp only [ret_bind']
  iapply (wp_store 𝒱 (c : Thread nD τ) none Set.univ (m := curG) (r := Rect.unit (s := S2048x512) ![0, 0] S2048x512.size inb_S2048x512_S2048x512_0_0) (f := cg) (Finset.subset_univ _)) $$ Hcg
  iintro Hcg
  simp only [ret_bind']
  iapply (wp_slotU defs 𝒱 c (sl k) fu (off16_eq hk))
  isplitl [Hu]; · iexact Hu
  iintro %vu %hvu Hu
  iapply (wp_load_rect 𝒱 (c : Thread nD τ) none Set.univ (m := curU) (r := Rect.unit (s := S2048x512) ![0, 0] S2048x512.size inb_S2048x512_S2048x512_0_0) (hl := View.loadsAt_vmem h_S2048x512) (q := fullShare) (f := cu) (Finset.subset_univ _)) $$ Hcu
  iintro Hcu
  simp only [ret_bind']
  iapply (wp_store 𝒱 (c : Thread nD τ) none Set.univ (m := curU) (r := Rect.unit (s := S2048x512) ![0, 0] S2048x512.size inb_S2048x512_S2048x512_0_0) (f := cu) (Finset.subset_univ _)) $$ Hcu
  iintro Hcu
  simp only [ret_bind']
  iapply (wp_slotD defs 𝒱 c (sl k) fd (off17_eq hk))
  isplitl [Hd]; · iexact Hd
  iintro %vd %hvd Hd
  iapply (wp_load_rect 𝒱 (c : Thread nD τ) none Set.univ (m := curD) (r := Rect.unit (s := S512x2048) ![0, 0] S512x2048.size inb_S512x2048_S512x2048_0_0) (hl := View.loadsAt_vmem h_S512x2048) (q := fullShare) (f := cd) (Finset.subset_univ _)) $$ Hcd
  iintro Hcd
  simp only [ret_bind']
  iapply (wp_store 𝒱 (c : Thread nD τ) none Set.univ (m := curD) (r := Rect.unit (s := S512x2048) ![0, 0] S512x2048.size inb_S512x2048_S512x2048_0_0) (f := cd) (Finset.subset_univ _)) $$ Hcd
  iintro Hcd
  simp only [ret_bind']
  iapply Hk $$ H Hx [HN HX Hv Hg Hu Hd] [Hcg Hcu Hcd] HO
  · unfold Ring
    isplitl [HN]; · iexact HN
    isplitl [HX]; · iexact HX
    simp only [show sl (k + 1 + 1) = sl k from Fin.ext (Nat.add_mod_right k 2)]
    unfold Free
    isplitl [Hv]; · iexact Hv
    isplitl [Hg]; · iexists fg; iexact Hg
    isplitl [Hu]; · iexists fu; iexact Hu
    iexists fd; iexact Hd
  · unfold Cur
    isplitl [Hcg]
    · iexists _; isplitl [Hcg]; · iexact Hcg
      ipureintro; rw [View.read_write_univ]; rfl
    isplitl [Hcu]
    · iexists _; isplitl [Hcu]; · iexact Hcu
      ipureintro; rw [View.read_write_univ]; unfold UV; rw [← hu, ← hvu]; rfl
    · iexists _; isplitl [Hcd]; · iexact Hcd
      ipureintro; rw [View.read_write_univ]; unfold DV; rw [← hd, ← hvd]; rfl

/-- What a tile of `v` rows writes. -/
def tileY (c : Dev nD) (v : BitVec 32) (X : Vec F S256x1x1024 .i32) (e : Fin 32) (wg : GW (F := F) c) (wu : UW (F := F) c) (wd : DW (F := F) c) : FVec F S256x1x2048 .bf16 :=
  if k0_cond4 v = 1#1 then k0_pay15 v X (GV c e wg) (UV c e wu) (DV c e wd) else k0_pay16

theorem cond5_iff (v : BitVec 32) : k0_cond5 v = 1#1 ↔ k0_cond4 v ≠ 1#1 := by
  unfold k0_cond5 k0_cond4
  simp only [Scalar.cmpi, Scalar.extui, IntOp.cmpi, BitVec.sle_eq_not_slt]
  cases (0#32).slt v <;> decide

/-- Step three. -/
theorem wp_segC (c : Dev nD) {arg4 : Memref sig .tc .vmem S1024x1x1024 .i32} {arg8 : Memref sig .tc .vmem S1024x1x2048 .bf16} {harg8 : arg8.IsWhole} {o hX hY hP} {v17 : Elt F .i32}
    {q : PosShare TreeShare} {f4 : Buf (Elt F) (arg4.view.loc (c : Thread nD τ))} {f8 : Buf (Elt F) (arg8.view.loc (c : Thread nD τ))}
    (e : Fin 32) (wg : GW (F := F) c) (wu : UW (F := F) c) (wd : DW (F := F) c) {α : Type}
    (kk : PUnit.{1} → Prog (TpuEff nD τ sig (Elt F) Λ₀ .tc) α) (Q : α → sProp 𝕄) :
    iprop((arg4.view.loc (c : Thread nD τ) ↦{q} f4) ∗ (arg8.view.loc (c : Thread nD τ) ↦{fullShare} f8) ∗ Cur c e wg wu wd
        ∗ ((arg4.view.loc (c : Thread nD τ) ↦{q} f4)
          -∗ (arg8.view.loc (c : Thread nD τ) ↦{fullShare} ((arg8.access (Rect.unit (s := S1024x1x2048) o S256x1x2048.size hY)).write (Elt F) f8
                (tileY c v17 ((arg4.access (Rect.unit (s := S1024x1x1024) o S256x1x1024.size hX)).read (Elt F) f4) e wg wu wd) Finset.univ))
          -∗ Cur c e wg wu wd -∗ wp frame (wpE defs 𝒱 (c : Thread nD τ) none) Set.univ (kk ⟨⟩) Q))
      ⊢ wp frame (wpE defs 𝒱 (c : Thread nD τ) none) Set.univ (segC (F := F) arg4 arg8 harg8 o hX hY hP v17 kk) Q := by
  unfold segC
  by_cases h4 : k0_cond4 v17 = 1#1
  · have h5 : ¬ k0_cond5 v17 = 1#1 := fun h => (cond5_iff v17).1 h h4
    simp only [dif_pos h4, dif_neg h5, tileY, if_pos h4]
    unfold Cur
    iintro ⟨Hx, Hy, ⟨⟨%cg, Hcg, %hcg⟩, ⟨%cu, Hcu, %hcu⟩, ⟨%cd, Hcd, %hcd⟩⟩, Hk⟩
    iapply (wp_load_rect 𝒱 (c : Thread nD τ) none Set.univ (m := arg4) (r := Rect.unit (s := S1024x1x1024) o S256x1x1024.size hX) (hl := View.loadsAt_vmem h_S256x1x1024) (q := q) (f := f4) (Finset.subset_univ _)) $$ Hx
    iintro Hx
    simp only [ret_bind']
    iapply (wp_load_rect 𝒱 (c : Thread nD τ) none Set.univ (m := curG) (r := Rect.unit (s := S2048x512) ![0, 0] S2048x512.size inb_S2048x512_S2048x512_0_0) (hl := View.loadsAt_vmem h_S2048x512) (q := fullShare) (f := cg) (Finset.subset_univ _)) $$ Hcg
    iintro Hcg
    simp only [ret_bind', hcg]
    iapply (wp_load_rect 𝒱 (c : Thread nD τ) none Set.univ (m := curU) (r := Rect.unit (s := S2048x512) ![0, 0] S2048x512.size inb_S2048x512_S2048x512_0_0) (hl := View.loadsAt_vmem h_S2048x512) (q := fullShare) (f := cu) (Finset.subset_univ _)) $$ Hcu
    iintro Hcu
    simp only [ret_bind', hcu]
    iapply (wp_load_rect 𝒱 (c : Thread nD τ) none Set.univ (m := curD) (r := Rect.unit (s := S512x2048) ![0, 0] S512x2048.size inb_S512x2048_S512x2048_0_0) (hl := View.loadsAt_vmem h_S512x2048) (q := fullShare) (f := cd) (Finset.subset_univ _)) $$ Hcd
    iintro Hcd
    simp only [ret_bind', hcd]
    iapply (wp_load_rect 𝒱 (c : Thread nD τ) none Set.univ (m := arg8) (r := Rect.unit (s := S1024x1x2048) o S256x1x2048.size hY) (hl := View.loadsAt_vmem h_S256x1x2048) (q := fullShare) (f := f8) (Finset.subset_univ _)) $$ Hy
    iintro Hy
    simp only [ret_bind']
    iapply (wp_store 𝒱 (c : Thread nD τ) none Set.univ (m := arg8) (r := Rect.unit (s := S1024x1x2048) o S256x1x2048.size hY) (f := f8) (Finset.subset_univ _)) $$ Hy
    iintro Hy
    simp only [ret_bind']
    iapply Hk $$ Hx Hy [Hcg Hcu Hcd]
    isplitl [Hcg]
    · iexists cg; isplitl [Hcg]; · iexact Hcg
      ipureintro; exact hcg
    isplitl [Hcu]
    · iexists cu; isplitl [Hcu]; · iexact Hcu
      ipureintro; exact hcu
    · iexists cd; isplitl [Hcd]; · iexact Hcd
      ipureintro; exact hcd
  · have h5 : k0_cond5 v17 = 1#1 := (cond5_iff v17).2 h4
    simp only [dif_neg h4, dif_pos h5, tileY, if_neg h4]
    iintro ⟨Hx, Hy, HC, Hk⟩
    iapply (wp_load_rect 𝒱 (c : Thread nD τ) none Set.univ (m := arg8) (r := Rect.unit (s := S1024x1x2048) o S256x1x2048.size hY) (hl := View.loadsAt_vmem h_S256x1x2048) (q := fullShare) (f := f8) (Finset.subset_univ _)) $$ Hy
    iintro Hy
    simp only [ret_bind']
    iapply (wp_store 𝒱 (c : Thread nD τ) none Set.univ (m := arg8) (r := Rect.unit (s := S1024x1x2048) o S256x1x2048.size hY) (f := f8) (Finset.subset_univ _)) $$ Hy
    iintro Hy
    simp only [ret_bind']
    iapply Hk $$ Hx Hy HC

end Cert.KernelIdeal.Hand
-- ==== Proof.Tiles.lean ====
module

public import proofs.«01_k».proof.Proof.Split
public import proofs.«01_k».proof.Proof.Steps
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

/-- The proof's user algebra: the pipeline library's beside the transfers' counters. -/
local notation "𝕄" => MT nD τ sig Unit (Elt F) ℕ (Pipeline.UD sig nD τ) ℕ

/-! ## The tables -/

variable (defs : Defs nD τ sig (Elt F) Λ₀) (𝒱 : Variants)

theorem lt176 (a : Fin S176.rank) (n : ℕ) : n % 176 < S176.size a := by
  fin_cases a; exact Nat.mod_lt _ (by decide)

/-- A table's contents, and its `n`th word. -/
abbrev TBuf (c : Dev nD) (M : Memref sig .tc .smem S176 .i32) := Buf (Elt F) (M.view.loc (c : Thread nD τ))
def tw (c : Dev nD) (M : Memref sig .tc .smem S176 .i32) (f : TBuf (F := F) c M) (n : ℕ) : BitVec 32 :=
  M.view.read (Elt F) f (fun a => ⟨n % 176, lt176 a n⟩)

/-- The word at offset `n`. -/
theorem read_word (c : Dev nD) (M : Memref sig .tc .smem S176 .i32) (f : TBuf (F := F) c M) {oT : Fin 1 → ℕ} {hT : ∀ a, oT a + S1.size a ≤ S176.size a}
    {n : ℕ} (hn : n < 176) (ho : oT = ![n]) (x) : (M.access (Rect.unit (s := S176) oT S1.size hT)).read (Elt F) f x = tw c M f n := by
  subst ho
  show M.view.read (Elt F) f _ = M.view.read (Elt F) f _
  congr 1
  funext a
  apply Fin.ext
  fin_cases a
  have hx : (x 0).val = 0 := Nat.lt_one_iff.1 (x 0).isLt
  show (n + 1 * (x 0).val : ℕ) = n % 176
  rw [hx, Nat.mod_eq_of_lt hn]; omega

/-- The expert that a word names. -/
def ex (v : BitVec 32) : Fin 32 := ⟨v.toNat % 32, Nat.mod_lt _ (by decide)⟩

/-- What the tables hold: every tile's expert is one of the 32; the third table names the expert after the tile's, or none;
    it changes only where the expert does, and then to the new one; after the last tile comes none. -/
structure TabOk (te nx : ℕ → BitVec 32) : Prop where
  te_lt : ∀ n, n < 176 → (te n).toNat < 32
  nx_le : ∀ n, n < 176 → (nx n).toNat ≤ 32
  same : ∀ n, n + 1 < 176 → te (n + 1) = te n → nx (n + 1) = nx n
  new : ∀ n, n + 1 < 176 → te (n + 1) ≠ te n → nx n = te (n + 1)
  last : nx 175 = 32#32

theorem ex_val {v : BitVec 32} (h : v.toNat < 32) : v.toNat = (ex v).val := (Nat.mod_eq_of_lt h).symm

theorem nextOf_some {v : BitVec 32} (h : v.toNat < 32) : nextOf v = some (ex v) := by
  unfold nextOf; rw [dif_pos h]; exact congrArg some (Fin.ext (ex_val h))

theorem nextOf_none : nextOf 32#32 = none := by unfold nextOf; rw [dif_neg (by decide)]

/-! ## The state before a tile -/

/-- Before anything has run. -/
def Start (c : Dev nD) (wg : GW (F := F) c) (wu : UW (F := F) c) (wd : DW (F := F) c) : sProp 𝕄 :=
  iprop((∃ w, Nc (F := F) c w) ∗ Free (F := F) c 0 ∗ Free (F := F) c 1 ∗ Home c wg wu wd ∗ AnyCur (F := F) c)

/-- Before tile `t`'s second step: the tile before it left its expert's weights current and the next expert on its way. -/
def Mid (c : Dev nD) (te nx : ℕ → BitVec 32) (wg : GW (F := F) c) (wu : UW (F := F) c) (wd : DW (F := F) c) : ℕ → sProp 𝕄
  | 0 => iprop(Ring c 0 (some (ex (te 0))) wg wu wd ∗ AnyCur (F := F) c)
  | t + 1 => iprop(∃ k, ⌜k ≤ t + 1⌝ ∗ Ring c k (nextOf (nx t)) wg wu wd ∗ Cur c (ex (te t)) wg wu wd)

/-- A tile's second step takes the state on to the next tile. -/
theorem wp_tileB (c : Dev nD) {q : PosShare TreeShare} (te : TBuf (F := F) c teM) (nx : TBuf (F := F) c nxM) (tab : TabOk (tw c teM te) (tw c nxM nx))
    (t : ℕ) (ht : t < 176) (wg : GW (F := F) c) (wu : UW (F := F) c) (wd : DW (F := F) c)
    {oT hT} {chk : BitVec 32 → Prop} {dec cond} {chk2 : BitVec 32 → BitVec 32 → Prop} {part hA hB} (hoT : oT = ![t - 1])
    (hc : chk (tw c teM te (t - 1))) (hcond : cond (tw c teM te (t - 1)) = 1#1 ↔ (t = 0 ∨ tw c teM te t ≠ tw c teM te (t - 1)))
    (hc2 : ∀ k, k < 256 → chk2 (tw c teM te (t - 1)) (BitVec.ofNat 32 k))
    (hpart : ∀ (hy : cond (tw c teM te (t - 1)) = 1#1) (k : ℕ) (hk : k < 256) (Q : _ → sProp 𝕄),
      iprop(Ring c k (some (ex (tw c teM te t))) wg wu wd ∗ (∃ W, owes (c : Thread nD τ) 0 W) ∗ (nxM.view.loc (c : Thread nD τ) ↦{q} nx)
        ∗ (Nc (F := F) c (BitVec.ofNat 32 (k + 1)) -∗ Landed c (sl k) (ex (tw c teM te t)) wg wu wd -∗ Next c (sl (k + 1)) (nextOf (tw c nxM nx t)) wg wu wd -∗ (∃ W, owes (c : Thread nD τ) 0 W)
          -∗ (nxM.view.loc (c : Thread nD τ) ↦{q} nx)
          -∗ Q ⟨BitVec.ofNat 32 k, hc2 k hk, Scalar.remsi (BitVec.ofNat 32 k) 2#32, truncf .bf16 ((gW (ex (tw c teM te t))).view.read (Elt F) wg : FVec F S2048x512 .f32) bitsLt_bf16_f32⟩))
      ⊢ wp frame (wpE defs 𝒱 (c : Thread nD τ) none) Set.univ (part (tw c teM te (t - 1)) hc hy) Q) {α : Type}
    (kk : PUnit.{1} → Prog (TpuEff nD τ sig (Elt F) Λ₀ .tc) α) (Q : α → sProp 𝕄) :
    iprop((teM.view.loc (c : Thread nD τ) ↦{q} te) ∗ (nxM.view.loc (c : Thread nD τ) ↦{q} nx) ∗ Mid c (tw c teM te) (tw c nxM nx) wg wu wd t ∗ (∃ W, owes (c : Thread nD τ) 0 W)
        ∗ ((teM.view.loc (c : Thread nD τ) ↦{q} te) -∗ (nxM.view.loc (c : Thread nD τ) ↦{q} nx) -∗ (∃ k, ⌜k ≤ t + 1⌝ ∗ Ring c k (nextOf (tw c nxM nx t)) wg wu wd) -∗ Cur c (ex (tw c teM te t)) wg wu wd
          -∗ (∃ W, owes (c : Thread nD τ) 0 W) -∗ wp frame (wpE defs 𝒱 (c : Thread nD τ) none) Set.univ (kk ⟨⟩) Q))
      ⊢ wp frame (wpE defs 𝒱 (c : Thread nD τ) none) Set.univ (segB (F := F) oT hT chk dec cond chk2 part hA hB kk) Q := by
  have hv := read_word c teM te (hT := hT) (n := t - 1) (by omega) hoT
  iintro ⟨Hte, Hnx, HM, HO, Hk⟩
  rcases t with _ | t
  · have hy := hcond.2 (Or.inl rfl)
    simp only [Mid]
    icases HM with ⟨HR, HC⟩
    iapply (wp_segB_yes defs 𝒱 c hv hc hy (k := 0) (by decide) (hc2 0 (by decide)) (ex (tw c teM te 0)) wg wu wd (hpart hy 0 (by decide)))
    isplitl [Hte]; · iexact Hte
    isplitl [Hnx]; · iexact Hnx
    isplitl [HR]; · iexact HR
    isplitl [HC]; · iexact HC
    isplitl [HO]; · iexact HO
    iintro Hte Hnx HR HC HO
    iapply Hk $$ Hte Hnx [HR] HC HO
    iexists 1; isplitr; · ipureintro; decide
    iexact HR
  · simp only [Mid]
    icases HM with ⟨%k, %hk, HR, HC⟩
    by_cases h : tw c teM te (t + 1) = tw c teM te t
    · have hn : cond (tw c teM te (t + 1 - 1)) ≠ 1#1 := fun hy => by
        rcases hcond.1 hy with h0 | h0
        · omega
        · exact h0 h
      iapply (wp_segB_no defs 𝒱 c hv hc hn)
      isplitl [Hte]; · iexact Hte
      iintro Hte
      simp only [tab.same t ht h, h]
      iapply Hk $$ Hte Hnx [HR] HC HO
      iexists k; isplitr; · ipureintro; omega
      iexact HR
    · have hy := hcond.2 (Or.inr h)
      have hlt := tab.te_lt (t + 1) ht
      simp only [tab.new t ht h, nextOf_some hlt]
      iapply (wp_segB_yes defs 𝒱 c hv hc hy (k := k) (by omega) (hc2 k (by omega)) (ex (tw c teM te (t + 1))) wg wu wd (hpart hy k (by omega)))
      isplitl [Hte]; · iexact Hte
      isplitl [Hnx]; · iexact Hnx
      isplitl [HR]; · iexact HR
      isplitl [HC]; · iapply (cur_any c _ wg wu wd); iexact HC
      isplitl [HO]; · iexact HO
      iintro Hte Hnx HR HC HO
      iapply Hk $$ Hte Hnx [HR] HC HO
      iexists (k + 1); isplitr; · ipureintro; omega
      iexact HR

end Cert.KernelIdeal.Hand
-- ==== Proof.Body.lean ====
module

public import proofs.«01_k».proof.Proof.Tiles
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

/-- The proof's user algebra: the pipeline library's beside the transfers' counters. -/
local notation "𝕄" => MT nD τ sig Unit (Elt F) ℕ (Pipeline.UD sig nD τ) ℕ

/-! ## Words of the point: the tile's number, its predecessor's, the conditions -/

variable (i : grid0.Coords)

theorem coord_lt : (i 0).val < 44 := (i 0).isLt

theorem word0 : ∀ n : Fin 44, (Scalar.indexCast (Scalar.addi (Scalar.muli (BitVec.ofNat 32 n.val) 4#32) 0#32)).toNat = 4 * n.val := by decide +kernel
theorem word1 : ∀ n : Fin 44, (Scalar.indexCast (Scalar.addi (Scalar.muli (BitVec.ofNat 32 n.val) 4#32) 1#32)).toNat = 4 * n.val + 1 := by decide +kernel
theorem word2 : ∀ n : Fin 44, (Scalar.indexCast (Scalar.addi (Scalar.muli (BitVec.ofNat 32 n.val) 4#32) 2#32)).toNat = 4 * n.val + 2 := by decide +kernel
theorem word3 : ∀ n : Fin 44, (Scalar.indexCast (Scalar.addi (Scalar.muli (BitVec.ofNat 32 n.val) 4#32) 3#32)).toNat = 4 * n.val + 3 := by decide +kernel
theorem prev0 : ∀ n : Fin 44, (Scalar.indexCast (Scalar.maxsi (Scalar.subi (Scalar.addi (Scalar.muli (BitVec.ofNat 32 n.val) 4#32) 0#32) 1#32) 0#32)).toNat = 4 * n.val - 1 := by decide +kernel
theorem prev1 : ∀ n : Fin 44, (Scalar.indexCast (Scalar.maxsi (Scalar.subi (Scalar.addi (Scalar.muli (BitVec.ofNat 32 n.val) 4#32) 1#32) 1#32) 0#32)).toNat = 4 * n.val + 1 - 1 := by decide +kernel
theorem prev2 : ∀ n : Fin 44, (Scalar.indexCast (Scalar.maxsi (Scalar.subi (Scalar.addi (Scalar.muli (BitVec.ofNat 32 n.val) 4#32) 2#32) 1#32) 0#32)).toNat = 4 * n.val + 2 - 1 := by decide +kernel
theorem prev3 : ∀ n : Fin 44, (Scalar.indexCast (Scalar.maxsi (Scalar.subi (Scalar.addi (Scalar.muli (BitVec.ofNat 32 n.val) 4#32) 3#32) 1#32) 0#32)).toNat = 4 * n.val + 3 - 1 := by decide +kernel

theorem off1_eq : k0_off1 i = ![4 * (i 0).val] := congrArg (fun n : ℕ => ![n]) (word0 ⟨(i 0).val, coord_lt i⟩)
theorem off19_eq : k0_off19 i = ![4 * (i 0).val + 1] := congrArg (fun n : ℕ => ![n]) (word1 ⟨(i 0).val, coord_lt i⟩)
theorem off37_eq : k0_off37 i = ![4 * (i 0).val + 2] := congrArg (fun n : ℕ => ![n]) (word2 ⟨(i 0).val, coord_lt i⟩)
theorem off55_eq : k0_off55 i = ![4 * (i 0).val + 3] := congrArg (fun n : ℕ => ![n]) (word3 ⟨(i 0).val, coord_lt i⟩)
theorem off4_eq : k0_off4 i = ![4 * (i 0).val - 1] := congrArg (fun n : ℕ => ![n]) (prev0 ⟨(i 0).val, coord_lt i⟩)
theorem off22_eq : k0_off22 i = ![4 * (i 0).val + 1 - 1] := congrArg (fun n : ℕ => ![n]) (prev1 ⟨(i 0).val, coord_lt i⟩)
theorem off40_eq : k0_off40 i = ![4 * (i 0).val + 2 - 1] := congrArg (fun n : ℕ => ![n]) (prev2 ⟨(i 0).val, coord_lt i⟩)
theorem off58_eq : k0_off58 i = ![4 * (i 0).val + 3 - 1] := congrArg (fun n : ℕ => ![n]) (prev3 ⟨(i 0).val, coord_lt i⟩)

/-- The test for a change: the first tile, or another expert. -/
theorem change_iff (a : BitVec 1) (v w : BitVec 32) :
    Scalar.cmpi .ne (Scalar.extui (Scalar.ori a (Scalar.cmpi .ne v w))) 0#32 = 1#1 ↔ (a = 1#1 ∨ v ≠ w) := by
  have h : ∀ a b : BitVec 1, (Scalar.cmpi .ne (Scalar.extui (Scalar.ori a b)) 0#32 = 1#1 ↔ (a = 1#1 ∨ b = 1#1)) := by decide
  rw [h]
  have h2 : Scalar.cmpi .ne v w = 1#1 ↔ v ≠ w := by
    show BitVec.ofBool (v != w) = 1#1 ↔ v ≠ w
    by_cases e : v = w
    · rw [e, bne_self_eq_false]; simp
    · rw [bne_iff_ne.2 e]; exact ⟨fun _ => e, fun _ => rfl⟩
  rw [h2]

theorem zero0 : ∀ n : Fin 44, (Scalar.cmpi .eq (Scalar.addi (Scalar.muli (BitVec.ofNat 32 n.val) 4#32) 0#32) 0#32 = 1#1 ↔ 4 * n.val = 0) := by decide +kernel
theorem zero1 : ∀ n : Fin 44, (Scalar.cmpi .eq (Scalar.addi (Scalar.muli (BitVec.ofNat 32 n.val) 4#32) 1#32) 0#32 = 1#1 ↔ 4 * n.val + 1 = 0) := by decide +kernel
theorem zero2 : ∀ n : Fin 44, (Scalar.cmpi .eq (Scalar.addi (Scalar.muli (BitVec.ofNat 32 n.val) 4#32) 2#32) 0#32 = 1#1 ↔ 4 * n.val + 2 = 0) := by decide +kernel
theorem zero3 : ∀ n : Fin 44, (Scalar.cmpi .eq (Scalar.addi (Scalar.muli (BitVec.ofNat 32 n.val) 4#32) 3#32) 0#32 = 1#1 ↔ 4 * n.val + 3 = 0) := by decide +kernel

theorem cond2_iff (v w : BitVec 32) : k0_cond2 i v w = 1#1 ↔ (4 * (i 0).val = 0 ∨ v ≠ w) :=
  (change_iff _ v w).trans (or_congr_left (zero0 ⟨(i 0).val, coord_lt i⟩))
theorem cond7_iff (v w : BitVec 32) : k0_cond7 i v w = 1#1 ↔ (4 * (i 0).val + 1 = 0 ∨ v ≠ w) :=
  (change_iff _ v w).trans (or_congr_left (zero1 ⟨(i 0).val, coord_lt i⟩))
theorem cond12_iff (v w : BitVec 32) : k0_cond12 i v w = 1#1 ↔ (4 * (i 0).val + 2 = 0 ∨ v ≠ w) :=
  (change_iff _ v w).trans (or_congr_left (zero2 ⟨(i 0).val, coord_lt i⟩))
theorem cond17_iff (v w : BitVec 32) : k0_cond17 i v w = 1#1 ↔ (4 * (i 0).val + 3 = 0 ∨ v ≠ w) :=
  (change_iff _ v w).trans (or_congr_left (zero3 ⟨(i 0).val, coord_lt i⟩))

/-- The test for the first tile. -/
theorem first_iff (a : BitVec 1) : Scalar.cmpi .ne (Scalar.extui a) 0#32 = 1#1 ↔ a = 1#1 := by revert a; decide
theorem cond1_iff : k0_cond1 i = 1#1 ↔ 4 * (i 0).val = 0 := (first_iff _).trans (zero0 ⟨(i 0).val, coord_lt i⟩)
theorem cond6_no : k0_cond6 i ≠ 1#1 := fun h => absurd (((first_iff _).trans (zero1 ⟨(i 0).val, coord_lt i⟩)).1 h) (by omega)
theorem cond11_no : k0_cond11 i ≠ 1#1 := fun h => absurd (((first_iff _).trans (zero2 ⟨(i 0).val, coord_lt i⟩)).1 h) (by omega)
theorem cond16_no : k0_cond16 i ≠ 1#1 := fun h => absurd (((first_iff _).trans (zero3 ⟨(i 0).val, coord_lt i⟩)).1 h) (by omega)

/-! ## The offsets that the body assumes are in range -/

theorem inE {v : BitVec 32} (h : v.toNat < 32) : ∀ a, (k0_off2 v) a + S1x2048x512.size a ≤ S32x2048x512.size a := inbWA h
theorem inF {v : BitVec 32} (h : v.toNat < 32) : ∀ a, (k0_off3 v) a + S1x512x2048.size a ≤ S32x512x2048.size a := inbWB h
theorem in5 {k : ℕ} (hk : k < 256) : ∀ a, (k0_off5 (BitVec.ofNat 32 k)) a + S1.size a ≤ S2.size a := by rw [off5_eq hk]; exact inbS1 (sl k).2
theorem in6 {k : ℕ} (hk : k < 256) : ∀ a, (k0_off6 (BitVec.ofNat 32 k)) a + S1x2048x512.size a ≤ S2x2048x512.size a := by rw [off6_eq hk]; exact inbSA (sl k).2
theorem in8 {k : ℕ} (hk : k < 256) : ∀ a, (k0_off8 (BitVec.ofNat 32 k)) a + S1x512x2048.size a ≤ S2x512x2048.size a := by rw [off8_eq hk]; exact inbSB (sl k).2
theorem in16 {k : ℕ} (hk : k < 256) : ∀ a, (k0_off16 (BitVec.ofNat 32 k)) a + S1x2048x512.size a ≤ S2x2048x512.size a := by rw [off16_eq hk]; exact inbSA (sl k).2
theorem in17 {k : ℕ} (hk : k < 256) : ∀ a, (k0_off17 (BitVec.ofNat 32 k)) a + S1x512x2048.size a ≤ S2x512x2048.size a := by rw [off17_eq hk]; exact inbSB (sl k).2
theorem in11 {k : ℕ} (hk : k < 256) : ∀ a, (k0_off11 (BitVec.ofNat 32 k)) a + S1.size a ≤ S2.size a := by rw [off11_eq hk]; exact inbS1 (sl (k + 1)).2
theorem in12 {k : ℕ} (hk : k < 256) : ∀ a, (k0_off12 (BitVec.ofNat 32 k)) a + S1x2048x512.size a ≤ S2x2048x512.size a := by rw [off12_eq hk]; exact inbSA (sl (k + 1)).2
theorem in14 {k : ℕ} (hk : k < 256) : ∀ a, (k0_off14 (BitVec.ofNat 32 k)) a + S1x512x2048.size a ≤ S2x512x2048.size a := by rw [off14_eq hk]; exact inbSB (sl (k + 1)).2
theorem inN {n : BitVec 32} (hn : n.toNat ≤ 32) (h3 : k0_cond3 n = 1#1) : n.toNat < 32 := (cond3_iff n hn).1 h3

/-! ## The second step of each of the four tiles -/

variable (defs : Defs nD τ sig (Elt F) Λ₀) (𝒱 : Variants)
variable (arg4 : Memref sig .tc .vmem S1024x1x1024 .i32) (harg4 : arg4.IsWhole)
  (arg8 : Memref sig .tc .vmem S1024x1x2048 .bf16) (harg8 : arg8.IsWhole)
variable (c : Dev nD) {q : PosShare TreeShare} (te : TBuf (F := F) c teM) (nx : TBuf (F := F) c nxM) (tab : TabOk (tw c teM te) (tw c nxM nx))
  (wg : GW (F := F) c) (wu : UW (F := F) c) (wd : DW (F := F) c)

include tab in
theorem wp_tile0 {α : Type} (kk : PUnit.{1} → Prog (TpuEff nD τ sig (Elt F) Λ₀ .tc) α) (Q : α → sProp 𝕄) :
    iprop((teM.view.loc (c : Thread nD τ) ↦{q} te) ∗ (nxM.view.loc (c : Thread nD τ) ↦{q} nx) ∗ Mid c (tw c teM te) (tw c nxM nx) wg wu wd (4 * (i 0).val) ∗ (∃ W, owes (c : Thread nD τ) 0 W)
        ∗ ((teM.view.loc (c : Thread nD τ) ↦{q} te) -∗ (nxM.view.loc (c : Thread nD τ) ↦{q} nx) -∗ (∃ k, ⌜k ≤ 4 * (i 0).val + 1⌝ ∗ Ring c k (nextOf (tw c nxM nx (4 * (i 0).val))) wg wu wd) -∗ Cur c (ex (tw c teM te (4 * (i 0).val))) wg wu wd
          -∗ (∃ W, owes (c : Thread nD τ) 0 W) -∗ wp frame (wpE defs 𝒱 (c : Thread nD τ) none) Set.univ (kk ⟨⟩) Q))
      ⊢ wp frame (wpE defs 𝒱 (c : Thread nD τ) none) Set.univ (stepB0 (F := F) i (tw c teM te (4 * (i 0).val)) (fun v11 hw h => stepP0 i (tw c teM te (4 * (i 0).val)) v11 hw h) kk) Q := by
  have hi := coord_lt i
  have hl := tab.te_lt (4 * (i 0).val) (by omega)
  have hn := tab.nx_le (4 * (i 0).val) (by omega)
  exact wp_tileB defs 𝒱 c te nx tab _ (by omega) wg wu wd (off4_eq i) ⟨fun _ => inE hl, fun _ => inF hl⟩ (cond2_iff i _ _)
    (fun k hk => ⟨fun _ => in5 hk, fun _ => in6 hk, fun _ => in8 hk, fun _ => in16 hk, fun _ => in17 hk⟩)
    (fun hy k hk Q => wp_segP defs 𝒱 c (read_word c nxM nx (by omega) (off1_eq i)) hn hk _
      ⟨fun _ _ => in11 hk, fun _ _ => in12 hk, fun _ h => inbWA (inN hn h), fun _ _ => in14 hk, fun _ h => inbWB (inN hn h)⟩
      _ (ex_val hl) wg wu wd Q) kk Q

include tab in
theorem wp_tile1 {α : Type} (kk : PUnit.{1} → Prog (TpuEff nD τ sig (Elt F) Λ₀ .tc) α) (Q : α → sProp 𝕄) :
    iprop((teM.view.loc (c : Thread nD τ) ↦{q} te) ∗ (nxM.view.loc (c : Thread nD τ) ↦{q} nx) ∗ Mid c (tw c teM te) (tw c nxM nx) wg wu wd (4 * (i 0).val + 1) ∗ (∃ W, owes (c : Thread nD τ) 0 W)
        ∗ ((teM.view.loc (c : Thread nD τ) ↦{q} te) -∗ (nxM.view.loc (c : Thread nD τ) ↦{q} nx) -∗ (∃ k, ⌜k ≤ 4 * (i 0).val + 1 + 1⌝ ∗ Ring c k (nextOf (tw c nxM nx (4 * (i 0).val + 1))) wg wu wd) -∗ Cur c (ex (tw c teM te (4 * (i 0).val + 1))) wg wu wd
          -∗ (∃ W, owes (c : Thread nD τ) 0 W) -∗ wp frame (wpE defs 𝒱 (c : Thread nD τ) none) Set.univ (kk ⟨⟩) Q))
      ⊢ wp frame (wpE defs 𝒱 (c : Thread nD τ) none) Set.univ (stepB1 (F := F) i (tw c teM te (4 * (i 0).val + 1)) (fun v11 hw h => stepP1 i (tw c teM te (4 * (i 0).val + 1)) v11 hw h) kk) Q := by
  have hi := coord_lt i
  have hl := tab.te_lt (4 * (i 0).val + 1) (by omega)
  have hn := tab.nx_le (4 * (i 0).val + 1) (by omega)
  exact wp_tileB defs 𝒱 c te nx tab _ (by omega) wg wu wd (off22_eq i) ⟨fun _ => inE hl, fun _ => inF hl⟩ (cond7_iff i _ _)
    (fun k hk => ⟨fun _ => in5 hk, fun _ => in6 hk, fun _ => in8 hk, fun _ => in16 hk, fun _ => in17 hk⟩)
    (fun hy k hk Q => wp_segP defs 𝒱 c (read_word c nxM nx (by omega) (off19_eq i)) hn hk _
      ⟨fun _ _ => in11 hk, fun _ _ => in12 hk, fun _ h => inbWA (inN hn h), fun _ _ => in14 hk, fun _ h => inbWB (inN hn h)⟩
      _ (ex_val hl) wg wu wd Q) kk Q

include tab in
theorem wp_tile2 {α : Type} (kk : PUnit.{1} → Prog (TpuEff nD τ sig (Elt F) Λ₀ .tc) α) (Q : α → sProp 𝕄) :
    iprop((teM.view.loc (c : Thread nD τ) ↦{q} te) ∗ (nxM.view.loc (c : Thread nD τ) ↦{q} nx) ∗ Mid c (tw c teM te) (tw c nxM nx) wg wu wd (4 * (i 0).val + 2) ∗ (∃ W, owes (c : Thread nD τ) 0 W)
        ∗ ((teM.view.loc (c : Thread nD τ) ↦{q} te) -∗ (nxM.view.loc (c : Thread nD τ) ↦{q} nx) -∗ (∃ k, ⌜k ≤ 4 * (i 0).val + 2 + 1⌝ ∗ Ring c k (nextOf (tw c nxM nx (4 * (i 0).val + 2))) wg wu wd) -∗ Cur c (ex (tw c teM te (4 * (i 0).val + 2))) wg wu wd
          -∗ (∃ W, owes (c : Thread nD τ) 0 W) -∗ wp frame (wpE defs 𝒱 (c : Thread nD τ) none) Set.univ (kk ⟨⟩) Q))
      ⊢ wp frame (wpE defs 𝒱 (c : Thread nD τ) none) Set.univ (stepB2 (F := F) i (tw c teM te (4 * (i 0).val + 2)) (fun v11 hw h => stepP2 i (tw c teM te (4 * (i 0).val + 2)) v11 hw h) kk) Q := by
  have hi := coord_lt i
  have hl := tab.te_lt (4 * (i 0).val + 2) (by omega)
  have hn := tab.nx_le (4 * (i 0).val + 2) (by omega)
  exact wp_tileB defs 𝒱 c te nx tab _ (by omega) wg wu wd (off40_eq i) ⟨fun _ => inE hl, fun _ => inF hl⟩ (cond12_iff i _ _)
    (fun k hk => ⟨fun _ => in5 hk, fun _ => in6 hk, fun _ => in8 hk, fun _ => in16 hk, fun _ => in17 hk⟩)
    (fun hy k hk Q => wp_segP defs 𝒱 c (read_word c nxM nx (by omega) (off37_eq i)) hn hk _
      ⟨fun _ _ => in11 hk, fun _ _ => in12 hk, fun _ h => inbWA (inN hn h), fun _ _ => in14 hk, fun _ h => inbWB (inN hn h)⟩
      _ (ex_val hl) wg wu wd Q) kk Q

include tab in
theorem wp_tile3 {α : Type} (kk : PUnit.{1} → Prog (TpuEff nD τ sig (Elt F) Λ₀ .tc) α) (Q : α → sProp 𝕄) :
    iprop((teM.view.loc (c : Thread nD τ) ↦{q} te) ∗ (nxM.view.loc (c : Thread nD τ) ↦{q} nx) ∗ Mid c (tw c teM te) (tw c nxM nx) wg wu wd (4 * (i 0).val + 3) ∗ (∃ W, owes (c : Thread nD τ) 0 W)
        ∗ ((teM.view.loc (c : Thread nD τ) ↦{q} te) -∗ (nxM.view.loc (c : Thread nD τ) ↦{q} nx) -∗ (∃ k, ⌜k ≤ 4 * (i 0).val + 3 + 1⌝ ∗ Ring c k (nextOf (tw c nxM nx (4 * (i 0).val + 3))) wg wu wd) -∗ Cur c (ex (tw c teM te (4 * (i 0).val + 3))) wg wu wd
          -∗ (∃ W, owes (c : Thread nD τ) 0 W) -∗ wp frame (wpE defs 𝒱 (c : Thread nD τ) none) Set.univ (kk ⟨⟩) Q))
      ⊢ wp frame (wpE defs 𝒱 (c : Thread nD τ) none) Set.univ (stepB3 (F := F) i (tw c teM te (4 * (i 0).val + 3)) (fun v11 hw h => stepP3 i (tw c teM te (4 * (i 0).val + 3)) v11 hw h) kk) Q := by
  have hi := coord_lt i
  have hl := tab.te_lt (4 * (i 0).val + 3) (by omega)
  have hn := tab.nx_le (4 * (i 0).val + 3) (by omega)
  exact wp_tileB defs 𝒱 c te nx tab _ (by omega) wg wu wd (off58_eq i) ⟨fun _ => inE hl, fun _ => inF hl⟩ (cond17_iff i _ _)
    (fun k hk => ⟨fun _ => in5 hk, fun _ => in6 hk, fun _ => in8 hk, fun _ => in16 hk, fun _ => in17 hk⟩)
    (fun hy k hk Q => wp_segP defs 𝒱 c (read_word c nxM nx (by omega) (off55_eq i)) hn hk _
      ⟨fun _ _ => in11 hk, fun _ _ => in12 hk, fun _ h => inbWA (inN hn h), fun _ _ => in14 hk, fun _ h => inbWB (inN hn h)⟩
      _ (ex_val hl) wg wu wd Q) kk Q

/-! ## The body -/

theorem mid_of (t : ℕ) (te' nx' : ℕ → BitVec 32) :
    iprop((∃ k, ⌜k ≤ t + 1⌝ ∗ Ring c k (nextOf (nx' t)) wg wu wd) ∗ Cur c (ex (te' t)) wg wu wd) ⊢ Mid c te' nx' wg wu wd (t + 1) := by
  simp only [Mid]
  iintro ⟨⟨%k, %hk, HR⟩, HC⟩
  iexists k; isplitr; · ipureintro; exact hk
  isplitl [HR]; · iexact HR
  iexact HC

/-- The output block with one tile's rows written. -/
def put (o : Fin 3 → ℕ) (hX : ∀ a, o a + S256x1x1024.size a ≤ S1024x1x1024.size a) (hY : ∀ a, o a + S256x1x2048.size a ≤ S1024x1x2048.size a)
    (v : BitVec 32) (e : Fin 32) (f4 : Buf (Elt F) (arg4.view.loc (c : Thread nD τ))) (f8 : Buf (Elt F) (arg8.view.loc (c : Thread nD τ))) : Buf (Elt F) (arg8.view.loc (c : Thread nD τ)) :=
  (arg8.access (Rect.unit (s := S1024x1x2048) o S256x1x2048.size hY)).write (Elt F) f8
    (tileY c v ((arg4.access (Rect.unit (s := S1024x1x1024) o S256x1x1024.size hX)).read (Elt F) f4) e wg wu wd) Finset.univ

/-- The output block after the point's four tiles. -/
def four (te' nr' : ℕ → BitVec 32) (f4 : Buf (Elt F) (arg4.view.loc (c : Thread nD τ))) (f8 : Buf (Elt F) (arg8.view.loc (c : Thread nD τ))) : Buf (Elt F) (arg8.view.loc (c : Thread nD τ)) :=
  put arg4 arg8 c wg wu wd ![768, 0, 0] inb_S1024x1x1024_S256x1x1024_768_0_0 inb_S1024x1x2048_S256x1x2048_768_0_0 (nr' (4 * (i 0).val + 3)) (ex (te' (4 * (i 0).val + 3))) f4
    (put arg4 arg8 c wg wu wd ![512, 0, 0] inb_S1024x1x1024_S256x1x1024_512_0_0 inb_S1024x1x2048_S256x1x2048_512_0_0 (nr' (4 * (i 0).val + 2)) (ex (te' (4 * (i 0).val + 2))) f4
      (put arg4 arg8 c wg wu wd ![256, 0, 0] inb_S1024x1x1024_S256x1x1024_256_0_0 inb_S1024x1x2048_S256x1x2048_256_0_0 (nr' (4 * (i 0).val + 1)) (ex (te' (4 * (i 0).val + 1))) f4
        (put arg4 arg8 c wg wu wd ![0, 0, 0] inb_S1024x1x1024_S256x1x1024_0_0_0 inb_S1024x1x2048_S256x1x2048_0_0_0 (nr' (4 * (i 0).val)) (ex (te' (4 * (i 0).val))) f4 f8)))

/-- The state before a point. -/
def Before (te' nx' : ℕ → BitVec 32) (n : ℕ) : sProp 𝕄 := if n = 0 then Start c wg wu wd else Mid c te' nx' wg wu wd (4 * n)

include tab in
/-- Tile 0's first step. -/
theorem wp_first {α : Type} (kk : (v : Elt F .i32) → k0_chk1 i v → Prog (TpuEff nD τ sig (Elt F) Λ₀ .tc) α) (Q : α → sProp 𝕄)
    (hc : k0_chk1 i (tw c teM te (4 * (i 0).val))) :
    iprop((teM.view.loc (c : Thread nD τ) ↦{q} te) ∗ Before c wg wu wd (tw c teM te) (tw c nxM nx) (i 0).val
        ∗ ((teM.view.loc (c : Thread nD τ) ↦{q} te) -∗ Mid c (tw c teM te) (tw c nxM nx) wg wu wd (4 * (i 0).val) -∗ wp frame (wpE defs 𝒱 (c : Thread nD τ) none) Set.univ (kk (tw c teM te (4 * (i 0).val)) hc) Q))
      ⊢ wp frame (wpE defs 𝒱 (c : Thread nD τ) none) Set.univ (stepA0 (F := F) i kk) Q := by
  have hi := coord_lt i
  have hl := tab.te_lt (4 * (i 0).val) (by omega)
  have hv := read_word c teM te (hT := k0_off1_inb i) (n := 4 * (i 0).val) (by omega) (off1_eq i)
  unfold Before stepA0
  by_cases h0 : (i 0).val = 0
  · simp only [if_pos h0, Start]
    iintro ⟨Hte, ⟨HN, HF0, HF1, HH, HC⟩, Hk⟩
    iapply (wp_segA_first defs 𝒱 c hv hc ((cond1_iff i).2 (by omega)) (ex (tw c teM te (4 * (i 0).val))) (ex_val hl) wg wu wd)
    isplitl [Hte]; · iexact Hte
    isplitl [HN]; · iexact HN
    isplitl [HF0]; · iexact HF0
    isplitl [HF1]; · iexact HF1
    isplitl [HH]; · iexact HH
    iintro Hte HR
    iapply Hk $$ Hte
    simp only [h0, Nat.mul_zero, Mid]
    isplitl [HR]; · iexact HR
    iexact HC
  · simp only [if_neg h0]
    iintro ⟨Hte, HM, Hk⟩
    iapply (wp_segA_no defs 𝒱 c hv hc (fun h => h0 (by have := (cond1_iff i).1 h; omega)))
    isplitl [Hte]; · iexact Hte
    iintro Hte
    iapply Hk $$ Hte HM

include tab in
/-- A point: the state goes on by four tiles, the block is written. -/
theorem wp_body (nr : TBuf (F := F) c nrM) (f4 : Buf (Elt F) (arg4.view.loc (c : Thread nD τ))) (f8 : Buf (Elt F) (arg8.view.loc (c : Thread nD τ))) (Q : PUnit.{1} → sProp 𝕄) :
    iprop((teM.view.loc (c : Thread nD τ) ↦{q} te) ∗ (nrM.view.loc (c : Thread nD τ) ↦{q} nr) ∗ (nxM.view.loc (c : Thread nD τ) ↦{q} nx)
        ∗ Before c wg wu wd (tw c teM te) (tw c nxM nx) (i 0).val ∗ (∃ W, owes (c : Thread nD τ) 0 W)
        ∗ (arg4.view.loc (c : Thread nD τ) ↦{fullShare} f4) ∗ (arg8.view.loc (c : Thread nD τ) ↦{fullShare} f8)
        ∗ ((teM.view.loc (c : Thread nD τ) ↦{q} te) -∗ (nrM.view.loc (c : Thread nD τ) ↦{q} nr) -∗ (nxM.view.loc (c : Thread nD τ) ↦{q} nx)
          -∗ Mid c (tw c teM te) (tw c nxM nx) wg wu wd (4 * ((i 0).val + 1)) -∗ (∃ W, owes (c : Thread nD τ) 0 W)
          -∗ (arg4.view.loc (c : Thread nD τ) ↦{fullShare} f4)
          -∗ (arg8.view.loc (c : Thread nD τ) ↦{fullShare} four i arg4 arg8 c wg wu wd (tw c teM te) (tw c nrM nr) f4 f8) -∗ Q ⟨⟩))
      ⊢ wp frame (wpE defs 𝒱 (c : Thread nD τ) none) Set.univ
          (cc0_experts (F := F) i teM (Memref.isWhole_whole _) nrM (Memref.isWhole_whole _) nxM (Memref.isWhole_whole _) arg4 harg4 wgM (Memref.isWhole_whole _) wuM (Memref.isWhole_whole _) wdM (Memref.isWhole_whole _) arg8 harg8 stG (Memref.isWhole_whole _) stU (Memref.isWhole_whole _) stD (Memref.isWhole_whole _) curG (Memref.isWhole_whole _) curU (Memref.isWhole_whole _) curD (Memref.isWhole_whole _) cc0_scratch6 ncM (Memref.isWhole_whole _)) Q := by
  have hi := coord_lt i
  have l0 := tab.te_lt (4 * (i 0).val) (by omega)
  have l1 := tab.te_lt (4 * (i 0).val + 1) (by omega)
  have l2 := tab.te_lt (4 * (i 0).val + 2) (by omega)
  have l3 := tab.te_lt (4 * (i 0).val + 3) (by omega)
  rw [body_eq, part5_eq]
  simp only [part6_eq, part1_eq, part2_eq, part3_eq, part4_eq, four, put]
  iintro ⟨Hte, Hnr, Hnx, HB, HO, Hx, Hy, Hk⟩
  iapply (wp_bind_in defs 𝒱 c)
  iapply (wp_first i defs 𝒱 c te nx tab wg wu wd _ _ ⟨fun _ => inE l0, fun _ => inF l0⟩)
  isplitl [Hte]; · iexact Hte
  isplitl [HB]; · iexact HB
  iintro Hte HM
  iapply (wp_tile0 i defs 𝒱 c te nx tab wg wu wd)
  isplitl [Hte]; · iexact Hte
  isplitl [Hnx]; · iexact Hnx
  isplitl [HM]; · iexact HM
  isplitl [HO]; · iexact HO
  iintro Hte Hnx HR HC HO
  iapply (wp_word defs 𝒱 c nrM (read_word c nrM nr (hT := k0_off18_inb i) (n := 4 * (i 0).val) (by omega) (off1_eq i)))
  isplitl [Hnr]; · iexact Hnr
  iintro Hnr
  iapply (wp_segC defs 𝒱 c (ex (tw c teM te (4 * (i 0).val))) wg wu wd)
  isplitl [Hx]; · iexact Hx
  isplitl [Hy]; · iexact Hy
  isplitl [HC]; · iexact HC
  iintro Hx Hy HC
  ihave HM := (mid_of c wg wu wd (4 * (i 0).val) (tw c teM te) (tw c nxM nx)) $$ [HR HC]
  · isplitl [HR]; · iexact HR
    iexact HC
  iapply (wp_segA_no defs 𝒱 c (read_word c teM te (hT := k0_off19_inb i) (n := 4 * (i 0).val + 1) (by omega) (off19_eq i)) ⟨fun _ => inE l1, fun _ => inF l1⟩ (cond6_no i))
  isplitl [Hte]; · iexact Hte
  iintro Hte
  simp only [wp_pure]
  imodintro
  iapply (wp_bind_in defs 𝒱 c)
  iapply (wp_tile1 i defs 𝒱 c te nx tab wg wu wd)
  isplitl [Hte]; · iexact Hte
  isplitl [Hnx]; · iexact Hnx
  isplitl [HM]; · iexact HM
  isplitl [HO]; · iexact HO
  iintro Hte Hnx HR HC HO
  iapply (wp_word defs 𝒱 c nrM (read_word c nrM nr (hT := k0_off36_inb i) (n := 4 * (i 0).val + 1) (by omega) (off19_eq i)))
  isplitl [Hnr]; · iexact Hnr
  iintro Hnr
  iapply (wp_segC defs 𝒱 c (ex (tw c teM te (4 * (i 0).val + 1))) wg wu wd)
  isplitl [Hx]; · iexact Hx
  isplitl [Hy]; · iexact Hy
  isplitl [HC]; · iexact HC
  iintro Hx Hy HC
  ihave HM := (mid_of c wg wu wd (4 * (i 0).val + 1) (tw c teM te) (tw c nxM nx)) $$ [HR HC]
  · isplitl [HR]; · iexact HR
    iexact HC
  iapply (wp_segA_no defs 𝒱 c (read_word c teM te (hT := k0_off37_inb i) (n := 4 * (i 0).val + 2) (by omega) (off37_eq i)) ⟨fun _ => inE l2, fun _ => inF l2⟩ (cond11_no i))
  isplitl [Hte]; · iexact Hte
  iintro Hte
  iapply (wp_tile2 i defs 𝒱 c te nx tab wg wu wd)
  isplitl [Hte]; · iexact Hte
  isplitl [Hnx]; · iexact Hnx
  isplitl [HM]; · iexact HM
  isplitl [HO]; · iexact HO
  iintro Hte Hnx HR HC HO
  iapply (wp_word defs 𝒱 c nrM (read_word c nrM nr (hT := k0_off54_inb i) (n := 4 * (i 0).val + 2) (by omega) (off37_eq i)))
  isplitl [Hnr]; · iexact Hnr
  iintro Hnr
  simp only [wp_pure]
  imodintro
  iapply (wp_segC defs 𝒱 c (ex (tw c teM te (4 * (i 0).val + 2))) wg wu wd)
  isplitl [Hx]; · iexact Hx
  isplitl [Hy]; · iexact Hy
  isplitl [HC]; · iexact HC
  iintro Hx Hy HC
  ihave HM := (mid_of c wg wu wd (4 * (i 0).val + 2) (tw c teM te) (tw c nxM nx)) $$ [HR HC]
  · isplitl [HR]; · iexact HR
    iexact HC
  iapply (wp_segA_no defs 𝒱 c (read_word c teM te (hT := k0_off55_inb i) (n := 4 * (i 0).val + 3) (by omega) (off55_eq i)) ⟨fun _ => inE l3, fun _ => inF l3⟩ (cond16_no i))
  isplitl [Hte]; · iexact Hte
  iintro Hte
  iapply (wp_tile3 i defs 𝒱 c te nx tab wg wu wd)
  isplitl [Hte]; · iexact Hte
  isplitl [Hnx]; · iexact Hnx
  isplitl [HM]; · iexact HM
  isplitl [HO]; · iexact HO
  iintro Hte Hnx HR HC HO
  iapply (wp_word defs 𝒱 c nrM (read_word c nrM nr (hT := k0_off72_inb i) (n := 4 * (i 0).val + 3) (by omega) (off55_eq i)))
  isplitl [Hnr]; · iexact Hnr
  iintro Hnr
  iapply (wp_segC defs 𝒱 c (ex (tw c teM te (4 * (i 0).val + 3))) wg wu wd)
  isplitl [Hx]; · iexact Hx
  isplitl [Hy]; · iexact Hy
  isplitl [HC]; · iexact HC
  iintro Hx Hy HC
  ihave HM := (mid_of c wg wu wd (4 * (i 0).val + 3) (tw c teM te) (tw c nxM nx)) $$ [HR HC]
  · isplitl [HR]; · iexact HR
    iexact HC
  simp only [wp_pure]
  imodintro
  iapply Hk $$ Hte Hnr Hnx HM HO Hx Hy

end Cert.KernelIdeal.Hand
-- ==== Proof.Slots.lean ====
/-
  The ring's two slots are the two halves of each stage buffer: a whole stage buffer at any contents is its two slots at
  any contents, and the other way about.  From this the state before the first tile is made of the scratch buffers as
  allocated, and they are recovered from the state after the last one.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

/-- The proof's user algebra: the pipeline library's beside the transfers' counters. -/
local notation "𝕄" => MT nD τ sig Unit (Elt F) ℕ (Pipeline.UD sig nD τ) ℕ

/-! ## A slot's elements -/

theorem gS_set (s : Fin 2) : (gS s).view.set = (Rect.unit (s := S2x2048x512) ![s, 0, 0] S1x2048x512.size (inbSA s.2)).set :=
  (View.set_reshape _ _).trans (View.set_slice_whole _ _)
theorem uS_set (s : Fin 2) : (uS s).view.set = (Rect.unit (s := S2x2048x512) ![s, 0, 0] S1x2048x512.size (inbSA s.2)).set :=
  (View.set_reshape _ _).trans (View.set_slice_whole _ _)
theorem dS_set (s : Fin 2) : (dS s).view.set = (Rect.unit (s := S2x512x2048) ![s, 0, 0] S1x512x2048.size (inbSB s.2)).set :=
  (View.set_reshape _ _).trans (View.set_slice_whole _ _)

/-- Two slots of a stage buffer have no element in common. -/
theorem disjA : Disjoint (Rect.unit (s := S2x2048x512) ![(0 : Fin 2), 0, 0] S1x2048x512.size (inbSA (0 : Fin 2).2)).set
    (Rect.unit (s := S2x2048x512) ![(1 : Fin 2), 0, 0] S1x2048x512.size (inbSA (1 : Fin 2).2)).set := by
  rw [Finset.disjoint_left]
  intro i h0 h1
  have a0 := (Rect.mem_set_unit.1 h0) 0
  have a1 := (Rect.mem_set_unit.1 h1) 0
  have e0 : (i 0).val < 0 + 1 := a0.2
  have e1 : 1 ≤ (i 0).val := a1.1
  omega
theorem disjB : Disjoint (Rect.unit (s := S2x512x2048) ![(0 : Fin 2), 0, 0] S1x512x2048.size (inbSB (0 : Fin 2).2)).set
    (Rect.unit (s := S2x512x2048) ![(1 : Fin 2), 0, 0] S1x512x2048.size (inbSB (1 : Fin 2).2)).set := by
  rw [Finset.disjoint_left]
  intro i h0 h1
  have a0 := (Rect.mem_set_unit.1 h0) 0
  have a1 := (Rect.mem_set_unit.1 h1) 0
  have e0 : (i 0).val < 0 + 1 := a0.2
  have e1 : 1 ≤ (i 0).val := a1.1
  omega
/-- Together they are the whole buffer. -/
theorem coverA : (Rect.unit (s := S2x2048x512) ![(0 : Fin 2), 0, 0] S1x2048x512.size (inbSA (0 : Fin 2).2)).set
    ∪ (Rect.unit (s := S2x2048x512) ![(1 : Fin 2), 0, 0] S1x2048x512.size (inbSA (1 : Fin 2).2)).set = Finset.univ := by
  refine Finset.eq_univ_iff_forall.2 fun i => Finset.mem_union.2 ?_
  have b0 : (i 0).val < 2 := (i 0).2
  have b1 : (i 1).val < 2048 := (i 1).2
  have b2 : (i 2).val < 512 := (i 2).2
  by_cases h : (i 0).val = 0
  · refine .inl (Rect.mem_set_unit.2 fun a => ?_)
    fin_cases a
    · exact ⟨show 0 ≤ (i 0).val by omega, show (i 0).val < 0 + 1 by omega⟩
    · exact ⟨show 0 ≤ (i 1).val by omega, show (i 1).val < 0 + 2048 by omega⟩
    · exact ⟨show 0 ≤ (i 2).val by omega, show (i 2).val < 0 + 512 by omega⟩
  · refine .inr (Rect.mem_set_unit.2 fun a => ?_)
    fin_cases a
    · exact ⟨show 1 ≤ (i 0).val by omega, show (i 0).val < 1 + 1 by omega⟩
    · exact ⟨show 0 ≤ (i 1).val by omega, show (i 1).val < 0 + 2048 by omega⟩
    · exact ⟨show 0 ≤ (i 2).val by omega, show (i 2).val < 0 + 512 by omega⟩
theorem coverB : (Rect.unit (s := S2x512x2048) ![(0 : Fin 2), 0, 0] S1x512x2048.size (inbSB (0 : Fin 2).2)).set
    ∪ (Rect.unit (s := S2x512x2048) ![(1 : Fin 2), 0, 0] S1x512x2048.size (inbSB (1 : Fin 2).2)).set = Finset.univ := by
  refine Finset.eq_univ_iff_forall.2 fun i => Finset.mem_union.2 ?_
  have b0 : (i 0).val < 2 := (i 0).2
  have b1 : (i 1).val < 512 := (i 1).2
  have b2 : (i 2).val < 2048 := (i 2).2
  by_cases h : (i 0).val = 0
  · refine .inl (Rect.mem_set_unit.2 fun a => ?_)
    fin_cases a
    · exact ⟨show 0 ≤ (i 0).val by omega, show (i 0).val < 0 + 1 by omega⟩
    · exact ⟨show 0 ≤ (i 1).val by omega, show (i 1).val < 0 + 512 by omega⟩
    · exact ⟨show 0 ≤ (i 2).val by omega, show (i 2).val < 0 + 2048 by omega⟩
  · refine .inr (Rect.mem_set_unit.2 fun a => ?_)
    fin_cases a
    · exact ⟨show 1 ≤ (i 0).val by omega, show (i 0).val < 1 + 1 by omega⟩
    · exact ⟨show 0 ≤ (i 1).val by omega, show (i 1).val < 0 + 512 by omega⟩
    · exact ⟨show 0 ≤ (i 2).val by omega, show (i 2).val < 0 + 2048 by omega⟩

variable (c : Dev nD)

/-- A whole gate stage is its two slots. -/
theorem gSplit (f : Buf (Elt F) (stG.view.loc (c : Thread nD τ))) : (stG.view.loc (c : Thread nD τ) ↦{fullShare} f : sProp 𝕄) ⊢ iprop((∃ f, gPt c 0 f) ∗ (∃ f, gPt c 1 f)) := by
  have h : (stG.view.loc (c : Thread nD τ) ↦{fullShare} f : sProp 𝕄) ⊢ iprop(gPt c 0 f ∗ gPt c 1 f) := by
    unfold gPt
    rw [gS_set, gS_set]
    exact (Entails.of_eq (congrArg (fun S => (stG.view.loc (c : Thread nD τ) ↦[S]{fullShare} f : sProp 𝕄)) coverA.symm)).trans (pointsTo_union disjA).1
  refine h.trans ?_
  iintro ⟨H0, H1⟩
  isplitl [H0]; · iexists _; iexact H0
  iexists _; iexact H1
theorem uSplit (f : Buf (Elt F) (stU.view.loc (c : Thread nD τ))) : (stU.view.loc (c : Thread nD τ) ↦{fullShare} f : sProp 𝕄) ⊢ iprop((∃ f, uPt c 0 f) ∗ (∃ f, uPt c 1 f)) := by
  have h : (stU.view.loc (c : Thread nD τ) ↦{fullShare} f : sProp 𝕄) ⊢ iprop(uPt c 0 f ∗ uPt c 1 f) := by
    unfold uPt
    rw [uS_set, uS_set]
    exact (Entails.of_eq (congrArg (fun S => (stU.view.loc (c : Thread nD τ) ↦[S]{fullShare} f : sProp 𝕄)) coverA.symm)).trans (pointsTo_union disjA).1
  refine h.trans ?_
  iintro ⟨H0, H1⟩
  isplitl [H0]; · iexists _; iexact H0
  iexists _; iexact H1
theorem dSplit (f : Buf (Elt F) (stD.view.loc (c : Thread nD τ))) : (stD.view.loc (c : Thread nD τ) ↦{fullShare} f : sProp 𝕄) ⊢ iprop((∃ f, dPt c 0 f) ∗ (∃ f, dPt c 1 f)) := by
  have h : (stD.view.loc (c : Thread nD τ) ↦{fullShare} f : sProp 𝕄) ⊢ iprop(dPt c 0 f ∗ dPt c 1 f) := by
    unfold dPt
    rw [dS_set, dS_set]
    exact (Entails.of_eq (congrArg (fun S => (stD.view.loc (c : Thread nD τ) ↦[S]{fullShare} f : sProp 𝕄)) coverB.symm)).trans (pointsTo_union disjB).1
  refine h.trans ?_
  iintro ⟨H0, H1⟩
  isplitl [H0]; · iexists _; iexact H0
  iexists _; iexact H1

/-- The two slots at any contents make the whole stage at some contents. -/
theorem gJoin (f g : GBuf (F := F) c) : iprop(gPt c 0 f ∗ gPt c 1 g) ⊢ (iprop(∃ f : Buf (Elt F) (stG.view.loc (c : Thread nD τ)), stG.view.loc (c : Thread nD τ) ↦{fullShare} f) : sProp 𝕄) := by
  have h : iprop(gPt c 0 f ∗ gPt c 1 g) ⊢ (stG.view.loc (c : Thread nD τ) ↦{fullShare} (gS 1).view.set.piecewise g f : sProp 𝕄) := by
    unfold gPt
    rw [gS_set, gS_set]
    exact (pointsTo_join disjA).trans (Entails.of_eq (congrArg (fun S => (stG.view.loc (c : Thread nD τ) ↦[S]{fullShare} _ : sProp 𝕄)) coverA))
  refine h.trans ?_
  iintro H
  iexists _; iexact H
theorem uJoin (f g : UBuf (F := F) c) : iprop(uPt c 0 f ∗ uPt c 1 g) ⊢ (iprop(∃ f : Buf (Elt F) (stU.view.loc (c : Thread nD τ)), stU.view.loc (c : Thread nD τ) ↦{fullShare} f) : sProp 𝕄) := by
  have h : iprop(uPt c 0 f ∗ uPt c 1 g) ⊢ (stU.view.loc (c : Thread nD τ) ↦{fullShare} (uS 1).view.set.piecewise g f : sProp 𝕄) := by
    unfold uPt
    rw [uS_set, uS_set]
    exact (pointsTo_join disjA).trans (Entails.of_eq (congrArg (fun S => (stU.view.loc (c : Thread nD τ) ↦[S]{fullShare} _ : sProp 𝕄)) coverA))
  refine h.trans ?_
  iintro H
  iexists _; iexact H
theorem dJoin (f g : DBuf (F := F) c) : iprop(dPt c 0 f ∗ dPt c 1 g) ⊢ (iprop(∃ f : Buf (Elt F) (stD.view.loc (c : Thread nD τ)), stD.view.loc (c : Thread nD τ) ↦{fullShare} f) : sProp 𝕄) := by
  have h : iprop(dPt c 0 f ∗ dPt c 1 g) ⊢ (stD.view.loc (c : Thread nD τ) ↦{fullShare} (dS 1).view.set.piecewise g f : sProp 𝕄) := by
    unfold dPt
    rw [dS_set, dS_set]
    exact (pointsTo_join disjB).trans (Entails.of_eq (congrArg (fun S => (stD.view.loc (c : Thread nD τ) ↦[S]{fullShare} _ : sProp 𝕄)) coverB))
  refine h.trans ?_
  iintro H
  iexists _; iexact H

/-! ## The state before the first tile, and after the last -/

/-- The counter's buffer holds some word. -/
theorem nc_any (f : Buf (Elt F) (ncM.view.loc (c : Thread nD τ))) : (ncM.view.loc (c : Thread nD τ) ↦{fullShare} f : sProp 𝕄) ⊢ iprop(∃ w, Nc (F := F) c w) := by
  unfold Nc
  iintro H
  iexists ((ncM.access (Rect.unit (s := S1) ![0] S1.size inb_S1_S1_0)).read (Elt F) f (fun a => ⟨0, by fin_cases a; decide⟩))
  iexists f
  isplitl [H]; · iexact H
  ipureintro
  intro x
  congr 1
  funext a
  apply Fin.ext
  fin_cases a
  have hx : (x 0).val < 1 := (x 0).2
  show (x 0).val = 0
  omega

variable (wg : GW (F := F) c) (wu : UW (F := F) c) (wd : DW (F := F) c)

/-- The scratch buffers at any contents. -/
def Scr : sProp 𝕄 :=
  iprop((∃ f : Buf (Elt F) (stG.view.loc (c : Thread nD τ)), stG.view.loc (c : Thread nD τ) ↦{fullShare} f)
    ∗ (∃ f : Buf (Elt F) (stU.view.loc (c : Thread nD τ)), stU.view.loc (c : Thread nD τ) ↦{fullShare} f)
    ∗ (∃ f : Buf (Elt F) (stD.view.loc (c : Thread nD τ)), stD.view.loc (c : Thread nD τ) ↦{fullShare} f)
    ∗ (∃ f : Buf (Elt F) (curG.view.loc (c : Thread nD τ)), curG.view.loc (c : Thread nD τ) ↦{fullShare} f)
    ∗ (∃ f : Buf (Elt F) (curU.view.loc (c : Thread nD τ)), curU.view.loc (c : Thread nD τ) ↦{fullShare} f)
    ∗ (∃ f : Buf (Elt F) (curD.view.loc (c : Thread nD τ)), curD.view.loc (c : Thread nD τ) ↦{fullShare} f)
    ∗ (∃ f : Buf (Elt F) (ncM.view.loc (c : Thread nD τ)), ncM.view.loc (c : Thread nD τ) ↦{fullShare} f))

theorem start_of : iprop(Scr (F := F) c ∗ semVal ((c : Thread nD τ), SemLoc.dma 4) 0 ∗ semVal ((c : Thread nD τ), SemLoc.dma 5) 0 ∗ Home c wg wu wd) ⊢ Start c wg wu wd := by
  unfold Scr Start Free AnyCur
  iintro ⟨⟨⟨%g, Hg⟩, ⟨%u, Hu⟩, ⟨%d, Hd⟩, ⟨%a, Ha⟩, ⟨%b, Hb⟩, ⟨%e, He⟩, ⟨%n, Hn⟩⟩, H4, H5, Hh⟩
  ihave Hg' := (gSplit (F := F) c g) $$ Hg
  ihave Hu' := (uSplit (F := F) c u) $$ Hu
  ihave Hd' := (dSplit (F := F) c d) $$ Hd
  ihave Hn' := (nc_any (F := F) c n) $$ Hn
  icases Hg' with ⟨Hg0, Hg1⟩
  icases Hu' with ⟨Hu0, Hu1⟩
  icases Hd' with ⟨Hd0, Hd1⟩
  isplitl [Hn']; · iexact Hn'
  isplitl [H4 Hg0 Hu0 Hd0]
  · isplitl [H4]; · iexact H4
    isplitl [Hg0]; · iexact Hg0
    isplitl [Hu0]; · iexact Hu0
    iexact Hd0
  isplitl [H5 Hg1 Hu1 Hd1]
  · isplitl [H5]; · iexact H5
    isplitl [Hg1]; · iexact Hg1
    isplitl [Hu1]; · iexact Hu1
    iexact Hd1
  isplitl [Hh]; · iexact Hh
  isplitl [Ha]; · iexists a; iexact Ha
  isplitl [Hb]; · iexists b; iexact Hb
  iexists e; iexact He

theorem of_start : Start c wg wu wd ⊢ iprop(Scr (F := F) c ∗ semVal ((c : Thread nD τ), SemLoc.dma 4) 0 ∗ semVal ((c : Thread nD τ), SemLoc.dma 5) 0 ∗ Home c wg wu wd) := by
  unfold Scr Start Free AnyCur Nc
  iintro ⟨⟨%w, %n, Hn, -⟩, ⟨H4, ⟨%g0, Hg0⟩, ⟨%u0, Hu0⟩, ⟨%d0, Hd0⟩⟩, ⟨H5, ⟨%g1, Hg1⟩, ⟨%u1, Hu1⟩, ⟨%d1, Hd1⟩⟩, Hh, Ha, Hb, He⟩
  isplitl [Hn Hg0 Hg1 Hu0 Hu1 Hd0 Hd1 Ha Hb He]
  · isplitl [Hg0 Hg1]
    · iapply (gJoin (F := F) c g0 g1)
      isplitl [Hg0]; · iexact Hg0
      iexact Hg1
    isplitl [Hu0 Hu1]
    · iapply (uJoin (F := F) c u0 u1)
      isplitl [Hu0]; · iexact Hu0
      iexact Hu1
    isplitl [Hd0 Hd1]
    · iapply (dJoin (F := F) c d0 d1)
      isplitl [Hd0]; · iexact Hd0
      iexact Hd1
    isplitl [Ha]; · iexact Ha
    isplitl [Hb]; · iexact Hb
    isplitl [He]; · iexact He
    iexists n; iexact Hn
  isplitl [H4]; · iexact H4
  isplitl [H5]; · iexact H5
  iexact Hh

/-- After the last tile nothing is in flight: the state is that before the first. -/
theorem start_of_mid (te nx : ℕ → BitVec 32) (n : ℕ) (h : nx n = 32#32) : Mid c te nx wg wu wd (n + 1) ⊢ Start c wg wu wd := by
  have hn : nextOf (nx n) = none := by rw [h]; rfl
  unfold Mid Ring Start
  simp only [hn, Next]
  iintro ⟨%k, -, ⟨Hn, ⟨Hf, Hh⟩, Hf'⟩, Hc⟩
  isplitl [Hn]; · iexists _; iexact Hn
  ihave Hc' := (cur_any (F := F) c _ wg wu wd) $$ Hc
  rcases (show k % 2 = 0 ∨ k % 2 = 1 by omega) with hk | hk
  · have e0 : sl k = 0 := Fin.ext hk
    have e1 : sl (k + 1) = 1 := Fin.ext (show (k + 1) % 2 = 1 by omega)
    simp only [e0, e1]
    isplitl [Hf]; · iexact Hf
    isplitl [Hf']; · iexact Hf'
    isplitl [Hh]; · iexact Hh
    iexact Hc'
  · have e0 : sl k = 1 := Fin.ext hk
    have e1 : sl (k + 1) = 0 := Fin.ext (show (k + 1) % 2 = 0 by omega)
    simp only [e0, e1]
    isplitl [Hf']; · iexact Hf'
    isplitl [Hf]; · iexact Hf
    isplitl [Hh]; · iexact Hh
    iexact Hc'

end Cert.KernelIdeal.Hand
-- ==== Proof.Out.lean ====
/-
  What the run leaves in the output array, and the block of it each point writes: row `r` lies in tile `r / 256`, whose 256
  rows come of the tile's rows of the input, its count of live rows and its expert.
-/
module

public import proofs.«01_k».proof.Proof.Body
public import Idealize.ShloMosaic.Lib.WritesUnit
public import Idealize.ShloMosaic.Lib.Pointwise.Index
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

/-- The proof's user algebra: the pipeline library's beside the transfers' counters. -/
local notation "𝕄" => MT nD τ sig Unit (Elt F) ℕ (Pipeline.UD sig nD τ) ℕ

/-- Tile `r` of a block of four. -/
def rows (X : Vec F S1024x1x1024 .i32) (r : ℕ) : Vec F S256x1x1024 .i32 := fun z =>
  X (ix3 (n0 := 1024) (n1 := 1) (n2 := 1024) ⟨(256 * r + (z 0).val) % 1024, Nat.mod_lt _ (by decide)⟩ (z 1) (z 2))

/-- Tile `T` of the whole input. -/
def tileX (xs : Vec F S45056x1x1024 .i32) (T : ℕ) : Vec F S256x1x1024 .i32 := fun z =>
  xs (ix3 (n0 := 45056) (n1 := 1) (n2 := 1024) ⟨(256 * T + (z 0).val) % 45056, Nat.mod_lt _ (by decide)⟩ (z 1) (z 2))

/-- The row of a tile a row of the array is. -/
def inTile (r : ℕ) (y : Fin 1) (z : Fin 2048) : S256x1x2048.Idx := ix3 (n0 := 256) (n1 := 1) (n2 := 2048) ⟨r % 256, Nat.mod_lt _ (by decide)⟩ y z

/-- The output array: each row its tile's. -/
def outArr (c : Dev nD) (te' nr' : ℕ → BitVec 32) (xs : Vec F S45056x1x1024 .i32) (wg : GW (F := F) c) (wu : UW (F := F) c) (wd : DW (F := F) c) : FVec F S45056x1x2048 .bf16 := fun i =>
  tileY c (nr' ((i 0).val / 256)) (tileX xs ((i 0).val / 256)) (ex (te' ((i 0).val / 256))) wg wu wd (inTile (i 0).val (i 1) (i 2))

variable (i : grid0.Coords)
variable (arg4 : Memref sig .tc .vmem S1024x1x1024 .i32) (arg8 : Memref sig .tc .vmem S1024x1x2048 .bf16)
variable (c : Dev nD) (wg : GW (F := F) c) (wu : UW (F := F) c) (wd : DW (F := F) c)

/-- A load of 256 rows of a block is one tile of it. -/
theorem read_rows (f4 : Buf (Elt F) (arg4.view.loc (c : Thread nD τ))) (r : ℕ) (hr : r < 4) (o : Fin 3 → ℕ) (ho : o = ![256 * r, 0, 0])
    (hX : ∀ a, o a + S256x1x1024.size a ≤ S1024x1x1024.size a) :
    (arg4.access (Rect.unit (s := S1024x1x1024) o S256x1x1024.size hX)).read (Elt F) f4 = rows (arg4.view.read (Elt F) f4) r := by
  subst ho
  funext z
  show arg4.view.read (Elt F) f4 ((Rect.unit (s := S1024x1x1024) ![256 * r, 0, 0] S256x1x1024.size hX).emb z) = _
  unfold rows
  congr 1
  have b0 : (z 0).val < 256 := (z 0).2
  funext a
  apply Fin.ext
  fin_cases a
  · show 256 * r + 1 * (z 0).val = (256 * r + (z 0).val) % 1024
    omega
  · show 0 + 1 * (z 1).val = (z 1).val
    omega
  · show 0 + 1 * (z 2).val = (z 2).val
    omega

/-- What a point's four tiles leave in its block, row by row. -/
theorem read_four (te' nr' : ℕ → BitVec 32) (f4 : Buf (Elt F) (arg4.view.loc (c : Thread nD τ))) (f8 : Buf (Elt F) (arg8.view.loc (c : Thread nD τ))) (y : S1024x1x2048.Idx) :
    arg8.view.read (Elt F) (four i arg4 arg8 c wg wu wd te' nr' f4 f8) y
      = tileY c (nr' (4 * (i 0).val + (y 0).val / 256)) (rows (arg4.view.read (Elt F) f4) ((y 0).val / 256)) (ex (te' (4 * (i 0).val + (y 0).val / 256))) wg wu wd (inTile (y 0).val (y 1) (y 2)) := by
  have b0 : (y 0).val < 1024 := (y 0).2
  have b1 : (y 1).val < 1 := (y 1).2
  have b2 : (y 2).val < 2048 := (y 2).2
  let T (r : ℕ) := tileY c (nr' (4 * (i 0).val + r)) (rows (arg4.view.read (Elt F) f4) r) (ex (te' (4 * (i 0).val + r))) wg wu wd
  have e : four i arg4 arg8 c wg wu wd te' nr' f4 f8 = arg8.view.writes (Elt F) f8
      [⟨Rect.unit (s := S1024x1x2048) ![768, 0, 0] S256x1x2048.size inb_S1024x1x2048_S256x1x2048_768_0_0, T 3⟩,
        ⟨Rect.unit (s := S1024x1x2048) ![512, 0, 0] S256x1x2048.size inb_S1024x1x2048_S256x1x2048_512_0_0, T 2⟩,
        ⟨Rect.unit (s := S1024x1x2048) ![256, 0, 0] S256x1x2048.size inb_S1024x1x2048_S256x1x2048_256_0_0, T 1⟩,
        ⟨Rect.unit (s := S1024x1x2048) ![0, 0, 0] S256x1x2048.size inb_S1024x1x2048_S256x1x2048_0_0_0, T 0⟩] := by
    unfold four put
    rw [read_rows arg4 c f4 3 (by omega) _ rfl, read_rows arg4 c f4 2 (by omega) _ rfl, read_rows arg4 c f4 1 (by omega) _ rfl, read_rows arg4 c f4 0 (by omega) _ rfl]
    rfl
  have at_ : ∀ r, (y 0).val / 256 = r → ∀ a, (y a).val = (![256 * r, 0, 0] : Fin 3 → ℕ) a + (inTile (y 0).val (y 1) (y 2) a).val := by
    intro r hr a
    fin_cases a
    · show (y 0).val = 256 * r + (y 0).val % 256
      omega
    · show (y 1).val = 0 + (y 1).val
      omega
    · show (y 2).val = 0 + (y 2).val
      omega
  rw [e]
  rcases (show (y 0).val / 256 = 3 ∨ (y 0).val / 256 = 2 ∨ (y 0).val / 256 = 1 ∨ (y 0).val / 256 = 0 by omega) with h | h | h | h
  · rw [h]
    exact View.read_writes_cons_unit_of_mem arg8.view f8 _ _ _ y (inTile (y 0).val (y 1) (y 2)) (off' := ![768, 0, 0]) rfl (at_ 3 h)
  · rw [h]
    refine (View.read_writes_cons_unit_of_not_mem arg8.view f8 _ _ _ y rfl 0 (.inl (show (y 0).val < 768 by omega))).trans ?_
    exact View.read_writes_cons_unit_of_mem arg8.view f8 _ _ _ y (inTile (y 0).val (y 1) (y 2)) (off' := ![512, 0, 0]) rfl (at_ 2 h)
  · rw [h]
    refine (View.read_writes_cons_unit_of_not_mem arg8.view f8 _ _ _ y rfl 0 (.inl (show (y 0).val < 768 by omega))).trans ?_
    refine (View.read_writes_cons_unit_of_not_mem arg8.view f8 _ _ _ y rfl 0 (.inl (show (y 0).val < 512 by omega))).trans ?_
    exact View.read_writes_cons_unit_of_mem arg8.view f8 _ _ _ y (inTile (y 0).val (y 1) (y 2)) (off' := ![256, 0, 0]) rfl (at_ 1 h)
  · rw [h]
    refine (View.read_writes_cons_unit_of_not_mem arg8.view f8 _ _ _ y rfl 0 (.inl (show (y 0).val < 768 by omega))).trans ?_
    refine (View.read_writes_cons_unit_of_not_mem arg8.view f8 _ _ _ y rfl 0 (.inl (show (y 0).val < 512 by omega))).trans ?_
    refine (View.read_writes_cons_unit_of_not_mem arg8.view f8 _ _ _ y rfl 0 (.inl (show (y 0).val < 256 by omega))).trans ?_
    exact View.read_writes_cons_unit_of_mem arg8.view f8 _ _ _ y (inTile (y 0).val (y 1) (y 2)) (off' := ![0, 0, 0]) rfl (at_ 0 h)

/-- If the input's block is the point's rows of the input, the output's is the point's rows of the output array. -/
theorem read_four_out (te' nr' : ℕ → BitVec 32) (f4 : Buf (Elt F) (arg4.view.loc (c : Thread nD τ))) (f8 : Buf (Elt F) (arg8.view.loc (c : Thread nD τ))) (xs : Vec F S45056x1x1024 .i32)
    (hX : ∀ z : S1024x1x1024.Idx, arg4.view.read (Elt F) f4 z
      = xs (ix3 (n0 := 45056) (n1 := 1) (n2 := 1024) ⟨(1024 * (i 0).val + (z 0).val) % 45056, Nat.mod_lt _ (by decide)⟩ (z 1) (z 2)))
    (y : S1024x1x2048.Idx) :
    arg8.view.read (Elt F) (four i arg4 arg8 c wg wu wd te' nr' f4 f8) y
      = outArr c te' nr' xs wg wu wd (ix3 (n0 := 45056) (n1 := 1) (n2 := 2048) ⟨(1024 * (i 0).val + (y 0).val) % 45056, Nat.mod_lt _ (by decide)⟩ (y 1) (y 2)) := by
  have b0 : (y 0).val < 1024 := (y 0).2
  have bi : (i 0).val < 44 := coord_lt i
  rw [read_four]
  have eT : ((1024 * (i 0).val + (y 0).val) % 45056) / 256 = 4 * (i 0).val + (y 0).val / 256 := by omega
  have eI : inTile ((1024 * (i 0).val + (y 0).val) % 45056) (y 1) (y 2) = inTile (y 0).val (y 1) (y 2) := by
    unfold inTile
    congr 1
    apply Fin.ext
    show (1024 * (i 0).val + (y 0).val) % 45056 % 256 = (y 0).val % 256
    omega
  have eX : rows (arg4.view.read (Elt F) f4) ((y 0).val / 256) = tileX xs (4 * (i 0).val + (y 0).val / 256) := by
    funext z
    have bz : (z 0).val < 256 := (z 0).2
    unfold rows tileX
    rw [hX]
    congr 2
    apply Fin.ext
    show (1024 * (i 0).val + (256 * ((y 0).val / 256) + (z 0).val) % 1024) % 45056 = (256 * (4 * (i 0).val + (y 0).val / 256) + (z 0).val) % 45056
    omega
  rw [eX]
  show _ = tileY c (nr' (((1024 * (i 0).val + (y 0).val) % 45056) / 256)) (tileX xs (((1024 * (i 0).val + (y 0).val) % 45056) / 256)) (ex (te' (((1024 * (i 0).val + (y 0).val) % 45056) / 256))) wg wu wd
    (inTile ((1024 * (i 0).val + (y 0).val) % 45056) (y 1) (y 2))
  rw [eT, eI]

end Cert.KernelIdeal.Hand
-- ==== Proof.Tables.lean ====
/-
  What the precondition says of the tables: `tables_ok` of the tile tables is all ones exactly when the statement `TabOk`
  holds of their words, which is what the walk over the tiles needs.
-/
module

public import proofs.«01_k».proof.Proof.Tiles
public import proofs.«01_k».proof.Proof.Gen.Pre_tables_ok
public import Idealize.ShloMosaic.Lib.StableHlo.Predicate
public import Idealize.ShloMosaic.Lib.ReduceAll

@[expose] public section

noncomputable section

namespace Cert.KernelIdeal.Hand

open Idealize.ShloMosaic

/-- The word of a table at offset `n`. -/
def wordAt (x : IVec S176 32) (n : ℕ) : BitVec 32 := x (fun a => ⟨n % 176, lt176 a n⟩)

instance : Subsingleton Cert.Pre_tables_ok.S_.Idx := ⟨fun _ _ => funext fun a => a.elim0⟩

/-- Two bits joined by `and` are one where both are. -/
theorem and_one {a b : BitVec 1} : IntOp.andi a b = 1#1 ↔ a = 1#1 ∧ b = 1#1 := by
  revert a b; decide

/-- A word at least zero, signed, is below the half of the words. -/
theorem half_of_signed {w : BitVec 32} (h0 : IntOp.cmpi .sge w 0#32 = 1#1) : w.toNat < 2 ^ 31 := by
  by_contra hc
  have h1 : (0#32 : BitVec 32).toInt ≤ w.toInt := by
    simpa only [IntOp.cmpi, StableHlo.Predicate.ofBool_eq_one_iff, BitVec.sle, decide_eq_true_eq] using h0
  have h2 : w.toInt = (w.toNat : ℤ) - 4294967296 := by
    rw [BitVec.toInt_eq_toNat_cond, if_neg (by omega)]; rfl
  have h3 : (0#32 : BitVec 32).toInt = 0 := by decide
  have := w.isLt
  omega

/-- A word at least zero and below a small bound, both signed, is below the bound unsigned. -/
theorem lt_of_signed {w b : BitVec 32} (hb : b.toNat < 2 ^ 31) (h0 : IntOp.cmpi .sge w 0#32 = 1#1) (h1 : IntOp.cmpi .slt w b = 1#1) :
    w.toNat < b.toNat := (StableHlo.Predicate.slt_iff_toNat (half_of_signed h0) hb).1 h1

/-- The same with the bound admitted. -/
theorem le_of_signed {w b : BitVec 32} (hb : b.toNat < 2 ^ 31) (h0 : IntOp.cmpi .sge w 0#32 = 1#1) (h1 : IntOp.cmpi .sle w b = 1#1) :
    w.toNat ≤ b.toNat := (StableHlo.Predicate.sle_iff_toNat (half_of_signed h0) hb).1 h1

variable {F : FTy → Type} [FloatOps F]

/-- The tables the precondition admits are in order. -/
theorem tabOk_of_pre (x : IVec Pre_tables_ok.S45056x1x1024 32) (te nr nx : IVec S176 32) (wg wu : FVec F Pre_tables_ok.S32x2048x512 .f32)
    (wd : FVec F Pre_tables_ok.S32x512x2048 .f32) (h : Cert.Pre_tables_ok.fn (F := F) x te nr nx wg wu wd = fun _ => 1#1) :
    TabOk (wordAt te) (wordAt nx) := by
  have e := congrFun h (fun a => a.elim0)
  simp only [Pre_tables_ok.fn, Pre_tables_ok.fn_part1, Pre_tables_ok.fn_where, andi, and_one] at e
  obtain ⟨⟨⟨ht, hn⟩, hl⟩, hs⟩ := e
  have ht := Host.reduce_andi_all _ _ _ _ _ ht
  have hn := Host.reduce_andi_all _ _ _ _ _ hn
  have hs := Host.reduce_andi_all _ _ _ _ _ hs
  have key : ∀ n, n + 1 < 176 → (te (fun a => ⟨(n + 1) % 176, lt176 a (n + 1)⟩) = te (fun a => ⟨n % 176, lt176 a n⟩) → nx (fun a => ⟨(n + 1) % 176, lt176 a (n + 1)⟩) = nx (fun a => ⟨n % 176, lt176 a n⟩))
      ∧ (te (fun a => ⟨(n + 1) % 176, lt176 a (n + 1)⟩) ≠ te (fun a => ⟨n % 176, lt176 a n⟩) → nx (fun a => ⟨n % 176, lt176 a n⟩) = te (fun a => ⟨(n + 1) % 176, lt176 a (n + 1)⟩)) := by
    intro n hn1
    have h := hs (fun a => ⟨n, by fin_cases a; show n < 175; omega⟩)
    have i0 : ∀ (y : IVec S176 32), extractStridedSlice Pre_tables_ok.S175 ![0] y Pre_tables_ok.Facts.slices_S176_S175_0 (fun a => ⟨n, by fin_cases a; show n < 175; omega⟩)
        = y (fun a => ⟨n % 176, lt176 a n⟩) := by
      intro y
      unfold extractStridedSlice
      congr 1
      funext a
      apply Fin.ext
      fin_cases a
      show _ = n % 176
      simp [Nat.mod_eq_of_lt (show n < 176 by omega)]
    have i1 : ∀ (y : IVec S176 32), extractStridedSlice Pre_tables_ok.S175 ![1] y Pre_tables_ok.Facts.slices_S176_S175_1 (fun a => ⟨n, by fin_cases a; show n < 175; omega⟩)
        = y (fun a => ⟨(n + 1) % 176, lt176 a (n + 1)⟩) := by
      intro y
      unfold extractStridedSlice
      congr 1
      funext a
      apply Fin.ext
      fin_cases a
      show _ = (n + 1) % 176
      simp [Nat.mod_eq_of_lt (show n + 1 < 176 by omega), Nat.add_comm]
    simp only [select, cmpi, i0, i1, Scalar.select, StableHlo.Predicate.cmpi_eq_iff] at h
    refine ⟨fun he => ?_, fun he => ?_⟩
    · split at h
      · exact StableHlo.Predicate.cmpi_eq_iff.1 h
      · next hc => exact absurd (StableHlo.Predicate.cmpi_eq_iff.2 he) hc
    · split at h
      · next hc => exact absurd (StableHlo.Predicate.cmpi_eq_iff.1 hc) he
      · exact StableHlo.Predicate.cmpi_eq_iff.1 h
  refine ⟨fun n hn1 => ?_, fun n hn1 => ?_, fun n hn1 => (key n hn1).1, fun n hn1 => (key n hn1).2, ?_⟩
  · have h := ht (fun a => ⟨n % 176, lt176 a n⟩)
    have h := and_one.1 h
    exact lt_of_signed (b := 32#32) (by decide) h.1 h.2
  · have h := hn (fun a => ⟨n % 176, lt176 a n⟩)
    have h := and_one.1 h
    exact le_of_signed (b := 32#32) (by decide) h.1 h.2
  · simp only [cmpi, constantI, StableHlo.Predicate.cmpi_eq_iff] at hl
    refine Eq.trans ?_ hl
    unfold wordAt shapeCast extractStridedSlice
    congr 1
    funext a
    apply Fin.ext
    fin_cases a
    show 175 % 176 = 175 + (((Shape.reshapeEquiv Pre_tables_ok.Facts.shapeCasts_S1_S_) (fun a => a.elim0) : Pre_tables_ok.S1.Idx) 0).val
    have hz : (((Shape.reshapeEquiv Pre_tables_ok.Facts.shapeCasts_S1_S_) (fun a => a.elim0) : Pre_tables_ok.S1.Idx) 0).val < 1 := Fin.isLt _
    omega

end Cert.KernelIdeal.Hand
-- ==== Proof.Frame.lean ====
/-
  The launch: the tables' contents pin the pipeline, the weights stay in HBM and are the body's own, the ring's two slots are
  the two halves of each stage buffer, and the state between two points is `Before`. The run ends with every argument as it
  was, every counter at zero and the output array at what the four tiles of each point wrote.
-/
module

public import proofs.«01_k».proof.Proof.Slots
public import proofs.«01_k».proof.Proof.Out
public import proofs.«01_k».proof.Proof.Tables
public import proofs.«01_k».proof.Proof.Gen.KernelIdeal.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- A buffer's launch contents on a core. -/
abbrev V (c : Dev nD) (b : Ref sig .tc) : Buf (Elt F) ((c : Thread nD τ).loc b) := m ((c : Thread nD τ).loc b)

/-- The tables' contents, as the region finds them. -/
def tabs : pre0.Contents (Elt F) := fun k => m (((0 : Dev nD) : Thread nD τ).loc (pre0.ref k))
/-- They are admissible: the windows' index maps read no table. -/
def adm : (p : Fin 1) → (pcfgs (F := F) p).Adm := fun _ => ⟨tabs m, trivial⟩

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The body's two DMA cells, one a ring slot. -/
abbrev osem0 : Fin 2 → SemLoc sig := fun j => (![SemLoc.dma 4, SemLoc.dma 5] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0) := by
  rw [Pipeline.ownSems0_eq_of_list c osem0 [0, 1] (by decide) (by decide)]; rfl

/-- The HBM operands the body's copies read: the three weights. -/
def H0 : Finset (Ref sig .tc) := {main_arg4, main_arg5, main_arg6}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = Home c (V m c main_arg4) (V m c main_arg5) (V m c main_arg6) := by
  rw [BI.bigSep_eq_bigSepL_of_eq [main_arg4, main_arg5, main_arg6] (by decide) (by decide)]; rfl
theorem tables_eq (c : Dev nD) :
    (Pipeline.ΦT pre0 (tabs m) c : sProp 𝕄)
      = iprop((teM.view.loc (c : Thread nD τ) ↦{fullShare.right} V m c main_arg1) ∗ (nrM.view.loc (c : Thread nD τ) ↦{fullShare.right} V m c main_arg2)
          ∗ (nxM.view.loc (c : Thread nD τ) ↦{fullShare.right} V m c main_arg3)) := by
  obtain rfl : c = 0 := Subsingleton.elim _ _
  unfold Pipeline.ΦT Pipeline.prefHeld
  rw [bigSep_univ_eq_bigSepL [(0 : Fin 3), (1 : Fin 3), (2 : Fin 3)] (by decide) (by decide)]; rfl

/-! ## The pipeline's proof data -/

/-- The pipeline at the tables' contents. -/
abbrev cfgA : Pipeline.Cfg sig Λ₀ := Pipeline.pin pcfgs (adm m) 0

/-- The output array as the run leaves it. -/
abbrev outA (c : Dev nD) : Buf (Elt F) ((c : Thread nD τ).loc main_v0) :=
  outArr c (tw c teM (V m c main_arg1)) (tw c nrM (V m c main_arg2)) (V m c main_arg0) (V m c main_arg4) (V m c main_arg5) (V m c main_arg6)

/-- What holds between points: the generator register, the tables' halves, and the state before point `n`. -/
def Inv (c : Dev nD) (n : ℕ) : sProp 𝕄 :=
  iprop((∃ r, prngReg (c : Dev nD) r) ∗ (teM.view.loc (c : Thread nD τ) ↦{fullShare.right} V m c main_arg1) ∗ (nrM.view.loc (c : Thread nD τ) ↦{fullShare.right} V m c main_arg2)
    ∗ (nxM.view.loc (c : Thread nD τ) ↦{fullShare.right} V m c main_arg3)
    ∗ Before c (V m c main_arg4) (V m c main_arg5) (V m c main_arg6) (tw c teM (V m c main_arg1)) (tw c nxM (V m c main_arg3)) n)

/-- The proof data: the input's buffer keeps its block, the output's holds its block of the final array. -/
def dats (_ : Fin 1) (c : Dev nD) : Dat τ (Elt F) Unit ℕ (Pipeline.UD sig nD τ) ℕ (cfgA m) c where
  A w := V m c (Pipeline.arrRef spec0 w)
  after w t := match w with
    | ⟨0, _⟩ => (((cfgA m).win 0).blk t).view.read (Elt F) (V m c main_arg0)
    | ⟨1, _⟩ => (((cfgA m).win 1).blk t).view.read (Elt F) (outA m c)
  Φ p := Inv m c p.val
  q _ := fullShare
  owed _ := 0

theorem A_eq (c : Dev nD) (w : Fin (cfgA m).W) : (dats m 0 c).A w = V m c (Pipeline.arrRef spec0 w) := by
  dsimp only [dats]
theorem after_0 (c : Dev nD) (t : Fin (cfgA m).N) : (dats m 0 c).after 0 t = (((cfgA m).win 0).blk t).view.read (Elt F) (V m c main_arg0) := rfl
theorem after_1 (c : Dev nD) (t : Fin (cfgA m).N) : (dats m 0 c).after 1 t = (((cfgA m).win 1).blk t).view.read (Elt F) (outA m c) := rfl

theorem fetch_0 (t : Fin (cfgA m).N) : ((cfgA m).win 0).fetch t = true := by
  rw [Pipeline.Window.fetch_eq_fetchOf]
  exact (by decide +kernel : ∀ t : Fin grid0.N, Pipeline.Window.fetchOf grid0 false cc0_transform_0 t = true) t

theorem before_0 (c : Dev nD) (t : Fin (cfgA m).N) (d) : (dats m 0 c).before 0 t d = (((cfgA m).win 0).blk t).view.read (Elt F) (V m c main_arg0) :=
  ((dats m 0 c).before_fetched 0 t (fetch_0 m t) d).trans rfl

theorem idle_pair (v : BitVec 32) : (!(k0_cond4 v == 1#1) && !(k0_cond5 v == 1#1)) = false := by
  by_cases h : k0_cond4 v = 1#1
  · rw [h]; rfl
  · rw [(cond5_iff v).2 h]; cases (k0_cond4 v == 1#1) <;> rfl

theorem idle_all (v : BitVec 32) (b c d e f g : Bool) : (!(k0_cond4 v == 1#1) && !(k0_cond5 v == 1#1) && b && c && d && e && f && g) = false := by
  rw [idle_pair]; rfl

theorem idle_1 (i : grid0.Coords) : (cfgA m).idle 1 i = false := by
  show idle0 (adm m 0).1 1 i = false
  exact idle_all _ _ _ _ _ _ _

/-- The point is its one coordinate. -/
theorem coord_eq (t : Fin grid0.N) : (grid0.coords t 0).val = t.val := (by decide +kernel : ∀ t : Fin grid0.N, (grid0.coords t 0).val = t.val) t

/-- The input's block at a point is the point's rows. -/
theorem blk_0 (t : Fin grid0.N) (xs : Vec F S45056x1x1024 .i32) (z : S1024x1x1024.Idx) :
    (((cfgA m).win 0).blk t).view.read (Elt F) xs z
      = xs (ix3 (n0 := 45056) (n1 := 1) (n2 := 1024) ⟨(1024 * (grid0.coords t 0).val + (z 0).val) % 45056, Nat.mod_lt _ (by decide)⟩ (z 1) (z 2)) := by
  have bi : (grid0.coords t 0).val < 44 := coord_lt _
  have b0 : (z 0).val < 1024 := (z 0).2
  have e0 : (cc0_transform_0 (grid0.coords t)) 0 = (grid0.coords t 0).val := Nat.mod_eq_of_lt (show (grid0.coords t 0).val < 2 ^ 32 by omega)
  show xs ((((cfgA m).win 0).rect t).emb z) = _
  congr 1
  funext a
  apply Fin.ext
  refine (Pipeline.Window.rect_emb_val _ t z a).trans ?_
  fin_cases a
  · show (cc0_transform_0 (grid0.coords t)) 0 * 1024 + (z 0).val = (1024 * (grid0.coords t 0).val + (z 0).val) % 45056
    rw [e0]; omega
  · show 0 * 1 + (z 1).val = (z 1).val
    omega
  · show 0 * 1024 + (z 2).val = (z 2).val
    omega
/-- The output's likewise. -/
theorem blk_1 (t : Fin grid0.N) (G : FVec F S45056x1x2048 .bf16) (z : S1024x1x2048.Idx) :
    (((cfgA m).win 1).blk t).view.read (Elt F) G z
      = G (ix3 (n0 := 45056) (n1 := 1) (n2 := 2048) ⟨(1024 * (grid0.coords t 0).val + (z 0).val) % 45056, Nat.mod_lt _ (by decide)⟩ (z 1) (z 2)) := by
  have bi : (grid0.coords t 0).val < 44 := coord_lt _
  have b0 : (z 0).val < 1024 := (z 0).2
  have e0 : (cc0_transform_4 (grid0.coords t)) 0 = (grid0.coords t 0).val := Nat.mod_eq_of_lt (show (grid0.coords t 0).val < 2 ^ 32 by omega)
  show G ((((cfgA m).win 1).rect t).emb z) = _
  congr 1
  funext a
  apply Fin.ext
  refine (Pipeline.Window.rect_emb_val _ t z a).trans ?_
  fin_cases a
  · show (cc0_transform_4 (grid0.coords t)) 0 * 1024 + (z 0).val = (1024 * (grid0.coords t 0).val + (z 0).val) % 45056
    rw [e0]; omega
  · show 0 * 1 + (z 1).val = (z 1).val
    omega
  · show 0 * 2048 + (z 2).val = (z 2).val
    omega

/-! ## The body at a point -/

/-- The current staging buffers. -/
abbrev ms0 (t : Fin (cfgA m).N) : Memref sig .tc .vmem S1024x1x1024 .i32 := spec0_0.stage ((cfgA m).slots t 0)
abbrev ms1 (t : Fin (cfgA m).N) : Memref sig .tc .vmem S1024x1x2048 .bf16 := spec0_1.stage ((cfgA m).slots t 1)
theorem ms0_whole (t : Fin (cfgA m).N) : (ms0 m t).IsWhole := hstage0_0 (((cfgA m).slots t 0).cast nbuf0_0)
theorem ms1_whole (t : Fin (cfgA m).N) : (ms1 m t).IsWhole := hstage0_1 (((cfgA m).slots t 1).cast nbuf0_1)

/-- The body's call at point `t`. -/
abbrev bodyAt (t : Fin (cfgA m).N) : Prog (TpuEff nD τ sig (Elt F) Λ₀ .tc) PUnit :=
  cc0_experts (F := F) (grid0.coords t) teM (Memref.isWhole_whole _) nrM (Memref.isWhole_whole _) nxM (Memref.isWhole_whole _) (ms0 m t) (ms0_whole m t) wgM (Memref.isWhole_whole _) wuM (Memref.isWhole_whole _) wdM (Memref.isWhole_whole _) (ms1 m t) (ms1_whole m t) stG (Memref.isWhole_whole _) stU (Memref.isWhole_whole _) stD (Memref.isWhole_whole _) curG (Memref.isWhole_whole _) curU (Memref.isWhole_whole _) curD (Memref.isWhole_whole _) cc0_scratch6 ncM (Memref.isWhole_whole _)

theorem defs₀_row (t : Fin (cfgA m).N) : defs₀ (F := F) .tc (cfgA m).body ((cfgA m).bodyArgs t ((cfgA m).slots t)) = bodyAt m t := by
  unfold defs₀; rw [Defs.onTc_tc]

/-- A whole memref is owned whole. -/
theorem owns_elim (c : Dev nD) {s : Shape} {e : EltTy} (M : Memref sig .tc .vmem s e) (h : M.IsWhole) (X : s.Idx → Elt F e) :
    (owns (c : Thread nD τ) M fullShare X : sProp 𝕄) = iprop(∃ f, ⌜M.view.read (Elt F) f = X⌝ ∗ (M.view.loc (c : Thread nD τ) ↦{fullShare} f)) := by
  unfold owns
  rw [h.set_eq_univ]

/-- What the launch asks of the tables. -/
abbrev TabsOk : Prop := ∀ c : Dev nD, TabOk (tw c teM (V m c main_arg1)) (tw c nxM (V m c main_arg3))

/-- The input's block at point `t`; the output's. -/
abbrev X0 (c : Dev nD) (t : Fin (cfgA m).N) : Vec F S1024x1x1024 .i32 := (((cfgA m).win 0).blk t).view.read (Elt F) (V m c main_arg0)
abbrev X1 (c : Dev nD) (t : Fin (cfgA m).N) : FVec F S1024x1x2048 .bf16 := (((cfgA m).win 1).blk t).view.read (Elt F) (outA m c)

/-- What the body finds at point `t`, and what it leaves. -/
def bodyPre (c : Dev nD) (t : Fin (cfgA m).N) : sProp 𝕄 :=
  iprop((dats m 0 c).Φ t.castSucc ∗ (dats m 0 c).owesAt () t.castSucc
    ∗ (∃ f, ⌜(ms0 m t).view.read (Elt F) f = X0 m c t⌝ ∗ ((ms0 m t).view.loc (c : Thread nD τ) ↦{fullShare} f))
    ∗ (∃ f, ((ms1 m t).view.loc (c : Thread nD τ) ↦{fullShare} f)))
def bodyPost (c : Dev nD) (t : Fin (cfgA m).N) : sProp 𝕄 :=
  iprop((dats m 0 c).Φ t.succ ∗ (dats m 0 c).owesAt () t.succ
    ∗ (∃ f, ⌜(ms0 m t).view.read (Elt F) f = X0 m c t⌝ ∗ ((ms0 m t).view.loc (c : Thread nD τ) ↦{fullShare} f))
    ∗ (∃ f, ⌜(ms1 m t).view.read (Elt F) f = X1 m c t⌝ ∗ ((ms1 m t).view.loc (c : Thread nD τ) ↦{fullShare} f)))

theorem sound_body (ht : TabsOk m) (c : Dev nD) (t : Fin (cfgA m).N) :
    bodyPre m c t ⊢ wp frame (wpE (defs₀ (F := F)) Variants.none (c : Thread nD τ) none) Set.univ (bodyAt m t) (fun _ => bodyPost m c t) := by
  have hc : (grid0.coords t 0).val = t.val := coord_eq t
  unfold bodyPre bodyPost
  rw [show (dats m 0 c).Φ t.castSucc = Inv m c (grid0.coords t 0).val from congrArg (Inv m c) hc.symm,
    show (dats m 0 c).Φ t.succ = Inv m c ((grid0.coords t 0).val + 1) from congrArg (fun n => Inv m c (n + 1)) hc.symm]
  unfold Dat.owesAt Pipeline.owesWithin
  rw [show (dats m 0 c).owed t.castSucc = 0 from rfl, show (dats m 0 c).owed t.succ = 0 from rfl]
  unfold Inv
  iintro ⟨⟨Hg, Hte, Hnr, Hnx, HB⟩, ⟨%W, -, HW⟩, ⟨%f4, %h4, H4⟩, ⟨%f8, H8⟩⟩
  iapply (wp_body (F := F) (grid0.coords t) defs₀ Variants.none (ms0 m t) (ms0_whole m t) (ms1 m t) (ms1_whole m t) c (V m c main_arg1) (V m c main_arg3) (ht c) (V m c main_arg4) (V m c main_arg5) (V m c main_arg6) (V m c main_arg2) f4 f8)
  isplitl [Hte]; · iexact Hte
  isplitl [Hnr]; · iexact Hnr
  isplitl [Hnx]; · iexact Hnx
  isplitl [HB]; · iexact HB
  isplitl [HW]; · iexists W; iexact HW
  isplitl [H4]; · iexact H4
  isplitl [H8]; · iexact H8
  iintro Hte Hnr Hnx HM ⟨%W', HW'⟩ H4 H8
  isplitl [Hg Hte Hnr Hnx HM]
  · isplitl [Hg]; · iexact Hg
    isplitl [Hte]; · iexact Hte
    isplitl [Hnr]; · iexact Hnr
    isplitl [Hnx]; · iexact Hnx
    simp only [Before, if_neg (Nat.succ_ne_zero _)]
    iexact HM
  isplitl [HW']
  · iexists W'; isplitr; · ipureintro; exact fun _ _ => Or.inl trivial
    iexact HW'
  isplitl [H4]
  · iexists f4; isplitr; · ipureintro; exact h4
    iexact H4
  iexists _; isplitr
  swap; · iexact H8
  ipureintro
  funext y
  refine (read_four_out (grid0.coords t) (ms0 m t) (ms1 m t) c _ _ _ _ _ f4 f8 (V m c main_arg0) (fun z => ?_) y).trans (blk_1 m t (outA m c) y).symm
  rw [h4]
  exact blk_0 m t (V m c main_arg0) z

theorem owns_any (c : Dev nD) {s : Shape} {e : EltTy} (M : Memref sig .tc .vmem s e) (h : M.IsWhole) (X : s.Idx → Elt F e) :
    (owns (c : Thread nD τ) M fullShare X : sProp 𝕄) ⊢ iprop(∃ f, (M.view.loc (c : Thread nD τ) ↦{fullShare} f)) := by
  rw [owns_elim c M h X]
  iintro ⟨%f, -, H⟩
  iexists f; iexact H

theorem pre_in (c : Dev nD) (t : Fin (cfgA m).N) :
    iprop((dats m 0 c).Φ t.castSucc ∗ (dats m 0 c).owesAt () t.castSucc
      ∗ (∃ d, owns (c : Thread nD τ) (ms0 m t) fullShare ((dats m 0 c).before 0 t d))
      ∗ (∃ d, owns (c : Thread nD τ) (ms1 m t) fullShare ((dats m 0 c).before 1 t d))) ⊢ bodyPre m c t := by
  have e0 : ∀ d, owns (c : Thread nD τ) (ms0 m t) fullShare ((dats m 0 c).before 0 t d)
      ⊢ (iprop(∃ f, ⌜(ms0 m t).view.read (Elt F) f = X0 m c t⌝ ∗ ((ms0 m t).view.loc (c : Thread nD τ) ↦{fullShare} f)) : sProp 𝕄) := fun d =>
    Entails.of_eq ((congrArg (owns (c : Thread nD τ) (ms0 m t) fullShare) (before_0 m c t d)).trans (owns_elim c (ms0 m t) (ms0_whole m t) (X0 m c t)))
  have e1 : ∀ d, owns (c : Thread nD τ) (ms1 m t) fullShare ((dats m 0 c).before 1 t d)
      ⊢ (iprop(∃ f, ((ms1 m t).view.loc (c : Thread nD τ) ↦{fullShare} f)) : sProp 𝕄) := fun d =>
    owns_any c (ms1 m t) (ms1_whole m t) ((dats m 0 c).before 1 t d)
  unfold bodyPre
  iintro ⟨HP, HO, ⟨%d0, H0⟩, ⟨%d1, H1⟩⟩
  isplitl [HP]; · iexact HP
  isplitl [HO]; · iexact HO
  isplitl [H0]; · iapply (e0 d0); iexact H0
  iapply (e1 d1); iexact H1

theorem post_out (c : Dev nD) (t : Fin (cfgA m).N) (b : Bool) (hb : b = false) (A : sProp 𝕄) : bodyPost m c t ⊢
    iprop((dats m 0 c).Φ t.succ ∗ (dats m 0 c).owesAt () t.succ
      ∗ owns (c : Thread nD τ) (ms0 m t) fullShare ((dats m 0 c).after 0 t)
      ∗ (match b with | true => A | false => owns (c : Thread nD τ) (ms1 m t) fullShare ((dats m 0 c).after 1 t))) := by
  subst hb
  have e0 : (iprop(∃ f, ⌜(ms0 m t).view.read (Elt F) f = X0 m c t⌝ ∗ ((ms0 m t).view.loc (c : Thread nD τ) ↦{fullShare} f)) : sProp 𝕄)
      ⊢ owns (c : Thread nD τ) (ms0 m t) fullShare ((dats m 0 c).after 0 t) := Entails.of_eq (owns_elim c (ms0 m t) (ms0_whole m t) (X0 m c t)).symm
  have e1 : (iprop(∃ f, ⌜(ms1 m t).view.read (Elt F) f = X1 m c t⌝ ∗ ((ms1 m t).view.loc (c : Thread nD τ) ↦{fullShare} f)) : sProp 𝕄)
      ⊢ owns (c : Thread nD τ) (ms1 m t) fullShare ((dats m 0 c).after 1 t) := Entails.of_eq (owns_elim c (ms1 m t) (ms1_whole m t) (X1 m c t)).symm
  unfold bodyPost
  iintro ⟨HP, HO, H0, H1⟩
  isplitl [HP]; · iexact HP
  isplitl [HO]; · iexact HO
  isplitl [H0]; · iapply e0; iexact H0
  iapply e1; iexact H1

theorem body_obligation (ht : TabsOk m) (c : Dev nD) : Pipeline.BodyObligation (dats (F := F) m 0 c) (defs₀ (F := F)) Variants.none () Set.univ := fun t => by
  rw [bigSep_W0, bigSep_W0, defs₀_row]
  refine triple_restated (sound_body m ht c t) rfl ?_ fun _ => ?_
  · exact pre_in m c t
  · have hi := idle_1 m ((cfgA m).grid.coords t)
    dsimp only
    split
    · rename_i h; exact absurd (h.symm.trans hi) (by decide)
    · exact post_out m c t false rfl (iprop(emp))

/-! ## The run -/

theorem enter (c : Dev nD) : iprop(Pipeline.ΦD osem0 spec0 H0 (V m) c ∗ Pipeline.ΦT pre0 (tabs m) c) ⊢ (dats (F := F) m 0 c).Φ 0 := by
  rw [show (dats m 0 c).Φ 0 = Inv m c 0 from rfl, tables_eq, Pipeline.ΦD_eq, scopedRest0_eq, ownSems00_eq, hbmPts0_eq]
  unfold Inv Before
  simp only [if_true]
  iintro ⟨⟨HS, Hg, ⟨H4, H5⟩, HH⟩, Hte, Hnr, Hnx⟩
  isplitl [Hg]; · iexact Hg
  isplitl [Hte]; · iexact Hte
  isplitl [Hnr]; · iexact Hnr
  isplitl [Hnx]; · iexact Hnx
  iapply (start_of (F := F) c _ _ _)
  isplitl [HS]; · unfold Scr; iexact HS
  isplitl [H4]; · iexact H4
  isplitl [H5]; · iexact H5
  iexact HH

theorem leave (ht : TabsOk m) (c : Dev nD) : (dats (F := F) m 0 c).Φ (Fin.last (cfgA m).N) ⊢ Pipeline.ΦD osem0 spec0 H0 (V m) c := by
  rw [show (dats m 0 c).Φ (Fin.last (cfgA m).N) = Inv m c 44 from congrArg (Inv m c) N_0, Pipeline.ΦD_eq, scopedRest0_eq, ownSems00_eq, hbmPts0_eq]
  unfold Inv Before
  simp only [if_neg (show ¬ (44 : ℕ) = 0 by decide)]
  iintro ⟨Hg, -, -, -, HM⟩
  ihave HS := (start_of_mid (F := F) c _ _ _ _ _ 175 ((ht c).last)) $$ HM
  ihave HT := (of_start (F := F) c _ _ _) $$ HS
  icases HT with ⟨HS, H4, H5, HH⟩
  isplitl [HS]; · unfold Scr; iexact HS
  isplitl [Hg]; · iexact Hg
  isplitl [H4 H5]
  · isplitl [H4]; · iexact H4
    iexact H5
  iexact HH

set_option backward.isDefEq.respectTransparency.types false in
theorem run_post (ht : TabsOk m) : θ_run defs (onTc (τ := τ) (main (F := F))) (s₀ m ρ) (fun r => Pipeline.FramePost (Pipeline.pin pcfgs (adm m)) (dats m) 0 (V m) r ∧ r.2.sem = fun _ => 0) :=
  Pipeline.θ_run_frameP_dma (Q' := _) pcfgs (adm m) (dats m) (0 : Fin 1) launch0 osem0 defs₀ Variants.none ownSemFacts0 H0 H0_sub m ρ main
    (hbody := fun c => (body_obligation m ht c).loose) (hshare := fun c => (dats m 0 c).share_full fun _ => rfl)
    (howed := fun _ _ => rfl) (V := V m) (hmain := hmain m Variants.none) (hA := A_eq m)
    (hpf := fun c k => by obtain rfl : c = 0 := Subsingleton.elim _ _; rfl)
    (hin := enter m) (hout := leave m ht)

end Cert.KernelIdeal.Hand
-- ==== Proof.Frames.lean ====
/-
  The frame of the experts' call, for any float values: from tables as the precondition asks, the run ends with the seven
  arguments as they were, every counter at zero and the output array holding each tile's own rows.
-/
module

public import proofs.«01_k».proof.Proof.Frame

@[expose] public section

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)

variable {F : FTy → Type} [FloatOps F]

variable (m : (ℓ : Loc nD τ sig) → Buf (Elt F) ℓ) (ρ : Dev nD → PrngReg)

/-- Every point writes its output block back. -/
theorem flush_1 (t : Fin (cfgA m).N) : ((cfgA m).win 1).flush t = true := by
  rw [Pipeline.Window.flush_eq_flushOf]
  exact (by decide +kernel : ∀ t : Fin grid0.N, Pipeline.Window.flushOf grid0 true cc0_transform_4 t = true) t

/-- Every row of the output lies in some point's block. -/
theorem cover_1 (i : S45056x1x2048.Idx) : ∃ t : Fin (cfgA m).N, ((cfgA m).win 1).flush t = true ∧ i ∈ (((cfgA m).win 1).blk t).view.set := by
  have b0 : (i 0).val < 45056 := (i 0).2
  have b1 : (i 1).val < 1 := (i 1).2
  have b2 : (i 2).val < 2048 := (i 2).2
  let t : Fin grid0.N := ⟨(i 0).val / 1024, by rw [show grid0.N = 44 from N_0]; omega⟩
  have ht : (grid0.coords t 0).val = (i 0).val / 1024 := coord_eq t
  have e0 : (cc0_transform_4 (grid0.coords t)) 0 = (grid0.coords t 0).val := Nat.mod_eq_of_lt (show (grid0.coords t 0).val < 2 ^ 32 by omega)
  refine ⟨t, flush_1 m t, ?_⟩
  let y : S1024x1x2048.Idx := ix3 (n0 := 1024) (n1 := 1) (n2 := 2048) ⟨(i 0).val % 1024, Nat.mod_lt _ (by decide)⟩ (i 1) (i 2)
  have hy : (((cfgA m).win 1).rect t).emb y = i := by
    funext a
    apply Fin.ext
    refine (Pipeline.Window.rect_emb_val _ t y a).trans ?_
    fin_cases a
    · show (cc0_transform_4 (grid0.coords t)) 0 * 1024 + (i 0).val % 1024 = (i 0).val
      rw [e0, ht]; omega
    · show 0 * 1 + (i 1).val = (i 1).val
      omega
    · show 0 * 2048 + (i 2).val = (i 2).val
      omega
  have : ((((cfgA m).win 1).blk t).view.emb y) = i := hy
  rw [← this]
  exact View.emb_mem_set _ y

/-- The output array at the end of the run. -/
theorem arr_1 (c : Dev nD) : (dats m 0 c).arrAt 1 (cfgA m).N = outA m c :=
  (dats m 0 c).arrAt_eq_of_cover 1 (outA m c) (fun t _ => rfl) (cover_1 m)

/-- A buffer no window stages is one of the rest. -/
theorem rest (b : Ref sig .tc) (hs : b.isScoped = false) (ha : ∀ w, (spec0 w).arr.view.ref ≠ b) : b ∈ Pipeline.restRefs sig (cfgA m).spec :=
  Pipeline.mem_restRefs_of b hs ha

/-- The run from tables the ring can follow. -/
theorem run_main (ht : TabsOk m) : θ_run defs (onTc (τ := τ) (main (F := F))) (s₀ m ρ) (fun r => (∀ c : Dev nD,
      r.2.mem ((c.tc : Thread nD τ).loc main_v0) = outA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨((h.1 c).1 1).trans (arr_1 m c),
    ((h.1 c).1 0).trans ((dats m 0 c).arrAt_in 0 rfl _),
    (h.1 c).2 main_arg1 (rest m main_arg1 (by decide) (by decide)),
    (h.1 c).2 main_arg2 (rest m main_arg2 (by decide) (by decide)),
    (h.1 c).2 main_arg3 (rest m main_arg3 (by decide) (by decide)),
    (h.1 c).2 main_arg4 (rest m main_arg4 (by decide) (by decide)),
    (h.1 c).2 main_arg5 (rest m main_arg5 (by decide) (by decide)),
    (h.1 c).2 main_arg6 (rest m main_arg6 (by decide) (by decide))⟩, h.2⟩) (run_post m ρ ht)

/-- The precondition gives what the ring asks of the tables. -/
theorem tabsOk_of_pre [Cert.Pre_tables_ok.Facts]
    (h : ∀ c : Dev nD, Cert.Pre_tables_ok.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) : TabsOk m := fun c =>
  tabOk_of_pre _ _ _ _ _ _ _ (h c)

end Cert.KernelIdeal.Hand
-- ==== Proof.Same.lean ====
/-
  The program at bit patterns and the one read at the ideal instance are the same text, so the same function of the float
  values: what is proved of the second for any float values holds of the first.
-/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The kernel's body. -/
theorem experts_eq : Cert.Kernel.cc0_experts (F := F) = Cert.KernelIdeal.cc0_experts (F := F) := rfl

/-- The body table's row. -/
theorem row_eq (ℓ : Cert.Kernel.Λ₀.Label) (a : Cert.Kernel.Λ₀.Args ℓ) :
    Cert.Kernel.defs₀ (F := F) .tc ℓ a = Cert.KernelIdeal.defs₀ (F := F) .tc ℓ a := by
  match ℓ, a with
  | 0, (t, s) =>
    unfold Cert.Kernel.defs₀ Cert.KernelIdeal.defs₀
    dsimp only [Defs.onTc]
    rw [experts_eq]
    rfl

/-- The body table. -/
theorem defs₀_eq : Cert.Kernel.defs₀ (F := F) = Cert.KernelIdeal.defs₀ (F := F) := by
  funext k
  cases k with
  | tc => funext ℓ a; exact row_eq ℓ a
  | scScalar _ => rfl
  | scVector _ _ => rfl

/-- The table with the pipeline's own rows. -/
theorem defs_eq : Cert.Kernel.defs (F := F) = Cert.KernelIdeal.defs (F := F) :=
  (congrArg (Pipeline.defs Cert.Kernel.pcfgs) defs₀_eq).trans rfl

/-- The program. -/
theorem main_eq : Cert.Kernel.main (F := F) = Cert.KernelIdeal.main (F := F) := rfl

end Cert.Proof
-- ==== Proof.Words.lean ====
/-
  A word that holds two bf16 numbers, read over the extended reals: each half is the float32 whose upper sixteen bits it is.
-/
module

public import Idealize.ShloMosaic.PureOps.Ideal
public import Idealize.ShloMosaic.PureOps.Ideal.Laws
public import Idealize.ShloMosaic.Lib.IdealHost
public import Mathlib.Tactic.Ring

@[expose] public section

noncomputable section

namespace Cert.Value

open Idealize.ShloMosaic

/-- A float32 pattern whose low sixteen bits are zero denotes what its upper sixteen do as a bf16. -/
theorem ieee_widen (a : BitVec 16) : Ideal.ieee 8 23 (a ++ 0#16 : BitVec 32) = Ideal.ieee 8 7 a := by
  have hn : (a ++ 0#16 : BitVec 32).toNat = a.toNat * 2 ^ 16 := by
    simp only [BitVec.toNat_append, BitVec.toNat_ofNat, Nat.shiftLeft_eq, Nat.zero_mod, Nat.or_zero]
  have ha := a.isLt
  have hs : (a ++ 0#16 : BitVec 32).extractLsb' (8 + 23) 1 = a.extractLsb' (8 + 7) 1 := by
    apply BitVec.eq_of_toNat_eq
    simp only [BitVec.extractLsb'_toNat, hn, Nat.shiftRight_eq_div_pow]
    omega
  have he : ((a ++ 0#16 : BitVec 32).extractLsb' 23 8).toNat = (a.extractLsb' 7 8).toNat := by
    simp only [BitVec.extractLsb'_toNat, hn, Nat.shiftRight_eq_div_pow]
    omega
  have hf : ((a ++ 0#16 : BitVec 32).extractLsb' 0 23).toNat = (a.extractLsb' 0 7).toNat * 2 ^ 16 := by
    simp only [BitVec.extractLsb'_toNat, hn, Nat.shiftRight_eq_div_pow]
    omega
  have h16 : ((2 : ℝ) ^ (-16 : ℤ)) * (2 : ℝ) ^ 16 = 1 := by
    rw [zpow_neg, show (16 : ℤ) = ((16 : ℕ) : ℤ) from rfl, zpow_natCast]
    exact inv_mul_cancel₀ (pow_ne_zero 16 (by simp))
  have hz : ∀ (s f g : ℝ) (n k : ℤ), n = k + (-16) → g = f * 2 ^ 16 → s * g * (2 : ℝ) ^ n = s * f * (2 : ℝ) ^ k := by
    intro s f g n k hn hg
    rw [hn, hg, zpow_add₀ (by simp)]
    calc s * (f * 2 ^ 16) * ((2 : ℝ) ^ k * (2 : ℝ) ^ (-16 : ℤ)) = s * f * (2 : ℝ) ^ k * ((2 : ℝ) ^ (-16 : ℤ) * 2 ^ 16) := by ring
      _ = _ := by rw [h16, mul_one]
  unfold Ideal.ieee
  simp only [hs, he, hf]
  split
  · simp
  · split
    · exact congrArg _ (hz _ _ _ _ _ (by omega) (by push_cast; ring))
    · exact congrArg _ (hz _ _ _ _ _ (by omega) (by push_cast; ring))

/-- The lower half. -/
theorem ofBits_low (w : BitVec 32) : Ideal.ofBits .bf16 (w.extractLsb' 0 16) = Ideal.ofBits .f32 (w <<< 16) := by
  show Ideal.ieee 8 7 (w.extractLsb' 0 16) = Ideal.ieee 8 23 (w <<< 16)
  rw [← ieee_widen]
  congr 1
  apply BitVec.eq_of_toNat_eq
  have := w.isLt
  simp only [BitVec.toNat_append, BitVec.toNat_ofNat, Nat.shiftLeft_eq, Nat.zero_mod, Nat.or_zero, BitVec.extractLsb'_toNat, Nat.shiftRight_eq_div_pow,
    BitVec.toNat_shiftLeft]
  omega

/-- The upper half. -/
theorem ofBits_high (w : BitVec 32) : Ideal.ofBits .bf16 (w.extractLsb' 16 16) = Ideal.ofBits .f32 (w &&& 4294901760#32) := by
  show Ideal.ieee 8 7 (w.extractLsb' 16 16) = Ideal.ieee 8 23 (w &&& 4294901760#32)
  rw [← ieee_widen]
  congr 1
  apply BitVec.eq_of_getLsbD_eq
  intro i hi
  rw [BitVec.getLsbD_append, BitVec.getLsbD_and]
  have hm : (4294901760#32 : BitVec 32).getLsbD i = decide (16 ≤ i) := by
    revert i; decide
  rw [hm]
  by_cases h : i < 16
  · simp [h]
  · simp [h, BitVec.getLsbD_extractLsb', show i - 16 < 16 by omega, show 16 + (i - 16) = i by omega, show 16 ≤ i by omega]

end Cert.Value
-- ==== Proof.TileValue.lean ====
/-
  What one tile computes over the extended reals: of each live row, the gated feed-forward of its 2048 numbers by the expert's
  three weights; of every other row, zero.
-/
module

public import proofs.«01_k».proof.Proof.Words
public import proofs.«01_k».proof.Proof.Out
public import Idealize.ShloMosaic.Lib.Pointwise
public import Idealize.ShloMosaic.Lib.ValueLayout

@[expose] public section

noncomputable section

namespace Cert.Value

open Cert.KernelIdeal Cert.KernelIdeal.Gen Cert.KernelIdeal.Hand
open Idealize.ShloMosaic

/-- The gated feed-forward of one row: the gate's and the up projection's 512 products, `silu` of the first times the second,
    and the down projection's product with it, at one output column. -/
def ffn (t : Fin 2048 → EReal) (G U : Fin 2048 → Fin 512 → EReal) (D : Fin 512 → EReal) : EReal :=
  ∑ f : Fin 512, (∑ d : Fin 2048, t d * G d f) * Ideal.logistic (∑ d : Fin 2048, t d * G d f) * (∑ d : Fin 2048, t d * U d f) * D f

/-- A row of zeros gives zero, whatever the weights. -/
theorem ffn_zero (G U : Fin 2048 → Fin 512 → EReal) (D : Fin 512 → EReal) : ffn (fun _ => 0) G U D = 0 := by
  unfold ffn
  simp only [zero_mul, Finset.sum_const_zero]

/-- Column `d` of the 2048 numbers that 1024 words hold: the lower halves, then the upper ones. -/
def unpack (w : Fin 1024 → BitVec 32) (d : Fin 2048) : EReal :=
  if h : d.val < 1024 then Ideal.ofBits .bf16 ((w ⟨d.val, h⟩).extractLsb' 0 16)
  else Ideal.ofBits .bf16 ((w ⟨d.val - 1024, by omega⟩).extractLsb' 16 16)

/-- The tile's rows, the dead ones replaced by zeros. -/
def rowsT (v : BitVec 32) (X : Vec Ideal S256x1x1024 .i32) : FVec Ideal S256x2048 .bf16 :=
  truncf .bf16 (select (cmpi .slt (iota .tc S256x2048 32 [0] iota_S256x2048_d0_w32) (broadcast S256x2048 v))
    (concatenate S256x2048 1 [⟨S256x1024, unpackElementwise (F := Ideal) 0 (shapeCast S256x1024 X shapeCasts_S256x1x1024_S256x1024)⟩,
      ⟨S256x1024, unpackElementwise (F := Ideal) 1 (shapeCast S256x1024 X shapeCasts_S256x1x1024_S256x1024)⟩] concatenates_S256x1024_S256x1024_S256x2048_d1)
    (broadcast S256x2048 (Scalar.ofBits (F := Ideal) .f32 0x00000000#32))) bitsLt_bf16_f32

/-- The feed-forward of a tile's rows. -/
def bodyT (T : FVec Ideal S256x2048 .bf16) (G U : FVec Ideal S2048x512 .bf16) (D : FVec Ideal S512x2048 .bf16) : FVec Ideal S256x1x2048 .bf16 :=
  shapeCast S256x1x2048 (truncf .bf16 (matmul dot_S256x512_S512x2048_S256x2048_1_0_0_1_n_n none
    (truncf .bf16 (mulf (mulf (matmul dot_S256x2048_S2048x512_S256x512_1_0_0_1_n_n none T G (constant S256x512 .f32 0x00000000#32))
      (logistic (matmul dot_S256x2048_S2048x512_S256x512_1_0_0_1_n_n none T G (constant S256x512 .f32 0x00000000#32))))
      (matmul dot_S256x2048_S2048x512_S256x512_1_0_0_1_n_n none T U (constant S256x512 .f32 0x00000000#32))) bitsLt_bf16_f32)
    D (constant S256x2048 .f32 0x00000000#32)) bitsLt_bf16_f32) shapeCasts_S256x2048_S256x1x2048

theorem pay15_eq (v : BitVec 32) (X : Vec Ideal S256x1x1024 .i32) (G U : FVec Ideal S2048x512 .bf16) (D : FVec Ideal S512x2048 .bf16) :
    k0_pay15 (F := Ideal) v X G U D = bodyT (rowsT v X) G U D := rfl

theorem bodyT_apply (T : FVec Ideal S256x2048 .bf16) (G U : FVec Ideal S2048x512 .bf16) (D : FVec Ideal S512x2048 .bf16)
    (r : Fin 256) (y : Fin 1) (z : Fin 2048) :
    bodyT T G U D (ix3 r y z) = ffn (fun d => T (ix2 r d)) (fun d f => G (ix2 d f)) (fun d f => U (ix2 d f)) (fun f => D (ix2 f z)) := by
  pointwise [bodyT, ffn]

theorem rowsT_apply (v : BitVec 32) (X : Vec Ideal S256x1x1024 .i32) (r : Fin 256) (d : Fin 2048) :
    rowsT v X (ix2 r d) = if (BitVec.ofNat 32 r.val).slt v then unpack (fun k => X (ix3 r 0 k)) d else 0 := by
  pointwise [rowsT, unpack]
  unfold Scalar.select IntOp.cmpi
  cases (BitVec.ofNat 32 r.val).slt v <;> rfl

theorem pay16_apply (i : S256x1x2048.Idx) : k0_pay16 (F := Ideal) i = 0 := by
  pointwise [k0_pay16]

/-- Entry `(x, y)` of one expert's slab is entry `(e, x, y)` of the array. -/
theorem slab_idx {n a b : ℕ} (e : Fin n)
    (h : ∀ i, (![e.val, 0, 0] : Fin 3 → ℕ) i + (⟨3, ![1, a, b]⟩ : Shape).size i ≤ (⟨3, ![n, a, b]⟩ : Shape).size i)
    (hn : (⟨2, ![a, b]⟩ : Shape).numel = (⟨3, ![1, a, b]⟩ : Shape).numel) (x : Fin a) (y : Fin b) :
    (Rect.unit (s := ⟨3, ![n, a, b]⟩) ![e.val, 0, 0] (⟨3, ![1, a, b]⟩ : Shape).size h).emb (Shape.reshapeEquiv hn (ix2 x y)) = ix3 e x y := by
  refine (congrArg (Rect.unit (s := ⟨3, ![n, a, b]⟩) ![e.val, 0, 0] (⟨3, ![1, a, b]⟩ : Shape).size h).emb (Idealize.ShloMosaic.ValueIdx.reshapeEquiv_ix2_1ab hn x y)).trans ?_
  funext i
  refine Fin.ext ((Rect.emb_apply _ _ _).trans ?_)
  fin_cases i
  · show e.val + 1 * 0 = e.val
    omega
  · show 0 + 1 * x.val = x.val
    omega
  · show 0 + 1 * y.val = y.val
    omega

/-- The gate's weight of one expert, as a slab of the weights' array. -/
theorem GV_apply (c : Dev nD) (e : Fin 32) (w : GW (F := Ideal) c) (d : Fin 2048) (f : Fin 512) :
    GV c e w (ix2 d f) = (w : FVec Ideal S32x2048x512 .f32) (ix3 e d f) := by
  unfold GV
  pointwise
  exact congrArg w (slab_idx (a := 2048) (b := 512) e _ _ d f)

/-- The up projection's weight of one expert. -/
theorem UV_apply (c : Dev nD) (e : Fin 32) (w : UW (F := Ideal) c) (d : Fin 2048) (f : Fin 512) :
    UV c e w (ix2 d f) = (w : FVec Ideal S32x2048x512 .f32) (ix3 e d f) := by
  unfold UV
  pointwise
  exact congrArg w (slab_idx (a := 2048) (b := 512) e _ _ d f)

/-- The down projection's weight of one expert. -/
theorem DV_apply (c : Dev nD) (e : Fin 32) (w : DW (F := Ideal) c) (f : Fin 512) (z : Fin 2048) :
    DV c e w (ix2 f z) = (w : FVec Ideal S32x512x2048 .f32) (ix3 e f z) := by
  unfold DV
  pointwise
  exact congrArg w (slab_idx (a := 512) (b := 2048) e _ _ f z)

end Cert.Value
-- ==== Proof.RefValue.lean ====
/-
  What the reference computes over the extended reals, at one row and one output column.
-/
module

public import proofs.«01_k».proof.Proof.TileValue
public import proofs.«01_k».proof.Proof.Gen.RefIdeal.Run
public import Idealize.ShloMosaic.Lib.Pointwise

@[expose] public section

noncomputable section

namespace Cert.Value

open Cert.RefIdeal Cert.RefIdeal.Gen
open Idealize.ShloMosaic

/-- The dispatched rows as numbers: the low halves of the words, then the high halves. -/
def refT (xs : IVec S45056x1x1024 32) : FVec Ideal S45056x2048 .f32 :=
  concatenate S45056x2048 1 [⟨S45056x1024, (bitcastToFloat (F := Ideal) .f32 (Host.shli (shapeCast _ xs shapeCasts_S45056x1x1024_S45056x1024) (broadcastInDim S45056x1024 ![] bcast_S_S45056x1024 (constantI S_ 32 16#32))))⟩, ⟨S45056x1024, (bitcastToFloat (F := Ideal) .f32 (andi (shapeCast _ xs shapeCasts_S45056x1x1024_S45056x1024) (broadcastInDim S45056x1024 ![] bcast_S_S45056x1024 (constantI S_ 32 4294901760#32))))⟩] concatenates_S45056x1024_S45056x1024_S45056x2048_d1

/-- The mask of the rows each expert takes, as numbers. -/
def refM (te nr : IVec S176 32) : FVec Ideal S32x45056 .f32 :=
  shapeCast _ (uitofp (F := Ideal) .f32 (andi (broadcastInDim S32x176x256 ![0, 1, 2] bcast_S1x176x256_S32x176x256_0_1_2 (broadcastInDim S1x176x256 ![1, 2] bcast_S176x256_S1x176x256_1_2 (cmpi .slt (iotaInDim S176x256 32 1) (broadcastInDim S176x256 ![0, 1] bcast_S176x1_S176x256_0_1 (broadcastInDim S176x1 ![0] bcast_S176_S176x1_0 nr))))) (cmpi .eq (iotaInDim S32x176x256 32 0) (broadcastInDim S32x176x256 ![0, 1, 2] bcast_S1x176x1_S32x176x256_0_1_2 (broadcastInDim S1x176x1 ![1] bcast_S176_S1x176x1_1 te))))) shapeCasts_S32x176x256_S32x45056

/-- The reference's result of the rows, the mask and the three weights. -/
def refOut (T : FVec Ideal S45056x2048 .f32) (M : FVec Ideal S32x45056 .f32) (wg wu : FVec Ideal S32x2048x512 .f32)
    (wd : FVec Ideal S32x512x2048 .f32) : FVec Ideal S45056x1x2048 .bf16 :=
  shapeCast _ (truncf .bf16 (Host.reduceAdd (mulf (broadcastInDim S32x45056x2048 ![0, 1, 2] bcast_S32x45056x1_S32x45056x2048_0_1_2 (broadcastInDim S32x45056x1 ![0, 1] bcast_S32x45056_S32x45056x1_0_1 M)) (Host.dotGeneral dot_S45056x32x512_S32x512x2048_S32x45056x2048_2_1_0_2_1_0 none (mulf (mulf (Host.dotGeneral dot_S45056x2048_S32x2048x512_S45056x32x512_1_1_0_02_n_n none T wg) (Host.divf (broadcastInDim S45056x32x512 ![] bcast_S_S45056x32x512 (constant S_ .f32 0x3F800000#32)) (addf (broadcastInDim S45056x32x512 ![] bcast_S_S45056x32x512 (constant S_ .f32 0x3F800000#32)) (Host.exp (Host.negf (Host.dotGeneral dot_S45056x2048_S32x2048x512_S45056x32x512_1_1_0_02_n_n none T wg)))))) (Host.dotGeneral dot_S45056x2048_S32x2048x512_S45056x32x512_1_1_0_02_n_n none T wu)) wd)) (constant S_ .f32 0x00000000#32) reducesTo_S32x45056x2048_S45056x2048_d0 h_S_) bitsLt_bf16_f32) shapeCasts_S45056x2048_S45056x1x2048

/-- One entry of the result: over the experts, the mask times the row's feed-forward by that expert. -/
theorem refOut_apply (T : FVec Ideal S45056x2048 .f32) (M : FVec Ideal S32x45056 .f32) (wg wu : FVec Ideal S32x2048x512 .f32)
    (wd : FVec Ideal S32x512x2048 .f32) (r : Fin 45056) (y : Fin 1) (z : Fin 2048) :
    refOut T M wg wu wd (ix3 r y z)
      = ∑ e : Fin 32, M (ix2 e r) * ffn (fun d => T (ix2 r d)) (fun d f => wg (ix3 e d f)) (fun d f => wu (ix3 e d f)) (fun f => wd (ix3 e f z)) := by
  pointwise [refOut]
  rfl

/-- One number of a row: the low or the high half of its word. -/
theorem refT_apply (xs : IVec S45056x1x1024 32) (r : Fin 45056) (d : Fin 2048) :
    refT xs (ix2 r d) = unpack (fun k => xs (ix3 r 0 k)) d := by
  pointwise [refT, unpack]
  split
  · exact (ofBits_low _).symm
  · exact (ofBits_high _).symm

/-- Two bits joined and read as a number: one where both hold. -/
theorem uitofp_and (a b : Bool) :
    FloatOps.uitofp (F := Ideal) (w := 1) FTy.f32 (BitVec.ofBool a &&& BitVec.ofBool b) = if a = true ∧ b = true then (1 : EReal) else 0 := by
  have h1 : FloatOps.uitofp (F := Ideal) (w := 1) FTy.f32 1#1 = (1 : EReal) := by
    show ((((1#1 : BitVec 1).toNat : ℝ)) : EReal) = 1
    simp
  have h0 : FloatOps.uitofp (F := Ideal) (w := 1) FTy.f32 0#1 = (0 : EReal) := by
    show ((((0#1 : BitVec 1).toNat : ℝ)) : EReal) = 0
    simp
  cases a <;> cases b <;> simp [h1, h0]

/-- One entry of the mask: one where the row is live and its tile is the expert's. -/
theorem refM_apply (te nr : IVec S176 32) (e : Fin 32) (r : Fin 45056) :
    refM te nr (ix2 e r) = if (BitVec.ofNat 32 (r.val % 256)).slt (nr (ix1 ⟨r.val / 256, by omega⟩)) ∧ BitVec.ofNat 32 e.val = te (ix1 ⟨r.val / 256, by omega⟩) then 1 else 0 := by
  pointwise [refM]
  exact (uitofp_and _ _).trans (if_congr (and_congr Iff.rfl beq_iff_eq) rfl rfl)

end Cert.Value
-- ==== Proof.Value.lean ====
/-
  The output array of the kernel over the extended reals is the reference's result: of each live row of a tile, the feed-forward
  by the tile's expert; the reference sums over all experts with a mask that leaves just that one.
-/
module

public import proofs.«01_k».proof.Proof.TileValue
public import proofs.«01_k».proof.Proof.RefValue
public import proofs.«01_k».proof.Proof.Tables

@[expose] public section

noncomputable section

namespace Cert.Value

open Cert.KernelIdeal Cert.KernelIdeal.Gen Cert.KernelIdeal.Hand
open Idealize.ShloMosaic

/-- A tile with no live row has no row below its count. -/
theorem not_live {v : BitVec 32} (h : ¬ k0_cond4 v = 1#1) (r : ℕ) (hr : r < 256) : (BitVec.ofNat 32 r).slt v = false := by
  unfold k0_cond4 at h
  simp only [Scalar.cmpi, Scalar.extui, IntOp.cmpi] at h
  have h' : (0#32).slt v = false := by
    cases hs : (0#32).slt v
    · rfl
    · rw [hs] at h
      exact absurd (by decide) h
  have h'' : v.toInt ≤ 0 := by
    have := BitVec.slt_eq_decide (x := 0#32) (y := v)
    rw [h'] at this
    have := of_decide_eq_false this.symm
    simpa using this
  rw [BitVec.slt_eq_decide]
  refine decide_eq_false ?_
  have : (BitVec.ofNat 32 r).toInt = r := by
    rw [BitVec.toInt_eq_toNat_of_lt] <;> simp only [BitVec.toNat_ofNat] <;> omega
  omega

/-- One entry of a tile's result. -/
theorem tileY_apply (c : Dev nD) (v : BitVec 32) (X : IVec S256x1x1024 32) (e : Fin 32) (wg : GW (F := Ideal) c) (wu : UW (F := Ideal) c)
    (wd : DW (F := Ideal) c) (r : Fin 256) (y : Fin 1) (z : Fin 2048) :
    tileY (F := Ideal) c v X e wg wu wd (ix3 r y z)
      = if (BitVec.ofNat 32 r.val).slt v then
          ffn (unpack (fun k => X (ix3 r 0 k))) (fun d f => (wg : FVec Ideal S32x2048x512 .f32) (ix3 e d f))
            (fun d f => (wu : FVec Ideal S32x2048x512 .f32) (ix3 e d f)) (fun f => (wd : FVec Ideal S32x512x2048 .f32) (ix3 e f z))
        else 0 := by
  unfold tileY
  by_cases h : k0_cond4 v = 1#1
  · rw [if_pos h, pay15_eq, bodyT_apply]
    simp only [rowsT_apply, GV_apply, UV_apply, DV_apply]
    by_cases hl : (BitVec.ofNat 32 r.val).slt v = true
    · simp only [if_pos hl]
    · simp only [if_neg hl]
      exact ffn_zero _ _ _
  · rw [if_neg h, pay16_apply, not_live h r.val r.isLt]
    rfl

/-- The output array is the reference's result. -/
theorem outArr_eq (c : Dev nD) (te nr : IVec S176 32) (xs : IVec S45056x1x1024 32) (wg : GW (F := Ideal) c) (wu : UW (F := Ideal) c)
    (wd : DW (F := Ideal) c) (ht : ∀ n, n < 176 → (wordAt te n).toNat < 32) :
    outArr (F := Ideal) c (wordAt te) (wordAt nr) xs wg wu wd = refOut (refT xs) (refM te nr) wg wu wd := by
  funext j
  obtain ⟨r, y, z, rfl⟩ : ∃ (r : Fin 45056) (y : Fin 1) (z : Fin 2048), j = ix3 r y z := ⟨j 0, j 1, j 2, eq_ix3 j⟩
  have hT : r.val / 256 < 176 := by omega
  have hte : te (ix1 ⟨r.val / 256, hT⟩) = wordAt te (r.val / 256) :=
    congrArg te (funext fun a => by fin_cases a; exact Fin.ext (Nat.mod_eq_of_lt hT).symm)
  have hnr : nr (ix1 ⟨r.val / 256, hT⟩) = wordAt nr (r.val / 256) :=
    congrArg nr (funext fun a => by fin_cases a; exact Fin.ext (Nat.mod_eq_of_lt hT).symm)
  have hX : (fun k => tileX (F := Ideal) xs (r.val / 256) (ix3 ⟨r.val % 256, Nat.mod_lt _ (by decide)⟩ 0 k)) = fun k => xs (ix3 r 0 k) :=
    funext fun k => congrArg xs (congrArg (fun q : Fin 45056 => ix3 (n0 := 45056) (n1 := 1) (n2 := 1024) q 0 k) (Fin.ext (by
      show (256 * (r.val / 256) + r.val % 256) % 45056 = r.val
      omega)))
  refine (tileY_apply c (wordAt nr (r.val / 256)) (tileX (F := Ideal) xs (r.val / 256)) (ex (wordAt te (r.val / 256))) wg wu wd
    ⟨r.val % 256, Nat.mod_lt _ (by decide)⟩ y z).trans (Eq.trans ?_ (refOut_apply _ _ _ _ _ r y z).symm)
  rw [hX]
  simp only [refT_apply, refM_apply, hte, hnr]
  have hw := ht _ hT
  rw [Finset.sum_eq_single (ex (wordAt te (r.val / 256)))]
  · have he : BitVec.ofNat 32 (ex (wordAt te (r.val / 256))).val = wordAt te (r.val / 256) := by
      rw [← ex_val hw]
      exact BitVec.ofNat_toNat _ _ |>.trans (by simp)
    by_cases hl : (BitVec.ofNat 32 (r.val % 256)).slt (wordAt nr (r.val / 256)) = true
    · rw [if_pos hl, if_pos ⟨hl, he⟩, one_mul]
    · rw [if_neg hl, if_neg (fun h => hl h.1), zero_mul]
  · intro e _ hne
    rw [if_neg, zero_mul]
    rintro ⟨-, h⟩
    apply hne
    apply Fin.ext
    rw [← ex_val hw, ← h, BitVec.toNat_ofNat]
    have := e.isLt
    omega
  · intro h
    exact absurd (Finset.mem_univ _) h

end Cert.Value
-- ==== Proof.lean ====
/-
  The certificate of three calls, the experts', the in-projection's and the mixer's at the sample batch. Both frames of each of
  the first two kernels are one run, stated for any float values (`Proof.Frames`, `Proof.InFrame`); the mixer's two texts differ
  where one stores pairs of bf16 numbers as words, so each has a run of its own. The references are straight-line host code.
-/
module

public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Ref3Ideal.Run
public import proofs.«01_k».proof.Proof.MixValue
public import Idealize.ShloMosaic.Lib.Bf16Pair
public import Idealize.ShloMosaic.Lib.Bf16PairInverse
public import proofs.«01_k».proof.Proof.InSame
public import proofs.«01_k».proof.Proof.InValue
public import proofs.«01_k».proof.Proof.Gen.Kernel2
public import proofs.«01_k».proof.Proof.Gen.Kernel2Ideal
public import proofs.«01_k».proof.Proof.Gen.Ref2Ideal
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.RefIdeal
public import proofs.«01_k».proof.Proof.Gen.RefIdeal.Run
public import proofs.«01_k».proof.Proof.Gen.Pre_tables_ok
public import proofs.«01_k».proof.Proof.Frames
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The precondition of the program at bit patterns gives what the ring asks of the tables. -/
theorem tabs_bits (m : (ℓ : Loc Cert.Kernel.nD Cert.Kernel.τ Cert.Kernel.sig) → Buf (Elt Bits) ℓ)
    (hp : Cert.Pre_Kernel (hPre_tables_ok := Cert.Pre_tables_ok.Gen.facts) m) : Cert.KernelIdeal.Hand.TabsOk (F := Bits) m :=
  letI := Cert.Pre_tables_ok.Gen.facts
  Cert.KernelIdeal.Hand.tabsOk_of_pre (F := Bits) m hp

/-- The kernel's frame at bit patterns. -/
theorem frame_bits : Cert.quiescent_Kernel (hKernel := Cert.Kernel.Gen.facts) (hPre_tables_ok := Cert.Pre_tables_ok.Gen.facts) := fun m g hp => by
  rw [defs_eq, main_eq]
  exact (θ_run Cert.KernelIdeal.defs _ _).mono (fun _ h => ⟨fun c => (h.1 c).2, h.2⟩)
    (Cert.KernelIdeal.Hand.run_main (F := Bits) m g (tabs_bits m hp))

/-- The kernel's frame at the ideal instance. -/
theorem frame_ideal : Cert.quiescent_KernelIdeal (hKernelIdeal := Cert.KernelIdeal.Gen.facts) (hPre_tables_ok := Cert.Pre_tables_ok.Gen.facts) := fun m g hp =>
  letI := Cert.Pre_tables_ok.Gen.facts
  (θ_run Cert.KernelIdeal.defs _ _).mono (fun _ h => ⟨fun c => (h.1 c).2, h.2⟩)
    (Cert.KernelIdeal.Hand.run_main (F := Ideal) m g (Cert.KernelIdeal.Hand.tabsOk_of_pre (F := Ideal) m hp))

/-- The reference's frame: it has no semaphore, and its run is the composed term of the arguments. -/
theorem frame_ref : Cert.quiescent_RefIdeal (hRefIdeal := Cert.RefIdeal.Gen.facts) := fun m g _ =>
  (θ_run Cert.RefIdeal.defs _ _).mono (fun r h => ⟨fun c => (h c).2, sem_eq_zero_of_no_sems (by decide) r.2⟩)
    (Cert.RefIdeal.Value.run (F := Ideal) m g)

/-- The reference's frame where the tables are as the kernel asks: the same run. -/
theorem frame_ref_pre : Cert.quiescent_RefIdeal_pre_tables_ok (hRefIdeal := Cert.RefIdeal.Gen.facts) (hPre_tables_ok := Cert.Pre_tables_ok.Gen.facts) :=
  fun m g _ => frame_ref m g trivial

/-- The kernel and the reference leave the same array: the output of the kernel's run is the reference's composed term. -/
theorem algebraic : Cert.algebraic_KernelIdeal_RefIdeal (hKernelIdeal := Cert.KernelIdeal.Gen.facts) (hRefIdeal := Cert.RefIdeal.Gen.facts)
    (hPre_tables_ok := Cert.Pre_tables_ok.Gen.facts) := fun m g m' g' hp hargs => by
  letI := Cert.Pre_tables_ok.Gen.facts
  have ht := Cert.KernelIdeal.Hand.tabsOk_of_pre (F := Ideal) m hp
  refine ⟨fun c => Cert.KernelIdeal.Hand.outA m c, (θ_run Cert.KernelIdeal.defs _ _).mono (fun _ h => h.1)
      (Cert.KernelIdeal.Hand.run_main (F := Ideal) m g ht), ?_⟩
  refine (θ_run Cert.RefIdeal.defs _ _).mono (fun r h c => ⟨(h c).1.trans ?_, (h c).2⟩) (Cert.RefIdeal.Value.run (F := Ideal) m' g')
  obtain ⟨h0, h1, h2, -, h4, h5, h6⟩ := hargs c
  rw [h0, h1, h2, h4, h5, h6]
  exact (Cert.Value.outArr_eq c _ _ _ _ _ _ (ht c).te_lt).symm

/-- The in-projection's frame at bit patterns. -/
theorem frame2_bits : Cert.quiescent_Kernel2 (hKernel2 := Cert.Kernel2.Gen.facts) := fun m g _ => by
  rw [Cert.InProof.defs_eq, Cert.InProof.main_eq]
  exact Cert.Kernel2Ideal.Hand.frame2 (F := Bits) m g

/-- The in-projection's frame at the ideal instance. -/
theorem frame2_ideal : Cert.quiescent_Kernel2Ideal (hKernel2Ideal := Cert.Kernel2Ideal.Gen.facts) := fun m g _ =>
  Cert.Kernel2Ideal.Hand.frame2 (F := Ideal) m g

/-- The frame of the in-projection's reference. -/
theorem frame2_ref : Cert.quiescent_Ref2Ideal (hRef2Ideal := Cert.Ref2Ideal.Gen.facts) := fun m g _ =>
  (θ_run Cert.Ref2Ideal.defs _ _).mono (fun r h => ⟨fun c => (h c).2.2.2.2, sem_eq_zero_of_no_sems (by decide) r.2⟩)
    (Cert.Ref2Ideal.Value.run (F := Ideal) m g)

/-- The in-projection and its reference leave the same four arrays. -/
theorem algebraic2 : Cert.algebraic_Kernel2Ideal_Ref2Ideal (hKernel2Ideal := Cert.Kernel2Ideal.Gen.facts) (hRef2Ideal := Cert.Ref2Ideal.Gen.facts) :=
    fun m g m' g' _ hargs => by
  refine ⟨fun c => Cert.InValue.out4 m c, fun c => Cert.InValue.out5 m c, fun c => Cert.InValue.out6 m c, fun c => Cert.InValue.out7 m c,
    Cert.InValue.run_values m g, ?_⟩
  refine (θ_run Cert.Ref2Ideal.defs _ _).mono (fun r h c => ?_) (Cert.Ref2Ideal.Value.run (F := Ideal) m' g')
  obtain ⟨h0, h1, h2⟩ := hargs c
  obtain ⟨r0, r1, r2, r3, ra⟩ := h c
  rw [h0, h1, h2] at r0 r1
  rw [h2] at r2 r3
  exact ⟨r0.trans (Cert.InValue.out4_eq m c).symm, r1.trans (Cert.InValue.out5_eq m c).symm, r2.trans (Cert.InValue.out6_eq m c).symm,
    r3.trans (Cert.InValue.out7_eq m c).symm, ra⟩

/-- The mixer's frame at the bit instance. -/
theorem frame3_bits : Cert.quiescent_Kernel3 (hKernel3 := Cert.Kernel3.Gen.facts) := fun m g _ => Cert.Kernel3.Gen.frame m g

/-- The mixer's frame at the ideal instance. -/
theorem frame3_ideal : Cert.quiescent_Kernel3Ideal (hKernel3Ideal := Cert.Kernel3Ideal.Gen.facts) := fun m g _ => Cert.Kernel3Ideal.Gen.frame m g

/-- The frame of the mixer's reference. -/
theorem frame3_ref : Cert.quiescent_Ref3Ideal (hRef3Ideal := Cert.Ref3Ideal.Gen.facts) := fun m g _ =>
  (θ_run Cert.Ref3Ideal.defs _ _).mono (fun r h => ⟨fun c => (h c).2.2.2, sem_eq_zero_of_no_sems (by decide) r.2⟩)
    (Cert.Ref3Ideal.Value.run (F := Ideal) m g)

/-- What the rewriting of the mixer's packed words into bf16 rows rests on: words and rows hold the same numbers. -/
theorem preserves3 : Cert.preserves_Kernel3_Kernel3Ideal :=
  ⟨IdealRules.bf16_pair.bufferStatement _ _, IdealRules.bf16_pair.bufferStatement _ _, IdealRules.bf16_pair.packStatement _,
    IdealRules.bf16_pair.statement _ _⟩

/-- The mixer and its reference leave the same three arrays of states. -/
theorem algebraic3 : Cert.algebraic_Kernel3Ideal_Ref3Ideal (hKernel3Ideal := Cert.Kernel3Ideal.Gen.facts) (hRef3Ideal := Cert.Ref3Ideal.Gen.facts) :=
    fun m g m' g' _ hargs => by
  refine ⟨fun c => Cert.MixValue.refConv (Cert.MixValue.proj m c) (Cert.MixValue.cacheC m c),
    fun c => Cert.MixValue.refKeys (Cert.MixValue.kvs m c) (Cert.MixValue.cacheK m c),
    fun c => Cert.MixValue.refVals (Cert.MixValue.kvs m c) (Cert.MixValue.cacheV m c), Cert.MixValue.run_values m g, ?_⟩
  refine (θ_run Cert.Ref3Ideal.defs _ _).mono (fun r h c => ?_) (Cert.Ref3Ideal.Value.run (F := Ideal) m' g')
  obtain ⟨-, h1, h2, h3, h4, h5, -⟩ := hargs c
  obtain ⟨r0, r1, r2, ra⟩ := h c
  rw [h1, h3] at r0
  rw [h2, h4] at r1
  rw [h2, h5] at r2
  exact ⟨r0, r1, r2, ra⟩

/-- Everything claimed of the three calls. -/
theorem claim : Cert.Claim := ⟨Cert.Kernel.Gen.facts, Cert.KernelIdeal.Gen.facts, Cert.RefIdeal.Gen.facts, Cert.Kernel2.Gen.facts,
  Cert.Kernel2Ideal.Gen.facts, Cert.Ref2Ideal.Gen.facts, Cert.Kernel3.Gen.facts, Cert.Kernel3Ideal.Gen.facts, Cert.Ref3Ideal.Gen.facts,
  Cert.Pre_tables_ok.Gen.facts,
  frame_bits, frame_ideal, frame_ref, frame_ref_pre, frame2_bits, frame2_ideal, frame2_ref, frame3_bits, frame3_ideal, frame3_ref,
  trivial, algebraic, trivial, algebraic2, preserves3, algebraic3⟩

end Cert.Proof
